-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelAdaln (m : (ℓ : Loc Cert.KernelAdaln.nD Cert.KernelAdaln.τ Cert.KernelAdaln.sig) → Buf (Elt Bits) ℓ) : Prop :=
  True

def Pre_KernelAdalnIdeal (m : (ℓ : Loc Cert.KernelAdalnIdeal.nD Cert.KernelAdalnIdeal.τ Cert.KernelAdalnIdeal.sig) → Buf (Elt Ideal) ℓ) : Prop :=
  True

def Pre_ReferenceAdalnIdeal (m : (ℓ : Loc Cert.ReferenceAdalnIdeal.nD Cert.ReferenceAdalnIdeal.τ Cert.ReferenceAdalnIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_ReferenceSsdIdeal (m : (ℓ : Loc Cert.ReferenceSsdIdeal.nD Cert.ReferenceSsdIdeal.τ Cert.ReferenceSsdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5))
      ∧ r.2.sem = fun _ => 0)

def quiescent_KernelAdaln [hKernelAdaln : Cert.KernelAdaln.Facts] : Prop :=
  ∀ (m : (ℓ : Loc Cert.KernelAdaln.nD Cert.KernelAdaln.τ Cert.KernelAdaln.sig) → Buf (Elt Bits) ℓ) (g : Dev Cert.KernelAdaln.nD → PrngReg), Pre_KernelAdaln m →
    θ_run (Cert.KernelAdaln.defs (F := Bits)) (onTc (τ := Cert.KernelAdaln.τ) (Cert.KernelAdaln.main (F := Bits))) ⟨m, fun _ => 0, g⟩ (fun r => (∀ c : Dev Cert.KernelAdaln.nD,
      r.2.mem ((c.tc : Thread Cert.KernelAdaln.nD Cert.KernelAdaln.τ).loc Cert.KernelAdaln.main_arg0) = m ((c.tc : Thread Cert.KernelAdaln.nD Cert.KernelAdaln.τ).loc Cert.KernelAdaln.main_arg0)
      ∧ r.2.mem ((c.tc : Thread Cert.KernelAdaln.nD Cert.KernelAdaln.τ).loc Cert.KernelAdaln.main_arg1) = m ((c.tc : Thread Cert.KernelAdaln.nD Cert.KernelAdaln.τ).loc Cert.KernelAdaln.main_arg1)
      ∧ r.2.mem ((c.tc : Thread Cert.KernelAdaln.nD Cert.KernelAdaln.τ).loc Cert.KernelAdaln.main_arg2) = m ((c.tc : Thread Cert.KernelAdaln.nD Cert.KernelAdaln.τ).loc Cert.KernelAdaln.main_arg2))
      ∧ r.2.sem = fun _ => 0)

def quiescent_KernelAdalnIdeal [hKernelAdalnIdeal : Cert.KernelAdalnIdeal.Facts] : Prop :=
  ∀ (m : (ℓ : Loc Cert.KernelAdalnIdeal.nD Cert.KernelAdalnIdeal.τ Cert.KernelAdalnIdeal.sig) → Buf (Elt Ideal) ℓ) (g : Dev Cert.KernelAdalnIdeal.nD → PrngReg), Pre_KernelAdalnIdeal m →
    θ_run (Cert.KernelAdalnIdeal.defs (F := Ideal)) (onTc (τ := Cert.KernelAdalnIdeal.τ) (Cert.KernelAdalnIdeal.main (F := Ideal))) ⟨m, fun _ => 0, g⟩ (fun r => (∀ c : Dev Cert.KernelAdalnIdeal.nD,
      r.2.mem ((c.tc : Thread Cert.KernelAdalnIdeal.nD Cert.KernelAdalnIdeal.τ).loc Cert.KernelAdalnIdeal.main_arg0) = m ((c.tc : Thread Cert.KernelAdalnIdeal.nD Cert.KernelAdalnIdeal.τ).loc Cert.KernelAdalnIdeal.main_arg0)
      ∧ r.2.mem ((c.tc : Thread Cert.KernelAdalnIdeal.nD Cert.KernelAdalnIdeal.τ).loc Cert.KernelAdalnIdeal.main_arg1) = m ((c.tc : Thread Cert.KernelAdalnIdeal.nD Cert.KernelAdalnIdeal.τ).loc Cert.KernelAdalnIdeal.main_arg1)
      ∧ r.2.mem ((c.tc : Thread Cert.KernelAdalnIdeal.nD Cert.KernelAdalnIdeal.τ).loc Cert.KernelAdalnIdeal.main_arg2) = m ((c.tc : Thread Cert.KernelAdalnIdeal.nD Cert.KernelAdalnIdeal.τ).loc Cert.KernelAdalnIdeal.main_arg2))
      ∧ r.2.sem = fun _ => 0)

def quiescent_ReferenceAdalnIdeal [hReferenceAdalnIdeal : Cert.ReferenceAdalnIdeal.Facts] : Prop :=
  ∀ (m : (ℓ : Loc Cert.ReferenceAdalnIdeal.nD Cert.ReferenceAdalnIdeal.τ Cert.ReferenceAdalnIdeal.sig) → Buf (Elt Ideal) ℓ) (g : Dev Cert.ReferenceAdalnIdeal.nD → PrngReg), Pre_ReferenceAdalnIdeal m →
    θ_run (Cert.ReferenceAdalnIdeal.defs (F := Ideal)) (onTc (τ := Cert.ReferenceAdalnIdeal.τ) (Cert.ReferenceAdalnIdeal.main (F := Ideal))) ⟨m, fun _ => 0, g⟩ (fun r => (∀ c : Dev Cert.ReferenceAdalnIdeal.nD,
      r.2.mem ((c.tc : Thread Cert.ReferenceAdalnIdeal.nD Cert.ReferenceAdalnIdeal.τ).loc Cert.ReferenceAdalnIdeal.main_arg0) = m ((c.tc : Thread Cert.ReferenceAdalnIdeal.nD Cert.ReferenceAdalnIdeal.τ).loc Cert.ReferenceAdalnIdeal.main_arg0)
      ∧ r.2.mem ((c.tc : Thread Cert.ReferenceAdalnIdeal.nD Cert.ReferenceAdalnIdeal.τ).loc Cert.ReferenceAdalnIdeal.main_arg1) = m ((c.tc : Thread Cert.ReferenceAdalnIdeal.nD Cert.ReferenceAdalnIdeal.τ).loc Cert.ReferenceAdalnIdeal.main_arg1)
      ∧ r.2.mem ((c.tc : Thread Cert.ReferenceAdalnIdeal.nD Cert.ReferenceAdalnIdeal.τ).loc Cert.ReferenceAdalnIdeal.main_arg2) = m ((c.tc : Thread Cert.ReferenceAdalnIdeal.nD Cert.ReferenceAdalnIdeal.τ).loc Cert.ReferenceAdalnIdeal.main_arg2))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5)
      ∧ r.2.mem ((c.tc : Thread Cert.KernelSsd.nD Cert.KernelSsd.τ).loc Cert.KernelSsd.main_arg6) = m ((c.tc : Thread Cert.KernelSsd.nD Cert.KernelSsd.τ).loc Cert.KernelSsd.main_arg6)
      ∧ r.2.mem ((c.tc : Thread Cert.KernelSsd.nD Cert.KernelSsd.τ).loc Cert.KernelSsd.main_arg7) = m ((c.tc : Thread Cert.KernelSsd.nD Cert.KernelSsd.τ).loc Cert.KernelSsd.main_arg7)
      ∧ r.2.mem ((c.tc : Thread Cert.KernelSsd.nD Cert.KernelSsd.τ).loc Cert.KernelSsd.main_arg8) = m ((c.tc : Thread Cert.KernelSsd.nD Cert.KernelSsd.τ).loc Cert.KernelSsd.main_arg8))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
      ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6)
      ∧ r.2.mem ((c.tc : Thread Cert.KernelSsdIdeal.nD Cert.KernelSsdIdeal.τ).loc Cert.KernelSsdIdeal.main_arg7) = m ((c.tc : Thread Cert.KernelSsdIdeal.nD Cert.KernelSsdIdeal.τ).loc Cert.KernelSsdIdeal.main_arg7)
      ∧ r.2.mem ((c.tc : Thread Cert.KernelSsdIdeal.nD Cert.KernelSsdIdeal.τ).loc Cert.KernelSsdIdeal.main_arg8) = m ((c.tc : Thread Cert.KernelSsdIdeal.nD Cert.KernelSsdIdeal.τ).loc Cert.KernelSsdIdeal.main_arg8))
      ∧ r.2.sem = fun _ => 0)

def quiescent_ReferenceSsdIdeal [hReferenceSsdIdeal : Cert.ReferenceSsdIdeal.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5)
      ∧ r.2.mem ((c.tc : Thread Cert.ReferenceSsdIdeal.nD Cert.ReferenceSsdIdeal.τ).loc Cert.ReferenceSsdIdeal.main_arg6) = m ((c.tc : Thread Cert.ReferenceSsdIdeal.nD Cert.ReferenceSsdIdeal.τ).loc Cert.ReferenceSsdIdeal.main_arg6)
      ∧ r.2.mem ((c.tc : Thread Cert.ReferenceSsdIdeal.nD Cert.ReferenceSsdIdeal.τ).loc Cert.ReferenceSsdIdeal.main_arg7) = m ((c.tc : Thread Cert.ReferenceSsdIdeal.nD Cert.ReferenceSsdIdeal.τ).loc Cert.ReferenceSsdIdeal.main_arg7)
      ∧ r.2.mem ((c.tc : Thread Cert.ReferenceSsdIdeal.nD Cert.ReferenceSsdIdeal.τ).loc Cert.ReferenceSsdIdeal.main_arg8) = m ((c.tc : Thread Cert.ReferenceSsdIdeal.nD Cert.ReferenceSsdIdeal.τ).loc Cert.ReferenceSsdIdeal.main_arg8))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v23) = v0 c
          ∧ r.2.mem ((c.tc : Thread Cert.Reference.nD Cert.Reference.τ).loc Cert.Reference.main_arg0) = m' ((c.tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v7)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v7) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v40) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)) →
    ∃ (v0 : (c : Dev Cert.KernelMergeIdeal.nD) → Buf (Elt Ideal) ((c.tc : Thread Cert.KernelMergeIdeal.nD Cert.KernelMergeIdeal.τ).loc Cert.KernelMergeIdeal.main_v10)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v10) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v95) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)) →
    ∃ (v0 : (c : Dev Cert.KernelQkvIdeal.nD) → Buf (Elt Ideal) ((c.tc : Thread Cert.KernelQkvIdeal.nD Cert.KernelQkvIdeal.τ).loc Cert.KernelQkvIdeal.main_v21_0)) (v1 : (c : Dev Cert.KernelQkvIdeal.nD) → Buf (Elt Ideal) ((c.tc : Thread Cert.KernelQkvIdeal.nD Cert.KernelQkvIdeal.τ).loc Cert.KernelQkvIdeal.main_v21_1)) (v2 : (c : Dev Cert.KernelQkvIdeal.nD) → Buf (Elt Ideal) ((c.tc : Thread Cert.KernelQkvIdeal.nD Cert.KernelQkvIdeal.τ).loc Cert.KernelQkvIdeal.main_v21_2)) (v3 : (c : Dev Cert.KernelQkvIdeal.nD) → Buf (Elt Ideal) ((c.tc : Thread Cert.KernelQkvIdeal.nD Cert.KernelQkvIdeal.τ).loc Cert.KernelQkvIdeal.main_v21_3)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v21_0) = v0 c
          ∧ r.2.mem ((c.tc : Thread Cert.KernelQkvIdeal.nD Cert.KernelQkvIdeal.τ).loc Cert.KernelQkvIdeal.main_v21_1) = v1 c
          ∧ r.2.mem ((c.tc : Thread Cert.KernelQkvIdeal.nD Cert.KernelQkvIdeal.τ).loc Cert.KernelQkvIdeal.main_v21_2) = v2 c
          ∧ r.2.mem ((c.tc : Thread Cert.KernelQkvIdeal.nD Cert.KernelQkvIdeal.τ).loc Cert.KernelQkvIdeal.main_v21_3) = v3 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v76) = v0 c
          ∧ r.2.mem ((c.tc : Thread Cert.ReferenceQkvIdeal.nD Cert.ReferenceQkvIdeal.τ).loc Cert.ReferenceQkvIdeal.main_v81) = v1 c
          ∧ r.2.mem ((c.tc : Thread Cert.ReferenceQkvIdeal.nD Cert.ReferenceQkvIdeal.τ).loc Cert.ReferenceQkvIdeal.main_v86) = v2 c
          ∧ r.2.mem ((c.tc : Thread Cert.ReferenceQkvIdeal.nD Cert.ReferenceQkvIdeal.τ).loc Cert.ReferenceQkvIdeal.main_v91) = v3 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5))

def preserves_KernelAdaln_KernelAdalnIdeal : Prop :=
  True

def algebraic_KernelAdalnIdeal_ReferenceAdalnIdeal [hKernelAdalnIdeal : Cert.KernelAdalnIdeal.Facts] [hReferenceAdalnIdeal : Cert.ReferenceAdalnIdeal.Facts] : Prop :=
  ∀ (m : (ℓ : Loc Cert.KernelAdalnIdeal.nD Cert.KernelAdalnIdeal.τ Cert.KernelAdalnIdeal.sig) → Buf (Elt Ideal) ℓ) (g : Dev Cert.KernelAdalnIdeal.nD → PrngReg)
    (m' : (ℓ : Loc Cert.ReferenceAdalnIdeal.nD Cert.ReferenceAdalnIdeal.τ Cert.ReferenceAdalnIdeal.sig) → Buf (Elt Ideal) ℓ) (g' : Dev Cert.ReferenceAdalnIdeal.nD → PrngReg), Pre_KernelAdalnIdeal m →
    (∀ c : Dev Cert.KernelAdalnIdeal.nD,
      m' ((c.tc : Thread Cert.ReferenceAdalnIdeal.nD Cert.ReferenceAdalnIdeal.τ).loc Cert.ReferenceAdalnIdeal.main_arg0) = m ((c.tc : Thread Cert.KernelAdalnIdeal.nD Cert.KernelAdalnIdeal.τ).loc Cert.KernelAdalnIdeal.main_arg0)
      ∧ m' ((c.tc : Thread Cert.ReferenceAdalnIdeal.nD Cert.ReferenceAdalnIdeal.τ).loc Cert.ReferenceAdalnIdeal.main_arg1) = m ((c.tc : Thread Cert.KernelAdalnIdeal.nD Cert.KernelAdalnIdeal.τ).loc Cert.KernelAdalnIdeal.main_arg1)
      ∧ m' ((c.tc : Thread Cert.ReferenceAdalnIdeal.nD Cert.ReferenceAdalnIdeal.τ).loc Cert.ReferenceAdalnIdeal.main_arg2) = m ((c.tc : Thread Cert.KernelAdalnIdeal.nD Cert.KernelAdalnIdeal.τ).loc Cert.KernelAdalnIdeal.main_arg2)) →
    ∃ (v0 : (c : Dev Cert.KernelAdalnIdeal.nD) → Buf (Elt Ideal) ((c.tc : Thread Cert.KernelAdalnIdeal.nD Cert.KernelAdalnIdeal.τ).loc Cert.KernelAdalnIdeal.main_v2)),
      θ_run (Cert.KernelAdalnIdeal.defs (F := Ideal)) (onTc (τ := Cert.KernelAdalnIdeal.τ) (Cert.KernelAdalnIdeal.main (F := Ideal))) ⟨m, fun _ => 0, g⟩ (fun r => ∀ c : Dev Cert.KernelAdalnIdeal.nD,
          r.2.mem ((c.tc : Thread Cert.KernelAdalnIdeal.nD Cert.KernelAdalnIdeal.τ).loc Cert.KernelAdalnIdeal.main_v2) = v0 c
          ∧ r.2.mem ((c.tc : Thread Cert.KernelAdalnIdeal.nD Cert.KernelAdalnIdeal.τ).loc Cert.KernelAdalnIdeal.main_arg0) = m ((c.tc : Thread Cert.KernelAdalnIdeal.nD Cert.KernelAdalnIdeal.τ).loc Cert.KernelAdalnIdeal.main_arg0)
          ∧ r.2.mem ((c.tc : Thread Cert.KernelAdalnIdeal.nD Cert.KernelAdalnIdeal.τ).loc Cert.KernelAdalnIdeal.main_arg1) = m ((c.tc : Thread Cert.KernelAdalnIdeal.nD Cert.KernelAdalnIdeal.τ).loc Cert.KernelAdalnIdeal.main_arg1)
          ∧ r.2.mem ((c.tc : Thread Cert.KernelAdalnIdeal.nD Cert.KernelAdalnIdeal.τ).loc Cert.KernelAdalnIdeal.main_arg2) = m ((c.tc : Thread Cert.KernelAdalnIdeal.nD Cert.KernelAdalnIdeal.τ).loc Cert.KernelAdalnIdeal.main_arg2))
      ∧ θ_run (Cert.ReferenceAdalnIdeal.defs (F := Ideal)) (onTc (τ := Cert.ReferenceAdalnIdeal.τ) (Cert.ReferenceAdalnIdeal.main (F := Ideal))) ⟨m', fun _ => 0, g'⟩ (fun r => ∀ c : Dev Cert.ReferenceAdalnIdeal.nD,
          r.2.mem ((c.tc : Thread Cert.ReferenceAdalnIdeal.nD Cert.ReferenceAdalnIdeal.τ).loc Cert.ReferenceAdalnIdeal.main_v6) = v0 c
          ∧ r.2.mem ((c.tc : Thread Cert.ReferenceAdalnIdeal.nD Cert.ReferenceAdalnIdeal.τ).loc Cert.ReferenceAdalnIdeal.main_arg0) = m' ((c.tc : Thread Cert.ReferenceAdalnIdeal.nD Cert.ReferenceAdalnIdeal.τ).loc Cert.ReferenceAdalnIdeal.main_arg0)
          ∧ r.2.mem ((c.tc : Thread Cert.ReferenceAdalnIdeal.nD Cert.ReferenceAdalnIdeal.τ).loc Cert.ReferenceAdalnIdeal.main_arg1) = m' ((c.tc : Thread Cert.ReferenceAdalnIdeal.nD Cert.ReferenceAdalnIdeal.τ).loc Cert.ReferenceAdalnIdeal.main_arg1)
          ∧ r.2.mem ((c.tc : Thread Cert.ReferenceAdalnIdeal.nD Cert.ReferenceAdalnIdeal.τ).loc Cert.ReferenceAdalnIdeal.main_arg2) = m' ((c.tc : Thread Cert.ReferenceAdalnIdeal.nD Cert.ReferenceAdalnIdeal.τ).loc Cert.ReferenceAdalnIdeal.main_arg2))

def preserves_KernelAttn_KernelAttnIdeal : Prop :=
  True

def preserves_KernelSsd_KernelSsdIdeal : Prop :=
  True

def algebraic_KernelSsdIdeal_ReferenceSsdIdeal [hKernelSsdIdeal : Cert.KernelSsdIdeal.Facts] [hReferenceSsdIdeal : Cert.ReferenceSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg)
    (m' : (ℓ : Loc Cert.ReferenceSsdIdeal.nD Cert.ReferenceSsdIdeal.τ Cert.ReferenceSsdIdeal.sig) → Buf (Elt Ideal) ℓ) (g' : Dev Cert.ReferenceSsdIdeal.nD → PrngReg), Pre_KernelSsdIdeal m →
    (∀ c : Dev Cert.KernelSsdIdeal.nD,
      m' ((c.tc : Thread Cert.ReferenceSsdIdeal.nD Cert.ReferenceSsdIdeal.τ).loc Cert.ReferenceSsdIdeal.main_arg0) = m ((c.tc : Thread Cert.KernelSsdIdeal.nD Cert.KernelSsdIdeal.τ).loc Cert.KernelSsdIdeal.main_arg0)
      ∧ m' ((c.tc : Thread Cert.ReferenceSsdIdeal.nD Cert.ReferenceSsdIdeal.τ).loc Cert.ReferenceSsdIdeal.main_arg1) = m ((c.tc : Thread Cert.KernelSsdIdeal.nD Cert.KernelSsdIdeal.τ).loc Cert.KernelSsdIdeal.main_arg1)
      ∧ m' ((c.tc : Thread Cert.ReferenceSsdIdeal.nD Cert.ReferenceSsdIdeal.τ).loc Cert.ReferenceSsdIdeal.main_arg2) = m ((c.tc : Thread Cert.KernelSsdIdeal.nD Cert.KernelSsdIdeal.τ).loc Cert.KernelSsdIdeal.main_arg2)
      ∧ m' ((c.tc : Thread Cert.ReferenceSsdIdeal.nD Cert.ReferenceSsdIdeal.τ).loc Cert.ReferenceSsdIdeal.main_arg3) = m ((c.tc : Thread Cert.KernelSsdIdeal.nD Cert.KernelSsdIdeal.τ).loc Cert.KernelSsdIdeal.main_arg3)
      ∧ m' ((c.tc : Thread Cert.ReferenceSsdIdeal.nD Cert.ReferenceSsdIdeal.τ).loc Cert.ReferenceSsdIdeal.main_arg4) = m ((c.tc : Thread Cert.KernelSsdIdeal.nD Cert.KernelSsdIdeal.τ).loc Cert.KernelSsdIdeal.main_arg4)
      ∧ m' ((c.tc : Thread Cert.ReferenceSsdIdeal.nD Cert.ReferenceSsdIdeal.τ).loc Cert.ReferenceSsdIdeal.main_arg5) = m ((c.tc : Thread Cert.KernelSsdIdeal.nD Cert.KernelSsdIdeal.τ).loc Cert.KernelSsdIdeal.main_arg5)
      ∧ m' ((c.tc : Thread Cert.ReferenceSsdIdeal.nD Cert.ReferenceSsdIdeal.τ).loc Cert.ReferenceSsdIdeal.main_arg6) = m ((c.tc : Thread Cert.KernelSsdIdeal.nD Cert.KernelSsdIdeal.τ).loc Cert.KernelSsdIdeal.main_arg6)
      ∧ m' ((c.tc : Thread Cert.ReferenceSsdIdeal.nD Cert.ReferenceSsdIdeal.τ).loc Cert.ReferenceSsdIdeal.main_arg7) = m ((c.tc : Thread Cert.KernelSsdIdeal.nD Cert.KernelSsdIdeal.τ).loc Cert.KernelSsdIdeal.main_arg7)
      ∧ m' ((c.tc : Thread Cert.ReferenceSsdIdeal.nD Cert.ReferenceSsdIdeal.τ).loc Cert.ReferenceSsdIdeal.main_arg8) = m ((c.tc : Thread Cert.KernelSsdIdeal.nD Cert.KernelSsdIdeal.τ).loc Cert.KernelSsdIdeal.main_arg8)) →
    ∃ (v0 : (c : Dev Cert.KernelSsdIdeal.nD) → Buf (Elt Ideal) ((c.tc : Thread Cert.KernelSsdIdeal.nD Cert.KernelSsdIdeal.τ).loc Cert.KernelSsdIdeal.main_v26_1)),
      θ_run (Cert.KernelSsdIdeal.defs (F := Ideal)) (onTc (τ := Cert.KernelSsdIdeal.τ) (Cert.KernelSsdIdeal.main (F := Ideal))) ⟨m, fun _ => 0, g⟩ (fun r => ∀ c : Dev Cert.KernelSsdIdeal.nD,
          r.2.mem ((c.tc : Thread Cert.KernelSsdIdeal.nD Cert.KernelSsdIdeal.τ).loc Cert.KernelSsdIdeal.main_v26_1) = v0 c
          ∧ r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
          ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
          ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
          ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
          ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
          ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
          ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6)
          ∧ r.2.mem ((c.tc : Thread Cert.KernelSsdIdeal.nD Cert.KernelSsdIdeal.τ).loc Cert.KernelSsdIdeal.main_arg7) = m ((c.tc : Thread Cert.KernelSsdIdeal.nD Cert.KernelSsdIdeal.τ).loc Cert.KernelSsdIdeal.main_arg7)
          ∧ r.2.mem ((c.tc : Thread Cert.KernelSsdIdeal.nD Cert.KernelSsdIdeal.τ).loc Cert.KernelSsdIdeal.main_arg8) = m ((c.tc : Thread Cert.KernelSsdIdeal.nD Cert.KernelSsdIdeal.τ).loc Cert.KernelSsdIdeal.main_arg8))
      ∧ θ_run (Cert.ReferenceSsdIdeal.defs (F := Ideal)) (onTc (τ := Cert.ReferenceSsdIdeal.τ) (Cert.ReferenceSsdIdeal.main (F := Ideal))) ⟨m', fun _ => 0, g'⟩ (fun r => ∀ c : Dev Cert.ReferenceSsdIdeal.nD,
          r.2.mem ((c.tc : Thread Cert.ReferenceSsdIdeal.nD Cert.ReferenceSsdIdeal.τ).loc Cert.ReferenceSsdIdeal.main_v6) = v0 c
          ∧ r.2.mem ((c.tc : Thread Cert.ReferenceSsdIdeal.nD Cert.ReferenceSsdIdeal.τ).loc Cert.ReferenceSsdIdeal.main_arg0) = m' ((c.tc : Thread Cert.ReferenceSsdIdeal.nD Cert.ReferenceSsdIdeal.τ).loc Cert.ReferenceSsdIdeal.main_arg0)
          ∧ r.2.mem ((c.tc : Thread Cert.ReferenceSsdIdeal.nD Cert.ReferenceSsdIdeal.τ).loc Cert.ReferenceSsdIdeal.main_arg1) = m' ((c.tc : Thread Cert.ReferenceSsdIdeal.nD Cert.ReferenceSsdIdeal.τ).loc Cert.ReferenceSsdIdeal.main_arg1)
          ∧ r.2.mem ((c.tc : Thread Cert.ReferenceSsdIdeal.nD Cert.ReferenceSsdIdeal.τ).loc Cert.ReferenceSsdIdeal.main_arg2) = m' ((c.tc : Thread Cert.ReferenceSsdIdeal.nD Cert.ReferenceSsdIdeal.τ).loc Cert.ReferenceSsdIdeal.main_arg2)
          ∧ r.2.mem ((c.tc : Thread Cert.ReferenceSsdIdeal.nD Cert.ReferenceSsdIdeal.τ).loc Cert.ReferenceSsdIdeal.main_arg3) = m' ((c.tc : Thread Cert.ReferenceSsdIdeal.nD Cert.ReferenceSsdIdeal.τ).loc Cert.ReferenceSsdIdeal.main_arg3)
          ∧ r.2.mem ((c.tc : Thread Cert.ReferenceSsdIdeal.nD Cert.ReferenceSsdIdeal.τ).loc Cert.ReferenceSsdIdeal.main_arg4) = m' ((c.tc : Thread Cert.ReferenceSsdIdeal.nD Cert.ReferenceSsdIdeal.τ).loc Cert.ReferenceSsdIdeal.main_arg4)
          ∧ r.2.mem ((c.tc : Thread Cert.ReferenceSsdIdeal.nD Cert.ReferenceSsdIdeal.τ).loc Cert.ReferenceSsdIdeal.main_arg5) = m' ((c.tc : Thread Cert.ReferenceSsdIdeal.nD Cert.ReferenceSsdIdeal.τ).loc Cert.ReferenceSsdIdeal.main_arg5)
          ∧ r.2.mem ((c.tc : Thread Cert.ReferenceSsdIdeal.nD Cert.ReferenceSsdIdeal.τ).loc Cert.ReferenceSsdIdeal.main_arg6) = m' ((c.tc : Thread Cert.ReferenceSsdIdeal.nD Cert.ReferenceSsdIdeal.τ).loc Cert.ReferenceSsdIdeal.main_arg6)
          ∧ r.2.mem ((c.tc : Thread Cert.ReferenceSsdIdeal.nD Cert.ReferenceSsdIdeal.τ).loc Cert.ReferenceSsdIdeal.main_arg7) = m' ((c.tc : Thread Cert.ReferenceSsdIdeal.nD Cert.ReferenceSsdIdeal.τ).loc Cert.ReferenceSsdIdeal.main_arg7)
          ∧ r.2.mem ((c.tc : Thread Cert.ReferenceSsdIdeal.nD Cert.ReferenceSsdIdeal.τ).loc Cert.ReferenceSsdIdeal.main_arg8) = m' ((c.tc : Thread Cert.ReferenceSsdIdeal.nD Cert.ReferenceSsdIdeal.τ).loc Cert.ReferenceSsdIdeal.main_arg8))

def Claim : Prop :=
  ∃ (hKernel : Cert.Kernel.Facts) (hKernelIdeal : Cert.KernelIdeal.Facts) (hReferenceIdeal : Cert.ReferenceIdeal.Facts) (hReference : Cert.Reference.Facts) (hKernelFfn : Cert.KernelFfn.Facts) (hKernelFfnIdeal : Cert.KernelFfnIdeal.Facts) (hReferenceFfnIdeal : Cert.ReferenceFfnIdeal.Facts) (hKernelMerge : Cert.KernelMerge.Facts) (hKernelMergeIdeal : Cert.KernelMergeIdeal.Facts) (hReferenceMergeIdeal : Cert.ReferenceMergeIdeal.Facts) (hKernelQkv : Cert.KernelQkv.Facts) (hKernelQkvIdeal : Cert.KernelQkvIdeal.Facts) (hReferenceQkvIdeal : Cert.ReferenceQkvIdeal.Facts) (hKernelAdaln : Cert.KernelAdaln.Facts) (hKernelAdalnIdeal : Cert.KernelAdalnIdeal.Facts) (hReferenceAdalnIdeal : Cert.ReferenceAdalnIdeal.Facts) (hKernelAttn : Cert.KernelAttn.Facts) (hKernelAttnIdeal : Cert.KernelAttnIdeal.Facts) (hKernelSsd : Cert.KernelSsd.Facts) (hKernelSsdIdeal : Cert.KernelSsdIdeal.Facts) (hReferenceSsdIdeal : Cert.ReferenceSsdIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelAdaln (hKernelAdaln := hKernelAdaln)
    ∧ quiescent_KernelAdalnIdeal (hKernelAdalnIdeal := hKernelAdalnIdeal)
    ∧ quiescent_ReferenceAdalnIdeal (hReferenceAdalnIdeal := hReferenceAdalnIdeal)
    ∧ quiescent_KernelAttn (hKernelAttn := hKernelAttn)
    ∧ quiescent_KernelAttnIdeal (hKernelAttnIdeal := hKernelAttnIdeal)
    ∧ quiescent_KernelSsd (hKernelSsd := hKernelSsd)
    ∧ quiescent_KernelSsdIdeal (hKernelSsdIdeal := hKernelSsdIdeal)
    ∧ quiescent_ReferenceSsdIdeal (hReferenceSsdIdeal := hReferenceSsdIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelAdaln_KernelAdalnIdeal
    ∧ algebraic_KernelAdalnIdeal_ReferenceAdalnIdeal (hKernelAdalnIdeal := hKernelAdalnIdeal) (hReferenceAdalnIdeal := hReferenceAdalnIdeal)
    ∧ preserves_KernelAttn_KernelAttnIdeal
    ∧ preserves_KernelSsd_KernelSsdIdeal
    ∧ algebraic_KernelSsdIdeal_ReferenceSsdIdeal (hKernelSsdIdeal := hKernelSsdIdeal) (hReferenceSsdIdeal := hReferenceSsdIdeal)
-- ==== Kernel.lean ====
abbrev S4x1024x11280 : Shape := ⟨3, ![4, 1024, 11280]⟩
abbrev S4x9x1024x512 : Shape := ⟨4, ![4, 9, 1024, 512]⟩
abbrev S1x1024x640 : Shape := ⟨3, ![1, 1024, 640]⟩
abbrev S1x1x1024x512 : Shape := ⟨4, ![1, 1, 1024, 512]⟩
abbrev S1x1024x512 : Shape := ⟨3, ![1, 1024, 512]⟩
abbrev S1024x512 : Shape := ⟨2, ![1024, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x11280, .f32⟩
  | .hbm, ⟨1, _⟩ => ⟨S4x9x1024x512, .bf16⟩
  | .local _ .vmem, ⟨0, _⟩ => ⟨S1x1024x640, .f32⟩
  | .local _ .vmem, ⟨1, _⟩ => ⟨S1x1024x640, .f32⟩
  | .local _ .vmem, ⟨2, _⟩ => ⟨S1x1x1024x512, .bf16⟩
  | .local _ .vmem, ⟨3, _⟩ => ⟨S1x1x1024x512, .bf16⟩
  | _, _ => ⟨S4x1024x11280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 9], ![false, false]⟩

def k0_mult1 (i : grid0.Coords) : BitVec 32 :=
  let c2560_i32 : BitVec 32 := 2560#32
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_3 : BitVec 32 := 3#32
  let v10 : BitVec 32 := Scalar.muli v9 c3_i32_3
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c3_i32_4 : BitVec 32 := 3#32
  let c0_i32_7 : BitVec 32 := 0#32
  let v17 : BitVec 1 := Scalar.cmpi .sgt c3_i32_4 c0_i32_7
  let v18 : BitVec 32 := Scalar.extui v17
  let c0_i32_8 : BitVec 32 := 0#32
  let v19 : BitVec 1 := Scalar.cmpi .slt c3_i32_4 c0_i32_8
  let v20 : BitVec 32 := Scalar.extui v19
  let v21 : BitVec 32 := Scalar.subi v18 v20
  let v22 : BitVec 1 := Scalar.cmpi .ne v16 v21
  let v23 : BitVec 32 := Scalar.remsi arg1 c3_i32_4
  let c0_i32_9 : BitVec 32 := 0#32
  let v24 : BitVec 1 := Scalar.cmpi .ne v23 c0_i32_9
  let v25 : BitVec 1 := Scalar.andi v22 v24
  let v11 : BitVec 32 := Scalar.divsi arg1 c3_i32_4
  let c1_i32_10 : BitVec 32 := 1#32
  let v26 : BitVec 32 := Scalar.subi v11 c1_i32_10
  let v27 : BitVec 32 := Scalar.select v25 v26 v11
  let v28 : BitVec 32 := Scalar.addi v10 v27
  let c512_i32 : BitVec 32 := 512#32
  let v29 : BitVec 32 := Scalar.muli v28 c512_i32
  let v30 : BitVec 32 := Scalar.addi c2560_i32 v29
  v30
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c3_i32_3 : BitVec 32 := 3#32
  let v10 : BitVec 32 := Scalar.muli v9 c3_i32_3
  let c3_i32_4 : BitVec 32 := 3#32
  let v11 : BitVec 32 := Scalar.divsi arg1 c3_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c3_i32_4 c0_i32_7
  let v18 : BitVec 32 := Scalar.extui v17
  let c0_i32_8 : BitVec 32 := 0#32
  let v19 : BitVec 1 := Scalar.cmpi .slt c3_i32_4 c0_i32_8
  let v20 : BitVec 32 := Scalar.extui v19
  let v21 : BitVec 32 := Scalar.subi v18 v20
  let v22 : BitVec 1 := Scalar.cmpi .ne v16 v21
  let v23 : BitVec 32 := Scalar.remsi arg1 c3_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c512_i32 : BitVec 32 := 512#32
  let v29 : BitVec 32 := Scalar.muli v28 c512_i32
  let c2560_i32 : BitVec 32 := 2560#32
  let v30 : BitVec 32 := Scalar.addi c2560_i32 v29
  let v31 : BitVec 32 := v30
  let c0_i32_11 : BitVec 32 := 0#32
  let c0_i32_12 : BitVec 32 := 0#32
  ![arg0.toNat, c0_i32_11.toNat, v31.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference.lean ====
abbrev S4x1024x11280 : Shape := ⟨3, ![4, 1024, 11280]⟩
abbrev S4x1024x4608 : Shape := ⟨3, ![4, 1024, 4608]⟩
abbrev S4x1024x1536 : Shape := ⟨3, ![4, 1024, 1536]⟩
abbrev S4x1024x512 : Shape := ⟨3, ![4, 1024, 512]⟩
abbrev S4x1x1024x512 : Shape := ⟨4, ![4, 1, 1024, 512]⟩
abbrev S4x9x1024x512 : Shape := ⟨4, ![4, 9, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S4x1024x11280, .f32⟩
  | .hbm, ⟨1, _⟩ => ⟨S4x1024x4608, .f32⟩
  | .hbm, ⟨2, _⟩ => ⟨S4x1024x4608, .bf16⟩
  | .hbm, ⟨3, _⟩ => ⟨S4x1024x1536, .bf16⟩
  | .hbm, ⟨4, _⟩ => ⟨S4x1024x1536, .bf16⟩
  | .hbm, ⟨5, _⟩ => ⟨S4x1024x1536, .bf16⟩
  | .hbm, ⟨6, _⟩ => ⟨S4x1024x512, .bf16⟩
  | .hbm, ⟨7, _⟩ => ⟨S4x1024x512, .bf16⟩
  | .hbm, ⟨8, _⟩ => ⟨S4x1024x512, .bf16⟩
  | .hbm, ⟨9, _⟩ => ⟨S4x1024x512, .bf16⟩
  | .hbm, ⟨10, _⟩ => ⟨S4x1024x512, .bf16⟩
  | .hbm, ⟨11, _⟩ => ⟨S4x1024x512, .bf16⟩
  | .hbm, ⟨12, _⟩ => ⟨S4x1024x512, .bf16⟩
  | .hbm, ⟨13, _⟩ => ⟨S4x1024x512, .bf16⟩
  | .hbm, ⟨14, _⟩ => ⟨S4x1024x512, .bf16⟩
  | .hbm, ⟨15, _⟩ => ⟨S4x1x1024x512, .bf16⟩
  | .hbm, ⟨16, _⟩ => ⟨S4x1x1024x512, .bf16⟩
  | .hbm, ⟨17, _⟩ => ⟨S4x1x1024x512, .bf16⟩
  | .hbm, ⟨18, _⟩ => ⟨S4x1x1024x512, .bf16⟩
  | .hbm, ⟨19, _⟩ => ⟨S4x1x1024x512, .bf16⟩
  | .hbm, ⟨20, _⟩ => ⟨S4x1x1024x512, .bf16⟩
  | .hbm, ⟨21, _⟩ => ⟨S4x1x1024x512, .bf16⟩
  | .hbm, ⟨22, _⟩ => ⟨S4x1x1024x512, .bf16⟩
  | .hbm, ⟨23, _⟩ => ⟨S4x1x1024x512, .bf16⟩
  | .hbm, ⟨24, _⟩ => ⟨S4x9x1024x512, .bf16⟩
  | _, _ => ⟨S4x1024x11280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩

abbrev nD : Nat := 1
abbrev τ : Topo := Topo.v7x

variable {F : FTy → Type} [FloatOps F]
-- ==== KernelFfn.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S4x8x6x1024 : Shape := ⟨4, ![4, 8, 6, 1024]⟩
abbrev S4x6x8x1024 : Shape := ⟨4, ![4, 6, 8, 1024]⟩
abbrev S1x1024 : Shape := ⟨2, ![1, 1024]⟩
abbrev S1024 : Shape := ⟨1, ![1024]⟩
abbrev S1x1024x1024 : Shape := ⟨3, ![1, 1024, 1024]⟩
abbrev S1x1x8x1024 : Shape := ⟨4, ![1, 1, 8, 1024]⟩
abbrev S1x1024x2048 : Shape := ⟨3, ![1, 1024, 2048]⟩
abbrev S1x2048x1024 : Shape := ⟨3, ![1, 2048, 1024]⟩
abbrev S1024x1024 : Shape := ⟨2, ![1024, 1024]⟩
abbrev S1x1x1x1024 : Shape := ⟨4, ![1, 1, 1, 1024]⟩
abbrev S1024x1 : Shape := ⟨2, ![1024, 1]⟩
abbrev S1024x2048 : Shape := ⟨2, ![1024, 2048]⟩
abbrev S2048x1024 : Shape := ⟨2, ![2048, 1024]⟩

abbrev nBuf : Space → Nat
  | .hbm => 13
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S4x8x6x1024, .f32⟩
  | .hbm, ⟨6, _⟩ => ⟨S4x6x8x1024, .f32⟩
  | .hbm, ⟨7, _⟩ => ⟨S1x1024, .f32⟩
  | .hbm, ⟨8, _⟩ => ⟨S1024, .f32⟩
  | .hbm, ⟨9, _⟩ => ⟨S4x1024x4096, .bf16⟩
  | .hbm, ⟨10, _⟩ => ⟨S4x4096x1024, .bf16⟩
  | .hbm, ⟨11, _⟩ => ⟨S1x1024, .f32⟩
  | .hbm, ⟨12, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let c0_20 : Index := 0#32
  let c0_21 : Index := 0#32
  let arg0 : BitVec 32 := BitVec.ofNat 32 (i 0).val
  let v26 : Index := Scalar.indexCast arg0
  let c0_22 : Index := 0#32
  ![0, 0, v26.toNat, 0]
def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_14 : BitVec 32 := 0#32
  let v21 : BitVec 1 := Scalar.cmpi .ne v20 c0_i32_14
  v21

def k0_off2 (i : grid0.Coords) : Fin 4 → Nat :=
  let c0_18 : Index := 0#32
  let c0_19 : Index := 0#32
  let arg0 : BitVec 32 := BitVec.ofNat 32 (i 0).val
  let v24 : Index := Scalar.indexCast arg0
  let c0_20 : Index := 0#32
  ![0, 0, v24.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c4_i32 : BitVec 32 := 4#32
  let c0_i32 : BitVec 32 := 0#32
  let c0_i32_0 : BitVec 32 := 0#32
  let c0_i32_1 : BitVec 32 := 0#32
  ![c3_i32.toNat, c4_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, c3_i32_0.toNat, c0_i32.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c5_i32 : BitVec 32 := 5#32
  let c0_i32 : BitVec 32 := 0#32
  let c0_i32_0 : BitVec 32 := 0#32
  let c0_i32_1 : BitVec 32 := 0#32
  ![c3_i32.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceFfnIdeal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1x4x6144, .f32⟩
  | .hbm, ⟨6, _⟩ => ⟨S4x6144, .f32⟩
  | .hbm, ⟨7, _⟩ => ⟨S4x1x6144, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S1x1024, .f32⟩
  | .hbm, ⟨15, _⟩ => ⟨S1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S1x1024x4096, .f32⟩
  | .hbm, ⟨40, _⟩ => ⟨S1024x4096, .f32⟩
  | .hbm, ⟨41, _⟩ => ⟨S4x4096x4096, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S1x4096x1024, .f32⟩
  | .hbm, ⟨47, _⟩ => ⟨S4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_cst : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== KernelMerge.lean ====
abbrev S4x4096x1024 : Shape := ⟨3, ![4, 4096, 1024]⟩
abbrev S4x4096x512 : Shape := ⟨3, ![4, 4096, 512]⟩
abbrev S4x8x4096x512 : Shape := ⟨4, ![4, 8, 4096, 512]⟩
abbrev S4x8x6144 : Shape := ⟨3, ![4, 8, 6144]⟩
abbrev S4x1024x1024 : Shape := ⟨3, ![4, 1024, 1024]⟩
abbrev S4x512x1024 : Shape := ⟨3, ![4, 512, 1024]⟩
abbrev S4x4x256x256 : Shape := ⟨4, ![4, 4, 256, 256]⟩
abbrev S4x1024 : Shape := ⟨2, ![4, 1024]⟩
abbrev S4x8x6x1024 : Shape := ⟨4, ![4, 8, 6, 1024]⟩
abbrev S4x6x8x1024 : Shape := ⟨4, ![4, 6, 8, 1024]⟩
abbrev S1x1024 : Shape := ⟨2, ![1, 1024]⟩
abbrev S1024 : Shape := ⟨1, ![1024]⟩
abbrev S1x512x1024 : Shape := ⟨3, ![1, 512, 1024]⟩
abbrev S1x512x512 : Shape := ⟨3, ![1, 512, 512]⟩
abbrev S1x2x512x512 : Shape := ⟨4, ![1, 2, 512, 512]⟩
abbrev S1x2x32x512 : Shape := ⟨4, ![1, 2, 32, 512]⟩
abbrev S1x1x8x1024 : Shape := ⟨4, ![1, 1, 8, 1024]⟩
abbrev S1x1024x1024 : Shape := ⟨3, ![1, 1024, 1024]⟩
abbrev S1x4x256x256 : Shape := ⟨4, ![1, 4, 256, 256]⟩
abbrev S544x1024 : Shape := ⟨2, ![544, 1024]⟩
abbrev S2x544x1024 : Shape := ⟨3, ![2, 544, 1024]⟩
abbrev S1x1x32x512 : Shape := ⟨4, ![1, 1, 32, 512]⟩
abbrev S32x512 : Shape := ⟨2, ![32, 512]⟩
abbrev S32x1024 : Shape := ⟨2, ![32, 1024]⟩
abbrev S1x1x512x512 : Shape := ⟨4, ![1, 1, 512, 512]⟩
abbrev S512x512 : Shape := ⟨2, ![512, 512]⟩
abbrev S512x1024 : Shape := ⟨2, ![512, 1024]⟩
abbrev S536x1024 : Shape := ⟨2, ![536, 1024]⟩
abbrev S1x544x1024 : Shape := ⟨3, ![1, 544, 1024]⟩
abbrev S528x768 : Shape := ⟨2, ![528, 768]⟩
abbrev S520x512 : Shape := ⟨2, ![520, 512]⟩
abbrev S512x256 : Shape := ⟨2, ![512, 256]⟩
abbrev S512x1 : Shape := ⟨2, ![512, 1]⟩
abbrev S1x512x256 : Shape := ⟨3, ![1, 512, 256]⟩
abbrev S4x256x256 : Shape := ⟨3, ![4, 256, 256]⟩
abbrev S1x256x256 : Shape := ⟨3, ![1, 256, 256]⟩
abbrev S256x256 : Shape := ⟨2, ![256, 256]⟩
abbrev S1024x1024 : Shape := ⟨2, ![1024, 1024]⟩
abbrev S1x1x1x1024 : Shape := ⟨4, ![1, 1, 1, 1024]⟩

abbrev nBuf : Space → Nat
  | .hbm => 22
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x512, .bf16⟩
  | .hbm, ⟨3, _⟩ => ⟨S4x8x4096x512, .bf16⟩
  | .hbm, ⟨4, _⟩ => ⟨S4x8x6144, .f32⟩
  | .hbm, ⟨5, _⟩ => ⟨S4x1024x1024, .f32⟩
  | .hbm, ⟨6, _⟩ => ⟨S4x512x1024, .f32⟩
  | .hbm, ⟨7, _⟩ => ⟨S4x4x256x256, .f32⟩
  | .hbm, ⟨8, _⟩ => ⟨S4x1024, .f32⟩
  | .hbm, ⟨9, _⟩ => ⟨S4x1024x1024, .f32⟩
  | .hbm, ⟨10, _⟩ => ⟨S4x1024x1024, .f32⟩
  | .hbm, ⟨11, _⟩ => ⟨S4x8x6x1024, .f32⟩
  | .hbm, ⟨12, _⟩ => ⟨S4x6x8x1024, .f32⟩
  | .hbm, ⟨13, _⟩ => ⟨S4x1024x1024, .bf16⟩
  | .hbm, ⟨14, _⟩ => ⟨S4x512x1024, .bf16⟩
  | .hbm, ⟨15, _⟩ => ⟨S4x4x256x256, .bf16⟩
  | .hbm, ⟨16, _⟩ => ⟨S4x1024x1024, .bf16⟩
  | .hbm, ⟨17, _⟩ => ⟨S4x1024x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x2x512x512, .bf16⟩
  | .local _ .vmem, ⟨7, _⟩ => ⟨S1x2x512x512, .bf16⟩
  | .local _ .vmem, ⟨8, _⟩ => ⟨S1x2x32x512, .bf16⟩
  | .local _ .vmem, ⟨9, _⟩ => ⟨S1x2x32x512, .bf16⟩
  | .local _ .vmem, ⟨10, _⟩ => ⟨S1x2x512x512, .bf16⟩
  | .local _ .vmem, ⟨11, _⟩ => ⟨S1x2x512x512, .bf16⟩
  | .local _ .vmem, ⟨12, _⟩ => ⟨S1x2x512x512, .bf16⟩
  | .local _ .vmem, ⟨13, _⟩ => ⟨S1x2x512x512, .bf16⟩
  | .local _ .vmem, ⟨14, _⟩ => ⟨S1x2x512x512, .bf16⟩
  | .local _ .vmem, ⟨15, _⟩ => ⟨S1x2x512x512, .bf16⟩
  | .local _ .vmem, ⟨16, _⟩ => ⟨S1x1x8x1024, .f32⟩
  | .local _ .vmem, ⟨17, _⟩ => ⟨S1x1024x1024, .bf16⟩
  | .local _ .vmem, ⟨18, _⟩ => ⟨S1x512x1024, .bf16⟩
  | .local _ .vmem, ⟨19, _⟩ => ⟨S1x4x256x256, .bf16⟩
  | .local _ .vmem, ⟨20, _⟩ => ⟨S1x1024, .f32⟩
  | .local _ .vmem, ⟨21, _⟩ => ⟨S1x1024x1024, .bf16⟩
  | .local _ .vmem, ⟨22, _⟩ => ⟨S1x1024x1024, .bf16⟩
  | .local _ .vmem, ⟨23, _⟩ => ⟨S1x512x1024, .f32⟩
  | .local _ .vmem, ⟨24, _⟩ => ⟨S1x512x1024, .f32⟩
  | .local _ .vmem, ⟨25, _⟩ => ⟨S544x1024, .f32⟩
  | .local _ .vmem, ⟨26, _⟩ => ⟨S2x544x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let c0_171 : Index := 0#32
  let c0_172 : Index := 0#32
  let arg0 : BitVec 32 := BitVec.ofNat 32 (i 0).val
  let v202 : Index := Scalar.indexCast arg0
  let c0_173 : Index := 0#32
  ![0, 0, v202.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceMergeIdeal.lean ====
abbrev S4x4096x1024 : Shape := ⟨3, ![4, 4096, 1024]⟩
abbrev S4x4096x512 : Shape := ⟨3, ![4, 4096, 512]⟩
abbrev S4x8x4096x512 : Shape := ⟨4, ![4, 8, 4096, 512]⟩
abbrev S4x8x6144 : Shape := ⟨3, ![4, 8, 6144]⟩
abbrev S4x1024x1024 : Shape := ⟨3, ![4, 1024, 1024]⟩
abbrev S4x512x1024 : Shape := ⟨3, ![4, 512, 1024]⟩
abbrev S4x4x256x256 : Shape := ⟨4, ![4, 4, 256, 256]⟩
abbrev S4x1024 : Shape := ⟨2, ![4, 1024]⟩
abbrev S1x4x1024 : Shape := ⟨3, ![1, 4, 1024]⟩
abbrev S4x1x1024 : Shape := ⟨3, ![4, 1, 1024]⟩
abbrev S4x4096x8x512 : Shape := ⟨4, ![4, 4096, 8, 512]⟩
abbrev S4x4096x4096 : Shape := ⟨3, ![4, 4096, 4096]⟩
abbrev S4x4096x3072 : Shape := ⟨3, ![4, 4096, 3072]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x4x256x256 : Shape := ⟨4, ![1, 4, 256, 256]⟩
abbrev S4x256x256 : Shape := ⟨3, ![4, 256, 256]⟩
abbrev S4x4096x4x256 : Shape := ⟨4, ![4, 4096, 4, 256]⟩
abbrev S4096 : Shape := ⟨1, ![4096]⟩
abbrev S4096x1 : Shape := ⟨2, ![4096, 1]⟩
abbrev S_ : Shape := ⟨0, ![]⟩
abbrev S4x4096x1x256 : Shape := ⟨4, ![4, 4096, 1, 256]⟩
abbrev S4x4096x256 : Shape := ⟨3, ![4, 4096, 256]⟩
abbrev S1x4096x1 : Shape := ⟨3, ![1, 4096, 1]⟩
abbrev S4x256x4x4096 : Shape := ⟨4, ![4, 256, 4, 4096]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x512, .bf16⟩
  | .hbm, ⟨3, _⟩ => ⟨S4x8x4096x512, .bf16⟩
  | .hbm, ⟨4, _⟩ => ⟨S4x8x6144, .f32⟩
  | .hbm, ⟨5, _⟩ => ⟨S4x1024x1024, .f32⟩
  | .hbm, ⟨6, _⟩ => ⟨S4x512x1024, .f32⟩
  | .hbm, ⟨7, _⟩ => ⟨S4x4x256x256, .f32⟩
  | .hbm, ⟨8, _⟩ => ⟨S4x1024, .f32⟩
  | .hbm, ⟨9, _⟩ => ⟨S4x1024x1024, .f32⟩
  | .hbm, ⟨10, _⟩ => ⟨S4x1024x1024, .f32⟩
  | .hbm, ⟨11, _⟩ => ⟨S1x4x1024, .f32⟩
  | .hbm, ⟨12, _⟩ => ⟨S4x1024, .f32⟩
  | .hbm, ⟨13, _⟩ => ⟨S4x1x1024, .f32⟩
  | .hbm, ⟨14, _⟩ => ⟨S4x8x4096x512, .f32⟩
  | .hbm, ⟨15, _⟩ => ⟨S4x4096x8x512, .f32⟩
  | .hbm, ⟨16, _⟩ => ⟨S4x4096x4096, .f32⟩
  | .hbm, ⟨17, _⟩ => ⟨S4x4096x1024, .f32⟩
  | .hbm, ⟨18, _⟩ => ⟨S4x4096x3072, .f32⟩
  | .hbm, ⟨19, _⟩ => ⟨S4x4096x1024, .f32⟩
  | .hbm, ⟨20, _⟩ => ⟨S1x1024x1024, .f32⟩
  | .hbm, ⟨21, _⟩ => ⟨S1024x1024, .f32⟩
  | .hbm, ⟨22, _⟩ => ⟨S4x4096x1024, .f32⟩
  | .hbm, ⟨23, _⟩ => ⟨S4x4096x512, .f32⟩
  | .hbm, ⟨24, _⟩ => ⟨S1x512x1024, .f32⟩
  | .hbm, ⟨25, _⟩ => ⟨S512x1024, .f32⟩
  | .hbm, ⟨26, _⟩ => ⟨S4x4096x1024, .f32⟩
  | .hbm, ⟨27, _⟩ => ⟨S1x4x256x256, .f32⟩
  | .hbm, ⟨28, _⟩ => ⟨S4x256x256, .f32⟩
  | .hbm, ⟨29, _⟩ => ⟨S4x4096x4x256, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4x4096x1x256, .f32⟩
  | .hbm, ⟨36, _⟩ => ⟨S4x4096x256, .f32⟩
  | .hbm, ⟨37, _⟩ => ⟨S_, .f32⟩
  | .hbm, ⟨38, _⟩ => ⟨S_, .f32⟩
  | .hbm, ⟨39, _⟩ => ⟨S4x4096x256, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S1x4096x1, .f32⟩
  | .hbm, ⟨44, _⟩ => ⟨S4x4096x256, .f32⟩
  | .hbm, ⟨45, _⟩ => ⟨S4x4096x256, .f32⟩
  | .hbm, ⟨46, _⟩ => ⟨S4x4096x1x256, .f32⟩
  | .hbm, ⟨47, _⟩ => ⟨S4x4096x256, .f32⟩
  | .hbm, ⟨48, _⟩ => ⟨S_, .f32⟩
  | .hbm, ⟨49, _⟩ => ⟨S_, .f32⟩
  | .hbm, ⟨50, _⟩ => ⟨S4x4096x256, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S1x4096x1, .f32⟩
  | .hbm, ⟨55, _⟩ => ⟨S4x4096x256, .f32⟩
  | .hbm, ⟨56, _⟩ => ⟨S4x4096x256, .f32⟩
  | .hbm, ⟨57, _⟩ => ⟨S4x4096x1x256, .f32⟩
  | .hbm, ⟨58, _⟩ => ⟨S4x4096x256, .f32⟩
  | .hbm, ⟨59, _⟩ => ⟨S_, .f32⟩
  | .hbm, ⟨60, _⟩ => ⟨S_, .f32⟩
  | .hbm, ⟨61, _⟩ => ⟨S4x4096x256, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S1x4096x1, .f32⟩
  | .hbm, ⟨66, _⟩ => ⟨S4x4096x256, .f32⟩
  | .hbm, ⟨67, _⟩ => ⟨S4x4096x256, .f32⟩
  | .hbm, ⟨68, _⟩ => ⟨S4x4096x1x256, .f32⟩
  | .hbm, ⟨69, _⟩ => ⟨S4x4096x256, .f32⟩
  | .hbm, ⟨70, _⟩ => ⟨S_, .f32⟩
  | .hbm, ⟨71, _⟩ => ⟨S_, .f32⟩
  | .hbm, ⟨72, _⟩ => ⟨S4x4096x256, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S1x4096x1, .f32⟩
  | .hbm, ⟨77, _⟩ => ⟨S4x4096x256, .f32⟩
  | .hbm, ⟨78, _⟩ => ⟨S4x4096x256, .f32⟩
  | .hbm, ⟨79, _⟩ => ⟨S4x4096x1x256, .f32⟩
  | .hbm, ⟨80, _⟩ => ⟨S4x4096x1x256, .f32⟩
  | .hbm, ⟨81, _⟩ => ⟨S4x4096x1x256, .f32⟩
  | .hbm, ⟨82, _⟩ => ⟨S4x4096x1x256, .f32⟩
  | .hbm, ⟨83, _⟩ => ⟨S4x4096x4x256, .f32⟩
  | .hbm, ⟨84, _⟩ => ⟨S4x4096x4x256, .f32⟩
  | .hbm, ⟨85, _⟩ => ⟨S4x256x4x4096, .f32⟩
  | .hbm, ⟨86, _⟩ => ⟨S4x4096x4x256, .f32⟩
  | .hbm, ⟨87, _⟩ => ⟨S4x4096x1024, .f32⟩
  | .hbm, ⟨88, _⟩ => ⟨S1x1024, .f32⟩
  | .hbm, ⟨89, _⟩ => ⟨S1024, .f32⟩
  | .hbm, ⟨90, _⟩ => ⟨S1x1x1024, .f32⟩
  | .hbm, ⟨91, _⟩ => ⟨S4x4096x1024, .f32⟩
  | .hbm, ⟨92, _⟩ => ⟨S4x4096x1024, .f32⟩
  | .hbm, ⟨93, _⟩ => ⟨S1x1024x1024, .f32⟩
  | .hbm, ⟨94, _⟩ => ⟨S1024x1024, .f32⟩
  | .hbm, ⟨95, _⟩ => ⟨S4x4096x1024, .f32⟩
  | .hbm, ⟨96, _⟩ => ⟨S4x4096x3072, .f32⟩
  | .hbm, ⟨97, _⟩ => ⟨S4x4096x3072, .f32⟩
  | .hbm, ⟨98, _⟩ => ⟨S_, .f32⟩
  | .hbm, ⟨99, _⟩ => ⟨S4x4096x3072, .f32⟩
  | .hbm, ⟨100, _⟩ => ⟨S4x4096x3072, .f32⟩
  | .hbm, ⟨101, _⟩ => ⟨S_, .f32⟩
  | .hbm, ⟨102, _⟩ => ⟨S4x4096x3072, .f32⟩
  | .hbm, ⟨103, _⟩ => ⟨S4x4096x3072, .f32⟩
  | .hbm, ⟨104, _⟩ => ⟨S4x4096x1024, .f32⟩
  | .hbm, ⟨105, _⟩ => ⟨S4x4096x1024, .f32⟩
  | .hbm, ⟨106, _⟩ => ⟨S4x4096x1024, .f32⟩
  | .hbm, ⟨107, _⟩ => ⟨S4x4096x1024, .f32⟩
  | .hbm, ⟨108, _⟩ => ⟨S4x4096x1024, .f32⟩
  | .hbm, ⟨109, _⟩ => ⟨S4x4096x1024, .f32⟩
  | .hbm, ⟨110, _⟩ => ⟨S4x4096x1024, .f32⟩
  | .hbm, ⟨111, _⟩ => ⟨S4x4096x1024, .f32⟩
  | .hbm, ⟨112, _⟩ => ⟨S1x1024x1024, .f32⟩
  | .hbm, ⟨113, _⟩ => ⟨S1024x1024, .f32⟩
  | .hbm, ⟨114, _⟩ => ⟨S4x4096x1024, .f32⟩
  | .hbm, ⟨115, _⟩ => ⟨S4x4096x1024, .f32⟩
  | .hbm, ⟨116, _⟩ => ⟨S4x4096x1024, .f32⟩
  | .hbm, ⟨117, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_v78 : Ref sig .tc := ⟨.hbm, 99, rfl⟩
abbrev main_v79 : Ref sig .tc := ⟨.hbm, 100, rfl⟩
abbrev main_cst_9 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩

abbrev nD : Nat := 1
abbrev τ : Topo := Topo.v7x

variable {F : FTy → Type} [FloatOps F]
-- ==== KernelQkv.lean ====
abbrev S4x4096x1024 : Shape := ⟨3, ![4, 4096, 1024]⟩
abbrev S4x8x6144 : Shape := ⟨3, ![4, 8, 6144]⟩
abbrev S4x1024 : Shape := ⟨2, ![4, 1024]⟩
abbrev S4x9x1024x512 : Shape := ⟨4, ![4, 9, 1024, 512]⟩
abbrev S4x128 : Shape := ⟨2, ![4, 128]⟩
abbrev S4x8x6x1024 : Shape := ⟨4, ![4, 8, 6, 1024]⟩
abbrev S4x6x8x1024 : Shape := ⟨4, ![4, 6, 8, 1024]⟩
abbrev S_ : Shape := ⟨0, ![]⟩
abbrev S1x4x1x128 : Shape := ⟨4, ![1, 4, 1, 128]⟩
abbrev S1x4x4x128 : Shape := ⟨4, ![1, 4, 4, 128]⟩
abbrev S4x512 : Shape := ⟨2, ![4, 512]⟩
abbrev S4x1536 : Shape := ⟨2, ![4, 1536]⟩
abbrev S1x4x1x1536 : Shape := ⟨4, ![1, 4, 1, 1536]⟩
abbrev S1x4x3x1536 : Shape := ⟨4, ![1, 4, 3, 1536]⟩
abbrev S4x4608 : Shape := ⟨2, ![4, 4608]⟩
abbrev S4x1x4608 : Shape := ⟨3, ![4, 1, 4608]⟩
abbrev S1x1024 : Shape := ⟨2, ![1, 1024]⟩
abbrev S1024 : Shape := ⟨1, ![1024]⟩
abbrev S1x1x4608 : Shape := ⟨3, ![1, 1, 4608]⟩
abbrev S1x4608 : Shape := ⟨2, ![1, 4608]⟩
abbrev S4x1x4096x1536 : Shape := ⟨4, ![4, 1, 4096, 1536]⟩
abbrev S4x4x1024x1536 : Shape := ⟨4, ![4, 4, 1024, 1536]⟩
abbrev S4x16x256x1536 : Shape := ⟨4, ![4, 16, 256, 1536]⟩
abbrev S1x1024x1024 : Shape := ⟨3, ![1, 1024, 1024]⟩
abbrev S1x1x8x1024 : Shape := ⟨4, ![1, 1, 8, 1024]⟩
abbrev S1x9x1024x512 : Shape := ⟨4, ![1, 9, 1024, 512]⟩
abbrev S1x1x1024x1536 : Shape := ⟨4, ![1, 1, 1024, 1536]⟩
abbrev S1x4x256x1536 : Shape := ⟨4, ![1, 4, 256, 1536]⟩
abbrev S1x16x64x1536 : Shape := ⟨4, ![1, 16, 64, 1536]⟩
abbrev S8x1024x128 : Shape := ⟨3, ![8, 1024, 128]⟩
abbrev S2x1024x1024 : Shape := ⟨3, ![2, 1024, 1024]⟩
abbrev S1024x1024 : Shape := ⟨2, ![1024, 1024]⟩
abbrev S1x1x1x1024 : Shape := ⟨4, ![1, 1, 1, 1024]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩
abbrev S1x1x1024x256 : Shape := ⟨4, ![1, 1, 1024, 256]⟩
abbrev S1024x256 : Shape := ⟨2, ![1024, 256]⟩
abbrev S1x256 : Shape := ⟨2, ![1, 256]⟩
abbrev S256x256 : Shape := ⟨2, ![256, 256]⟩
abbrev S1x1x256x256 : Shape := ⟨4, ![1, 1, 256, 256]⟩
abbrev S64x256 : Shape := ⟨2, ![64, 256]⟩
abbrev S1x1x64x256 : Shape := ⟨4, ![1, 1, 64, 256]⟩

abbrev nBuf : Space → Nat
  | .hbm => 33
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x9x1024x512, .bf16⟩
  | .hbm, ⟨4, _⟩ => ⟨S4x128, .f32⟩
  | .hbm, ⟨5, _⟩ => ⟨S4x128, .f32⟩
  | .hbm, ⟨6, _⟩ => ⟨S4x8x6x1024, .f32⟩
  | .hbm, ⟨7, _⟩ => ⟨S4x6x8x1024, .f32⟩
  | .hbm, ⟨8, _⟩ => ⟨S_, .f32⟩
  | .hbm, ⟨9, _⟩ => ⟨S4x128, .f32⟩
  | .hbm, ⟨10, _⟩ => ⟨S4x128, .f32⟩
  | .hbm, ⟨11, _⟩ => ⟨S1x4x1x128, .f32⟩
  | .hbm, ⟨12, _⟩ => ⟨S1x4x4x128, .f32⟩
  | .hbm, ⟨13, _⟩ => ⟨S4x512, .f32⟩
  | .hbm, ⟨14, _⟩ => ⟨S1x4x1x128, .f32⟩
  | .hbm, ⟨15, _⟩ => ⟨S1x4x4x128, .f32⟩
  | .hbm, ⟨16, _⟩ => ⟨S4x512, .f32⟩
  | .hbm, ⟨17, _⟩ => ⟨S_, .f32⟩
  | .hbm, ⟨18, _⟩ => ⟨S4x512, .f32⟩
  | .hbm, ⟨19, _⟩ => ⟨S4x1536, .f32⟩
  | .hbm, ⟨20, _⟩ => ⟨S1x4x1x1536, .f32⟩
  | .hbm, ⟨21, _⟩ => ⟨S1x4x3x1536, .f32⟩
  | .hbm, ⟨22, _⟩ => ⟨S4x4608, .f32⟩
  | .hbm, ⟨23, _⟩ => ⟨S4x1x4608, .f32⟩
  | .hbm, ⟨24, _⟩ => ⟨S1x1024, .f32⟩
  | .hbm, ⟨25, _⟩ => ⟨S1024, .f32⟩
  | .hbm, ⟨26, _⟩ => ⟨S1x1x4608, .f32⟩
  | .hbm, ⟨27, _⟩ => ⟨S1x4608, .f32⟩
  | .hbm, ⟨28, _⟩ => ⟨S1x1024, .f32⟩
  | .hbm, ⟨29, _⟩ => ⟨S4x4096x1024, .bf16⟩
  | .hbm, ⟨30, _⟩ => ⟨S4x1x4096x1536, .bf16⟩
  | .hbm, ⟨31, _⟩ => ⟨S4x4x1024x1536, .bf16⟩
  | .hbm, ⟨32, _⟩ => ⟨S4x16x256x1536, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1x9x1024x512, .bf16⟩
  | .local _ .vmem, ⟨6, _⟩ => ⟨S1x4608, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1x1024x1536, .bf16⟩
  | .local _ .vmem, ⟨10, _⟩ => ⟨S1x1x1024x1536, .bf16⟩
  | .local _ .vmem, ⟨11, _⟩ => ⟨S1x4x256x1536, .bf16⟩
  | .local _ .vmem, ⟨12, _⟩ => ⟨S1x4x256x1536, .bf16⟩
  | .local _ .vmem, ⟨13, _⟩ => ⟨S1x16x64x1536, .bf16⟩
  | .local _ .vmem, ⟨14, _⟩ => ⟨S1x16x64x1536, .bf16⟩
  | .local _ .vmem, ⟨15, _⟩ => ⟨S8x1024x128, .f32⟩
  | .local _ .vmem, ⟨16, _⟩ => ⟨S2x1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 4], ![false, false]⟩

def k0_off1 (i : grid0.Coords) : Fin 4 → Nat :=
  let c0_4 : Index := 0#32
  let c0_5 : Index := 0#32
  let arg0 : BitVec 32 := BitVec.ofNat 32 (i 0).val
  let v4 : Index := Scalar.indexCast arg0
  let c0_6 : Index := 0#32
  ![0, 0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x9x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x64x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceQkvIdeal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x9x1024x512 : Shape := ⟨4, ![4, 9, 1024, 512]⟩
abbrev S4x128 : Shape := ⟨2, ![4, 128]⟩
abbrev S1x4x1024 : Shape := ⟨3, ![1, 4, 1024]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x9x1024x512 : Shape := ⟨4, ![1, 9, 1024, 512]⟩
abbrev S9x1024x512 : Shape := ⟨3, ![9, 1024, 512]⟩
abbrev S3x3x1024x512 : Shape := ⟨4, ![3, 3, 1024, 512]⟩
abbrev S4x4096x3x3x512 : Shape := ⟨5, ![4, 4096, 3, 3, 512]⟩
abbrev S4x4096x3x3x4x128 : Shape := ⟨6, ![4, 4096, 3, 3, 4, 128]⟩
abbrev S4x4096x3x1x4x128 : Shape := ⟨6, ![4, 4096, 3, 1, 4, 128]⟩
abbrev S4x4096x3x4x128 : Shape := ⟨5, ![4, 4096, 3, 4, 128]⟩
abbrev S1x128 : Shape := ⟨2, ![1, 128]⟩
abbrev S128 : Shape := ⟨1, ![128]⟩
abbrev S4x4096x3x4 : Shape := ⟨4, ![4, 4096, 3, 4]⟩
abbrev S4x4096x3x4x1 : Shape := ⟨5, ![4, 4096, 3, 4, 1]⟩
abbrev S1x1x1x1x128 : Shape := ⟨5, ![1, 1, 1, 1, 128]⟩
abbrev S4x4096x3x1536 : Shape := ⟨4, ![4, 4096, 3, 1536]⟩
abbrev S4x4096x1x1536 : Shape := ⟨4, ![4, 4096, 1, 1536]⟩
abbrev S4x4096x1536 : Shape := ⟨3, ![4, 4096, 1536]⟩
abbrev S4x1x4096x1536 : Shape := ⟨4, ![4, 1, 4096, 1536]⟩
abbrev S4x1024x4x1536 : Shape := ⟨4, ![4, 1024, 4, 1536]⟩
abbrev S4x4x1024x1536 : Shape := ⟨4, ![4, 4, 1024, 1536]⟩
abbrev S4x256x16x1536 : Shape := ⟨4, ![4, 256, 16, 1536]⟩
abbrev S4x16x256x1536 : Shape := ⟨4, ![4, 16, 256, 1536]⟩

abbrev nBuf : Space → Nat
  | .hbm => 109
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x9x1024x512, .bf16⟩
  | .hbm, ⟨4, _⟩ => ⟨S4x128, .f32⟩
  | .hbm, ⟨5, _⟩ => ⟨S4x128, .f32⟩
  | .hbm, ⟨6, _⟩ => ⟨S1x4x1024, .f32⟩
  | .hbm, ⟨7, _⟩ => ⟨S4x1024, .f32⟩
  | .hbm, ⟨8, _⟩ => ⟨S4x1x1024, .f32⟩
  | .hbm, ⟨9, _⟩ => ⟨S1x4x1024, .f32⟩
  | .hbm, ⟨10, _⟩ => ⟨S4x1024, .f32⟩
  | .hbm, ⟨11, _⟩ => ⟨S4x1x1024, .f32⟩
  | .hbm, ⟨12, _⟩ => ⟨S1x1024, .f32⟩
  | .hbm, ⟨13, _⟩ => ⟨S1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S1x9x1024x512, .bf16⟩
  | .hbm, ⟨38, _⟩ => ⟨S9x1024x512, .bf16⟩
  | .hbm, ⟨39, _⟩ => ⟨S9x1024x512, .f32⟩
  | .hbm, ⟨40, _⟩ => ⟨S3x3x1024x512, .f32⟩
  | .hbm, ⟨41, _⟩ => ⟨S4x4096x3x3x512, .f32⟩
  | .hbm, ⟨42, _⟩ => ⟨S4x4096x3x3x4x128, .f32⟩
  | .hbm, ⟨43, _⟩ => ⟨S4x4096x3x1x4x128, .f32⟩
  | .hbm, ⟨44, _⟩ => ⟨S4x4096x3x4x128, .f32⟩
  | .hbm, ⟨45, _⟩ => ⟨S1x128, .f32⟩
  | .hbm, ⟨46, _⟩ => ⟨S128, .f32⟩
  | .hbm, ⟨47, _⟩ => ⟨S4x4096x3x4x128, .f32⟩
  | .hbm, ⟨48, _⟩ => ⟨S_, .f32⟩
  | .hbm, ⟨49, _⟩ => ⟨S4x4096x3x4, .f32⟩
  | .hbm, ⟨50, _⟩ => ⟨S4x4096x3x4x1, .f32⟩
  | .hbm, ⟨51, _⟩ => ⟨S_, .f32⟩
  | .hbm, ⟨52, _⟩ => ⟨S4x4096x3x4x1, .f32⟩
  | .hbm, ⟨53, _⟩ => ⟨S4x4096x3x4x1, .f32⟩
  | .hbm, ⟨54, _⟩ => ⟨S_, .f32⟩
  | .hbm, ⟨55, _⟩ => ⟨S4x4096x3x4x1, .f32⟩
  | .hbm, ⟨56, _⟩ => ⟨S4x4096x3x4x1, .f32⟩
  | .hbm, ⟨57, _⟩ => ⟨S4x4096x3x4x1, .f32⟩
  | .hbm, ⟨58, _⟩ => ⟨S4x4096x3x4x128, .f32⟩
  | .hbm, ⟨59, _⟩ => ⟨S4x4096x3x4x128, .f32⟩
  | .hbm, ⟨60, _⟩ => ⟨S1x1x1x1x128, .f32⟩
  | .hbm, ⟨61, _⟩ => ⟨S4x4096x3x4x128, .f32⟩
  | .hbm, ⟨62, _⟩ => ⟨S4x4096x3x4x128, .f32⟩
  | .hbm, ⟨63, _⟩ => ⟨S_, .f32⟩
  | .hbm, ⟨64, _⟩ => ⟨S4x4096x3x4x128, .f32⟩
  | .hbm, ⟨65, _⟩ => ⟨S4x4096x3x4x128, .f32⟩
  | .hbm, ⟨66, _⟩ => ⟨S4x4096x3x1x4x128, .f32⟩
  | .hbm, ⟨67, _⟩ => ⟨S4x4096x3x4x128, .f32⟩
  | .hbm, ⟨68, _⟩ => ⟨S1x128, .f32⟩
  | .hbm, ⟨69, _⟩ => ⟨S128, .f32⟩
  | .hbm, ⟨70, _⟩ => ⟨S4x4096x3x4x128, .f32⟩
  | .hbm, ⟨71, _⟩ => ⟨S_, .f32⟩
  | .hbm, ⟨72, _⟩ => ⟨S4x4096x3x4, .f32⟩
  | .hbm, ⟨73, _⟩ => ⟨S4x4096x3x4x1, .f32⟩
  | .hbm, ⟨74, _⟩ => ⟨S_, .f32⟩
  | .hbm, ⟨75, _⟩ => ⟨S4x4096x3x4x1, .f32⟩
  | .hbm, ⟨76, _⟩ => ⟨S4x4096x3x4x1, .f32⟩
  | .hbm, ⟨77, _⟩ => ⟨S_, .f32⟩
  | .hbm, ⟨78, _⟩ => ⟨S4x4096x3x4x1, .f32⟩
  | .hbm, ⟨79, _⟩ => ⟨S4x4096x3x4x1, .f32⟩
  | .hbm, ⟨80, _⟩ => ⟨S4x4096x3x4x1, .f32⟩
  | .hbm, ⟨81, _⟩ => ⟨S4x4096x3x4x128, .f32⟩
  | .hbm, ⟨82, _⟩ => ⟨S4x4096x3x4x128, .f32⟩
  | .hbm, ⟨83, _⟩ => ⟨S1x1x1x1x128, .f32⟩
  | .hbm, ⟨84, _⟩ => ⟨S4x4096x3x4x128, .f32⟩
  | .hbm, ⟨85, _⟩ => ⟨S4x4096x3x4x128, .f32⟩
  | .hbm, ⟨86, _⟩ => ⟨S4x4096x3x1x4x128, .f32⟩
  | .hbm, ⟨87, _⟩ => ⟨S4x4096x3x4x128, .f32⟩
  | .hbm, ⟨88, _⟩ => ⟨S4x4096x3x1x4x128, .f32⟩
  | .hbm, ⟨89, _⟩ => ⟨S4x4096x3x1x4x128, .f32⟩
  | .hbm, ⟨90, _⟩ => ⟨S4x4096x3x1x4x128, .f32⟩
  | .hbm, ⟨91, _⟩ => ⟨S4x4096x3x3x4x128, .f32⟩
  | .hbm, ⟨92, _⟩ => ⟨S4x4096x3x1536, .f32⟩
  | .hbm, ⟨93, _⟩ => ⟨S4x4096x1024, .bf16⟩
  | .hbm, ⟨94, _⟩ => ⟨S4x4096x1x1536, .f32⟩
  | .hbm, ⟨95, _⟩ => ⟨S4x4096x1536, .f32⟩
  | .hbm, ⟨96, _⟩ => ⟨S4x4096x1x1536, .f32⟩
  | .hbm, ⟨97, _⟩ => ⟨S4x1x4096x1536, .f32⟩
  | .hbm, ⟨98, _⟩ => ⟨S4x1x4096x1536, .bf16⟩
  | .hbm, ⟨99, _⟩ => ⟨S4x4096x1x1536, .f32⟩
  | .hbm, ⟨100, _⟩ => ⟨S4x4096x1536, .f32⟩
  | .hbm, ⟨101, _⟩ => ⟨S4x1024x4x1536, .f32⟩
  | .hbm, ⟨102, _⟩ => ⟨S4x4x1024x1536, .f32⟩
  | .hbm, ⟨103, _⟩ => ⟨S4x4x1024x1536, .bf16⟩
  | .hbm, ⟨104, _⟩ => ⟨S4x4096x1x1536, .f32⟩
  | .hbm, ⟨105, _⟩ => ⟨S4x4096x1536, .f32⟩
  | .hbm, ⟨106, _⟩ => ⟨S4x256x16x1536, .f32⟩
  | .hbm, ⟨107, _⟩ => ⟨S4x16x256x1536, .f32⟩
  | .hbm, ⟨108, _⟩ => ⟨S4x16x256x1536, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩

abbrev nD : Nat := 1
abbrev τ : Topo := Topo.v7x

variable {F : FTy → Type} [FloatOps F]
-- ==== KernelAdaln.lean ====
abbrev S4x1024 : Shape := ⟨2, ![4, 1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 8
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024x6144, .f32⟩
  | .hbm, ⟨2, _⟩ => ⟨S4x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S4x1x6144, .f32⟩
  | .hbm, ⟨7, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAdalnIdeal.lean ====
abbrev S4x1024 : Shape := ⟨2, ![4, 1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 20
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024x6144, .f32⟩
  | .hbm, ⟨2, _⟩ => ⟨S4x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S4x6144x8, .f32⟩
  | .hbm, ⟨16, _⟩ => ⟨S4x8x6144, .f32⟩
  | .hbm, ⟨17, _⟩ => ⟨S4x1x6144, .f32⟩
  | .hbm, ⟨18, _⟩ => ⟨S4x8x6144, .f32⟩
  | .hbm, ⟨19, _⟩ => ⟨S4x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== KernelAttn.lean ====
abbrev S4x1x4096x1536 : Shape := ⟨4, ![4, 1, 4096, 1536]⟩
abbrev S4x4x1024x1536 : Shape := ⟨4, ![4, 4, 1024, 1536]⟩
abbrev S4x16x256x1536 : Shape := ⟨4, ![4, 16, 256, 1536]⟩
abbrev S12 : Shape := ⟨1, ![12]⟩
abbrev S3x4 : Shape := ⟨2, ![3, 4]⟩
abbrev S4x4096x512 : Shape := ⟨3, ![4, 4096, 512]⟩
abbrev S1x1x4096x128 : Shape := ⟨4, ![1, 1, 4096, 128]⟩
abbrev S1x4x1024x128 : Shape := ⟨4, ![1, 4, 1024, 128]⟩
abbrev S1x16x256x128 : Shape := ⟨4, ![1, 16, 256, 128]⟩
abbrev S1x4096x128 : Shape := ⟨3, ![1, 4096, 128]⟩
abbrev S2x4224x128 : Shape := ⟨3, ![2, 4224, 128]⟩
abbrev S3x4096x128 : Shape := ⟨3, ![3, 4096, 128]⟩
abbrev S2x128x128 : Shape := ⟨3, ![2, 128, 128]⟩
abbrev S4096x128 : Shape := ⟨2, ![4096, 128]⟩
abbrev S1x1 : Shape := ⟨2, ![1, 1]⟩
abbrev S128x256 : Shape := ⟨2, ![128, 256]⟩
abbrev S256x128 : Shape := ⟨2, ![256, 128]⟩
abbrev S1x4224x128 : Shape := ⟨3, ![1, 4224, 128]⟩
abbrev S4224x128 : Shape := ⟨2, ![4224, 128]⟩
abbrev S256x256 : Shape := ⟨2, ![256, 256]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x1x1024x128 : Shape := ⟨4, ![1, 1, 1024, 128]⟩
abbrev S1024x128 : Shape := ⟨2, ![1024, 128]⟩
abbrev S1x1024x128 : Shape := ⟨3, ![1, 1024, 128]⟩
abbrev S4x1024x128 : Shape := ⟨3, ![4, 1024, 128]⟩
abbrev S1x1x256x128 : Shape := ⟨4, ![1, 1, 256, 128]⟩
abbrev S1x256x128 : Shape := ⟨3, ![1, 256, 128]⟩
abbrev S16x256x128 : Shape := ⟨3, ![16, 256, 128]⟩
abbrev S1x512x128 : Shape := ⟨3, ![1, 512, 128]⟩
abbrev S512x128 : Shape := ⟨2, ![512, 128]⟩

abbrev nBuf : Space → Nat
  | .hbm => 6
  | .vmem => 23
  | .smem => 1
  | _ => 0

abbrev bufTy : (tb : Table) → Fin (tcTables nBuf tb) → BufTy
  | .hbm, ⟨0, _⟩ => ⟨S4x1x4096x1536, .bf16⟩
  | .hbm, ⟨1, _⟩ => ⟨S4x4x1024x1536, .bf16⟩
  | .hbm, ⟨2, _⟩ => ⟨S4x16x256x1536, .bf16⟩
  | .hbm, ⟨3, _⟩ => ⟨S12, .f32⟩
  | .hbm, ⟨4, _⟩ => ⟨S3x4, .f32⟩
  | .hbm, ⟨5, _⟩ => ⟨S4x4096x512, .bf16⟩
  | .local _ .vmem, ⟨0, _⟩ => ⟨S1x1x4096x128, .bf16⟩
  | .local _ .vmem, ⟨1, _⟩ => ⟨S1x1x4096x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x4x1024x128, .bf16⟩
  | .local _ .vmem, ⟨7, _⟩ => ⟨S1x4x1024x128, .bf16⟩
  | .local _ .vmem, ⟨8, _⟩ => ⟨S1x4x1024x128, .bf16⟩
  | .local _ .vmem, ⟨9, _⟩ => ⟨S1x4x1024x128, .bf16⟩
  | .local _ .vmem, ⟨10, _⟩ => ⟨S1x4x1024x128, .bf16⟩
  | .local _ .vmem, ⟨11, _⟩ => ⟨S1x4x1024x128, .bf16⟩
  | .local _ .vmem, ⟨12, _⟩ => ⟨S1x16x256x128, .bf16⟩
  | .local _ .vmem, ⟨13, _⟩ => ⟨S1x16x256x128, .bf16⟩
  | .local _ .vmem, ⟨14, _⟩ => ⟨S1x16x256x128, .bf16⟩
  | .local _ .vmem, ⟨15, _⟩ => ⟨S1x16x256x128, .bf16⟩
  | .local _ .vmem, ⟨16, _⟩ => ⟨S1x16x256x128, .bf16⟩
  | .local _ .vmem, ⟨17, _⟩ => ⟨S1x16x256x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S2x4224x128, .bf16⟩
  | .local _ .vmem, ⟨21, _⟩ => ⟨S3x4096x128, .f32⟩
  | .local _ .vmem, ⟨22, _⟩ => ⟨S3x4096x128, .f32⟩
  | .local _ .smem, ⟨0, _⟩ => ⟨S3x4, .f32⟩
  | _, _ => ⟨S4x1x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let c0_14 : Index := 0#32
  let arg1 : BitVec 32 := BitVec.ofNat 32 (i 1).val
  let v14 : Index := Scalar.indexCast arg1
  ![0, v14.toNat]
@[reducible] def k0_t1_loop : Scf.Loop 32 :=
  let c0_i32_24 : BitVec 32 := 0#32
  let c2_i32 : BitVec 32 := 2#32
  let v38 : BitVec 32 := Scalar.addi c0_i32_24 c2_i32
  let c1_i32_25 : BitVec 32 := 1#32
  ⟨c0_i32_24, v38, c1_i32_25⟩
def k0_mult1 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32 : BitVec 32 := 16#32
  let v290 : BitVec 32 := Scalar.muli arg16 c16_i32
  let c0_i32_315 : BitVec 32 := 0#32
  let v291 : BitVec 32 := Scalar.addi v290 c0_i32_315
  let c128_i32_328 : BitVec 32 := 128#32
  let v319 : BitVec 32 := Scalar.muli v291 c128_i32_328
  v319
def k0_mult2 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32 : BitVec 32 := 16#32
  let v290 : BitVec 32 := Scalar.muli arg16 c16_i32
  let c0_i32_315 : BitVec 32 := 0#32
  let v291 : BitVec 32 := Scalar.addi v290 c0_i32_315
  let c128_i32_329 : BitVec 32 := 128#32
  let v321 : BitVec 32 := Scalar.muli v291 c128_i32_329
  v321
def k0_off2 (k0_t1 : Fin k0_t1_loop.trips) (c0_i32_315 : BitVec 32) : Fin 2 → Nat :=
  let c0_i32_24 : BitVec 32 := 0#32
  let c1_i32_25 : BitVec 32 := 1#32
  let arg16 : BitVec 32 := Scf.iv c0_i32_24 c1_i32_25 k0_t1
  let c16_i32 : BitVec 32 := 16#32
  let v290 : BitVec 32 := Scalar.muli arg16 c16_i32
  let v291 : BitVec 32 := Scalar.addi v290 c0_i32_315
  let c128_i32_329 : BitVec 32 := 128#32
  let v321 : BitVec 32 := Scalar.muli v291 c128_i32_329
  let v322 : BitVec 32 := v321
  let v325 : Index := Scalar.indexCast v322
  let c0_332 : Index := 0#32
  ![v325.toNat, 0]
def k0_mult3 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32 : BitVec 32 := 16#32
  let v290 : BitVec 32 := Scalar.muli arg16 c16_i32
  let c0_i32_315 : BitVec 32 := 0#32
  let v291 : BitVec 32 := Scalar.addi v290 c0_i32_315
  let c32_i32_322 : BitVec 32 := 32#32
  let c0_i32_323 : BitVec 32 := 0#32
  let v309 : BitVec 1 := Scalar.cmpi .eq c32_i32_322 c0_i32_323
  let c1_i32_324 : BitVec 32 := 1#32
  let v310 : BitVec 32 := Scalar.select v309 c1_i32_324 c32_i32_322
  let v311 : BitVec 32 := Scalar.remsi v291 v310
  let c0_i32_326 : BitVec 32 := 0#32
  let v313 : BitVec 1 := Scalar.cmpi .slt v311 c0_i32_326
  let c0_i32_327 : BitVec 32 := 0#32
  let v314 : BitVec 1 := Scalar.cmpi .slt v310 c0_i32_327
  let v315 : BitVec 1 := Scalar.xori v313 v314
  let c0_i32_325 : BitVec 32 := 0#32
  let v312 : BitVec 1 := Scalar.cmpi .ne v311 c0_i32_325
  let v316 : BitVec 1 := Scalar.andi v315 v312
  let v317 : BitVec 32 := Scalar.addi v311 v310
  let v318 : BitVec 32 := Scalar.select v316 v317 v311
  let c128_i32_333 : BitVec 32 := 128#32
  let v328 : BitVec 32 := Scalar.muli v318 c128_i32_333
  v328
def k0_off3 (k0_t1 : Fin k0_t1_loop.trips) (c0_i32_315 : BitVec 32) : Fin 3 → Nat :=
  let c0_i32_24 : BitVec 32 := 0#32
  let c1_i32_25 : BitVec 32 := 1#32
  let arg16 : BitVec 32 := Scf.iv c0_i32_24 c1_i32_25 k0_t1
  let c16_i32 : BitVec 32 := 16#32
  let v290 : BitVec 32 := Scalar.muli arg16 c16_i32
  let v291 : BitVec 32 := Scalar.addi v290 c0_i32_315
  let c0_i32_316 : BitVec 32 := 0#32
  let v293 : BitVec 1 := Scalar.cmpi .sgt v291 c0_i32_316
  let v294 : BitVec 32 := Scalar.extui v293
  let c0_i32_317 : BitVec 32 := 0#32
  let v295 : BitVec 1 := Scalar.cmpi .slt v291 c0_i32_317
  let v296 : BitVec 32 := Scalar.extui v295
  let v297 : BitVec 32 := Scalar.subi v294 v296
  let c32_i32 : BitVec 32 := 32#32
  let c0_i32_318 : BitVec 32 := 0#32
  let v298 : BitVec 1 := Scalar.cmpi .sgt c32_i32 c0_i32_318
  let v299 : BitVec 32 := Scalar.extui v298
  let c0_i32_319 : BitVec 32 := 0#32
  let v300 : BitVec 1 := Scalar.cmpi .slt c32_i32 c0_i32_319
  let v301 : BitVec 32 := Scalar.extui v300
  let v302 : BitVec 32 := Scalar.subi v299 v301
  let v303 : BitVec 1 := Scalar.cmpi .ne v297 v302
  let v304 : BitVec 32 := Scalar.remsi v291 c32_i32
  let c0_i32_320 : BitVec 32 := 0#32
  let v305 : BitVec 1 := Scalar.cmpi .ne v304 c0_i32_320
  let v306 : BitVec 1 := Scalar.andi v303 v305
  let v292 : BitVec 32 := Scalar.divsi v291 c32_i32
  let c1_i32_321 : BitVec 32 := 1#32
  let v307 : BitVec 32 := Scalar.subi v292 c1_i32_321
  let v308 : BitVec 32 := Scalar.select v306 v307 v292
  let v332 : Index := Scalar.indexCast v308
  let c32_i32_322 : BitVec 32 := 32#32
  let c0_i32_323 : BitVec 32 := 0#32
  let v309 : BitVec 1 := Scalar.cmpi .eq c32_i32_322 c0_i32_323
  let c1_i32_324 : BitVec 32 := 1#32
  let v310 : BitVec 32 := Scalar.select v309 c1_i32_324 c32_i32_322
  let v311 : BitVec 32 := Scalar.remsi v291 v310
  let c0_i32_326 : BitVec 32 := 0#32
  let v313 : BitVec 1 := Scalar.cmpi .slt v311 c0_i32_326
  let c0_i32_327 : BitVec 32 := 0#32
  let v314 : BitVec 1 := Scalar.cmpi .slt v310 c0_i32_327
  let v315 : BitVec 1 := Scalar.xori v313 v314
  let c0_i32_325 : BitVec 32 := 0#32
  let v312 : BitVec 1 := Scalar.cmpi .ne v311 c0_i32_325
  let v316 : BitVec 1 := Scalar.andi v315 v312
  let v317 : BitVec 32 := Scalar.addi v311 v310
  let v318 : BitVec 32 := Scalar.select v316 v317 v311
  let c128_i32_333 : BitVec 32 := 128#32
  let v328 : BitVec 32 := Scalar.muli v318 c128_i32_333
  let v329 : BitVec 32 := v328
  let v333 : Index := Scalar.indexCast v329
  let c0_337 : Index := 0#32
  ![v332.toNat, v333.toNat, 0]
def k0_off4 (k0_t1 : Fin k0_t1_loop.trips) (c0_i32_315 : BitVec 32) : Fin 3 → Nat :=
  let c0_345 : Index := 0#32
  let c0_i32_24 : BitVec 32 := 0#32
  let c1_i32_25 : BitVec 32 := 1#32
  let arg16 : BitVec 32 := Scf.iv c0_i32_24 c1_i32_25 k0_t1
  let c16_i32 : BitVec 32 := 16#32
  let v290 : BitVec 32 := Scalar.muli arg16 c16_i32
  let v291 : BitVec 32 := Scalar.addi v290 c0_i32_315
  let c128_i32_328 : BitVec 32 := 128#32
  let v319 : BitVec 32 := Scalar.muli v291 c128_i32_328
  let v320 : BitVec 32 := v319
  let v354 : Index := Scalar.indexCast v320
  let c0_346 : Index := 0#32
  ![0, v354.toNat, 0]
def k0_mult4 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_349 : BitVec 32 := 16#32
  let v365 : BitVec 32 := Scalar.muli arg16 c16_i32_349
  let c1_i32_350 : BitVec 32 := 1#32
  let v366 : BitVec 32 := Scalar.addi v365 c1_i32_350
  let c128_i32_364 : BitVec 32 := 128#32
  let v394 : BitVec 32 := Scalar.muli v366 c128_i32_364
  v394
def k0_mult5 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_349 : BitVec 32 := 16#32
  let v365 : BitVec 32 := Scalar.muli arg16 c16_i32_349
  let c1_i32_350 : BitVec 32 := 1#32
  let v366 : BitVec 32 := Scalar.addi v365 c1_i32_350
  let c128_i32_365 : BitVec 32 := 128#32
  let v396 : BitVec 32 := Scalar.muli v366 c128_i32_365
  v396
def k0_mult6 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_349 : BitVec 32 := 16#32
  let v365 : BitVec 32 := Scalar.muli arg16 c16_i32_349
  let c1_i32_350 : BitVec 32 := 1#32
  let v366 : BitVec 32 := Scalar.addi v365 c1_i32_350
  let c32_i32_358 : BitVec 32 := 32#32
  let c0_i32_359 : BitVec 32 := 0#32
  let v384 : BitVec 1 := Scalar.cmpi .eq c32_i32_358 c0_i32_359
  let c1_i32_360 : BitVec 32 := 1#32
  let v385 : BitVec 32 := Scalar.select v384 c1_i32_360 c32_i32_358
  let v386 : BitVec 32 := Scalar.remsi v366 v385
  let c0_i32_362 : BitVec 32 := 0#32
  let v388 : BitVec 1 := Scalar.cmpi .slt v386 c0_i32_362
  let c0_i32_363 : BitVec 32 := 0#32
  let v389 : BitVec 1 := Scalar.cmpi .slt v385 c0_i32_363
  let v390 : BitVec 1 := Scalar.xori v388 v389
  let c0_i32_361 : BitVec 32 := 0#32
  let v387 : BitVec 1 := Scalar.cmpi .ne v386 c0_i32_361
  let v391 : BitVec 1 := Scalar.andi v390 v387
  let v392 : BitVec 32 := Scalar.addi v386 v385
  let v393 : BitVec 32 := Scalar.select v391 v392 v386
  let c128_i32_369 : BitVec 32 := 128#32
  let v403 : BitVec 32 := Scalar.muli v393 c128_i32_369
  v403
def k0_mult7 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_385 : BitVec 32 := 16#32
  let v440 : BitVec 32 := Scalar.muli arg16 c16_i32_385
  let c2_i32_386 : BitVec 32 := 2#32
  let v441 : BitVec 32 := Scalar.addi v440 c2_i32_386
  let c128_i32_400 : BitVec 32 := 128#32
  let v469 : BitVec 32 := Scalar.muli v441 c128_i32_400
  v469
def k0_mult8 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_385 : BitVec 32 := 16#32
  let v440 : BitVec 32 := Scalar.muli arg16 c16_i32_385
  let c2_i32_386 : BitVec 32 := 2#32
  let v441 : BitVec 32 := Scalar.addi v440 c2_i32_386
  let c128_i32_401 : BitVec 32 := 128#32
  let v471 : BitVec 32 := Scalar.muli v441 c128_i32_401
  v471
def k0_mult9 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_385 : BitVec 32 := 16#32
  let v440 : BitVec 32 := Scalar.muli arg16 c16_i32_385
  let c2_i32_386 : BitVec 32 := 2#32
  let v441 : BitVec 32 := Scalar.addi v440 c2_i32_386
  let c32_i32_394 : BitVec 32 := 32#32
  let c0_i32_395 : BitVec 32 := 0#32
  let v459 : BitVec 1 := Scalar.cmpi .eq c32_i32_394 c0_i32_395
  let c1_i32_396 : BitVec 32 := 1#32
  let v460 : BitVec 32 := Scalar.select v459 c1_i32_396 c32_i32_394
  let v461 : BitVec 32 := Scalar.remsi v441 v460
  let c0_i32_398 : BitVec 32 := 0#32
  let v463 : BitVec 1 := Scalar.cmpi .slt v461 c0_i32_398
  let c0_i32_399 : BitVec 32 := 0#32
  let v464 : BitVec 1 := Scalar.cmpi .slt v460 c0_i32_399
  let v465 : BitVec 1 := Scalar.xori v463 v464
  let c0_i32_397 : BitVec 32 := 0#32
  let v462 : BitVec 1 := Scalar.cmpi .ne v461 c0_i32_397
  let v466 : BitVec 1 := Scalar.andi v465 v462
  let v467 : BitVec 32 := Scalar.addi v461 v460
  let v468 : BitVec 32 := Scalar.select v466 v467 v461
  let c128_i32_405 : BitVec 32 := 128#32
  let v478 : BitVec 32 := Scalar.muli v468 c128_i32_405
  v478
def k0_mult10 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_421 : BitVec 32 := 16#32
  let v515 : BitVec 32 := Scalar.muli arg16 c16_i32_421
  let c3_i32 : BitVec 32 := 3#32
  let v516 : BitVec 32 := Scalar.addi v515 c3_i32
  let c128_i32_435 : BitVec 32 := 128#32
  let v544 : BitVec 32 := Scalar.muli v516 c128_i32_435
  v544
def k0_mult11 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_421 : BitVec 32 := 16#32
  let v515 : BitVec 32 := Scalar.muli arg16 c16_i32_421
  let c3_i32 : BitVec 32 := 3#32
  let v516 : BitVec 32 := Scalar.addi v515 c3_i32
  let c128_i32_436 : BitVec 32 := 128#32
  let v546 : BitVec 32 := Scalar.muli v516 c128_i32_436
  v546
def k0_mult12 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_421 : BitVec 32 := 16#32
  let v515 : BitVec 32 := Scalar.muli arg16 c16_i32_421
  let c3_i32 : BitVec 32 := 3#32
  let v516 : BitVec 32 := Scalar.addi v515 c3_i32
  let c32_i32_429 : BitVec 32 := 32#32
  let c0_i32_430 : BitVec 32 := 0#32
  let v534 : BitVec 1 := Scalar.cmpi .eq c32_i32_429 c0_i32_430
  let c1_i32_431 : BitVec 32 := 1#32
  let v535 : BitVec 32 := Scalar.select v534 c1_i32_431 c32_i32_429
  let v536 : BitVec 32 := Scalar.remsi v516 v535
  let c0_i32_433 : BitVec 32 := 0#32
  let v538 : BitVec 1 := Scalar.cmpi .slt v536 c0_i32_433
  let c0_i32_434 : BitVec 32 := 0#32
  let v539 : BitVec 1 := Scalar.cmpi .slt v535 c0_i32_434
  let v540 : BitVec 1 := Scalar.xori v538 v539
  let c0_i32_432 : BitVec 32 := 0#32
  let v537 : BitVec 1 := Scalar.cmpi .ne v536 c0_i32_432
  let v541 : BitVec 1 := Scalar.andi v540 v537
  let v542 : BitVec 32 := Scalar.addi v536 v535
  let v543 : BitVec 32 := Scalar.select v541 v542 v536
  let c128_i32_440 : BitVec 32 := 128#32
  let v553 : BitVec 32 := Scalar.muli v543 c128_i32_440
  v553
def k0_mult13 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_456 : BitVec 32 := 16#32
  let v590 : BitVec 32 := Scalar.muli arg16 c16_i32_456
  let c4_i32 : BitVec 32 := 4#32
  let v591 : BitVec 32 := Scalar.addi v590 c4_i32
  let c128_i32_470 : BitVec 32 := 128#32
  let v619 : BitVec 32 := Scalar.muli v591 c128_i32_470
  v619
def k0_mult14 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_456 : BitVec 32 := 16#32
  let v590 : BitVec 32 := Scalar.muli arg16 c16_i32_456
  let c4_i32 : BitVec 32 := 4#32
  let v591 : BitVec 32 := Scalar.addi v590 c4_i32
  let c128_i32_471 : BitVec 32 := 128#32
  let v621 : BitVec 32 := Scalar.muli v591 c128_i32_471
  v621
def k0_mult15 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_456 : BitVec 32 := 16#32
  let v590 : BitVec 32 := Scalar.muli arg16 c16_i32_456
  let c4_i32 : BitVec 32 := 4#32
  let v591 : BitVec 32 := Scalar.addi v590 c4_i32
  let c32_i32_464 : BitVec 32 := 32#32
  let c0_i32_465 : BitVec 32 := 0#32
  let v609 : BitVec 1 := Scalar.cmpi .eq c32_i32_464 c0_i32_465
  let c1_i32_466 : BitVec 32 := 1#32
  let v610 : BitVec 32 := Scalar.select v609 c1_i32_466 c32_i32_464
  let v611 : BitVec 32 := Scalar.remsi v591 v610
  let c0_i32_468 : BitVec 32 := 0#32
  let v613 : BitVec 1 := Scalar.cmpi .slt v611 c0_i32_468
  let c0_i32_469 : BitVec 32 := 0#32
  let v614 : BitVec 1 := Scalar.cmpi .slt v610 c0_i32_469
  let v615 : BitVec 1 := Scalar.xori v613 v614
  let c0_i32_467 : BitVec 32 := 0#32
  let v612 : BitVec 1 := Scalar.cmpi .ne v611 c0_i32_467
  let v616 : BitVec 1 := Scalar.andi v615 v612
  let v617 : BitVec 32 := Scalar.addi v611 v610
  let v618 : BitVec 32 := Scalar.select v616 v617 v611
  let c128_i32_475 : BitVec 32 := 128#32
  let v628 : BitVec 32 := Scalar.muli v618 c128_i32_475
  v628
def k0_mult16 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_491 : BitVec 32 := 16#32
  let v665 : BitVec 32 := Scalar.muli arg16 c16_i32_491
  let c5_i32 : BitVec 32 := 5#32
  let v666 : BitVec 32 := Scalar.addi v665 c5_i32
  let c128_i32_505 : BitVec 32 := 128#32
  let v694 : BitVec 32 := Scalar.muli v666 c128_i32_505
  v694
def k0_mult17 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_491 : BitVec 32 := 16#32
  let v665 : BitVec 32 := Scalar.muli arg16 c16_i32_491
  let c5_i32 : BitVec 32 := 5#32
  let v666 : BitVec 32 := Scalar.addi v665 c5_i32
  let c128_i32_506 : BitVec 32 := 128#32
  let v696 : BitVec 32 := Scalar.muli v666 c128_i32_506
  v696
def k0_mult18 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_491 : BitVec 32 := 16#32
  let v665 : BitVec 32 := Scalar.muli arg16 c16_i32_491
  let c5_i32 : BitVec 32 := 5#32
  let v666 : BitVec 32 := Scalar.addi v665 c5_i32
  let c32_i32_499 : BitVec 32 := 32#32
  let c0_i32_500 : BitVec 32 := 0#32
  let v684 : BitVec 1 := Scalar.cmpi .eq c32_i32_499 c0_i32_500
  let c1_i32_501 : BitVec 32 := 1#32
  let v685 : BitVec 32 := Scalar.select v684 c1_i32_501 c32_i32_499
  let v686 : BitVec 32 := Scalar.remsi v666 v685
  let c0_i32_503 : BitVec 32 := 0#32
  let v688 : BitVec 1 := Scalar.cmpi .slt v686 c0_i32_503
  let c0_i32_504 : BitVec 32 := 0#32
  let v689 : BitVec 1 := Scalar.cmpi .slt v685 c0_i32_504
  let v690 : BitVec 1 := Scalar.xori v688 v689
  let c0_i32_502 : BitVec 32 := 0#32
  let v687 : BitVec 1 := Scalar.cmpi .ne v686 c0_i32_502
  let v691 : BitVec 1 := Scalar.andi v690 v687
  let v692 : BitVec 32 := Scalar.addi v686 v685
  let v693 : BitVec 32 := Scalar.select v691 v692 v686
  let c128_i32_510 : BitVec 32 := 128#32
  let v703 : BitVec 32 := Scalar.muli v693 c128_i32_510
  v703
def k0_mult19 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_526 : BitVec 32 := 16#32
  let v740 : BitVec 32 := Scalar.muli arg16 c16_i32_526
  let c6_i32 : BitVec 32 := 6#32
  let v741 : BitVec 32 := Scalar.addi v740 c6_i32
  let c128_i32_540 : BitVec 32 := 128#32
  let v769 : BitVec 32 := Scalar.muli v741 c128_i32_540
  v769
def k0_mult20 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_526 : BitVec 32 := 16#32
  let v740 : BitVec 32 := Scalar.muli arg16 c16_i32_526
  let c6_i32 : BitVec 32 := 6#32
  let v741 : BitVec 32 := Scalar.addi v740 c6_i32
  let c128_i32_541 : BitVec 32 := 128#32
  let v771 : BitVec 32 := Scalar.muli v741 c128_i32_541
  v771
def k0_mult21 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_526 : BitVec 32 := 16#32
  let v740 : BitVec 32 := Scalar.muli arg16 c16_i32_526
  let c6_i32 : BitVec 32 := 6#32
  let v741 : BitVec 32 := Scalar.addi v740 c6_i32
  let c32_i32_534 : BitVec 32 := 32#32
  let c0_i32_535 : BitVec 32 := 0#32
  let v759 : BitVec 1 := Scalar.cmpi .eq c32_i32_534 c0_i32_535
  let c1_i32_536 : BitVec 32 := 1#32
  let v760 : BitVec 32 := Scalar.select v759 c1_i32_536 c32_i32_534
  let v761 : BitVec 32 := Scalar.remsi v741 v760
  let c0_i32_538 : BitVec 32 := 0#32
  let v763 : BitVec 1 := Scalar.cmpi .slt v761 c0_i32_538
  let c0_i32_539 : BitVec 32 := 0#32
  let v764 : BitVec 1 := Scalar.cmpi .slt v760 c0_i32_539
  let v765 : BitVec 1 := Scalar.xori v763 v764
  let c0_i32_537 : BitVec 32 := 0#32
  let v762 : BitVec 1 := Scalar.cmpi .ne v761 c0_i32_537
  let v766 : BitVec 1 := Scalar.andi v765 v762
  let v767 : BitVec 32 := Scalar.addi v761 v760
  let v768 : BitVec 32 := Scalar.select v766 v767 v761
  let c128_i32_545 : BitVec 32 := 128#32
  let v778 : BitVec 32 := Scalar.muli v768 c128_i32_545
  v778
def k0_mult22 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_561 : BitVec 32 := 16#32
  let v815 : BitVec 32 := Scalar.muli arg16 c16_i32_561
  let c7_i32 : BitVec 32 := 7#32
  let v816 : BitVec 32 := Scalar.addi v815 c7_i32
  let c128_i32_575 : BitVec 32 := 128#32
  let v844 : BitVec 32 := Scalar.muli v816 c128_i32_575
  v844
def k0_mult23 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_561 : BitVec 32 := 16#32
  let v815 : BitVec 32 := Scalar.muli arg16 c16_i32_561
  let c7_i32 : BitVec 32 := 7#32
  let v816 : BitVec 32 := Scalar.addi v815 c7_i32
  let c128_i32_576 : BitVec 32 := 128#32
  let v846 : BitVec 32 := Scalar.muli v816 c128_i32_576
  v846
def k0_mult24 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_561 : BitVec 32 := 16#32
  let v815 : BitVec 32 := Scalar.muli arg16 c16_i32_561
  let c7_i32 : BitVec 32 := 7#32
  let v816 : BitVec 32 := Scalar.addi v815 c7_i32
  let c32_i32_569 : BitVec 32 := 32#32
  let c0_i32_570 : BitVec 32 := 0#32
  let v834 : BitVec 1 := Scalar.cmpi .eq c32_i32_569 c0_i32_570
  let c1_i32_571 : BitVec 32 := 1#32
  let v835 : BitVec 32 := Scalar.select v834 c1_i32_571 c32_i32_569
  let v836 : BitVec 32 := Scalar.remsi v816 v835
  let c0_i32_573 : BitVec 32 := 0#32
  let v838 : BitVec 1 := Scalar.cmpi .slt v836 c0_i32_573
  let c0_i32_574 : BitVec 32 := 0#32
  let v839 : BitVec 1 := Scalar.cmpi .slt v835 c0_i32_574
  let v840 : BitVec 1 := Scalar.xori v838 v839
  let c0_i32_572 : BitVec 32 := 0#32
  let v837 : BitVec 1 := Scalar.cmpi .ne v836 c0_i32_572
  let v841 : BitVec 1 := Scalar.andi v840 v837
  let v842 : BitVec 32 := Scalar.addi v836 v835
  let v843 : BitVec 32 := Scalar.select v841 v842 v836
  let c128_i32_580 : BitVec 32 := 128#32
  let v853 : BitVec 32 := Scalar.muli v843 c128_i32_580
  v853
def k0_mult25 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_596 : BitVec 32 := 16#32
  let v890 : BitVec 32 := Scalar.muli arg16 c16_i32_596
  let c8_i32_597 : BitVec 32 := 8#32
  let v891 : BitVec 32 := Scalar.addi v890 c8_i32_597
  let c128_i32_611 : BitVec 32 := 128#32
  let v919 : BitVec 32 := Scalar.muli v891 c128_i32_611
  v919
def k0_mult26 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_596 : BitVec 32 := 16#32
  let v890 : BitVec 32 := Scalar.muli arg16 c16_i32_596
  let c8_i32_597 : BitVec 32 := 8#32
  let v891 : BitVec 32 := Scalar.addi v890 c8_i32_597
  let c128_i32_612 : BitVec 32 := 128#32
  let v921 : BitVec 32 := Scalar.muli v891 c128_i32_612
  v921
def k0_mult27 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_596 : BitVec 32 := 16#32
  let v890 : BitVec 32 := Scalar.muli arg16 c16_i32_596
  let c8_i32_597 : BitVec 32 := 8#32
  let v891 : BitVec 32 := Scalar.addi v890 c8_i32_597
  let c32_i32_605 : BitVec 32 := 32#32
  let c0_i32_606 : BitVec 32 := 0#32
  let v909 : BitVec 1 := Scalar.cmpi .eq c32_i32_605 c0_i32_606
  let c1_i32_607 : BitVec 32 := 1#32
  let v910 : BitVec 32 := Scalar.select v909 c1_i32_607 c32_i32_605
  let v911 : BitVec 32 := Scalar.remsi v891 v910
  let c0_i32_609 : BitVec 32 := 0#32
  let v913 : BitVec 1 := Scalar.cmpi .slt v911 c0_i32_609
  let c0_i32_610 : BitVec 32 := 0#32
  let v914 : BitVec 1 := Scalar.cmpi .slt v910 c0_i32_610
  let v915 : BitVec 1 := Scalar.xori v913 v914
  let c0_i32_608 : BitVec 32 := 0#32
  let v912 : BitVec 1 := Scalar.cmpi .ne v911 c0_i32_608
  let v916 : BitVec 1 := Scalar.andi v915 v912
  let v917 : BitVec 32 := Scalar.addi v911 v910
  let v918 : BitVec 32 := Scalar.select v916 v917 v911
  let c128_i32_616 : BitVec 32 := 128#32
  let v928 : BitVec 32 := Scalar.muli v918 c128_i32_616
  v928
def k0_mult28 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_632 : BitVec 32 := 16#32
  let v965 : BitVec 32 := Scalar.muli arg16 c16_i32_632
  let c9_i32 : BitVec 32 := 9#32
  let v966 : BitVec 32 := Scalar.addi v965 c9_i32
  let c128_i32_646 : BitVec 32 := 128#32
  let v994 : BitVec 32 := Scalar.muli v966 c128_i32_646
  v994
def k0_mult29 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_632 : BitVec 32 := 16#32
  let v965 : BitVec 32 := Scalar.muli arg16 c16_i32_632
  let c9_i32 : BitVec 32 := 9#32
  let v966 : BitVec 32 := Scalar.addi v965 c9_i32
  let c128_i32_647 : BitVec 32 := 128#32
  let v996 : BitVec 32 := Scalar.muli v966 c128_i32_647
  v996
def k0_mult30 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_632 : BitVec 32 := 16#32
  let v965 : BitVec 32 := Scalar.muli arg16 c16_i32_632
  let c9_i32 : BitVec 32 := 9#32
  let v966 : BitVec 32 := Scalar.addi v965 c9_i32
  let c32_i32_640 : BitVec 32 := 32#32
  let c0_i32_641 : BitVec 32 := 0#32
  let v984 : BitVec 1 := Scalar.cmpi .eq c32_i32_640 c0_i32_641
  let c1_i32_642 : BitVec 32 := 1#32
  let v985 : BitVec 32 := Scalar.select v984 c1_i32_642 c32_i32_640
  let v986 : BitVec 32 := Scalar.remsi v966 v985
  let c0_i32_644 : BitVec 32 := 0#32
  let v988 : BitVec 1 := Scalar.cmpi .slt v986 c0_i32_644
  let c0_i32_645 : BitVec 32 := 0#32
  let v989 : BitVec 1 := Scalar.cmpi .slt v985 c0_i32_645
  let v990 : BitVec 1 := Scalar.xori v988 v989
  let c0_i32_643 : BitVec 32 := 0#32
  let v987 : BitVec 1 := Scalar.cmpi .ne v986 c0_i32_643
  let v991 : BitVec 1 := Scalar.andi v990 v987
  let v992 : BitVec 32 := Scalar.addi v986 v985
  let v993 : BitVec 32 := Scalar.select v991 v992 v986
  let c128_i32_651 : BitVec 32 := 128#32
  let v1003 : BitVec 32 := Scalar.muli v993 c128_i32_651
  v1003
def k0_mult31 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_667 : BitVec 32 := 16#32
  let v1040 : BitVec 32 := Scalar.muli arg16 c16_i32_667
  let c10_i32 : BitVec 32 := 10#32
  let v1041 : BitVec 32 := Scalar.addi v1040 c10_i32
  let c128_i32_681 : BitVec 32 := 128#32
  let v1069 : BitVec 32 := Scalar.muli v1041 c128_i32_681
  v1069
def k0_mult32 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_667 : BitVec 32 := 16#32
  let v1040 : BitVec 32 := Scalar.muli arg16 c16_i32_667
  let c10_i32 : BitVec 32 := 10#32
  let v1041 : BitVec 32 := Scalar.addi v1040 c10_i32
  let c128_i32_682 : BitVec 32 := 128#32
  let v1071 : BitVec 32 := Scalar.muli v1041 c128_i32_682
  v1071
def k0_mult33 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_667 : BitVec 32 := 16#32
  let v1040 : BitVec 32 := Scalar.muli arg16 c16_i32_667
  let c10_i32 : BitVec 32 := 10#32
  let v1041 : BitVec 32 := Scalar.addi v1040 c10_i32
  let c32_i32_675 : BitVec 32 := 32#32
  let c0_i32_676 : BitVec 32 := 0#32
  let v1059 : BitVec 1 := Scalar.cmpi .eq c32_i32_675 c0_i32_676
  let c1_i32_677 : BitVec 32 := 1#32
  let v1060 : BitVec 32 := Scalar.select v1059 c1_i32_677 c32_i32_675
  let v1061 : BitVec 32 := Scalar.remsi v1041 v1060
  let c0_i32_679 : BitVec 32 := 0#32
  let v1063 : BitVec 1 := Scalar.cmpi .slt v1061 c0_i32_679
  let c0_i32_680 : BitVec 32 := 0#32
  let v1064 : BitVec 1 := Scalar.cmpi .slt v1060 c0_i32_680
  let v1065 : BitVec 1 := Scalar.xori v1063 v1064
  let c0_i32_678 : BitVec 32 := 0#32
  let v1062 : BitVec 1 := Scalar.cmpi .ne v1061 c0_i32_678
  let v1066 : BitVec 1 := Scalar.andi v1065 v1062
  let v1067 : BitVec 32 := Scalar.addi v1061 v1060
  let v1068 : BitVec 32 := Scalar.select v1066 v1067 v1061
  let c128_i32_686 : BitVec 32 := 128#32
  let v1078 : BitVec 32 := Scalar.muli v1068 c128_i32_686
  v1078
def k0_mult34 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_702 : BitVec 32 := 16#32
  let v1115 : BitVec 32 := Scalar.muli arg16 c16_i32_702
  let c11_i32 : BitVec 32 := 11#32
  let v1116 : BitVec 32 := Scalar.addi v1115 c11_i32
  let c128_i32_716 : BitVec 32 := 128#32
  let v1144 : BitVec 32 := Scalar.muli v1116 c128_i32_716
  v1144
def k0_mult35 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_702 : BitVec 32 := 16#32
  let v1115 : BitVec 32 := Scalar.muli arg16 c16_i32_702
  let c11_i32 : BitVec 32 := 11#32
  let v1116 : BitVec 32 := Scalar.addi v1115 c11_i32
  let c128_i32_717 : BitVec 32 := 128#32
  let v1146 : BitVec 32 := Scalar.muli v1116 c128_i32_717
  v1146
def k0_mult36 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_702 : BitVec 32 := 16#32
  let v1115 : BitVec 32 := Scalar.muli arg16 c16_i32_702
  let c11_i32 : BitVec 32 := 11#32
  let v1116 : BitVec 32 := Scalar.addi v1115 c11_i32
  let c32_i32_710 : BitVec 32 := 32#32
  let c0_i32_711 : BitVec 32 := 0#32
  let v1134 : BitVec 1 := Scalar.cmpi .eq c32_i32_710 c0_i32_711
  let c1_i32_712 : BitVec 32 := 1#32
  let v1135 : BitVec 32 := Scalar.select v1134 c1_i32_712 c32_i32_710
  let v1136 : BitVec 32 := Scalar.remsi v1116 v1135
  let c0_i32_714 : BitVec 32 := 0#32
  let v1138 : BitVec 1 := Scalar.cmpi .slt v1136 c0_i32_714
  let c0_i32_715 : BitVec 32 := 0#32
  let v1139 : BitVec 1 := Scalar.cmpi .slt v1135 c0_i32_715
  let v1140 : BitVec 1 := Scalar.xori v1138 v1139
  let c0_i32_713 : BitVec 32 := 0#32
  let v1137 : BitVec 1 := Scalar.cmpi .ne v1136 c0_i32_713
  let v1141 : BitVec 1 := Scalar.andi v1140 v1137
  let v1142 : BitVec 32 := Scalar.addi v1136 v1135
  let v1143 : BitVec 32 := Scalar.select v1141 v1142 v1136
  let c128_i32_721 : BitVec 32 := 128#32
  let v1153 : BitVec 32 := Scalar.muli v1143 c128_i32_721
  v1153
def k0_mult37 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_737 : BitVec 32 := 16#32
  let v1190 : BitVec 32 := Scalar.muli arg16 c16_i32_737
  let c12_i32 : BitVec 32 := 12#32
  let v1191 : BitVec 32 := Scalar.addi v1190 c12_i32
  let c128_i32_751 : BitVec 32 := 128#32
  let v1219 : BitVec 32 := Scalar.muli v1191 c128_i32_751
  v1219
def k0_mult38 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_737 : BitVec 32 := 16#32
  let v1190 : BitVec 32 := Scalar.muli arg16 c16_i32_737
  let c12_i32 : BitVec 32 := 12#32
  let v1191 : BitVec 32 := Scalar.addi v1190 c12_i32
  let c128_i32_752 : BitVec 32 := 128#32
  let v1221 : BitVec 32 := Scalar.muli v1191 c128_i32_752
  v1221
def k0_mult39 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_737 : BitVec 32 := 16#32
  let v1190 : BitVec 32 := Scalar.muli arg16 c16_i32_737
  let c12_i32 : BitVec 32 := 12#32
  let v1191 : BitVec 32 := Scalar.addi v1190 c12_i32
  let c32_i32_745 : BitVec 32 := 32#32
  let c0_i32_746 : BitVec 32 := 0#32
  let v1209 : BitVec 1 := Scalar.cmpi .eq c32_i32_745 c0_i32_746
  let c1_i32_747 : BitVec 32 := 1#32
  let v1210 : BitVec 32 := Scalar.select v1209 c1_i32_747 c32_i32_745
  let v1211 : BitVec 32 := Scalar.remsi v1191 v1210
  let c0_i32_749 : BitVec 32 := 0#32
  let v1213 : BitVec 1 := Scalar.cmpi .slt v1211 c0_i32_749
  let c0_i32_750 : BitVec 32 := 0#32
  let v1214 : BitVec 1 := Scalar.cmpi .slt v1210 c0_i32_750
  let v1215 : BitVec 1 := Scalar.xori v1213 v1214
  let c0_i32_748 : BitVec 32 := 0#32
  let v1212 : BitVec 1 := Scalar.cmpi .ne v1211 c0_i32_748
  let v1216 : BitVec 1 := Scalar.andi v1215 v1212
  let v1217 : BitVec 32 := Scalar.addi v1211 v1210
  let v1218 : BitVec 32 := Scalar.select v1216 v1217 v1211
  let c128_i32_756 : BitVec 32 := 128#32
  let v1228 : BitVec 32 := Scalar.muli v1218 c128_i32_756
  v1228
def k0_mult40 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_772 : BitVec 32 := 16#32
  let v1265 : BitVec 32 := Scalar.muli arg16 c16_i32_772
  let c13_i32 : BitVec 32 := 13#32
  let v1266 : BitVec 32 := Scalar.addi v1265 c13_i32
  let c128_i32_786 : BitVec 32 := 128#32
  let v1294 : BitVec 32 := Scalar.muli v1266 c128_i32_786
  v1294
def k0_mult41 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_772 : BitVec 32 := 16#32
  let v1265 : BitVec 32 := Scalar.muli arg16 c16_i32_772
  let c13_i32 : BitVec 32 := 13#32
  let v1266 : BitVec 32 := Scalar.addi v1265 c13_i32
  let c128_i32_787 : BitVec 32 := 128#32
  let v1296 : BitVec 32 := Scalar.muli v1266 c128_i32_787
  v1296
def k0_mult42 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_772 : BitVec 32 := 16#32
  let v1265 : BitVec 32 := Scalar.muli arg16 c16_i32_772
  let c13_i32 : BitVec 32 := 13#32
  let v1266 : BitVec 32 := Scalar.addi v1265 c13_i32
  let c32_i32_780 : BitVec 32 := 32#32
  let c0_i32_781 : BitVec 32 := 0#32
  let v1284 : BitVec 1 := Scalar.cmpi .eq c32_i32_780 c0_i32_781
  let c1_i32_782 : BitVec 32 := 1#32
  let v1285 : BitVec 32 := Scalar.select v1284 c1_i32_782 c32_i32_780
  let v1286 : BitVec 32 := Scalar.remsi v1266 v1285
  let c0_i32_784 : BitVec 32 := 0#32
  let v1288 : BitVec 1 := Scalar.cmpi .slt v1286 c0_i32_784
  let c0_i32_785 : BitVec 32 := 0#32
  let v1289 : BitVec 1 := Scalar.cmpi .slt v1285 c0_i32_785
  let v1290 : BitVec 1 := Scalar.xori v1288 v1289
  let c0_i32_783 : BitVec 32 := 0#32
  let v1287 : BitVec 1 := Scalar.cmpi .ne v1286 c0_i32_783
  let v1291 : BitVec 1 := Scalar.andi v1290 v1287
  let v1292 : BitVec 32 := Scalar.addi v1286 v1285
  let v1293 : BitVec 32 := Scalar.select v1291 v1292 v1286
  let c128_i32_791 : BitVec 32 := 128#32
  let v1303 : BitVec 32 := Scalar.muli v1293 c128_i32_791
  v1303
def k0_mult43 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_807 : BitVec 32 := 16#32
  let v1340 : BitVec 32 := Scalar.muli arg16 c16_i32_807
  let c14_i32 : BitVec 32 := 14#32
  let v1341 : BitVec 32 := Scalar.addi v1340 c14_i32
  let c128_i32_821 : BitVec 32 := 128#32
  let v1369 : BitVec 32 := Scalar.muli v1341 c128_i32_821
  v1369
def k0_mult44 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_807 : BitVec 32 := 16#32
  let v1340 : BitVec 32 := Scalar.muli arg16 c16_i32_807
  let c14_i32 : BitVec 32 := 14#32
  let v1341 : BitVec 32 := Scalar.addi v1340 c14_i32
  let c128_i32_822 : BitVec 32 := 128#32
  let v1371 : BitVec 32 := Scalar.muli v1341 c128_i32_822
  v1371
def k0_mult45 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_807 : BitVec 32 := 16#32
  let v1340 : BitVec 32 := Scalar.muli arg16 c16_i32_807
  let c14_i32 : BitVec 32 := 14#32
  let v1341 : BitVec 32 := Scalar.addi v1340 c14_i32
  let c32_i32_815 : BitVec 32 := 32#32
  let c0_i32_816 : BitVec 32 := 0#32
  let v1359 : BitVec 1 := Scalar.cmpi .eq c32_i32_815 c0_i32_816
  let c1_i32_817 : BitVec 32 := 1#32
  let v1360 : BitVec 32 := Scalar.select v1359 c1_i32_817 c32_i32_815
  let v1361 : BitVec 32 := Scalar.remsi v1341 v1360
  let c0_i32_819 : BitVec 32 := 0#32
  let v1363 : BitVec 1 := Scalar.cmpi .slt v1361 c0_i32_819
  let c0_i32_820 : BitVec 32 := 0#32
  let v1364 : BitVec 1 := Scalar.cmpi .slt v1360 c0_i32_820
  let v1365 : BitVec 1 := Scalar.xori v1363 v1364
  let c0_i32_818 : BitVec 32 := 0#32
  let v1362 : BitVec 1 := Scalar.cmpi .ne v1361 c0_i32_818
  let v1366 : BitVec 1 := Scalar.andi v1365 v1362
  let v1367 : BitVec 32 := Scalar.addi v1361 v1360
  let v1368 : BitVec 32 := Scalar.select v1366 v1367 v1361
  let c128_i32_826 : BitVec 32 := 128#32
  let v1378 : BitVec 32 := Scalar.muli v1368 c128_i32_826
  v1378
def k0_mult46 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_842 : BitVec 32 := 16#32
  let v1415 : BitVec 32 := Scalar.muli arg16 c16_i32_842
  let c15_i32 : BitVec 32 := 15#32
  let v1416 : BitVec 32 := Scalar.addi v1415 c15_i32
  let c128_i32_856 : BitVec 32 := 128#32
  let v1444 : BitVec 32 := Scalar.muli v1416 c128_i32_856
  v1444
def k0_mult47 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_842 : BitVec 32 := 16#32
  let v1415 : BitVec 32 := Scalar.muli arg16 c16_i32_842
  let c15_i32 : BitVec 32 := 15#32
  let v1416 : BitVec 32 := Scalar.addi v1415 c15_i32
  let c128_i32_857 : BitVec 32 := 128#32
  let v1446 : BitVec 32 := Scalar.muli v1416 c128_i32_857
  v1446
def k0_mult48 (k0_t1 : Fin k0_t1_loop.trips) : BitVec 32 :=
  let c0_i32_24 : BitVec 32 := 0#32
  let c1_i32_25 : BitVec 32 := 1#32
  let arg16 : BitVec 32 := Scf.iv c0_i32_24 c1_i32_25 k0_t1
  let c16_i32_842 : BitVec 32 := 16#32
  let v1415 : BitVec 32 := Scalar.muli arg16 c16_i32_842
  let c15_i32 : BitVec 32 := 15#32
  let v1416 : BitVec 32 := Scalar.addi v1415 c15_i32
  let c32_i32_850 : BitVec 32 := 32#32
  let c0_i32_851 : BitVec 32 := 0#32
  let v1434 : BitVec 1 := Scalar.cmpi .eq c32_i32_850 c0_i32_851
  let c1_i32_852 : BitVec 32 := 1#32
  let v1435 : BitVec 32 := Scalar.select v1434 c1_i32_852 c32_i32_850
  let v1436 : BitVec 32 := Scalar.remsi v1416 v1435
  let c0_i32_854 : BitVec 32 := 0#32
  let v1438 : BitVec 1 := Scalar.cmpi .slt v1436 c0_i32_854
  let c0_i32_855 : BitVec 32 := 0#32
  let v1439 : BitVec 1 := Scalar.cmpi .slt v1435 c0_i32_855
  let v1440 : BitVec 1 := Scalar.xori v1438 v1439
  let c0_i32_853 : BitVec 32 := 0#32
  let v1437 : BitVec 1 := Scalar.cmpi .ne v1436 c0_i32_853
  let v1441 : BitVec 1 := Scalar.andi v1440 v1437
  let v1442 : BitVec 32 := Scalar.addi v1436 v1435
  let v1443 : BitVec 32 := Scalar.select v1441 v1442 v1436
  let c128_i32_861 : BitVec 32 := 128#32
  let v1453 : BitVec 32 := Scalar.muli v1443 c128_i32_861
  v1453
def k0_off5 (i : grid0.Coords) : Fin 2 → Nat :=
  let c1_78 : Index := 1#32
  let arg1 : BitVec 32 := BitVec.ofNat 32 (i 1).val
  let v79 : Index := Scalar.indexCast arg1
  ![1, v79.toNat]
@[reducible] def k0_t2_loop : Scf.Loop 32 :=
  let c0_i32_91 : BitVec 32 := 0#32
  let c2_i32_92 : BitVec 32 := 2#32
  let v103 : BitVec 32 := Scalar.addi c0_i32_91 c2_i32_92
  let c1_i32_93 : BitVec 32 := 1#32
  ⟨c0_i32_91, v103, c1_i32_93⟩
def k0_mult49 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32 : BitVec 32 := 16#32
  let v290 : BitVec 32 := Scalar.muli arg16 c16_i32
  let c0_i32_315 : BitVec 32 := 0#32
  let v291 : BitVec 32 := Scalar.addi v290 c0_i32_315
  let c128_i32_329 : BitVec 32 := 128#32
  let v319 : BitVec 32 := Scalar.muli v291 c128_i32_329
  v319
def k0_off6 (k0_t2 : Fin k0_t2_loop.trips) (c0_i32_315 : BitVec 32) : Fin 2 → Nat :=
  let c0_i32_91 : BitVec 32 := 0#32
  let c1_i32_93 : BitVec 32 := 1#32
  let arg16 : BitVec 32 := Scf.iv c0_i32_91 c1_i32_93 k0_t2
  let c16_i32 : BitVec 32 := 16#32
  let v290 : BitVec 32 := Scalar.muli arg16 c16_i32
  let v291 : BitVec 32 := Scalar.addi v290 c0_i32_315
  let c128_i32_329 : BitVec 32 := 128#32
  let v319 : BitVec 32 := Scalar.muli v291 c128_i32_329
  let v320 : BitVec 32 := v319
  let v323 : Index := Scalar.indexCast v320
  let c0_332 : Index := 0#32
  ![v323.toNat, 0]
def k0_mult50 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32 : BitVec 32 := 16#32
  let v290 : BitVec 32 := Scalar.muli arg16 c16_i32
  let c0_i32_315 : BitVec 32 := 0#32
  let v291 : BitVec 32 := Scalar.addi v290 c0_i32_315
  let c8_i32_323 : BitVec 32 := 8#32
  let c0_i32_324 : BitVec 32 := 0#32
  let v309 : BitVec 1 := Scalar.cmpi .eq c8_i32_323 c0_i32_324
  let c1_i32_325 : BitVec 32 := 1#32
  let v310 : BitVec 32 := Scalar.select v309 c1_i32_325 c8_i32_323
  let v311 : BitVec 32 := Scalar.remsi v291 v310
  let c0_i32_327 : BitVec 32 := 0#32
  let v313 : BitVec 1 := Scalar.cmpi .slt v311 c0_i32_327
  let c0_i32_328 : BitVec 32 := 0#32
  let v314 : BitVec 1 := Scalar.cmpi .slt v310 c0_i32_328
  let v315 : BitVec 1 := Scalar.xori v313 v314
  let c0_i32_326 : BitVec 32 := 0#32
  let v312 : BitVec 1 := Scalar.cmpi .ne v311 c0_i32_326
  let v316 : BitVec 1 := Scalar.andi v315 v312
  let v317 : BitVec 32 := Scalar.addi v311 v310
  let v318 : BitVec 32 := Scalar.select v316 v317 v311
  let c128_i32_333 : BitVec 32 := 128#32
  let v326 : BitVec 32 := Scalar.muli v318 c128_i32_333
  v326
def k0_off7 (k0_t2 : Fin k0_t2_loop.trips) (c0_i32_315 : BitVec 32) : Fin 3 → Nat :=
  let c0_i32_91 : BitVec 32 := 0#32
  let c1_i32_93 : BitVec 32 := 1#32
  let arg16 : BitVec 32 := Scf.iv c0_i32_91 c1_i32_93 k0_t2
  let c16_i32 : BitVec 32 := 16#32
  let v290 : BitVec 32 := Scalar.muli arg16 c16_i32
  let v291 : BitVec 32 := Scalar.addi v290 c0_i32_315
  let c0_i32_317 : BitVec 32 := 0#32
  let v293 : BitVec 1 := Scalar.cmpi .sgt v291 c0_i32_317
  let v294 : BitVec 32 := Scalar.extui v293
  let c0_i32_318 : BitVec 32 := 0#32
  let v295 : BitVec 1 := Scalar.cmpi .slt v291 c0_i32_318
  let v296 : BitVec 32 := Scalar.extui v295
  let v297 : BitVec 32 := Scalar.subi v294 v296
  let c8_i32_316 : BitVec 32 := 8#32
  let c0_i32_319 : BitVec 32 := 0#32
  let v298 : BitVec 1 := Scalar.cmpi .sgt c8_i32_316 c0_i32_319
  let v299 : BitVec 32 := Scalar.extui v298
  let c0_i32_320 : BitVec 32 := 0#32
  let v300 : BitVec 1 := Scalar.cmpi .slt c8_i32_316 c0_i32_320
  let v301 : BitVec 32 := Scalar.extui v300
  let v302 : BitVec 32 := Scalar.subi v299 v301
  let v303 : BitVec 1 := Scalar.cmpi .ne v297 v302
  let v304 : BitVec 32 := Scalar.remsi v291 c8_i32_316
  let c0_i32_321 : BitVec 32 := 0#32
  let v305 : BitVec 1 := Scalar.cmpi .ne v304 c0_i32_321
  let v306 : BitVec 1 := Scalar.andi v303 v305
  let v292 : BitVec 32 := Scalar.divsi v291 c8_i32_316
  let c1_i32_322 : BitVec 32 := 1#32
  let v307 : BitVec 32 := Scalar.subi v292 c1_i32_322
  let v308 : BitVec 32 := Scalar.select v306 v307 v292
  let v330 : Index := Scalar.indexCast v308
  let c8_i32_323 : BitVec 32 := 8#32
  let c0_i32_324 : BitVec 32 := 0#32
  let v309 : BitVec 1 := Scalar.cmpi .eq c8_i32_323 c0_i32_324
  let c1_i32_325 : BitVec 32 := 1#32
  let v310 : BitVec 32 := Scalar.select v309 c1_i32_325 c8_i32_323
  let v311 : BitVec 32 := Scalar.remsi v291 v310
  let c0_i32_327 : BitVec 32 := 0#32
  let v313 : BitVec 1 := Scalar.cmpi .slt v311 c0_i32_327
  let c0_i32_328 : BitVec 32 := 0#32
  let v314 : BitVec 1 := Scalar.cmpi .slt v310 c0_i32_328
  let v315 : BitVec 1 := Scalar.xori v313 v314
  let c0_i32_326 : BitVec 32 := 0#32
  let v312 : BitVec 1 := Scalar.cmpi .ne v311 c0_i32_326
  let v316 : BitVec 1 := Scalar.andi v315 v312
  let v317 : BitVec 32 := Scalar.addi v311 v310
  let v318 : BitVec 32 := Scalar.select v316 v317 v311
  let c128_i32_333 : BitVec 32 := 128#32
  let v326 : BitVec 32 := Scalar.muli v318 c128_i32_333
  let v327 : BitVec 32 := v326
  let v331 : Index := Scalar.indexCast v327
  let c0_337 : Index := 0#32
  ![v330.toNat, v331.toNat, 0]
def k0_off8 (k0_t2 : Fin k0_t2_loop.trips) (c0_i32_315 : BitVec 32) : Fin 3 → Nat :=
  let c1_345 : Index := 1#32
  let c0_i32_91 : BitVec 32 := 0#32
  let c1_i32_93 : BitVec 32 := 1#32
  let arg16 : BitVec 32 := Scf.iv c0_i32_91 c1_i32_93 k0_t2
  let c16_i32 : BitVec 32 := 16#32
  let v290 : BitVec 32 := Scalar.muli arg16 c16_i32
  let v291 : BitVec 32 := Scalar.addi v290 c0_i32_315
  let c0_i32_317 : BitVec 32 := 0#32
  let v293 : BitVec 1 := Scalar.cmpi .sgt v291 c0_i32_317
  let v294 : BitVec 32 := Scalar.extui v293
  let c0_i32_318 : BitVec 32 := 0#32
  let v295 : BitVec 1 := Scalar.cmpi .slt v291 c0_i32_318
  let v296 : BitVec 32 := Scalar.extui v295
  let v297 : BitVec 32 := Scalar.subi v294 v296
  let c8_i32_316 : BitVec 32 := 8#32
  let c0_i32_319 : BitVec 32 := 0#32
  let v298 : BitVec 1 := Scalar.cmpi .sgt c8_i32_316 c0_i32_319
  let v299 : BitVec 32 := Scalar.extui v298
  let c0_i32_320 : BitVec 32 := 0#32
  let v300 : BitVec 1 := Scalar.cmpi .slt c8_i32_316 c0_i32_320
  let v301 : BitVec 32 := Scalar.extui v300
  let v302 : BitVec 32 := Scalar.subi v299 v301
  let v303 : BitVec 1 := Scalar.cmpi .ne v297 v302
  let v304 : BitVec 32 := Scalar.remsi v291 c8_i32_316
  let c0_i32_321 : BitVec 32 := 0#32
  let v305 : BitVec 1 := Scalar.cmpi .ne v304 c0_i32_321
  let v306 : BitVec 1 := Scalar.andi v303 v305
  let v292 : BitVec 32 := Scalar.divsi v291 c8_i32_316
  let c1_i32_322 : BitVec 32 := 1#32
  let v307 : BitVec 32 := Scalar.subi v292 c1_i32_322
  let v308 : BitVec 32 := Scalar.select v306 v307 v292
  let c8_i32_323 : BitVec 32 := 8#32
  let c0_i32_324 : BitVec 32 := 0#32
  let v309 : BitVec 1 := Scalar.cmpi .eq c8_i32_323 c0_i32_324
  let c1_i32_325 : BitVec 32 := 1#32
  let v310 : BitVec 32 := Scalar.select v309 c1_i32_325 c8_i32_323
  let v311 : BitVec 32 := Scalar.remsi v291 v310
  let c0_i32_327 : BitVec 32 := 0#32
  let v313 : BitVec 1 := Scalar.cmpi .slt v311 c0_i32_327
  let c0_i32_328 : BitVec 32 := 0#32
  let v314 : BitVec 1 := Scalar.cmpi .slt v310 c0_i32_328
  let v315 : BitVec 1 := Scalar.xori v313 v314
  let c0_i32_326 : BitVec 32 := 0#32
  let v312 : BitVec 1 := Scalar.cmpi .ne v311 c0_i32_326
  let v316 : BitVec 1 := Scalar.andi v315 v312
  let v317 : BitVec 32 := Scalar.addi v311 v310
  let v318 : BitVec 32 := Scalar.select v316 v317 v311
  let c512_i32 : BitVec 32 := 512#32
  let v350 : BitVec 32 := Scalar.muli v318 c512_i32
  let v351 : BitVec 32 := Scalar.addi v308 v350
  let v354 : Index := Scalar.indexCast v351
  let c0_346 : Index := 0#32
  ![1, v354.toNat, 0]
def k0_mult51 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_349 : BitVec 32 := 16#32
  let v365 : BitVec 32 := Scalar.muli arg16 c16_i32_349
  let c1_i32_350 : BitVec 32 := 1#32
  let v366 : BitVec 32 := Scalar.addi v365 c1_i32_350
  let c128_i32_364 : BitVec 32 := 128#32
  let v394 : BitVec 32 := Scalar.muli v366 c128_i32_364
  v394
def k0_mult52 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_349 : BitVec 32 := 16#32
  let v365 : BitVec 32 := Scalar.muli arg16 c16_i32_349
  let c1_i32_350 : BitVec 32 := 1#32
  let v366 : BitVec 32 := Scalar.addi v365 c1_i32_350
  let c8_i32_358 : BitVec 32 := 8#32
  let c0_i32_359 : BitVec 32 := 0#32
  let v384 : BitVec 1 := Scalar.cmpi .eq c8_i32_358 c0_i32_359
  let c1_i32_360 : BitVec 32 := 1#32
  let v385 : BitVec 32 := Scalar.select v384 c1_i32_360 c8_i32_358
  let v386 : BitVec 32 := Scalar.remsi v366 v385
  let c0_i32_362 : BitVec 32 := 0#32
  let v388 : BitVec 1 := Scalar.cmpi .slt v386 c0_i32_362
  let c0_i32_363 : BitVec 32 := 0#32
  let v389 : BitVec 1 := Scalar.cmpi .slt v385 c0_i32_363
  let v390 : BitVec 1 := Scalar.xori v388 v389
  let c0_i32_361 : BitVec 32 := 0#32
  let v387 : BitVec 1 := Scalar.cmpi .ne v386 c0_i32_361
  let v391 : BitVec 1 := Scalar.andi v390 v387
  let v392 : BitVec 32 := Scalar.addi v386 v385
  let v393 : BitVec 32 := Scalar.select v391 v392 v386
  let c128_i32_368 : BitVec 32 := 128#32
  let v401 : BitVec 32 := Scalar.muli v393 c128_i32_368
  v401
def k0_mult53 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_385 : BitVec 32 := 16#32
  let v440 : BitVec 32 := Scalar.muli arg16 c16_i32_385
  let c2_i32_386 : BitVec 32 := 2#32
  let v441 : BitVec 32 := Scalar.addi v440 c2_i32_386
  let c128_i32_400 : BitVec 32 := 128#32
  let v469 : BitVec 32 := Scalar.muli v441 c128_i32_400
  v469
def k0_mult54 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_385 : BitVec 32 := 16#32
  let v440 : BitVec 32 := Scalar.muli arg16 c16_i32_385
  let c2_i32_386 : BitVec 32 := 2#32
  let v441 : BitVec 32 := Scalar.addi v440 c2_i32_386
  let c8_i32_394 : BitVec 32 := 8#32
  let c0_i32_395 : BitVec 32 := 0#32
  let v459 : BitVec 1 := Scalar.cmpi .eq c8_i32_394 c0_i32_395
  let c1_i32_396 : BitVec 32 := 1#32
  let v460 : BitVec 32 := Scalar.select v459 c1_i32_396 c8_i32_394
  let v461 : BitVec 32 := Scalar.remsi v441 v460
  let c0_i32_398 : BitVec 32 := 0#32
  let v463 : BitVec 1 := Scalar.cmpi .slt v461 c0_i32_398
  let c0_i32_399 : BitVec 32 := 0#32
  let v464 : BitVec 1 := Scalar.cmpi .slt v460 c0_i32_399
  let v465 : BitVec 1 := Scalar.xori v463 v464
  let c0_i32_397 : BitVec 32 := 0#32
  let v462 : BitVec 1 := Scalar.cmpi .ne v461 c0_i32_397
  let v466 : BitVec 1 := Scalar.andi v465 v462
  let v467 : BitVec 32 := Scalar.addi v461 v460
  let v468 : BitVec 32 := Scalar.select v466 v467 v461
  let c128_i32_404 : BitVec 32 := 128#32
  let v476 : BitVec 32 := Scalar.muli v468 c128_i32_404
  v476
def k0_mult55 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_421 : BitVec 32 := 16#32
  let v515 : BitVec 32 := Scalar.muli arg16 c16_i32_421
  let c3_i32 : BitVec 32 := 3#32
  let v516 : BitVec 32 := Scalar.addi v515 c3_i32
  let c128_i32_435 : BitVec 32 := 128#32
  let v544 : BitVec 32 := Scalar.muli v516 c128_i32_435
  v544
def k0_mult56 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_421 : BitVec 32 := 16#32
  let v515 : BitVec 32 := Scalar.muli arg16 c16_i32_421
  let c3_i32 : BitVec 32 := 3#32
  let v516 : BitVec 32 := Scalar.addi v515 c3_i32
  let c8_i32_429 : BitVec 32 := 8#32
  let c0_i32_430 : BitVec 32 := 0#32
  let v534 : BitVec 1 := Scalar.cmpi .eq c8_i32_429 c0_i32_430
  let c1_i32_431 : BitVec 32 := 1#32
  let v535 : BitVec 32 := Scalar.select v534 c1_i32_431 c8_i32_429
  let v536 : BitVec 32 := Scalar.remsi v516 v535
  let c0_i32_433 : BitVec 32 := 0#32
  let v538 : BitVec 1 := Scalar.cmpi .slt v536 c0_i32_433
  let c0_i32_434 : BitVec 32 := 0#32
  let v539 : BitVec 1 := Scalar.cmpi .slt v535 c0_i32_434
  let v540 : BitVec 1 := Scalar.xori v538 v539
  let c0_i32_432 : BitVec 32 := 0#32
  let v537 : BitVec 1 := Scalar.cmpi .ne v536 c0_i32_432
  let v541 : BitVec 1 := Scalar.andi v540 v537
  let v542 : BitVec 32 := Scalar.addi v536 v535
  let v543 : BitVec 32 := Scalar.select v541 v542 v536
  let c128_i32_439 : BitVec 32 := 128#32
  let v551 : BitVec 32 := Scalar.muli v543 c128_i32_439
  v551
def k0_mult57 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_456 : BitVec 32 := 16#32
  let v590 : BitVec 32 := Scalar.muli arg16 c16_i32_456
  let c4_i32 : BitVec 32 := 4#32
  let v591 : BitVec 32 := Scalar.addi v590 c4_i32
  let c128_i32_470 : BitVec 32 := 128#32
  let v619 : BitVec 32 := Scalar.muli v591 c128_i32_470
  v619
def k0_mult58 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_456 : BitVec 32 := 16#32
  let v590 : BitVec 32 := Scalar.muli arg16 c16_i32_456
  let c4_i32 : BitVec 32 := 4#32
  let v591 : BitVec 32 := Scalar.addi v590 c4_i32
  let c8_i32_464 : BitVec 32 := 8#32
  let c0_i32_465 : BitVec 32 := 0#32
  let v609 : BitVec 1 := Scalar.cmpi .eq c8_i32_464 c0_i32_465
  let c1_i32_466 : BitVec 32 := 1#32
  let v610 : BitVec 32 := Scalar.select v609 c1_i32_466 c8_i32_464
  let v611 : BitVec 32 := Scalar.remsi v591 v610
  let c0_i32_468 : BitVec 32 := 0#32
  let v613 : BitVec 1 := Scalar.cmpi .slt v611 c0_i32_468
  let c0_i32_469 : BitVec 32 := 0#32
  let v614 : BitVec 1 := Scalar.cmpi .slt v610 c0_i32_469
  let v615 : BitVec 1 := Scalar.xori v613 v614
  let c0_i32_467 : BitVec 32 := 0#32
  let v612 : BitVec 1 := Scalar.cmpi .ne v611 c0_i32_467
  let v616 : BitVec 1 := Scalar.andi v615 v612
  let v617 : BitVec 32 := Scalar.addi v611 v610
  let v618 : BitVec 32 := Scalar.select v616 v617 v611
  let c128_i32_474 : BitVec 32 := 128#32
  let v626 : BitVec 32 := Scalar.muli v618 c128_i32_474
  v626
def k0_mult59 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_491 : BitVec 32 := 16#32
  let v665 : BitVec 32 := Scalar.muli arg16 c16_i32_491
  let c5_i32 : BitVec 32 := 5#32
  let v666 : BitVec 32 := Scalar.addi v665 c5_i32
  let c128_i32_505 : BitVec 32 := 128#32
  let v694 : BitVec 32 := Scalar.muli v666 c128_i32_505
  v694
def k0_mult60 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_491 : BitVec 32 := 16#32
  let v665 : BitVec 32 := Scalar.muli arg16 c16_i32_491
  let c5_i32 : BitVec 32 := 5#32
  let v666 : BitVec 32 := Scalar.addi v665 c5_i32
  let c8_i32_499 : BitVec 32 := 8#32
  let c0_i32_500 : BitVec 32 := 0#32
  let v684 : BitVec 1 := Scalar.cmpi .eq c8_i32_499 c0_i32_500
  let c1_i32_501 : BitVec 32 := 1#32
  let v685 : BitVec 32 := Scalar.select v684 c1_i32_501 c8_i32_499
  let v686 : BitVec 32 := Scalar.remsi v666 v685
  let c0_i32_503 : BitVec 32 := 0#32
  let v688 : BitVec 1 := Scalar.cmpi .slt v686 c0_i32_503
  let c0_i32_504 : BitVec 32 := 0#32
  let v689 : BitVec 1 := Scalar.cmpi .slt v685 c0_i32_504
  let v690 : BitVec 1 := Scalar.xori v688 v689
  let c0_i32_502 : BitVec 32 := 0#32
  let v687 : BitVec 1 := Scalar.cmpi .ne v686 c0_i32_502
  let v691 : BitVec 1 := Scalar.andi v690 v687
  let v692 : BitVec 32 := Scalar.addi v686 v685
  let v693 : BitVec 32 := Scalar.select v691 v692 v686
  let c128_i32_509 : BitVec 32 := 128#32
  let v701 : BitVec 32 := Scalar.muli v693 c128_i32_509
  v701
def k0_mult61 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_526 : BitVec 32 := 16#32
  let v740 : BitVec 32 := Scalar.muli arg16 c16_i32_526
  let c6_i32 : BitVec 32 := 6#32
  let v741 : BitVec 32 := Scalar.addi v740 c6_i32
  let c128_i32_540 : BitVec 32 := 128#32
  let v769 : BitVec 32 := Scalar.muli v741 c128_i32_540
  v769
def k0_mult62 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_526 : BitVec 32 := 16#32
  let v740 : BitVec 32 := Scalar.muli arg16 c16_i32_526
  let c6_i32 : BitVec 32 := 6#32
  let v741 : BitVec 32 := Scalar.addi v740 c6_i32
  let c8_i32_534 : BitVec 32 := 8#32
  let c0_i32_535 : BitVec 32 := 0#32
  let v759 : BitVec 1 := Scalar.cmpi .eq c8_i32_534 c0_i32_535
  let c1_i32_536 : BitVec 32 := 1#32
  let v760 : BitVec 32 := Scalar.select v759 c1_i32_536 c8_i32_534
  let v761 : BitVec 32 := Scalar.remsi v741 v760
  let c0_i32_538 : BitVec 32 := 0#32
  let v763 : BitVec 1 := Scalar.cmpi .slt v761 c0_i32_538
  let c0_i32_539 : BitVec 32 := 0#32
  let v764 : BitVec 1 := Scalar.cmpi .slt v760 c0_i32_539
  let v765 : BitVec 1 := Scalar.xori v763 v764
  let c0_i32_537 : BitVec 32 := 0#32
  let v762 : BitVec 1 := Scalar.cmpi .ne v761 c0_i32_537
  let v766 : BitVec 1 := Scalar.andi v765 v762
  let v767 : BitVec 32 := Scalar.addi v761 v760
  let v768 : BitVec 32 := Scalar.select v766 v767 v761
  let c128_i32_544 : BitVec 32 := 128#32
  let v776 : BitVec 32 := Scalar.muli v768 c128_i32_544
  v776
def k0_mult63 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_561 : BitVec 32 := 16#32
  let v815 : BitVec 32 := Scalar.muli arg16 c16_i32_561
  let c7_i32 : BitVec 32 := 7#32
  let v816 : BitVec 32 := Scalar.addi v815 c7_i32
  let c128_i32_575 : BitVec 32 := 128#32
  let v844 : BitVec 32 := Scalar.muli v816 c128_i32_575
  v844
def k0_mult64 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_561 : BitVec 32 := 16#32
  let v815 : BitVec 32 := Scalar.muli arg16 c16_i32_561
  let c7_i32 : BitVec 32 := 7#32
  let v816 : BitVec 32 := Scalar.addi v815 c7_i32
  let c8_i32_569 : BitVec 32 := 8#32
  let c0_i32_570 : BitVec 32 := 0#32
  let v834 : BitVec 1 := Scalar.cmpi .eq c8_i32_569 c0_i32_570
  let c1_i32_571 : BitVec 32 := 1#32
  let v835 : BitVec 32 := Scalar.select v834 c1_i32_571 c8_i32_569
  let v836 : BitVec 32 := Scalar.remsi v816 v835
  let c0_i32_573 : BitVec 32 := 0#32
  let v838 : BitVec 1 := Scalar.cmpi .slt v836 c0_i32_573
  let c0_i32_574 : BitVec 32 := 0#32
  let v839 : BitVec 1 := Scalar.cmpi .slt v835 c0_i32_574
  let v840 : BitVec 1 := Scalar.xori v838 v839
  let c0_i32_572 : BitVec 32 := 0#32
  let v837 : BitVec 1 := Scalar.cmpi .ne v836 c0_i32_572
  let v841 : BitVec 1 := Scalar.andi v840 v837
  let v842 : BitVec 32 := Scalar.addi v836 v835
  let v843 : BitVec 32 := Scalar.select v841 v842 v836
  let c128_i32_579 : BitVec 32 := 128#32
  let v851 : BitVec 32 := Scalar.muli v843 c128_i32_579
  v851
def k0_mult65 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_596 : BitVec 32 := 16#32
  let v890 : BitVec 32 := Scalar.muli arg16 c16_i32_596
  let c8_i32_597 : BitVec 32 := 8#32
  let v891 : BitVec 32 := Scalar.addi v890 c8_i32_597
  let c128_i32_611 : BitVec 32 := 128#32
  let v919 : BitVec 32 := Scalar.muli v891 c128_i32_611
  v919
def k0_mult66 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_596 : BitVec 32 := 16#32
  let v890 : BitVec 32 := Scalar.muli arg16 c16_i32_596
  let c8_i32_597 : BitVec 32 := 8#32
  let v891 : BitVec 32 := Scalar.addi v890 c8_i32_597
  let c8_i32_605 : BitVec 32 := 8#32
  let c0_i32_606 : BitVec 32 := 0#32
  let v909 : BitVec 1 := Scalar.cmpi .eq c8_i32_605 c0_i32_606
  let c1_i32_607 : BitVec 32 := 1#32
  let v910 : BitVec 32 := Scalar.select v909 c1_i32_607 c8_i32_605
  let v911 : BitVec 32 := Scalar.remsi v891 v910
  let c0_i32_609 : BitVec 32 := 0#32
  let v913 : BitVec 1 := Scalar.cmpi .slt v911 c0_i32_609
  let c0_i32_610 : BitVec 32 := 0#32
  let v914 : BitVec 1 := Scalar.cmpi .slt v910 c0_i32_610
  let v915 : BitVec 1 := Scalar.xori v913 v914
  let c0_i32_608 : BitVec 32 := 0#32
  let v912 : BitVec 1 := Scalar.cmpi .ne v911 c0_i32_608
  let v916 : BitVec 1 := Scalar.andi v915 v912
  let v917 : BitVec 32 := Scalar.addi v911 v910
  let v918 : BitVec 32 := Scalar.select v916 v917 v911
  let c128_i32_615 : BitVec 32 := 128#32
  let v926 : BitVec 32 := Scalar.muli v918 c128_i32_615
  v926
def k0_mult67 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_632 : BitVec 32 := 16#32
  let v965 : BitVec 32 := Scalar.muli arg16 c16_i32_632
  let c9_i32 : BitVec 32 := 9#32
  let v966 : BitVec 32 := Scalar.addi v965 c9_i32
  let c128_i32_646 : BitVec 32 := 128#32
  let v994 : BitVec 32 := Scalar.muli v966 c128_i32_646
  v994
def k0_mult68 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_632 : BitVec 32 := 16#32
  let v965 : BitVec 32 := Scalar.muli arg16 c16_i32_632
  let c9_i32 : BitVec 32 := 9#32
  let v966 : BitVec 32 := Scalar.addi v965 c9_i32
  let c8_i32_640 : BitVec 32 := 8#32
  let c0_i32_641 : BitVec 32 := 0#32
  let v984 : BitVec 1 := Scalar.cmpi .eq c8_i32_640 c0_i32_641
  let c1_i32_642 : BitVec 32 := 1#32
  let v985 : BitVec 32 := Scalar.select v984 c1_i32_642 c8_i32_640
  let v986 : BitVec 32 := Scalar.remsi v966 v985
  let c0_i32_644 : BitVec 32 := 0#32
  let v988 : BitVec 1 := Scalar.cmpi .slt v986 c0_i32_644
  let c0_i32_645 : BitVec 32 := 0#32
  let v989 : BitVec 1 := Scalar.cmpi .slt v985 c0_i32_645
  let v990 : BitVec 1 := Scalar.xori v988 v989
  let c0_i32_643 : BitVec 32 := 0#32
  let v987 : BitVec 1 := Scalar.cmpi .ne v986 c0_i32_643
  let v991 : BitVec 1 := Scalar.andi v990 v987
  let v992 : BitVec 32 := Scalar.addi v986 v985
  let v993 : BitVec 32 := Scalar.select v991 v992 v986
  let c128_i32_650 : BitVec 32 := 128#32
  let v1001 : BitVec 32 := Scalar.muli v993 c128_i32_650
  v1001
def k0_mult69 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_667 : BitVec 32 := 16#32
  let v1040 : BitVec 32 := Scalar.muli arg16 c16_i32_667
  let c10_i32 : BitVec 32 := 10#32
  let v1041 : BitVec 32 := Scalar.addi v1040 c10_i32
  let c128_i32_681 : BitVec 32 := 128#32
  let v1069 : BitVec 32 := Scalar.muli v1041 c128_i32_681
  v1069
def k0_mult70 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_667 : BitVec 32 := 16#32
  let v1040 : BitVec 32 := Scalar.muli arg16 c16_i32_667
  let c10_i32 : BitVec 32 := 10#32
  let v1041 : BitVec 32 := Scalar.addi v1040 c10_i32
  let c8_i32_675 : BitVec 32 := 8#32
  let c0_i32_676 : BitVec 32 := 0#32
  let v1059 : BitVec 1 := Scalar.cmpi .eq c8_i32_675 c0_i32_676
  let c1_i32_677 : BitVec 32 := 1#32
  let v1060 : BitVec 32 := Scalar.select v1059 c1_i32_677 c8_i32_675
  let v1061 : BitVec 32 := Scalar.remsi v1041 v1060
  let c0_i32_679 : BitVec 32 := 0#32
  let v1063 : BitVec 1 := Scalar.cmpi .slt v1061 c0_i32_679
  let c0_i32_680 : BitVec 32 := 0#32
  let v1064 : BitVec 1 := Scalar.cmpi .slt v1060 c0_i32_680
  let v1065 : BitVec 1 := Scalar.xori v1063 v1064
  let c0_i32_678 : BitVec 32 := 0#32
  let v1062 : BitVec 1 := Scalar.cmpi .ne v1061 c0_i32_678
  let v1066 : BitVec 1 := Scalar.andi v1065 v1062
  let v1067 : BitVec 32 := Scalar.addi v1061 v1060
  let v1068 : BitVec 32 := Scalar.select v1066 v1067 v1061
  let c128_i32_685 : BitVec 32 := 128#32
  let v1076 : BitVec 32 := Scalar.muli v1068 c128_i32_685
  v1076
def k0_mult71 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_702 : BitVec 32 := 16#32
  let v1115 : BitVec 32 := Scalar.muli arg16 c16_i32_702
  let c11_i32 : BitVec 32 := 11#32
  let v1116 : BitVec 32 := Scalar.addi v1115 c11_i32
  let c128_i32_716 : BitVec 32 := 128#32
  let v1144 : BitVec 32 := Scalar.muli v1116 c128_i32_716
  v1144
def k0_mult72 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_702 : BitVec 32 := 16#32
  let v1115 : BitVec 32 := Scalar.muli arg16 c16_i32_702
  let c11_i32 : BitVec 32 := 11#32
  let v1116 : BitVec 32 := Scalar.addi v1115 c11_i32
  let c8_i32_710 : BitVec 32 := 8#32
  let c0_i32_711 : BitVec 32 := 0#32
  let v1134 : BitVec 1 := Scalar.cmpi .eq c8_i32_710 c0_i32_711
  let c1_i32_712 : BitVec 32 := 1#32
  let v1135 : BitVec 32 := Scalar.select v1134 c1_i32_712 c8_i32_710
  let v1136 : BitVec 32 := Scalar.remsi v1116 v1135
  let c0_i32_714 : BitVec 32 := 0#32
  let v1138 : BitVec 1 := Scalar.cmpi .slt v1136 c0_i32_714
  let c0_i32_715 : BitVec 32 := 0#32
  let v1139 : BitVec 1 := Scalar.cmpi .slt v1135 c0_i32_715
  let v1140 : BitVec 1 := Scalar.xori v1138 v1139
  let c0_i32_713 : BitVec 32 := 0#32
  let v1137 : BitVec 1 := Scalar.cmpi .ne v1136 c0_i32_713
  let v1141 : BitVec 1 := Scalar.andi v1140 v1137
  let v1142 : BitVec 32 := Scalar.addi v1136 v1135
  let v1143 : BitVec 32 := Scalar.select v1141 v1142 v1136
  let c128_i32_720 : BitVec 32 := 128#32
  let v1151 : BitVec 32 := Scalar.muli v1143 c128_i32_720
  v1151
def k0_mult73 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_737 : BitVec 32 := 16#32
  let v1190 : BitVec 32 := Scalar.muli arg16 c16_i32_737
  let c12_i32 : BitVec 32 := 12#32
  let v1191 : BitVec 32 := Scalar.addi v1190 c12_i32
  let c128_i32_751 : BitVec 32 := 128#32
  let v1219 : BitVec 32 := Scalar.muli v1191 c128_i32_751
  v1219
def k0_mult74 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_737 : BitVec 32 := 16#32
  let v1190 : BitVec 32 := Scalar.muli arg16 c16_i32_737
  let c12_i32 : BitVec 32 := 12#32
  let v1191 : BitVec 32 := Scalar.addi v1190 c12_i32
  let c8_i32_745 : BitVec 32 := 8#32
  let c0_i32_746 : BitVec 32 := 0#32
  let v1209 : BitVec 1 := Scalar.cmpi .eq c8_i32_745 c0_i32_746
  let c1_i32_747 : BitVec 32 := 1#32
  let v1210 : BitVec 32 := Scalar.select v1209 c1_i32_747 c8_i32_745
  let v1211 : BitVec 32 := Scalar.remsi v1191 v1210
  let c0_i32_749 : BitVec 32 := 0#32
  let v1213 : BitVec 1 := Scalar.cmpi .slt v1211 c0_i32_749
  let c0_i32_750 : BitVec 32 := 0#32
  let v1214 : BitVec 1 := Scalar.cmpi .slt v1210 c0_i32_750
  let v1215 : BitVec 1 := Scalar.xori v1213 v1214
  let c0_i32_748 : BitVec 32 := 0#32
  let v1212 : BitVec 1 := Scalar.cmpi .ne v1211 c0_i32_748
  let v1216 : BitVec 1 := Scalar.andi v1215 v1212
  let v1217 : BitVec 32 := Scalar.addi v1211 v1210
  let v1218 : BitVec 32 := Scalar.select v1216 v1217 v1211
  let c128_i32_755 : BitVec 32 := 128#32
  let v1226 : BitVec 32 := Scalar.muli v1218 c128_i32_755
  v1226
def k0_mult75 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_772 : BitVec 32 := 16#32
  let v1265 : BitVec 32 := Scalar.muli arg16 c16_i32_772
  let c13_i32 : BitVec 32 := 13#32
  let v1266 : BitVec 32 := Scalar.addi v1265 c13_i32
  let c128_i32_786 : BitVec 32 := 128#32
  let v1294 : BitVec 32 := Scalar.muli v1266 c128_i32_786
  v1294
def k0_mult76 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_772 : BitVec 32 := 16#32
  let v1265 : BitVec 32 := Scalar.muli arg16 c16_i32_772
  let c13_i32 : BitVec 32 := 13#32
  let v1266 : BitVec 32 := Scalar.addi v1265 c13_i32
  let c8_i32_780 : BitVec 32 := 8#32
  let c0_i32_781 : BitVec 32 := 0#32
  let v1284 : BitVec 1 := Scalar.cmpi .eq c8_i32_780 c0_i32_781
  let c1_i32_782 : BitVec 32 := 1#32
  let v1285 : BitVec 32 := Scalar.select v1284 c1_i32_782 c8_i32_780
  let v1286 : BitVec 32 := Scalar.remsi v1266 v1285
  let c0_i32_784 : BitVec 32 := 0#32
  let v1288 : BitVec 1 := Scalar.cmpi .slt v1286 c0_i32_784
  let c0_i32_785 : BitVec 32 := 0#32
  let v1289 : BitVec 1 := Scalar.cmpi .slt v1285 c0_i32_785
  let v1290 : BitVec 1 := Scalar.xori v1288 v1289
  let c0_i32_783 : BitVec 32 := 0#32
  let v1287 : BitVec 1 := Scalar.cmpi .ne v1286 c0_i32_783
  let v1291 : BitVec 1 := Scalar.andi v1290 v1287
  let v1292 : BitVec 32 := Scalar.addi v1286 v1285
  let v1293 : BitVec 32 := Scalar.select v1291 v1292 v1286
  let c128_i32_790 : BitVec 32 := 128#32
  let v1301 : BitVec 32 := Scalar.muli v1293 c128_i32_790
  v1301
def k0_mult77 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_807 : BitVec 32 := 16#32
  let v1340 : BitVec 32 := Scalar.muli arg16 c16_i32_807
  let c14_i32 : BitVec 32 := 14#32
  let v1341 : BitVec 32 := Scalar.addi v1340 c14_i32
  let c128_i32_821 : BitVec 32 := 128#32
  let v1369 : BitVec 32 := Scalar.muli v1341 c128_i32_821
  v1369
def k0_mult78 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_807 : BitVec 32 := 16#32
  let v1340 : BitVec 32 := Scalar.muli arg16 c16_i32_807
  let c14_i32 : BitVec 32 := 14#32
  let v1341 : BitVec 32 := Scalar.addi v1340 c14_i32
  let c8_i32_815 : BitVec 32 := 8#32
  let c0_i32_816 : BitVec 32 := 0#32
  let v1359 : BitVec 1 := Scalar.cmpi .eq c8_i32_815 c0_i32_816
  let c1_i32_817 : BitVec 32 := 1#32
  let v1360 : BitVec 32 := Scalar.select v1359 c1_i32_817 c8_i32_815
  let v1361 : BitVec 32 := Scalar.remsi v1341 v1360
  let c0_i32_819 : BitVec 32 := 0#32
  let v1363 : BitVec 1 := Scalar.cmpi .slt v1361 c0_i32_819
  let c0_i32_820 : BitVec 32 := 0#32
  let v1364 : BitVec 1 := Scalar.cmpi .slt v1360 c0_i32_820
  let v1365 : BitVec 1 := Scalar.xori v1363 v1364
  let c0_i32_818 : BitVec 32 := 0#32
  let v1362 : BitVec 1 := Scalar.cmpi .ne v1361 c0_i32_818
  let v1366 : BitVec 1 := Scalar.andi v1365 v1362
  let v1367 : BitVec 32 := Scalar.addi v1361 v1360
  let v1368 : BitVec 32 := Scalar.select v1366 v1367 v1361
  let c128_i32_825 : BitVec 32 := 128#32
  let v1376 : BitVec 32 := Scalar.muli v1368 c128_i32_825
  v1376
def k0_mult79 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_842 : BitVec 32 := 16#32
  let v1415 : BitVec 32 := Scalar.muli arg16 c16_i32_842
  let c15_i32 : BitVec 32 := 15#32
  let v1416 : BitVec 32 := Scalar.addi v1415 c15_i32
  let c128_i32_856 : BitVec 32 := 128#32
  let v1444 : BitVec 32 := Scalar.muli v1416 c128_i32_856
  v1444
def k0_mult80 (k0_t2 : Fin k0_t2_loop.trips) : BitVec 32 :=
  let c0_i32_91 : BitVec 32 := 0#32
  let c1_i32_93 : BitVec 32 := 1#32
  let arg16 : BitVec 32 := Scf.iv c0_i32_91 c1_i32_93 k0_t2
  let c16_i32_842 : BitVec 32 := 16#32
  let v1415 : BitVec 32 := Scalar.muli arg16 c16_i32_842
  let c15_i32 : BitVec 32 := 15#32
  let v1416 : BitVec 32 := Scalar.addi v1415 c15_i32
  let c8_i32_850 : BitVec 32 := 8#32
  let c0_i32_851 : BitVec 32 := 0#32
  let v1434 : BitVec 1 := Scalar.cmpi .eq c8_i32_850 c0_i32_851
  let c1_i32_852 : BitVec 32 := 1#32
  let v1435 : BitVec 32 := Scalar.select v1434 c1_i32_852 c8_i32_850
  let v1436 : BitVec 32 := Scalar.remsi v1416 v1435
  let c0_i32_854 : BitVec 32 := 0#32
  let v1438 : BitVec 1 := Scalar.cmpi .slt v1436 c0_i32_854
  let c0_i32_855 : BitVec 32 := 0#32
  let v1439 : BitVec 1 := Scalar.cmpi .slt v1435 c0_i32_855
  let v1440 : BitVec 1 := Scalar.xori v1438 v1439
  let c0_i32_853 : BitVec 32 := 0#32
  let v1437 : BitVec 1 := Scalar.cmpi .ne v1436 c0_i32_853
  let v1441 : BitVec 1 := Scalar.andi v1440 v1437
  let v1442 : BitVec 32 := Scalar.addi v1436 v1435
  let v1443 : BitVec 32 := Scalar.select v1441 v1442 v1436
  let c128_i32_860 : BitVec 32 := 128#32
  let v1451 : BitVec 32 := Scalar.muli v1443 c128_i32_860
  v1451
def k0_off9 (i : grid0.Coords) : Fin 2 → Nat :=
  let c2_295 : Index := 2#32
  let arg1 : BitVec 32 := BitVec.ofNat 32 (i 1).val
  let v264 : Index := Scalar.indexCast arg1
  ![2, v264.toNat]
@[reducible] def k0_t3_loop : Scf.Loop 32 :=
  let c0_i32_308 : BitVec 32 := 0#32
  let c2_i32_309 : BitVec 32 := 2#32
  let v288 : BitVec 32 := Scalar.addi c0_i32_308 c2_i32_309
  let c1_i32_310 : BitVec 32 := 1#32
  ⟨c0_i32_308, v288, c1_i32_310⟩
def k0_mult81 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32 : BitVec 32 := 16#32
  let v290 : BitVec 32 := Scalar.muli arg16 c16_i32
  let c0_i32_315 : BitVec 32 := 0#32
  let v291 : BitVec 32 := Scalar.addi v290 c0_i32_315
  let c128_i32_329 : BitVec 32 := 128#32
  let v319 : BitVec 32 := Scalar.muli v291 c128_i32_329
  v319
def k0_off10 (k0_t3 : Fin k0_t3_loop.trips) (c0_i32_315 : BitVec 32) : Fin 2 → Nat :=
  let c0_i32_308 : BitVec 32 := 0#32
  let c1_i32_310 : BitVec 32 := 1#32
  let arg16 : BitVec 32 := Scf.iv c0_i32_308 c1_i32_310 k0_t3
  let c16_i32 : BitVec 32 := 16#32
  let v290 : BitVec 32 := Scalar.muli arg16 c16_i32
  let v291 : BitVec 32 := Scalar.addi v290 c0_i32_315
  let c128_i32_329 : BitVec 32 := 128#32
  let v319 : BitVec 32 := Scalar.muli v291 c128_i32_329
  let v320 : BitVec 32 := v319
  let v323 : Index := Scalar.indexCast v320
  let c0_332 : Index := 0#32
  ![v323.toNat, 0]
def k0_mult82 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32 : BitVec 32 := 16#32
  let v290 : BitVec 32 := Scalar.muli arg16 c16_i32
  let c0_i32_315 : BitVec 32 := 0#32
  let v291 : BitVec 32 := Scalar.addi v290 c0_i32_315
  let c2_i32_323 : BitVec 32 := 2#32
  let c0_i32_324 : BitVec 32 := 0#32
  let v309 : BitVec 1 := Scalar.cmpi .eq c2_i32_323 c0_i32_324
  let c1_i32_325 : BitVec 32 := 1#32
  let v310 : BitVec 32 := Scalar.select v309 c1_i32_325 c2_i32_323
  let v311 : BitVec 32 := Scalar.remsi v291 v310
  let c0_i32_327 : BitVec 32 := 0#32
  let v313 : BitVec 1 := Scalar.cmpi .slt v311 c0_i32_327
  let c0_i32_328 : BitVec 32 := 0#32
  let v314 : BitVec 1 := Scalar.cmpi .slt v310 c0_i32_328
  let v315 : BitVec 1 := Scalar.xori v313 v314
  let c0_i32_326 : BitVec 32 := 0#32
  let v312 : BitVec 1 := Scalar.cmpi .ne v311 c0_i32_326
  let v316 : BitVec 1 := Scalar.andi v315 v312
  let v317 : BitVec 32 := Scalar.addi v311 v310
  let v318 : BitVec 32 := Scalar.select v316 v317 v311
  let c128_i32_333 : BitVec 32 := 128#32
  let v326 : BitVec 32 := Scalar.muli v318 c128_i32_333
  v326
def k0_off11 (k0_t3 : Fin k0_t3_loop.trips) (c0_i32_315 : BitVec 32) : Fin 3 → Nat :=
  let c0_i32_308 : BitVec 32 := 0#32
  let c1_i32_310 : BitVec 32 := 1#32
  let arg16 : BitVec 32 := Scf.iv c0_i32_308 c1_i32_310 k0_t3
  let c16_i32 : BitVec 32 := 16#32
  let v290 : BitVec 32 := Scalar.muli arg16 c16_i32
  let v291 : BitVec 32 := Scalar.addi v290 c0_i32_315
  let c0_i32_317 : BitVec 32 := 0#32
  let v293 : BitVec 1 := Scalar.cmpi .sgt v291 c0_i32_317
  let v294 : BitVec 32 := Scalar.extui v293
  let c0_i32_318 : BitVec 32 := 0#32
  let v295 : BitVec 1 := Scalar.cmpi .slt v291 c0_i32_318
  let v296 : BitVec 32 := Scalar.extui v295
  let v297 : BitVec 32 := Scalar.subi v294 v296
  let c2_i32_316 : BitVec 32 := 2#32
  let c0_i32_319 : BitVec 32 := 0#32
  let v298 : BitVec 1 := Scalar.cmpi .sgt c2_i32_316 c0_i32_319
  let v299 : BitVec 32 := Scalar.extui v298
  let c0_i32_320 : BitVec 32 := 0#32
  let v300 : BitVec 1 := Scalar.cmpi .slt c2_i32_316 c0_i32_320
  let v301 : BitVec 32 := Scalar.extui v300
  let v302 : BitVec 32 := Scalar.subi v299 v301
  let v303 : BitVec 1 := Scalar.cmpi .ne v297 v302
  let v304 : BitVec 32 := Scalar.remsi v291 c2_i32_316
  let c0_i32_321 : BitVec 32 := 0#32
  let v305 : BitVec 1 := Scalar.cmpi .ne v304 c0_i32_321
  let v306 : BitVec 1 := Scalar.andi v303 v305
  let v292 : BitVec 32 := Scalar.divsi v291 c2_i32_316
  let c1_i32_322 : BitVec 32 := 1#32
  let v307 : BitVec 32 := Scalar.subi v292 c1_i32_322
  let v308 : BitVec 32 := Scalar.select v306 v307 v292
  let v330 : Index := Scalar.indexCast v308
  let c2_i32_323 : BitVec 32 := 2#32
  let c0_i32_324 : BitVec 32 := 0#32
  let v309 : BitVec 1 := Scalar.cmpi .eq c2_i32_323 c0_i32_324
  let c1_i32_325 : BitVec 32 := 1#32
  let v310 : BitVec 32 := Scalar.select v309 c1_i32_325 c2_i32_323
  let v311 : BitVec 32 := Scalar.remsi v291 v310
  let c0_i32_327 : BitVec 32 := 0#32
  let v313 : BitVec 1 := Scalar.cmpi .slt v311 c0_i32_327
  let c0_i32_328 : BitVec 32 := 0#32
  let v314 : BitVec 1 := Scalar.cmpi .slt v310 c0_i32_328
  let v315 : BitVec 1 := Scalar.xori v313 v314
  let c0_i32_326 : BitVec 32 := 0#32
  let v312 : BitVec 1 := Scalar.cmpi .ne v311 c0_i32_326
  let v316 : BitVec 1 := Scalar.andi v315 v312
  let v317 : BitVec 32 := Scalar.addi v311 v310
  let v318 : BitVec 32 := Scalar.select v316 v317 v311
  let c128_i32_333 : BitVec 32 := 128#32
  let v326 : BitVec 32 := Scalar.muli v318 c128_i32_333
  let v327 : BitVec 32 := v326
  let v331 : Index := Scalar.indexCast v327
  let c0_337 : Index := 0#32
  ![v330.toNat, v331.toNat, 0]
def k0_off12 (k0_t3 : Fin k0_t3_loop.trips) (c0_i32_315 : BitVec 32) : Fin 3 → Nat :=
  let c2_345 : Index := 2#32
  let c0_i32_308 : BitVec 32 := 0#32
  let c1_i32_310 : BitVec 32 := 1#32
  let arg16 : BitVec 32 := Scf.iv c0_i32_308 c1_i32_310 k0_t3
  let c16_i32 : BitVec 32 := 16#32
  let v290 : BitVec 32 := Scalar.muli arg16 c16_i32
  let v291 : BitVec 32 := Scalar.addi v290 c0_i32_315
  let c0_i32_317 : BitVec 32 := 0#32
  let v293 : BitVec 1 := Scalar.cmpi .sgt v291 c0_i32_317
  let v294 : BitVec 32 := Scalar.extui v293
  let c0_i32_318 : BitVec 32 := 0#32
  let v295 : BitVec 1 := Scalar.cmpi .slt v291 c0_i32_318
  let v296 : BitVec 32 := Scalar.extui v295
  let v297 : BitVec 32 := Scalar.subi v294 v296
  let c2_i32_316 : BitVec 32 := 2#32
  let c0_i32_319 : BitVec 32 := 0#32
  let v298 : BitVec 1 := Scalar.cmpi .sgt c2_i32_316 c0_i32_319
  let v299 : BitVec 32 := Scalar.extui v298
  let c0_i32_320 : BitVec 32 := 0#32
  let v300 : BitVec 1 := Scalar.cmpi .slt c2_i32_316 c0_i32_320
  let v301 : BitVec 32 := Scalar.extui v300
  let v302 : BitVec 32 := Scalar.subi v299 v301
  let v303 : BitVec 1 := Scalar.cmpi .ne v297 v302
  let v304 : BitVec 32 := Scalar.remsi v291 c2_i32_316
  let c0_i32_321 : BitVec 32 := 0#32
  let v305 : BitVec 1 := Scalar.cmpi .ne v304 c0_i32_321
  let v306 : BitVec 1 := Scalar.andi v303 v305
  let v292 : BitVec 32 := Scalar.divsi v291 c2_i32_316
  let c1_i32_322 : BitVec 32 := 1#32
  let v307 : BitVec 32 := Scalar.subi v292 c1_i32_322
  let v308 : BitVec 32 := Scalar.select v306 v307 v292
  let c2_i32_323 : BitVec 32 := 2#32
  let c0_i32_324 : BitVec 32 := 0#32
  let v309 : BitVec 1 := Scalar.cmpi .eq c2_i32_323 c0_i32_324
  let c1_i32_325 : BitVec 32 := 1#32
  let v310 : BitVec 32 := Scalar.select v309 c1_i32_325 c2_i32_323
  let v311 : BitVec 32 := Scalar.remsi v291 v310
  let c0_i32_327 : BitVec 32 := 0#32
  let v313 : BitVec 1 := Scalar.cmpi .slt v311 c0_i32_327
  let c0_i32_328 : BitVec 32 := 0#32
  let v314 : BitVec 1 := Scalar.cmpi .slt v310 c0_i32_328
  let v315 : BitVec 1 := Scalar.xori v313 v314
  let c0_i32_326 : BitVec 32 := 0#32
  let v312 : BitVec 1 := Scalar.cmpi .ne v311 c0_i32_326
  let v316 : BitVec 1 := Scalar.andi v315 v312
  let v317 : BitVec 32 := Scalar.addi v311 v310
  let v318 : BitVec 32 := Scalar.select v316 v317 v311
  let c2048_i32 : BitVec 32 := 2048#32
  let v350 : BitVec 32 := Scalar.muli v318 c2048_i32
  let v351 : BitVec 32 := Scalar.addi v308 v350
  let v354 : Index := Scalar.indexCast v351
  let c0_346 : Index := 0#32
  ![2, v354.toNat, 0]
def k0_mult83 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_349 : BitVec 32 := 16#32
  let v365 : BitVec 32 := Scalar.muli arg16 c16_i32_349
  let c1_i32_350 : BitVec 32 := 1#32
  let v366 : BitVec 32 := Scalar.addi v365 c1_i32_350
  let c128_i32_364 : BitVec 32 := 128#32
  let v394 : BitVec 32 := Scalar.muli v366 c128_i32_364
  v394
def k0_mult84 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_349 : BitVec 32 := 16#32
  let v365 : BitVec 32 := Scalar.muli arg16 c16_i32_349
  let c1_i32_350 : BitVec 32 := 1#32
  let v366 : BitVec 32 := Scalar.addi v365 c1_i32_350
  let c2_i32_358 : BitVec 32 := 2#32
  let c0_i32_359 : BitVec 32 := 0#32
  let v384 : BitVec 1 := Scalar.cmpi .eq c2_i32_358 c0_i32_359
  let c1_i32_360 : BitVec 32 := 1#32
  let v385 : BitVec 32 := Scalar.select v384 c1_i32_360 c2_i32_358
  let v386 : BitVec 32 := Scalar.remsi v366 v385
  let c0_i32_362 : BitVec 32 := 0#32
  let v388 : BitVec 1 := Scalar.cmpi .slt v386 c0_i32_362
  let c0_i32_363 : BitVec 32 := 0#32
  let v389 : BitVec 1 := Scalar.cmpi .slt v385 c0_i32_363
  let v390 : BitVec 1 := Scalar.xori v388 v389
  let c0_i32_361 : BitVec 32 := 0#32
  let v387 : BitVec 1 := Scalar.cmpi .ne v386 c0_i32_361
  let v391 : BitVec 1 := Scalar.andi v390 v387
  let v392 : BitVec 32 := Scalar.addi v386 v385
  let v393 : BitVec 32 := Scalar.select v391 v392 v386
  let c128_i32_368 : BitVec 32 := 128#32
  let v401 : BitVec 32 := Scalar.muli v393 c128_i32_368
  v401
def k0_mult85 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_385 : BitVec 32 := 16#32
  let v440 : BitVec 32 := Scalar.muli arg16 c16_i32_385
  let c2_i32_386 : BitVec 32 := 2#32
  let v441 : BitVec 32 := Scalar.addi v440 c2_i32_386
  let c128_i32_400 : BitVec 32 := 128#32
  let v469 : BitVec 32 := Scalar.muli v441 c128_i32_400
  v469
def k0_mult86 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_385 : BitVec 32 := 16#32
  let v440 : BitVec 32 := Scalar.muli arg16 c16_i32_385
  let c2_i32_386 : BitVec 32 := 2#32
  let v441 : BitVec 32 := Scalar.addi v440 c2_i32_386
  let c2_i32_394 : BitVec 32 := 2#32
  let c0_i32_395 : BitVec 32 := 0#32
  let v459 : BitVec 1 := Scalar.cmpi .eq c2_i32_394 c0_i32_395
  let c1_i32_396 : BitVec 32 := 1#32
  let v460 : BitVec 32 := Scalar.select v459 c1_i32_396 c2_i32_394
  let v461 : BitVec 32 := Scalar.remsi v441 v460
  let c0_i32_398 : BitVec 32 := 0#32
  let v463 : BitVec 1 := Scalar.cmpi .slt v461 c0_i32_398
  let c0_i32_399 : BitVec 32 := 0#32
  let v464 : BitVec 1 := Scalar.cmpi .slt v460 c0_i32_399
  let v465 : BitVec 1 := Scalar.xori v463 v464
  let c0_i32_397 : BitVec 32 := 0#32
  let v462 : BitVec 1 := Scalar.cmpi .ne v461 c0_i32_397
  let v466 : BitVec 1 := Scalar.andi v465 v462
  let v467 : BitVec 32 := Scalar.addi v461 v460
  let v468 : BitVec 32 := Scalar.select v466 v467 v461
  let c128_i32_404 : BitVec 32 := 128#32
  let v476 : BitVec 32 := Scalar.muli v468 c128_i32_404
  v476
def k0_mult87 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_421 : BitVec 32 := 16#32
  let v515 : BitVec 32 := Scalar.muli arg16 c16_i32_421
  let c3_i32 : BitVec 32 := 3#32
  let v516 : BitVec 32 := Scalar.addi v515 c3_i32
  let c128_i32_435 : BitVec 32 := 128#32
  let v544 : BitVec 32 := Scalar.muli v516 c128_i32_435
  v544
def k0_mult88 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_421 : BitVec 32 := 16#32
  let v515 : BitVec 32 := Scalar.muli arg16 c16_i32_421
  let c3_i32 : BitVec 32 := 3#32
  let v516 : BitVec 32 := Scalar.addi v515 c3_i32
  let c2_i32_429 : BitVec 32 := 2#32
  let c0_i32_430 : BitVec 32 := 0#32
  let v534 : BitVec 1 := Scalar.cmpi .eq c2_i32_429 c0_i32_430
  let c1_i32_431 : BitVec 32 := 1#32
  let v535 : BitVec 32 := Scalar.select v534 c1_i32_431 c2_i32_429
  let v536 : BitVec 32 := Scalar.remsi v516 v535
  let c0_i32_433 : BitVec 32 := 0#32
  let v538 : BitVec 1 := Scalar.cmpi .slt v536 c0_i32_433
  let c0_i32_434 : BitVec 32 := 0#32
  let v539 : BitVec 1 := Scalar.cmpi .slt v535 c0_i32_434
  let v540 : BitVec 1 := Scalar.xori v538 v539
  let c0_i32_432 : BitVec 32 := 0#32
  let v537 : BitVec 1 := Scalar.cmpi .ne v536 c0_i32_432
  let v541 : BitVec 1 := Scalar.andi v540 v537
  let v542 : BitVec 32 := Scalar.addi v536 v535
  let v543 : BitVec 32 := Scalar.select v541 v542 v536
  let c128_i32_439 : BitVec 32 := 128#32
  let v551 : BitVec 32 := Scalar.muli v543 c128_i32_439
  v551
def k0_mult89 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_456 : BitVec 32 := 16#32
  let v590 : BitVec 32 := Scalar.muli arg16 c16_i32_456
  let c4_i32 : BitVec 32 := 4#32
  let v591 : BitVec 32 := Scalar.addi v590 c4_i32
  let c128_i32_470 : BitVec 32 := 128#32
  let v619 : BitVec 32 := Scalar.muli v591 c128_i32_470
  v619
def k0_mult90 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_456 : BitVec 32 := 16#32
  let v590 : BitVec 32 := Scalar.muli arg16 c16_i32_456
  let c4_i32 : BitVec 32 := 4#32
  let v591 : BitVec 32 := Scalar.addi v590 c4_i32
  let c2_i32_464 : BitVec 32 := 2#32
  let c0_i32_465 : BitVec 32 := 0#32
  let v609 : BitVec 1 := Scalar.cmpi .eq c2_i32_464 c0_i32_465
  let c1_i32_466 : BitVec 32 := 1#32
  let v610 : BitVec 32 := Scalar.select v609 c1_i32_466 c2_i32_464
  let v611 : BitVec 32 := Scalar.remsi v591 v610
  let c0_i32_468 : BitVec 32 := 0#32
  let v613 : BitVec 1 := Scalar.cmpi .slt v611 c0_i32_468
  let c0_i32_469 : BitVec 32 := 0#32
  let v614 : BitVec 1 := Scalar.cmpi .slt v610 c0_i32_469
  let v615 : BitVec 1 := Scalar.xori v613 v614
  let c0_i32_467 : BitVec 32 := 0#32
  let v612 : BitVec 1 := Scalar.cmpi .ne v611 c0_i32_467
  let v616 : BitVec 1 := Scalar.andi v615 v612
  let v617 : BitVec 32 := Scalar.addi v611 v610
  let v618 : BitVec 32 := Scalar.select v616 v617 v611
  let c128_i32_474 : BitVec 32 := 128#32
  let v626 : BitVec 32 := Scalar.muli v618 c128_i32_474
  v626
def k0_mult91 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_491 : BitVec 32 := 16#32
  let v665 : BitVec 32 := Scalar.muli arg16 c16_i32_491
  let c5_i32 : BitVec 32 := 5#32
  let v666 : BitVec 32 := Scalar.addi v665 c5_i32
  let c128_i32_505 : BitVec 32 := 128#32
  let v694 : BitVec 32 := Scalar.muli v666 c128_i32_505
  v694
def k0_mult92 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_491 : BitVec 32 := 16#32
  let v665 : BitVec 32 := Scalar.muli arg16 c16_i32_491
  let c5_i32 : BitVec 32 := 5#32
  let v666 : BitVec 32 := Scalar.addi v665 c5_i32
  let c2_i32_499 : BitVec 32 := 2#32
  let c0_i32_500 : BitVec 32 := 0#32
  let v684 : BitVec 1 := Scalar.cmpi .eq c2_i32_499 c0_i32_500
  let c1_i32_501 : BitVec 32 := 1#32
  let v685 : BitVec 32 := Scalar.select v684 c1_i32_501 c2_i32_499
  let v686 : BitVec 32 := Scalar.remsi v666 v685
  let c0_i32_503 : BitVec 32 := 0#32
  let v688 : BitVec 1 := Scalar.cmpi .slt v686 c0_i32_503
  let c0_i32_504 : BitVec 32 := 0#32
  let v689 : BitVec 1 := Scalar.cmpi .slt v685 c0_i32_504
  let v690 : BitVec 1 := Scalar.xori v688 v689
  let c0_i32_502 : BitVec 32 := 0#32
  let v687 : BitVec 1 := Scalar.cmpi .ne v686 c0_i32_502
  let v691 : BitVec 1 := Scalar.andi v690 v687
  let v692 : BitVec 32 := Scalar.addi v686 v685
  let v693 : BitVec 32 := Scalar.select v691 v692 v686
  let c128_i32_509 : BitVec 32 := 128#32
  let v701 : BitVec 32 := Scalar.muli v693 c128_i32_509
  v701
def k0_mult93 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_526 : BitVec 32 := 16#32
  let v740 : BitVec 32 := Scalar.muli arg16 c16_i32_526
  let c6_i32 : BitVec 32 := 6#32
  let v741 : BitVec 32 := Scalar.addi v740 c6_i32
  let c128_i32_540 : BitVec 32 := 128#32
  let v769 : BitVec 32 := Scalar.muli v741 c128_i32_540
  v769
def k0_mult94 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_526 : BitVec 32 := 16#32
  let v740 : BitVec 32 := Scalar.muli arg16 c16_i32_526
  let c6_i32 : BitVec 32 := 6#32
  let v741 : BitVec 32 := Scalar.addi v740 c6_i32
  let c2_i32_534 : BitVec 32 := 2#32
  let c0_i32_535 : BitVec 32 := 0#32
  let v759 : BitVec 1 := Scalar.cmpi .eq c2_i32_534 c0_i32_535
  let c1_i32_536 : BitVec 32 := 1#32
  let v760 : BitVec 32 := Scalar.select v759 c1_i32_536 c2_i32_534
  let v761 : BitVec 32 := Scalar.remsi v741 v760
  let c0_i32_538 : BitVec 32 := 0#32
  let v763 : BitVec 1 := Scalar.cmpi .slt v761 c0_i32_538
  let c0_i32_539 : BitVec 32 := 0#32
  let v764 : BitVec 1 := Scalar.cmpi .slt v760 c0_i32_539
  let v765 : BitVec 1 := Scalar.xori v763 v764
  let c0_i32_537 : BitVec 32 := 0#32
  let v762 : BitVec 1 := Scalar.cmpi .ne v761 c0_i32_537
  let v766 : BitVec 1 := Scalar.andi v765 v762
  let v767 : BitVec 32 := Scalar.addi v761 v760
  let v768 : BitVec 32 := Scalar.select v766 v767 v761
  let c128_i32_544 : BitVec 32 := 128#32
  let v776 : BitVec 32 := Scalar.muli v768 c128_i32_544
  v776
def k0_mult95 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_561 : BitVec 32 := 16#32
  let v815 : BitVec 32 := Scalar.muli arg16 c16_i32_561
  let c7_i32 : BitVec 32 := 7#32
  let v816 : BitVec 32 := Scalar.addi v815 c7_i32
  let c128_i32_575 : BitVec 32 := 128#32
  let v844 : BitVec 32 := Scalar.muli v816 c128_i32_575
  v844
def k0_mult96 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_561 : BitVec 32 := 16#32
  let v815 : BitVec 32 := Scalar.muli arg16 c16_i32_561
  let c7_i32 : BitVec 32 := 7#32
  let v816 : BitVec 32 := Scalar.addi v815 c7_i32
  let c2_i32_569 : BitVec 32 := 2#32
  let c0_i32_570 : BitVec 32 := 0#32
  let v834 : BitVec 1 := Scalar.cmpi .eq c2_i32_569 c0_i32_570
  let c1_i32_571 : BitVec 32 := 1#32
  let v835 : BitVec 32 := Scalar.select v834 c1_i32_571 c2_i32_569
  let v836 : BitVec 32 := Scalar.remsi v816 v835
  let c0_i32_573 : BitVec 32 := 0#32
  let v838 : BitVec 1 := Scalar.cmpi .slt v836 c0_i32_573
  let c0_i32_574 : BitVec 32 := 0#32
  let v839 : BitVec 1 := Scalar.cmpi .slt v835 c0_i32_574
  let v840 : BitVec 1 := Scalar.xori v838 v839
  let c0_i32_572 : BitVec 32 := 0#32
  let v837 : BitVec 1 := Scalar.cmpi .ne v836 c0_i32_572
  let v841 : BitVec 1 := Scalar.andi v840 v837
  let v842 : BitVec 32 := Scalar.addi v836 v835
  let v843 : BitVec 32 := Scalar.select v841 v842 v836
  let c128_i32_579 : BitVec 32 := 128#32
  let v851 : BitVec 32 := Scalar.muli v843 c128_i32_579
  v851
def k0_mult97 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_596 : BitVec 32 := 16#32
  let v890 : BitVec 32 := Scalar.muli arg16 c16_i32_596
  let c8_i32_597 : BitVec 32 := 8#32
  let v891 : BitVec 32 := Scalar.addi v890 c8_i32_597
  let c128_i32_611 : BitVec 32 := 128#32
  let v919 : BitVec 32 := Scalar.muli v891 c128_i32_611
  v919
def k0_mult98 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_596 : BitVec 32 := 16#32
  let v890 : BitVec 32 := Scalar.muli arg16 c16_i32_596
  let c8_i32_597 : BitVec 32 := 8#32
  let v891 : BitVec 32 := Scalar.addi v890 c8_i32_597
  let c2_i32_605 : BitVec 32 := 2#32
  let c0_i32_606 : BitVec 32 := 0#32
  let v909 : BitVec 1 := Scalar.cmpi .eq c2_i32_605 c0_i32_606
  let c1_i32_607 : BitVec 32 := 1#32
  let v910 : BitVec 32 := Scalar.select v909 c1_i32_607 c2_i32_605
  let v911 : BitVec 32 := Scalar.remsi v891 v910
  let c0_i32_609 : BitVec 32 := 0#32
  let v913 : BitVec 1 := Scalar.cmpi .slt v911 c0_i32_609
  let c0_i32_610 : BitVec 32 := 0#32
  let v914 : BitVec 1 := Scalar.cmpi .slt v910 c0_i32_610
  let v915 : BitVec 1 := Scalar.xori v913 v914
  let c0_i32_608 : BitVec 32 := 0#32
  let v912 : BitVec 1 := Scalar.cmpi .ne v911 c0_i32_608
  let v916 : BitVec 1 := Scalar.andi v915 v912
  let v917 : BitVec 32 := Scalar.addi v911 v910
  let v918 : BitVec 32 := Scalar.select v916 v917 v911
  let c128_i32_615 : BitVec 32 := 128#32
  let v926 : BitVec 32 := Scalar.muli v918 c128_i32_615
  v926
def k0_mult99 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_632 : BitVec 32 := 16#32
  let v965 : BitVec 32 := Scalar.muli arg16 c16_i32_632
  let c9_i32 : BitVec 32 := 9#32
  let v966 : BitVec 32 := Scalar.addi v965 c9_i32
  let c128_i32_646 : BitVec 32 := 128#32
  let v994 : BitVec 32 := Scalar.muli v966 c128_i32_646
  v994
def k0_mult100 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_632 : BitVec 32 := 16#32
  let v965 : BitVec 32 := Scalar.muli arg16 c16_i32_632
  let c9_i32 : BitVec 32 := 9#32
  let v966 : BitVec 32 := Scalar.addi v965 c9_i32
  let c2_i32_640 : BitVec 32 := 2#32
  let c0_i32_641 : BitVec 32 := 0#32
  let v984 : BitVec 1 := Scalar.cmpi .eq c2_i32_640 c0_i32_641
  let c1_i32_642 : BitVec 32 := 1#32
  let v985 : BitVec 32 := Scalar.select v984 c1_i32_642 c2_i32_640
  let v986 : BitVec 32 := Scalar.remsi v966 v985
  let c0_i32_644 : BitVec 32 := 0#32
  let v988 : BitVec 1 := Scalar.cmpi .slt v986 c0_i32_644
  let c0_i32_645 : BitVec 32 := 0#32
  let v989 : BitVec 1 := Scalar.cmpi .slt v985 c0_i32_645
  let v990 : BitVec 1 := Scalar.xori v988 v989
  let c0_i32_643 : BitVec 32 := 0#32
  let v987 : BitVec 1 := Scalar.cmpi .ne v986 c0_i32_643
  let v991 : BitVec 1 := Scalar.andi v990 v987
  let v992 : BitVec 32 := Scalar.addi v986 v985
  let v993 : BitVec 32 := Scalar.select v991 v992 v986
  let c128_i32_650 : BitVec 32 := 128#32
  let v1001 : BitVec 32 := Scalar.muli v993 c128_i32_650
  v1001
def k0_mult101 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_667 : BitVec 32 := 16#32
  let v1040 : BitVec 32 := Scalar.muli arg16 c16_i32_667
  let c10_i32 : BitVec 32 := 10#32
  let v1041 : BitVec 32 := Scalar.addi v1040 c10_i32
  let c128_i32_681 : BitVec 32 := 128#32
  let v1069 : BitVec 32 := Scalar.muli v1041 c128_i32_681
  v1069
def k0_mult102 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_667 : BitVec 32 := 16#32
  let v1040 : BitVec 32 := Scalar.muli arg16 c16_i32_667
  let c10_i32 : BitVec 32 := 10#32
  let v1041 : BitVec 32 := Scalar.addi v1040 c10_i32
  let c2_i32_675 : BitVec 32 := 2#32
  let c0_i32_676 : BitVec 32 := 0#32
  let v1059 : BitVec 1 := Scalar.cmpi .eq c2_i32_675 c0_i32_676
  let c1_i32_677 : BitVec 32 := 1#32
  let v1060 : BitVec 32 := Scalar.select v1059 c1_i32_677 c2_i32_675
  let v1061 : BitVec 32 := Scalar.remsi v1041 v1060
  let c0_i32_679 : BitVec 32 := 0#32
  let v1063 : BitVec 1 := Scalar.cmpi .slt v1061 c0_i32_679
  let c0_i32_680 : BitVec 32 := 0#32
  let v1064 : BitVec 1 := Scalar.cmpi .slt v1060 c0_i32_680
  let v1065 : BitVec 1 := Scalar.xori v1063 v1064
  let c0_i32_678 : BitVec 32 := 0#32
  let v1062 : BitVec 1 := Scalar.cmpi .ne v1061 c0_i32_678
  let v1066 : BitVec 1 := Scalar.andi v1065 v1062
  let v1067 : BitVec 32 := Scalar.addi v1061 v1060
  let v1068 : BitVec 32 := Scalar.select v1066 v1067 v1061
  let c128_i32_685 : BitVec 32 := 128#32
  let v1076 : BitVec 32 := Scalar.muli v1068 c128_i32_685
  v1076
def k0_mult103 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_702 : BitVec 32 := 16#32
  let v1115 : BitVec 32 := Scalar.muli arg16 c16_i32_702
  let c11_i32 : BitVec 32 := 11#32
  let v1116 : BitVec 32 := Scalar.addi v1115 c11_i32
  let c128_i32_716 : BitVec 32 := 128#32
  let v1144 : BitVec 32 := Scalar.muli v1116 c128_i32_716
  v1144
def k0_mult104 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_702 : BitVec 32 := 16#32
  let v1115 : BitVec 32 := Scalar.muli arg16 c16_i32_702
  let c11_i32 : BitVec 32 := 11#32
  let v1116 : BitVec 32 := Scalar.addi v1115 c11_i32
  let c2_i32_710 : BitVec 32 := 2#32
  let c0_i32_711 : BitVec 32 := 0#32
  let v1134 : BitVec 1 := Scalar.cmpi .eq c2_i32_710 c0_i32_711
  let c1_i32_712 : BitVec 32 := 1#32
  let v1135 : BitVec 32 := Scalar.select v1134 c1_i32_712 c2_i32_710
  let v1136 : BitVec 32 := Scalar.remsi v1116 v1135
  let c0_i32_714 : BitVec 32 := 0#32
  let v1138 : BitVec 1 := Scalar.cmpi .slt v1136 c0_i32_714
  let c0_i32_715 : BitVec 32 := 0#32
  let v1139 : BitVec 1 := Scalar.cmpi .slt v1135 c0_i32_715
  let v1140 : BitVec 1 := Scalar.xori v1138 v1139
  let c0_i32_713 : BitVec 32 := 0#32
  let v1137 : BitVec 1 := Scalar.cmpi .ne v1136 c0_i32_713
  let v1141 : BitVec 1 := Scalar.andi v1140 v1137
  let v1142 : BitVec 32 := Scalar.addi v1136 v1135
  let v1143 : BitVec 32 := Scalar.select v1141 v1142 v1136
  let c128_i32_720 : BitVec 32 := 128#32
  let v1151 : BitVec 32 := Scalar.muli v1143 c128_i32_720
  v1151
def k0_mult105 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_737 : BitVec 32 := 16#32
  let v1190 : BitVec 32 := Scalar.muli arg16 c16_i32_737
  let c12_i32 : BitVec 32 := 12#32
  let v1191 : BitVec 32 := Scalar.addi v1190 c12_i32
  let c128_i32_751 : BitVec 32 := 128#32
  let v1219 : BitVec 32 := Scalar.muli v1191 c128_i32_751
  v1219
def k0_mult106 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_737 : BitVec 32 := 16#32
  let v1190 : BitVec 32 := Scalar.muli arg16 c16_i32_737
  let c12_i32 : BitVec 32 := 12#32
  let v1191 : BitVec 32 := Scalar.addi v1190 c12_i32
  let c2_i32_745 : BitVec 32 := 2#32
  let c0_i32_746 : BitVec 32 := 0#32
  let v1209 : BitVec 1 := Scalar.cmpi .eq c2_i32_745 c0_i32_746
  let c1_i32_747 : BitVec 32 := 1#32
  let v1210 : BitVec 32 := Scalar.select v1209 c1_i32_747 c2_i32_745
  let v1211 : BitVec 32 := Scalar.remsi v1191 v1210
  let c0_i32_749 : BitVec 32 := 0#32
  let v1213 : BitVec 1 := Scalar.cmpi .slt v1211 c0_i32_749
  let c0_i32_750 : BitVec 32 := 0#32
  let v1214 : BitVec 1 := Scalar.cmpi .slt v1210 c0_i32_750
  let v1215 : BitVec 1 := Scalar.xori v1213 v1214
  let c0_i32_748 : BitVec 32 := 0#32
  let v1212 : BitVec 1 := Scalar.cmpi .ne v1211 c0_i32_748
  let v1216 : BitVec 1 := Scalar.andi v1215 v1212
  let v1217 : BitVec 32 := Scalar.addi v1211 v1210
  let v1218 : BitVec 32 := Scalar.select v1216 v1217 v1211
  let c128_i32_755 : BitVec 32 := 128#32
  let v1226 : BitVec 32 := Scalar.muli v1218 c128_i32_755
  v1226
def k0_mult107 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_772 : BitVec 32 := 16#32
  let v1265 : BitVec 32 := Scalar.muli arg16 c16_i32_772
  let c13_i32 : BitVec 32 := 13#32
  let v1266 : BitVec 32 := Scalar.addi v1265 c13_i32
  let c128_i32_786 : BitVec 32 := 128#32
  let v1294 : BitVec 32 := Scalar.muli v1266 c128_i32_786
  v1294
def k0_mult108 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_772 : BitVec 32 := 16#32
  let v1265 : BitVec 32 := Scalar.muli arg16 c16_i32_772
  let c13_i32 : BitVec 32 := 13#32
  let v1266 : BitVec 32 := Scalar.addi v1265 c13_i32
  let c2_i32_780 : BitVec 32 := 2#32
  let c0_i32_781 : BitVec 32 := 0#32
  let v1284 : BitVec 1 := Scalar.cmpi .eq c2_i32_780 c0_i32_781
  let c1_i32_782 : BitVec 32 := 1#32
  let v1285 : BitVec 32 := Scalar.select v1284 c1_i32_782 c2_i32_780
  let v1286 : BitVec 32 := Scalar.remsi v1266 v1285
  let c0_i32_784 : BitVec 32 := 0#32
  let v1288 : BitVec 1 := Scalar.cmpi .slt v1286 c0_i32_784
  let c0_i32_785 : BitVec 32 := 0#32
  let v1289 : BitVec 1 := Scalar.cmpi .slt v1285 c0_i32_785
  let v1290 : BitVec 1 := Scalar.xori v1288 v1289
  let c0_i32_783 : BitVec 32 := 0#32
  let v1287 : BitVec 1 := Scalar.cmpi .ne v1286 c0_i32_783
  let v1291 : BitVec 1 := Scalar.andi v1290 v1287
  let v1292 : BitVec 32 := Scalar.addi v1286 v1285
  let v1293 : BitVec 32 := Scalar.select v1291 v1292 v1286
  let c128_i32_790 : BitVec 32 := 128#32
  let v1301 : BitVec 32 := Scalar.muli v1293 c128_i32_790
  v1301
def k0_mult109 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_807 : BitVec 32 := 16#32
  let v1340 : BitVec 32 := Scalar.muli arg16 c16_i32_807
  let c14_i32 : BitVec 32 := 14#32
  let v1341 : BitVec 32 := Scalar.addi v1340 c14_i32
  let c128_i32_821 : BitVec 32 := 128#32
  let v1369 : BitVec 32 := Scalar.muli v1341 c128_i32_821
  v1369
def k0_mult110 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_807 : BitVec 32 := 16#32
  let v1340 : BitVec 32 := Scalar.muli arg16 c16_i32_807
  let c14_i32 : BitVec 32 := 14#32
  let v1341 : BitVec 32 := Scalar.addi v1340 c14_i32
  let c2_i32_815 : BitVec 32 := 2#32
  let c0_i32_816 : BitVec 32 := 0#32
  let v1359 : BitVec 1 := Scalar.cmpi .eq c2_i32_815 c0_i32_816
  let c1_i32_817 : BitVec 32 := 1#32
  let v1360 : BitVec 32 := Scalar.select v1359 c1_i32_817 c2_i32_815
  let v1361 : BitVec 32 := Scalar.remsi v1341 v1360
  let c0_i32_819 : BitVec 32 := 0#32
  let v1363 : BitVec 1 := Scalar.cmpi .slt v1361 c0_i32_819
  let c0_i32_820 : BitVec 32 := 0#32
  let v1364 : BitVec 1 := Scalar.cmpi .slt v1360 c0_i32_820
  let v1365 : BitVec 1 := Scalar.xori v1363 v1364
  let c0_i32_818 : BitVec 32 := 0#32
  let v1362 : BitVec 1 := Scalar.cmpi .ne v1361 c0_i32_818
  let v1366 : BitVec 1 := Scalar.andi v1365 v1362
  let v1367 : BitVec 32 := Scalar.addi v1361 v1360
  let v1368 : BitVec 32 := Scalar.select v1366 v1367 v1361
  let c128_i32_825 : BitVec 32 := 128#32
  let v1376 : BitVec 32 := Scalar.muli v1368 c128_i32_825
  v1376
def k0_mult111 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_842 : BitVec 32 := 16#32
  let v1415 : BitVec 32 := Scalar.muli arg16 c16_i32_842
  let c15_i32 : BitVec 32 := 15#32
  let v1416 : BitVec 32 := Scalar.addi v1415 c15_i32
  let c128_i32_856 : BitVec 32 := 128#32
  let v1444 : BitVec 32 := Scalar.muli v1416 c128_i32_856
  v1444
def k0_mult112 (k0_t3 : Fin k0_t3_loop.trips) : BitVec 32 :=
  let c0_i32_308 : BitVec 32 := 0#32
  let c1_i32_310 : BitVec 32 := 1#32
  let arg16 : BitVec 32 := Scf.iv c0_i32_308 c1_i32_310 k0_t3
  let c16_i32_842 : BitVec 32 := 16#32
  let v1415 : BitVec 32 := Scalar.muli arg16 c16_i32_842
  let c15_i32 : BitVec 32 := 15#32
  let v1416 : BitVec 32 := Scalar.addi v1415 c15_i32
  let c2_i32_850 : BitVec 32 := 2#32
  let c0_i32_851 : BitVec 32 := 0#32
  let v1434 : BitVec 1 := Scalar.cmpi .eq c2_i32_850 c0_i32_851
  let c1_i32_852 : BitVec 32 := 1#32
  let v1435 : BitVec 32 := Scalar.select v1434 c1_i32_852 c2_i32_850
  let v1436 : BitVec 32 := Scalar.remsi v1416 v1435
  let c0_i32_854 : BitVec 32 := 0#32
  let v1438 : BitVec 1 := Scalar.cmpi .slt v1436 c0_i32_854
  let c0_i32_855 : BitVec 32 := 0#32
  let v1439 : BitVec 1 := Scalar.cmpi .slt v1435 c0_i32_855
  let v1440 : BitVec 1 := Scalar.xori v1438 v1439
  let c0_i32_853 : BitVec 32 := 0#32
  let v1437 : BitVec 1 := Scalar.cmpi .ne v1436 c0_i32_853
  let v1441 : BitVec 1 := Scalar.andi v1440 v1437
  let v1442 : BitVec 32 := Scalar.addi v1436 v1435
  let v1443 : BitVec 32 := Scalar.select v1441 v1442 v1436
  let c128_i32_860 : BitVec 32 := 128#32
  let v1451 : BitVec 32 := Scalar.muli v1443 c128_i32_860
  v1451
@[reducible] def k0_t4_loop : Scf.Loop 32 :=
  let c0_i32_312 : BitVec 32 := 0#32
  let c8_i32 : BitVec 32 := 8#32
  let v289 : BitVec 32 := Scalar.addi c0_i32_312 c8_i32
  let c1_i32_313 : BitVec 32 := 1#32
  ⟨c0_i32_312, v289, c1_i32_313⟩
def k0_mult113 (k0_t4 : Fin k0_t4_loop.trips) : BitVec 32 :=
  let c0_i32_312 : BitVec 32 := 0#32
  let c1_i32_313 : BitVec 32 := 1#32
  let arg16 : BitVec 32 := Scf.iv c0_i32_312 c1_i32_313 k0_t4
  let c512_i32 : BitVec 32 := 512#32
  let v290 : BitVec 32 := Scalar.muli arg16 c512_i32
  v290
def k0_off13 (k0_t4 : Fin k0_t4_loop.trips) : Fin 3 → Nat :=
  let c0_315 : Index := 0#32
  let c0_i32_312 : BitVec 32 := 0#32
  let c1_i32_313 : BitVec 32 := 1#32
  let arg16 : BitVec 32 := Scf.iv c0_i32_312 c1_i32_313 k0_t4
  let c512_i32 : BitVec 32 := 512#32
  let v290 : BitVec 32 := Scalar.muli arg16 c512_i32
  let v291 : BitVec 32 := v290
  let v292 : Index := Scalar.indexCast v291
  let c0_316 : Index := 0#32
  ![0, v292.toNat, 0]
def k0_off14 (k0_t4 : Fin k0_t4_loop.trips) : Fin 3 → Nat :=
  let c1_317 : Index := 1#32
  let c0_i32_312 : BitVec 32 := 0#32
  let c1_i32_313 : BitVec 32 := 1#32
  let arg16 : BitVec 32 := Scf.iv c0_i32_312 c1_i32_313 k0_t4
  let c512_i32 : BitVec 32 := 512#32
  let v290 : BitVec 32 := Scalar.muli arg16 c512_i32
  let v291 : BitVec 32 := v290
  let v295 : Index := Scalar.indexCast v291
  let c0_318 : Index := 0#32
  ![1, v295.toNat, 0]
def k0_off15 (k0_t4 : Fin k0_t4_loop.trips) : Fin 3 → Nat :=
  let c2_319 : Index := 2#32
  let c0_i32_312 : BitVec 32 := 0#32
  let c1_i32_313 : BitVec 32 := 1#32
  let arg16 : BitVec 32 := Scf.iv c0_i32_312 c1_i32_313 k0_t4
  let c512_i32 : BitVec 32 := 512#32
  let v290 : BitVec 32 := Scalar.muli arg16 c512_i32
  let v291 : BitVec 32 := v290
  let v298 : Index := Scalar.indexCast v291
  let c0_320 : Index := 0#32
  ![2, v298.toNat, 0]
def k0_off16 (k0_t4 : Fin k0_t4_loop.trips) : Fin 3 → Nat :=
  let c0_327 : Index := 0#32
  let c0_i32_312 : BitVec 32 := 0#32
  let c1_i32_313 : BitVec 32 := 1#32
  let arg16 : BitVec 32 := Scf.iv c0_i32_312 c1_i32_313 k0_t4
  let c512_i32 : BitVec 32 := 512#32
  let v290 : BitVec 32 := Scalar.muli arg16 c512_i32
  let v291 : BitVec 32 := v290
  let v327 : Index := Scalar.indexCast v291
  let c0_328 : Index := 0#32
  ![0, v327.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, c0_i32_1.toNat, v0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, c0_i32_1.toNat, v0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, c0_i32_1.toNat, v0.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S3x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelSsd.lean ====
abbrev S4x4096x1024 : Shape := ⟨3, ![4, 4096, 1024]⟩
abbrev S4x1024x11280 : Shape := ⟨3, ![4, 1024, 11280]⟩
abbrev S4x8x1024x512 : Shape := ⟨4, ![4, 8, 1024, 512]⟩
abbrev S4x4x1536 : Shape := ⟨3, ![4, 4, 1536]⟩
abbrev S4x1536 : Shape := ⟨2, ![4, 1536]⟩
abbrev S4x16 : Shape := ⟨2, ![4, 16]⟩
abbrev S4x1024 : Shape := ⟨2, ![4, 1024]⟩
abbrev S4x1024x2560 : Shape := ⟨3, ![4, 1024, 2560]⟩
abbrev S4x1024x16 : Shape := ⟨3, ![4, 1024, 16]⟩
abbrev S_ : Shape := ⟨0, ![]⟩
abbrev S4x1024x128 : Shape := ⟨3, ![4, 1024, 128]⟩
abbrev S1x4x1536 : Shape := ⟨3, ![1, 4, 1536]⟩
abbrev S1x1536 : Shape := ⟨2, ![1, 1536]⟩
abbrev S1536 : Shape := ⟨1, ![1536]⟩
abbrev S1x16 : Shape := ⟨2, ![1, 16]⟩
abbrev S16 : Shape := ⟨1, ![16]⟩
abbrev S1x1024 : Shape := ⟨2, ![1, 1024]⟩
abbrev S1024 : Shape := ⟨1, ![1024]⟩
abbrev S128 : Shape := ⟨1, ![128]⟩
abbrev S1x128 : Shape := ⟨2, ![1, 128]⟩
abbrev S16x64 : Shape := ⟨2, ![16, 64]⟩
abbrev S4x8x4096x512 : Shape := ⟨4, ![4, 8, 4096, 512]⟩
abbrev S1x1024x1024 : Shape := ⟨3, ![1, 1024, 1024]⟩
abbrev S1x1024x2560 : Shape := ⟨3, ![1, 1024, 2560]⟩
abbrev S1x8x1024x512 : Shape := ⟨4, ![1, 8, 1024, 512]⟩
abbrev S1x1024x128 : Shape := ⟨3, ![1, 1024, 128]⟩
abbrev S1024x2560 : Shape := ⟨2, ![1024, 2560]⟩
abbrev S12x136x128 : Shape := ⟨3, ![12, 136, 128]⟩
abbrev S12x128x128 : Shape := ⟨3, ![12, 128, 128]⟩
abbrev S2x128x512 : Shape := ⟨3, ![2, 128, 512]⟩
abbrev S12x8x128 : Shape := ⟨3, ![12, 8, 128]⟩
abbrev S1024x1024 : Shape := ⟨2, ![1024, 1024]⟩
abbrev S1x128x1024 : Shape := ⟨3, ![1, 128, 1024]⟩
abbrev S128x1024 : Shape := ⟨2, ![128, 1024]⟩
abbrev S128x1536 : Shape := ⟨2, ![128, 1536]⟩
abbrev S1x1x1024x256 : Shape := ⟨4, ![1, 1, 1024, 256]⟩
abbrev S1024x256 : Shape := ⟨2, ![1024, 256]⟩
abbrev S128x128 : Shape := ⟨2, ![128, 128]⟩
abbrev S1x128x128 : Shape := ⟨3, ![1, 128, 128]⟩
abbrev S8x128 : Shape := ⟨2, ![8, 128]⟩
abbrev S1x8x128 : Shape := ⟨3, ![1, 8, 128]⟩
abbrev S128x512 : Shape := ⟨2, ![128, 512]⟩
abbrev S1024x128 : Shape := ⟨2, ![1024, 128]⟩
abbrev S128x1 : Shape := ⟨2, ![128, 1]⟩
abbrev S1x128x512 : Shape := ⟨3, ![1, 128, 512]⟩
abbrev S1x512 : Shape := ⟨2, ![1, 512]⟩
abbrev S128x256 : Shape := ⟨2, ![128, 256]⟩
abbrev S256x128 : Shape := ⟨2, ![256, 128]⟩

abbrev nBuf : Space → Nat
  | .hbm => 43
  | .vmem => 19
  | .smem => 0
  | _ => 0

abbrev bufTy : (tb : Table) → Fin (tcTables nBuf tb) → BufTy
  | .hbm, ⟨0, _⟩ => ⟨S4x4096x1024, .bf16⟩
  | .hbm, ⟨1, _⟩ => ⟨S4x1024x11280, .f32⟩
  | .hbm, ⟨2, _⟩ => ⟨S4x8x1024x512, .bf16⟩
  | .hbm, ⟨3, _⟩ => ⟨S4x4x1536, .f32⟩
  | .hbm, ⟨4, _⟩ => ⟨S4x1536, .f32⟩
  | .hbm, ⟨5, _⟩ => ⟨S4x16, .f32⟩
  | .hbm, ⟨6, _⟩ => ⟨S4x16, .f32⟩
  | .hbm, ⟨7, _⟩ => ⟨S4x16, .f32⟩
  | .hbm, ⟨8, _⟩ => ⟨S4x1024, .f32⟩
  | .hbm, ⟨9, _⟩ => ⟨S4x1024x2560, .f32⟩
  | .hbm, ⟨10, _⟩ => ⟨S4x1024x2560, .bf16⟩
  | .hbm, ⟨11, _⟩ => ⟨S4x1024x16, .f32⟩
  | .hbm, ⟨12, _⟩ => ⟨S_, .i32⟩
  | .hbm, ⟨13, _⟩ => ⟨S_, .f32⟩
  | .hbm, ⟨14, _⟩ => ⟨S4x1024x128, .f32⟩
  | .hbm, ⟨15, _⟩ => ⟨S4x1024x128, .bf16⟩
  | .hbm, ⟨16, _⟩ => ⟨S1x4x1536, .f32⟩
  | .hbm, ⟨17, _⟩ => ⟨S4x1536, .f32⟩
  | .hbm, ⟨18, _⟩ => ⟨S1x1536, .f32⟩
  | .hbm, ⟨19, _⟩ => ⟨S1536, .f32⟩
  | .hbm, ⟨20, _⟩ => ⟨S1x16, .f32⟩
  | .hbm, ⟨21, _⟩ => ⟨S16, .f32⟩
  | .hbm, ⟨22, _⟩ => ⟨S1x16, .f32⟩
  | .hbm, ⟨23, _⟩ => ⟨S16, .f32⟩
  | .hbm, ⟨24, _⟩ => ⟨S1x16, .f32⟩
  | .hbm, ⟨25, _⟩ => ⟨S16, .f32⟩
  | .hbm, ⟨26, _⟩ => ⟨S1x1024, .f32⟩
  | .hbm, ⟨27, _⟩ => ⟨S1024, .f32⟩
  | .hbm, ⟨28, _⟩ => ⟨S1x1536, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S_, .i32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S16x64, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S4x4096x1024, .bf16⟩
  | .hbm, ⟨42, _⟩ => ⟨S4x8x4096x512, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x2560, .bf16⟩
  | .local _ .vmem, ⟨3, _⟩ => ⟨S1x8x1024x512, .bf16⟩
  | .local _ .vmem, ⟨4, _⟩ => ⟨S1x1024x128, .bf16⟩
  | .local _ .vmem, ⟨5, _⟩ => ⟨S4x1536, .f32⟩
  | .local _ .vmem, ⟨6, _⟩ => ⟨S1x1536, .f32⟩
  | .local _ .vmem, ⟨7, _⟩ => ⟨S1x128, .f32⟩
  | .local _ .vmem, ⟨8, _⟩ => ⟨S1x128, .f32⟩
  | .local _ .vmem, ⟨9, _⟩ => ⟨S1x1024, .f32⟩
  | .local _ .vmem, ⟨10, _⟩ => ⟨S1x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x8x1024x512, .bf16⟩
  | .local _ .vmem, ⟨14, _⟩ => ⟨S1x8x1024x512, .bf16⟩
  | .local _ .vmem, ⟨15, _⟩ => ⟨S1024x2560, .bf16⟩
  | .local _ .vmem, ⟨16, _⟩ => ⟨S12x136x128, .f32⟩
  | .local _ .vmem, ⟨17, _⟩ => ⟨S12x128x128, .f32⟩
  | .local _ .vmem, ⟨18, _⟩ => ⟨S2x128x512, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_call2_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_8 : BitVec 32 := 0#32
  let c8_i32 : BitVec 32 := 8#32
  let v12 : BitVec 32 := Scalar.addi c0_i32_8 c8_i32
  let c1_i32 : BitVec 32 := 1#32
  ⟨c0_i32_8, v12, c1_i32⟩
def k0_mult1 (k0_t1 : Fin k0_t1_loop.trips) : BitVec 32 :=
  let c0_i32_8 : BitVec 32 := 0#32
  let c1_i32 : BitVec 32 := 1#32
  let arg18 : BitVec 32 := Scf.iv c0_i32_8 c1_i32 k0_t1
  let c128_i32 : BitVec 32 := 128#32
  let v13 : BitVec 32 := Scalar.muli arg18 c128_i32
  v13
def k0_off1 (k0_t1 : Fin k0_t1_loop.trips) : Fin 3 → Nat :=
  let c0_10 : Index := 0#32
  let c0_i32_8 : BitVec 32 := 0#32
  let c1_i32 : BitVec 32 := 1#32
  let arg18 : BitVec 32 := Scf.iv c0_i32_8 c1_i32 k0_t1
  let c128_i32 : BitVec 32 := 128#32
  let v13 : BitVec 32 := Scalar.muli arg18 c128_i32
  let v14 : BitVec 32 := v13
  let v15 : Index := Scalar.indexCast v14
  let c0_11 : Index := 0#32
  ![0, v15.toNat, 0]
def k0_off2 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let c128_i32 : BitVec 32 := 128#32
  let v13 : BitVec 32 := Scalar.muli arg18 c128_i32
  let v14 : BitVec 32 := v13
  let v18 : Index := Scalar.indexCast v14
  let c0_12 : Index := 0#32
  ![v18.toNat, 0]
def k0_off3 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let c128_i32 : BitVec 32 := 128#32
  let v13 : BitVec 32 := Scalar.muli arg18 c128_i32
  let v14 : BitVec 32 := v13
  let v20 : Index := Scalar.indexCast v14
  let c1024 : Index := 1024#32
  ![v20.toNat, 1024]
def k0_off4 (k0_t1 : Fin k0_t1_loop.trips) : Fin 4 → Nat :=
  let c0_16 : Index := 0#32
  let c0_i32_8 : BitVec 32 := 0#32
  let c1_i32 : BitVec 32 := 1#32
  let arg18 : BitVec 32 := Scf.iv c0_i32_8 c1_i32 k0_t1
  let v25 : Index := Scalar.indexCast arg18
  let c0_17 : Index := 0#32
  let c0_18 : Index := 0#32
  ![0, v25.toNat, 0, 0]
def k0_off5 (k0_t1 : Fin k0_t1_loop.trips) : Fin 4 → Nat :=
  let c0_2122 : Index := 0#32
  let c0_i32_8 : BitVec 32 := 0#32
  let c1_i32 : BitVec 32 := 1#32
  let arg18 : BitVec 32 := Scf.iv c0_i32_8 c1_i32 k0_t1
  let v4705 : Index := Scalar.indexCast arg18
  let c0_2123 : Index := 0#32
  let c256_2124 : Index := 256#32
  ![0, v4705.toNat, 0, 256]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceSsdIdeal.lean ====
abbrev S4x4096x1024 : Shape := ⟨3, ![4, 4096, 1024]⟩
abbrev S4x1024x11280 : Shape := ⟨3, ![4, 1024, 11280]⟩
abbrev S4x8x1024x512 : Shape := ⟨4, ![4, 8, 1024, 512]⟩
abbrev S4x4x1536 : Shape := ⟨3, ![4, 4, 1536]⟩
abbrev S4x1536 : Shape := ⟨2, ![4, 1536]⟩
abbrev S4x16 : Shape := ⟨2, ![4, 16]⟩
abbrev S4x1024 : Shape := ⟨2, ![4, 1024]⟩
abbrev S1x8x1024x512 : Shape := ⟨4, ![1, 8, 1024, 512]⟩
abbrev S8x1024x512 : Shape := ⟨3, ![8, 1024, 512]⟩
abbrev S8x512x4x4096 : Shape := ⟨4, ![8, 512, 4, 4096]⟩
abbrev S4x8x4096x512 : Shape := ⟨4, ![4, 8, 4096, 512]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x1024x11280, .f32⟩
  | .hbm, ⟨2, _⟩ => ⟨S4x8x1024x512, .bf16⟩
  | .hbm, ⟨3, _⟩ => ⟨S4x4x1536, .f32⟩
  | .hbm, ⟨4, _⟩ => ⟨S4x1536, .f32⟩
  | .hbm, ⟨5, _⟩ => ⟨S4x16, .f32⟩
  | .hbm, ⟨6, _⟩ => ⟨S4x16, .f32⟩
  | .hbm, ⟨7, _⟩ => ⟨S4x16, .f32⟩
  | .hbm, ⟨8, _⟩ => ⟨S4x1024, .f32⟩
  | .hbm, ⟨9, _⟩ => ⟨S4x4096x1024, .f32⟩
  | .hbm, ⟨10, _⟩ => ⟨S1x8x1024x512, .bf16⟩
  | .hbm, ⟨11, _⟩ => ⟨S8x1024x512, .bf16⟩
  | .hbm, ⟨12, _⟩ => ⟨S8x1024x512, .f32⟩
  | .hbm, ⟨13, _⟩ => ⟨S8x512x4x4096, .f32⟩
  | .hbm, ⟨14, _⟩ => ⟨S4x8x4096x512, .f32⟩
  | .hbm, ⟨15, _⟩ => ⟨S4x8x4096x512, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Proof.Repack.lean ====
/-
  THE WEIGHT REPACK, the call whose input window is addressed by ELEMENT: point `(l, k)` of its 4 × 9 grid reads a
  window of 640 columns of layer `l`'s in-projection, beginning at an element offset of its own, and writes 512 of
  them, rounded to bf16, as one block of the result.

  `packed` is the result as one function of the weights, index by index. `final` says that the array the kernel leaves
  is `packed` of its argument, for any float values; `ref_eq` says the same of the reference's nine joined slices. The
  claims (Proof.lean) set the two beside each other, word for word and over the extended reals.
-/
module

public import proofs.«01_k».proof.Proof.Gen.KernelIdeal.Frame
public import proofs.«01_k».proof.Proof.Gen.ReferenceIdeal.Read
public import Idealize.ShloMosaic.Lib.ValueIdxCore
public import Idealize.ShloMosaic.Lib.Pipeline.ValueKit.Tiles

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Repack

/-- The first column of the weights that block `k` of the result holds: block `k` is the q, k or v third (`k % 3`) of
    head group `k / 3`. -/
def firstCol (k : Nat) : Nat := 2576 + 512 * ((k % 3) * 3 + k / 3)

theorem firstCol_le {k : Nat} (h : k < 9) : firstCol k + 512 ≤ 11280 := by unfold firstCol; omega

variable {F : FTy → Type} [FloatOps F]

open Cert.KernelIdeal Cert.KernelIdeal.Gen

/-- Where element `i` of the result comes from: the same layer and row, the column counted from the block's first. -/
def src (i : S4x9x1024x512.Idx) : S4x1024x11280.Idx :=
  ix3 (i 0) (i 2) ⟨firstCol (i 1).val + (i 3).val, by
    have h1 : (i 1).val < 9 := (i 1).isLt
    have h3 : (i 3).val < 512 := (i 3).isLt
    have := firstCol_le h1
    omega⟩

/-- The packed weights as a function of the weights: each element rounded to bf16. -/
def packed (x : Vec F S4x1024x11280 .f32) : Vec F S4x9x1024x512 .bf16 :=
  fun i => FloatOps.truncf .bf16 bitsLt_bf16_f32 (x (src i))

/-! ## The reference -/

open Cert.ReferenceIdeal.Read in
/-- The reference's nine joined slices are the packed weights. -/
theorem ref_eq (x : Vec F S4x1024x11280 .f32) : val_main_v23 (F := F) x = packed x := by
  funext i
  unfold val_main_v23
  refine concatenate_unit_eq _ _ _ i _ rfl ?_
  refine ⟨?_, ?_, ?_, ?_, ?_, ?_, ?_, ?_, ?_, trivial⟩ <;>
  · intro hk hr j hj0 hj
    have e0 : (j 0).val = (i 0).val := hj 0 (by decide)
    have e2 : (j 2).val = (i 2).val := hj 2 (by decide)
    have e3 : (j 3).val = (i 3).val := hj 3 (by decide)
    have hk' : (i 1).val = _ := hk
    dsimp only
    simp only [val_main_v14_apply, val_main_v15_apply, val_main_v16_apply, val_main_v17_apply, val_main_v18_apply,
      val_main_v19_apply, val_main_v20_apply, val_main_v21_apply, val_main_v22_apply, val_main_v5_apply,
      val_main_v6_apply, val_main_v7_apply, val_main_v8_apply, val_main_v9_apply, val_main_v10_apply,
      val_main_v11_apply, val_main_v12_apply, val_main_v13_apply, val_main_v2_apply, val_main_v3_apply,
      val_main_v4_apply, val_main_v1_apply, val_main_v0_apply]
    unfold packed
    refine congrArg _ (congrArg _ (funext fun a => Fin.ext ?_))
    match a with
    | ⟨0, _⟩ => exact e0
    | ⟨1, _⟩ => exact e2
    | ⟨2, _⟩ =>
      show _ = firstCol (i 1).val + (i 3).val
      rw [hk', ← e3]
      dsimp only [firstCol]
      try omega

end Cert.Repack

end
-- ==== Proof.RepackIdeal.lean ====
/-
  THE REPACK'S RUN, the kernel as idealised: block by block the array it leaves is `Cert.Repack.packed` of its argument, for any
  float values.
-/
module

public import proofs.«01_k».proof.Proof.Gen.KernelIdeal.Value
public import proofs.«01_k».proof.Proof.Repack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.RepackIdeal

open Cert.KernelIdeal Cert.KernelIdeal.Gen Cert.Repack

variable {F : FTy → Type} [FloatOps F]

/-- Where the input window begins, and the output block's place, at every grid point. -/
theorem places : ∀ t : Fin grid0.N,
    cc0_transform_0 (grid0.coords t) 0 = t.val / 9 ∧ cc0_transform_0 (grid0.coords t) 1 = 0
    ∧ cc0_transform_0 (grid0.coords t) 2 + 16 = firstCol (t.val % 9)
    ∧ cc0_transform_1 (grid0.coords t) 0 = t.val / 9 ∧ cc0_transform_1 (grid0.coords t) 1 = t.val % 9
    ∧ cc0_transform_1 (grid0.coords t) 2 = 0 ∧ cc0_transform_1 (grid0.coords t) 3 = 0 := by
  decide +kernel

variable (m : (ℓ : Loc nD τ sig) → Buf (Elt F) ℓ)

/-- The input block at an index, as an element of the weights. -/
theorem iblk_apply (c : Dev nD) (t : Fin cfg0.N) (j : S1x1024x640.Idx) (i : S4x1024x11280.Idx)
    (h0 : (i 0).val = cc0_transform_0 (grid0.coords t) 0 + (j 0).val)
    (h1 : (i 1).val = cc0_transform_0 (grid0.coords t) 1 + (j 1).val)
    (h2 : (i 2).val = cc0_transform_0 (grid0.coords t) 2 + (j 2).val) :
    (iblk m c 0 t : Vec F S1x1024x640 .f32) j = m ((c : Thread nD τ).loc main_arg0) i := by
  unfold iblk
  rw [View.read_apply]
  show V m c main_arg0 _ = m (c.tc.loc main_arg0) _
  rw [V_main_arg0]
  congr 1
  funext a
  apply Fin.ext
  match a with
  | ⟨0, _⟩ => refine Eq.trans ?_ h0.symm; show cc0_transform_0 (grid0.coords t) 0 + 1 * (j 0).val = _; omega
  | ⟨1, _⟩ => refine Eq.trans ?_ h1.symm; show cc0_transform_0 (grid0.coords t) 1 + 1 * (j 1).val = _; omega
  | ⟨2, _⟩ => refine Eq.trans ?_ h2.symm; show cc0_transform_0 (grid0.coords t) 2 + 1 * (j 2).val = _; omega

/-- What point `t` writes back is block `t` of the packed weights. -/
theorem flushed_eq (c : Dev nD) (t : Fin cfg0.N) :
    (dats m 0 c).flushed 1 t = (win0_1.blk t).view.read (Elt F) (packed (m ((c : Thread nD τ).loc main_arg0))) := by
  rw [Cert.KernelIdeal.Value.flushed1]
  unfold out0_1
  funext j
  have hp := places t
  have h0 : (j 0).val < 1 := (j 0).isLt
  have h1 : (j 1).val < 1 := (j 1).isLt
  show View.canon _ j = _
  rw [Cert.KernelIdeal.Value.canon1_eq, View.read_apply]
  unfold Cert.KernelIdeal.Value.E1 packed
  refine congrArg _ ?_
  refine iblk_apply m c t _ _ ?_ ?_ ?_
  · show cc0_transform_1 (grid0.coords t) 0 * 1 + 1 * (j 0).val = cc0_transform_0 (grid0.coords t) 0 + (0 + 1 * 0)
    omega
  · show cc0_transform_1 (grid0.coords t) 2 * 1024 + 1 * (j 2).val = cc0_transform_0 (grid0.coords t) 1 + (0 + 1 * (j 2).val)
    omega
  · show firstCol (cc0_transform_1 (grid0.coords t) 1 * 1 + 1 * (j 1).val) + (cc0_transform_1 (grid0.coords t) 3 * 512 + 1 * (j 3).val)
      = cc0_transform_0 (grid0.coords t) 2 + (16 + 1 * (j 3).val)
    rw [show cc0_transform_1 (grid0.coords t) 1 * 1 + 1 * (j 1).val = t.val % 9 by omega]
    omega

/-- Index `i` is in block `t` exactly when `t` is the point of its layer and block. -/
theorem mem_blk (t : Fin cfg0.N) (i : S4x9x1024x512.Idx) :
    i ∈ ((cfg0.win 1).blk t).view.set ↔ (i 0).val = t.val / 9 ∧ (i 1).val = t.val % 9 := by
  show i ∈ ((View.whole main_v0).slice (win0_1.rect t)).set ↔ _
  rw [View.set_slice_whole, Rect.mem_set_unit]
  have hp := places t
  have i2 : (i 2).val < 1024 := (i 2).isLt
  have i3 : (i 3).val < 512 := (i 3).isLt
  constructor
  · intro h
    have a0 : cc0_transform_1 (grid0.coords t) 0 * 1 ≤ (i 0).val ∧ (i 0).val < cc0_transform_1 (grid0.coords t) 0 * 1 + 1 := h 0
    have a1 : cc0_transform_1 (grid0.coords t) 1 * 1 ≤ (i 1).val ∧ (i 1).val < cc0_transform_1 (grid0.coords t) 1 * 1 + 1 := h 1
    omega
  · rintro ⟨e0, e1⟩ a
    match a with
    | ⟨0, _⟩ => show cc0_transform_1 (grid0.coords t) 0 * 1 ≤ (i 0).val ∧ (i 0).val < cc0_transform_1 (grid0.coords t) 0 * 1 + 1; omega
    | ⟨1, _⟩ => show cc0_transform_1 (grid0.coords t) 1 * 1 ≤ (i 1).val ∧ (i 1).val < cc0_transform_1 (grid0.coords t) 1 * 1 + 1; omega
    | ⟨2, _⟩ => show cc0_transform_1 (grid0.coords t) 2 * 1024 ≤ (i 2).val ∧ (i 2).val < cc0_transform_1 (grid0.coords t) 2 * 1024 + 1024; omega
    | ⟨3, _⟩ => show cc0_transform_1 (grid0.coords t) 3 * 512 ≤ (i 3).val ∧ (i 3).val < cc0_transform_1 (grid0.coords t) 3 * 512 + 512; omega

theorem cover (i : S4x9x1024x512.Idx) :
    ∃ t : Fin cfg0.N, (cfg0.win 1).flush t = true ∧ i ∈ ((cfg0.win 1).blk t).view.set := by
  have h0 : (i 0).val < 4 := (i 0).isLt
  have h1 : (i 1).val < 9 := (i 1).isLt
  have hN : cfg0.N = 36 := N_0
  have ht : (i 0).val * 9 + (i 1).val < cfg0.N := by omega
  refine ⟨⟨_, ht⟩, flush0_1 _, ?_⟩
  rw [mem_blk]
  constructor
  · show _ = ((i 0).val * 9 + (i 1).val) / 9; omega
  · show _ = ((i 0).val * 9 + (i 1).val) % 9; omega

/-- The array the kernel leaves is the packed weights. -/
theorem final (c : Dev nD) : (dats m 0 c).arrAt 1 cfg0.N = packed (m ((c : Thread nD τ).loc main_arg0)) :=
  (dats m 0 c).arrAt_eq_of_cover 1 _ (fun t _ => flushed_eq m c t) cover

/-- The kernel's run, read. -/
theorem run (ρ : Dev nD → PrngReg) : θ_run defs (onTc (τ := τ) (main (F := F))) ⟨m, fun _ => 0, ρ⟩ fun r => ∀ c : Dev nD,
      r.2.mem ((c : Thread nD τ).loc main_v0) = packed (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.RepackIdeal

end
-- ==== Proof.RepackClaims.lean ====
/-
  THE REPACK'S CLAIMS: the frames, the word-for-word equality with the reference, and the equality over the extended
  reals. The two references are one text, so one reading of it, proved for any float values, serves at both instances.
-/
module

public import proofs.«01_k».proof.Defs
public import proofs.«01_k».proof.Proof.RepackIdeal
public import proofs.«01_k».proof.Proof.RepackBits
public import proofs.«01_k».proof.Proof.Gen.Reference.Run
public import Idealize.ShloMosaic.Lib.Quiescent

@[expose] public section

noncomputable section

open Idealize.ShloMosaic Idealize.ShloMosaic.TcCoe Idealize.SL.Sem

namespace Cert.Proof

theorem quiescent_kernel : Cert.quiescent_Kernel := fun m ρ _ => Cert.Kernel.Gen.frame m ρ
theorem quiescent_kernelIdeal : Cert.quiescent_KernelIdeal := fun m ρ _ => Cert.KernelIdeal.Gen.frame m ρ

theorem quiescent_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference's run at any float values, its result the packed weights. -/
theorem reference_packed {F : FTy → Type} [FloatOps F]
    (m : (ℓ : Loc Cert.ReferenceIdeal.nD Cert.ReferenceIdeal.τ Cert.ReferenceIdeal.sig) → Buf (Elt F) ℓ)
    (c : Dev Cert.ReferenceIdeal.nD) :
    Cert.ReferenceIdeal.Value.res_main_v23 m c
      = Cert.Repack.packed (m ((c.tc : Thread Cert.ReferenceIdeal.nD Cert.ReferenceIdeal.τ).loc Cert.ReferenceIdeal.main_arg0)) :=
  (Cert.ReferenceIdeal.Read.val_main_v23_eq m c).trans (Cert.Repack.ref_eq _)

theorem bitexact_repack : Cert.bitexact_Kernel_Reference := by
  intro m ρ m' ρ' _ hagree
  refine ⟨fun c => Cert.Repack.packed (F := Bits) (m ((c.tc : Thread Cert.Kernel.nD Cert.Kernel.τ).loc Cert.Kernel.main_arg0)),
    Cert.RepackBits.run (F := Bits) m ρ, ?_⟩
  refine (θ_run Cert.Reference.defs _ _).mono (fun _ h c => ⟨(h c).1.trans ?_, (h c).2⟩)
    (Cert.Reference.Value.run (F := Bits) m' ρ')
  refine (reference_packed (F := Bits) m' c).trans ?_
  exact congrArg (Cert.Repack.packed (F := Bits)) (hagree c)

theorem algebraic_repack : Cert.algebraic_KernelIdeal_ReferenceIdeal := by
  intro m ρ m' ρ' _ hagree
  refine ⟨fun c => Cert.Repack.packed (F := Ideal)
      (m ((c.tc : Thread Cert.KernelIdeal.nD Cert.KernelIdeal.τ).loc Cert.KernelIdeal.main_arg0)),
    Cert.RepackIdeal.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (reference_packed (F := Ideal) m' c).trans ?_
  exact congrArg (Cert.Repack.packed (F := Ideal)) (hagree c)

end Cert.Proof

end
-- ==== Proof.FfnBody.lean ====
/-
  THE FEED-FORWARD CALL, what its body leaves. A pair of grid points handles one block of 1024 rows: the first (even)
  point normalises and modulates the rows into one scratch and starts the accumulator with the first half of the hidden
  columns; the second adds the other half and writes the rows plus the gated sum back.
-/
module

public import proofs.«01_k».proof.Proof.Gen.KernelFfnIdeal.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnBody

open Cert.KernelFfnIdeal Cert.KernelFfnIdeal.Gen

variable {F : FTy → Type} [FloatOps F]
variable (m : (ℓ : Loc nD τ sig) → Buf (Elt F) ℓ)

theorem z2 : (![0, 0] : Fin 2 → Nat) = fun _ => 0 := funext fun a => by fin_cases a <;> rfl
theorem z3 : (![0, 0, 0] : Fin 3 → Nat) = fun _ => 0 := funext fun a => by fin_cases a <;> rfl

/-- The row of a modulation block that the first case of the body reads. -/
abbrev rowA (t : Fin cfg0.N) (h0 : t.val % 2 = 0) (x : Vec F S1x1x8x1024 .f32) : Vec F S1x1x1x1024 .f32 :=
  View.ld x (Rect.unit (s := S1x1x8x1024) (k0_off1 (grid0.coords t)) S1x1x1x1024.size (k0_off1_inb (grid0.coords t) ((hcond0_0 t).mpr h0)))

/-- The row of a modulation block that the second case of the body reads. -/
abbrev rowB (t : Fin cfg0.N) (h1 : t.val % 2 = 1) (x : Vec F S1x1x8x1024 .f32) : Vec F S1x1x1x1024 .f32 :=
  View.ld x (Rect.unit (s := S1x1x8x1024) (k0_off2 (grid0.coords t)) S1x1x1x1024.size (k0_off2_inb (grid0.coords t) ((hcond0_1 t).mpr h1)))

/-- The modulated rows, from the blocks of an even point. -/
abbrev hidden (c : Dev nD) (t : Fin cfg0.N) (h0 : t.val % 2 = 0) : FVec F S1024x1024 .bf16 :=
  k0_pay1 (iblk m c 0 t) (iblk m c 1 t) (rowA t h0 (iblk m c 2 t)) (rowA t h0 (iblk m c 3 t))

/-- After an even point the first scratch holds the modulated rows. -/
theorem hidden_even (c : Dev nD) (t : Fin cfg0.N) (h0 : t.val % 2 = 0) (h1 : ¬t.val % 2 = 1) :
    (outsAt0 m c t.val t.isLt).2.1 = hidden m c t h0 := by
  rw [outsAt0_A m c t h0 h1]
  dsimp only
  unfold sout0_A_0
  refine (View.read_writes_eq_canon _ _ _ fun y => scover0_A_0 ..).trans ?_
  unfold kernelRun0_A
  dsimp only
  sl_unfold_words
  simp only [View.canon_unit_zero (S := S1024x1024) z2, View.readAt_eq_ld, (hs0_0 t).read_unread, (hs0_1 t).read_unread,
    (hs0_2 t).read_unread, (hs0_3 t).read_unread, View.ld_unit_zero (S := S1x1024) z2,
    View.ld_unit_zero (S := S1x1024x1024) z3]
  rfl

/-- After an even point the accumulator holds the first half's product. -/
theorem acc_even (c : Dev nD) (t : Fin cfg0.N) (h0 : t.val % 2 = 0) (h1 : ¬t.val % 2 = 1) :
    (outsAt0 m c t.val t.isLt).2.2 = k0_pay3 (hidden m c t h0) (iblk m c 5 t) k0_pay2 (iblk m c 6 t) := by
  rw [outsAt0_A m c t h0 h1]
  dsimp only
  unfold sout0_A_1
  refine (View.read_writes_eq_canon _ _ _ fun y => scover0_A_1 ..).trans ?_
  unfold kernelRun0_A
  dsimp only
  sl_unfold_words
  rw [View.canon_cons_unit_zero (S := S1024x1024) z2]
  simp only [View.readCov_unit_zero (S := S1024x1024) _ z2, View.readAt_eq_ld, (hs0_0 t).read_unread, (hs0_1 t).read_unread,
    (hs0_2 t).read_unread, (hs0_3 t).read_unread, (hs0_5 t).read_unread, (hs0_6 t).read_unread, View.ld_unit_zero (S := S1x1024) z2,
    View.ld_unit_zero (S := S1x1024x1024) z3, View.ld_unit_zero (S := S1x1024x2048) z3, View.ld_unit_zero (S := S1x2048x1024) z3]
  rfl

/-- What an odd point leaves in the output block, over what the point before left in the two scratches. -/
theorem out_odd (c : Dev nD) (t : Fin cfg0.N) (h0 : ¬t.val % 2 = 0) (h1 : t.val % 2 = 1) :
    (outsAt0 m c t.val t.isLt).1 = k0_pay4 (iblk m c 0 t) (rowB t h1 (iblk m c 4 t))
      (k0_pay3 (outsAt0 m c (t.val - 1) (by omega)).2.1 (iblk m c 5 t) (outsAt0 m c (t.val - 1) (by omega)).2.2 (iblk m c 6 t)) := by
  rw [outsAt0_B m c t h0 h1]
  dsimp only
  unfold out0_B_7
  refine (View.read_writes_eq_canon _ _ _ fun y => cover0_B_7 ..).trans ?_
  unfold kernelRun0_B
  dsimp only
  sl_unfold_words
  rw [View.canon_unit_zero (S := S1x1024x1024) z3]
  simp only [View.readCov_unit_zero (S := S1024x1024) _ z2, View.readAt_eq_ld, (hs0_0 t).read_unread, (hs0_4 t).read_unread,
    (hs0_5 t).read_unread, (hs0_6 t).read_unread, (Memref.isWhole_whole _).read_unread,
    View.ld_unit_zero (S := S1024x1024) z2,
    View.ld_unit_zero (S := S1x1024x1024) z3, View.ld_unit_zero (S := S1x1024x2048) z3, View.ld_unit_zero (S := S1x2048x1024) z3]
  rfl

end Cert.FfnBody

end
-- ==== Proof.FfnBlocks.lean ====
/-
  THE FEED-FORWARD CALL, its input blocks read at an index as elements of the arguments, over the extended reals.
-/
module

public import proofs.«01_k».proof.Proof.FfnBody
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnBody

open Cert.KernelFfnIdeal Cert.KernelFfnIdeal.Gen

/-- Where each window's block lies at every grid point. -/
theorem places : ∀ t : Fin grid0.N,
    (cc0_transform_0 (grid0.coords t) 0 = t.val / 8 ∧ cc0_transform_0 (grid0.coords t) 1 = t.val / 2 % 4
      ∧ cc0_transform_0 (grid0.coords t) 2 = 0)
    ∧ (cc0_transform_1 (grid0.coords t) 0 = 0 ∧ cc0_transform_1 (grid0.coords t) 1 = 0)
    ∧ (cc0_transform_2 (grid0.coords t) 0 = 3 ∧ cc0_transform_2 (grid0.coords t) 1 = 4
      ∧ cc0_transform_2 (grid0.coords t) 2 = 0 ∧ cc0_transform_2 (grid0.coords t) 3 = 0)
    ∧ (cc0_transform_3 (grid0.coords t) 0 = 3 ∧ cc0_transform_3 (grid0.coords t) 1 = 3
      ∧ cc0_transform_3 (grid0.coords t) 2 = 0 ∧ cc0_transform_3 (grid0.coords t) 3 = 0)
    ∧ (cc0_transform_4 (grid0.coords t) 0 = 3 ∧ cc0_transform_4 (grid0.coords t) 1 = 5
      ∧ cc0_transform_4 (grid0.coords t) 2 = 0 ∧ cc0_transform_4 (grid0.coords t) 3 = 0)
    ∧ (cc0_transform_5 (grid0.coords t) 0 = 3 ∧ cc0_transform_5 (grid0.coords t) 1 = 0
      ∧ cc0_transform_5 (grid0.coords t) 2 = t.val % 2)
    ∧ (cc0_transform_6 (grid0.coords t) 0 = 3 ∧ cc0_transform_6 (grid0.coords t) 1 = t.val % 2
      ∧ cc0_transform_6 (grid0.coords t) 2 = 0)
    ∧ (cc0_transform_7 (grid0.coords t) 0 = t.val / 8 ∧ cc0_transform_7 (grid0.coords t) 1 = t.val / 2 % 4
      ∧ cc0_transform_7 (grid0.coords t) 2 = 0)
    ∧ k0_off1 (grid0.coords t) = ![0, 0, t.val / 8, 0] ∧ k0_off2 (grid0.coords t) = ![0, 0, t.val / 8, 0] := by
  decide +kernel

variable (m : (ℓ : Loc nD τ sig) → Buf (Elt Ideal) ℓ)

/-! ## What the host prepared, read at an index -/

theorem entry_mods (c : Dev nD) (a : Fin 4) (e : Fin 6) (b : Fin 8) (k : Fin 1024) :
    (V m c main_v1 : FVec Ideal S4x6x8x1024 .f32) (ix4 a e b k)
      = (m ((c : Thread nD τ).loc main_arg1) : FVec Ideal S4x8x6144 .f32) (ix3 a b ⟨e.val * 1024 + k.val, by omega⟩) := by
  entry_read
  pointwise

theorem entry_norm (c : Dev nD) (z : Fin 1) (k : Fin 1024) :
    (V m c main_v6 : FVec Ideal S1x1024 .f32) (ix2 z k)
      = (m ((c : Thread nD τ).loc main_arg2) : FVec Ideal S4x1024 .f32) (ix2 3 k) := by
  entry_read
  pointwise

theorem entry_w1 (c : Dev nD) (i : S4x1024x4096.Idx) :
    (V m c main_v4 : FVec Ideal S4x1024x4096 .bf16) i
      = (m ((c : Thread nD τ).loc main_arg3) : FVec Ideal S4x1024x4096 .f32) i := by
  entry_read
  pointwise

theorem entry_w2 (c : Dev nD) (i : S4x4096x1024.Idx) :
    (V m c main_v5 : FVec Ideal S4x4096x1024 .bf16) i
      = (m ((c : Thread nD τ).loc main_arg4) : FVec Ideal S4x4096x1024 .f32) i := by
  entry_read
  rfl

/-! ## The blocks -/

/-- Window 0's block at an index, as an element of its array. -/
theorem blk0 (c : Dev nD) (t : Fin cfg0.N) (j0 : Fin 1) (j1 : Fin 1024) (j2 : Fin 1024) (i0 : Fin 4) (i1 : Fin 4096) (i2 : Fin 1024)
    (h0 : i0.val = cc0_transform_0 (grid0.coords t) 0 * 1 + j0.val)
    (h1 : i1.val = cc0_transform_0 (grid0.coords t) 1 * 1024 + j1.val)
    (h2 : i2.val = cc0_transform_0 (grid0.coords t) 2 * 1024 + j2.val) :
    (iblk m c 0 t : FVec Ideal S1x1024x1024 .f32) (ix3 j0 j1 j2)
      = (m ((c : Thread nD τ).loc main_arg0) : FVec Ideal S4x4096x1024 .f32) (ix3 i0 i1 i2) := by
  unfold iblk
  rw [View.read_apply]
  show V m c main_arg0 _ = _
  rw [V_main_arg0]
  congr 1
  funext a
  apply Fin.ext
  match a with
  | ⟨0, _⟩ => refine Eq.trans ?_ h0.symm; show cc0_transform_0 (grid0.coords t) 0 * 1 + 1 * j0.val = _; omega
  | ⟨1, _⟩ => refine Eq.trans ?_ h1.symm; show cc0_transform_0 (grid0.coords t) 1 * 1024 + 1 * j1.val = _; omega
  | ⟨2, _⟩ => refine Eq.trans ?_ h2.symm; show cc0_transform_0 (grid0.coords t) 2 * 1024 + 1 * j2.val = _; omega

/-- Window 1's block at an index, as an element of its array. -/
theorem blk1 (c : Dev nD) (t : Fin cfg0.N) (j0 : Fin 1) (j1 : Fin 1024) (i0 : Fin 1) (i1 : Fin 1024)
    (h0 : i0.val = cc0_transform_1 (grid0.coords t) 0 * 1 + j0.val)
    (h1 : i1.val = cc0_transform_1 (grid0.coords t) 1 * 1024 + j1.val) :
    (iblk m c 1 t : FVec Ideal S1x1024 .f32) (ix2 j0 j1)
      = (V m c main_v6 : FVec Ideal S1x1024 .f32) (ix2 i0 i1) := by
  unfold iblk
  rw [View.read_apply]
  show V m c main_v6 _ = _
  congr 1
  funext a
  apply Fin.ext
  match a with
  | ⟨0, _⟩ => refine Eq.trans ?_ h0.symm; show cc0_transform_1 (grid0.coords t) 0 * 1 + 1 * j0.val = _; omega
  | ⟨1, _⟩ => refine Eq.trans ?_ h1.symm; show cc0_transform_1 (grid0.coords t) 1 * 1024 + 1 * j1.val = _; omega

/-- Window 2's block at an index, as an element of its array. -/
theorem blk2 (c : Dev nD) (t : Fin cfg0.N) (j0 : Fin 1) (j1 : Fin 1) (j2 : Fin 8) (j3 : Fin 1024) (i0 : Fin 4) (i1 : Fin 6) (i2 : Fin 8) (i3 : Fin 1024)
    (h0 : i0.val = cc0_transform_2 (grid0.coords t) 0 * 1 + j0.val)
    (h1 : i1.val = cc0_transform_2 (grid0.coords t) 1 * 1 + j1.val)
    (h2 : i2.val = cc0_transform_2 (grid0.coords t) 2 * 8 + j2.val)
    (h3 : i3.val = cc0_transform_2 (grid0.coords t) 3 * 1024 + j3.val) :
    (iblk m c 2 t : FVec Ideal S1x1x8x1024 .f32) (ix4 j0 j1 j2 j3)
      = (V m c main_v1 : FVec Ideal S4x6x8x1024 .f32) (ix4 i0 i1 i2 i3) := by
  unfold iblk
  rw [View.read_apply]
  show V m c main_v1 _ = _
  congr 1
  funext a
  apply Fin.ext
  match a with
  | ⟨0, _⟩ => refine Eq.trans ?_ h0.symm; show cc0_transform_2 (grid0.coords t) 0 * 1 + 1 * j0.val = _; omega
  | ⟨1, _⟩ => refine Eq.trans ?_ h1.symm; show cc0_transform_2 (grid0.coords t) 1 * 1 + 1 * j1.val = _; omega
  | ⟨2, _⟩ => refine Eq.trans ?_ h2.symm; show cc0_transform_2 (grid0.coords t) 2 * 8 + 1 * j2.val = _; omega
  | ⟨3, _⟩ => refine Eq.trans ?_ h3.symm; show cc0_transform_2 (grid0.coords t) 3 * 1024 + 1 * j3.val = _; omega

/-- Window 3's block at an index, as an element of its array. -/
theorem blk3 (c : Dev nD) (t : Fin cfg0.N) (j0 : Fin 1) (j1 : Fin 1) (j2 : Fin 8) (j3 : Fin 1024) (i0 : Fin 4) (i1 : Fin 6) (i2 : Fin 8) (i3 : Fin 1024)
    (h0 : i0.val = cc0_transform_3 (grid0.coords t) 0 * 1 + j0.val)
    (h1 : i1.val = cc0_transform_3 (grid0.coords t) 1 * 1 + j1.val)
    (h2 : i2.val = cc0_transform_3 (grid0.coords t) 2 * 8 + j2.val)
    (h3 : i3.val = cc0_transform_3 (grid0.coords t) 3 * 1024 + j3.val) :
    (iblk m c 3 t : FVec Ideal S1x1x8x1024 .f32) (ix4 j0 j1 j2 j3)
      = (V m c main_v1 : FVec Ideal S4x6x8x1024 .f32) (ix4 i0 i1 i2 i3) := by
  unfold iblk
  rw [View.read_apply]
  show V m c main_v1 _ = _
  congr 1
  funext a
  apply Fin.ext
  match a with
  | ⟨0, _⟩ => refine Eq.trans ?_ h0.symm; show cc0_transform_3 (grid0.coords t) 0 * 1 + 1 * j0.val = _; omega
  | ⟨1, _⟩ => refine Eq.trans ?_ h1.symm; show cc0_transform_3 (grid0.coords t) 1 * 1 + 1 * j1.val = _; omega
  | ⟨2, _⟩ => refine Eq.trans ?_ h2.symm; show cc0_transform_3 (grid0.coords t) 2 * 8 + 1 * j2.val = _; omega
  | ⟨3, _⟩ => refine Eq.trans ?_ h3.symm; show cc0_transform_3 (grid0.coords t) 3 * 1024 + 1 * j3.val = _; omega

/-- Window 4's block at an index, as an element of its array. -/
theorem blk4 (c : Dev nD) (t : Fin cfg0.N) (j0 : Fin 1) (j1 : Fin 1) (j2 : Fin 8) (j3 : Fin 1024) (i0 : Fin 4) (i1 : Fin 6) (i2 : Fin 8) (i3 : Fin 1024)
    (h0 : i0.val = cc0_transform_4 (grid0.coords t) 0 * 1 + j0.val)
    (h1 : i1.val = cc0_transform_4 (grid0.coords t) 1 * 1 + j1.val)
    (h2 : i2.val = cc0_transform_4 (grid0.coords t) 2 * 8 + j2.val)
    (h3 : i3.val = cc0_transform_4 (grid0.coords t) 3 * 1024 + j3.val) :
    (iblk m c 4 t : FVec Ideal S1x1x8x1024 .f32) (ix4 j0 j1 j2 j3)
      = (V m c main_v1 : FVec Ideal S4x6x8x1024 .f32) (ix4 i0 i1 i2 i3) := by
  unfold iblk
  rw [View.read_apply]
  show V m c main_v1 _ = _
  congr 1
  funext a
  apply Fin.ext
  match a with
  | ⟨0, _⟩ => refine Eq.trans ?_ h0.symm; show cc0_transform_4 (grid0.coords t) 0 * 1 + 1 * j0.val = _; omega
  | ⟨1, _⟩ => refine Eq.trans ?_ h1.symm; show cc0_transform_4 (grid0.coords t) 1 * 1 + 1 * j1.val = _; omega
  | ⟨2, _⟩ => refine Eq.trans ?_ h2.symm; show cc0_transform_4 (grid0.coords t) 2 * 8 + 1 * j2.val = _; omega
  | ⟨3, _⟩ => refine Eq.trans ?_ h3.symm; show cc0_transform_4 (grid0.coords t) 3 * 1024 + 1 * j3.val = _; omega

/-- Window 5's block at an index, as an element of its array. -/
theorem blk5 (c : Dev nD) (t : Fin cfg0.N) (j0 : Fin 1) (j1 : Fin 1024) (j2 : Fin 2048) (i0 : Fin 4) (i1 : Fin 1024) (i2 : Fin 4096)
    (h0 : i0.val = cc0_transform_5 (grid0.coords t) 0 * 1 + j0.val)
    (h1 : i1.val = cc0_transform_5 (grid0.coords t) 1 * 1024 + j1.val)
    (h2 : i2.val = cc0_transform_5 (grid0.coords t) 2 * 2048 + j2.val) :
    (iblk m c 5 t : FVec Ideal S1x1024x2048 .bf16) (ix3 j0 j1 j2)
      = (V m c main_v4 : FVec Ideal S4x1024x4096 .bf16) (ix3 i0 i1 i2) := by
  unfold iblk
  rw [View.read_apply]
  show V m c main_v4 _ = _
  congr 1
  funext a
  apply Fin.ext
  match a with
  | ⟨0, _⟩ => refine Eq.trans ?_ h0.symm; show cc0_transform_5 (grid0.coords t) 0 * 1 + 1 * j0.val = _; omega
  | ⟨1, _⟩ => refine Eq.trans ?_ h1.symm; show cc0_transform_5 (grid0.coords t) 1 * 1024 + 1 * j1.val = _; omega
  | ⟨2, _⟩ => refine Eq.trans ?_ h2.symm; show cc0_transform_5 (grid0.coords t) 2 * 2048 + 1 * j2.val = _; omega

/-- Window 6's block at an index, as an element of its array. -/
theorem blk6 (c : Dev nD) (t : Fin cfg0.N) (j0 : Fin 1) (j1 : Fin 2048) (j2 : Fin 1024) (i0 : Fin 4) (i1 : Fin 4096) (i2 : Fin 1024)
    (h0 : i0.val = cc0_transform_6 (grid0.coords t) 0 * 1 + j0.val)
    (h1 : i1.val = cc0_transform_6 (grid0.coords t) 1 * 2048 + j1.val)
    (h2 : i2.val = cc0_transform_6 (grid0.coords t) 2 * 1024 + j2.val) :
    (iblk m c 6 t : FVec Ideal S1x2048x1024 .bf16) (ix3 j0 j1 j2)
      = (V m c main_v5 : FVec Ideal S4x4096x1024 .bf16) (ix3 i0 i1 i2) := by
  unfold iblk
  rw [View.read_apply]
  show V m c main_v5 _ = _
  congr 1
  funext a
  apply Fin.ext
  match a with
  | ⟨0, _⟩ => refine Eq.trans ?_ h0.symm; show cc0_transform_6 (grid0.coords t) 0 * 1 + 1 * j0.val = _; omega
  | ⟨1, _⟩ => refine Eq.trans ?_ h1.symm; show cc0_transform_6 (grid0.coords t) 1 * 2048 + 1 * j1.val = _; omega
  | ⟨2, _⟩ => refine Eq.trans ?_ h2.symm; show cc0_transform_6 (grid0.coords t) 2 * 1024 + 1 * j2.val = _; omega

/-! ## The modulation rows -/

/-- The row that the first case reads is the batch element's. -/
theorem rowA_apply (t : Fin cfg0.N) (h0 : t.val % 2 = 0) (x : FVec Ideal S1x1x8x1024 .f32) (k : Fin 1024) (b : Fin 8)
    (hb : b.val = t.val / 8) : rowA (F := Ideal) t h0 x (ix4 0 0 0 k) = x (ix4 0 0 b k) := by
  have hp := (places t).2.2.2.2.2.2.2.2.1
  show x _ = x _
  congr 1
  funext a
  apply Fin.ext
  match a with
  | ⟨0, _⟩ => show k0_off1 (grid0.coords t) 0 + 1 * 0 = 0; rw [hp]; rfl
  | ⟨1, _⟩ => show k0_off1 (grid0.coords t) 1 + 1 * 0 = 0; rw [hp]; rfl
  | ⟨2, _⟩ => show k0_off1 (grid0.coords t) 2 + 1 * 0 = b.val; rw [hp, hb]; rfl
  | ⟨3, _⟩ => show k0_off1 (grid0.coords t) 3 + 1 * k.val = k.val; rw [hp]; show 0 + 1 * k.val = k.val; omega

/-- The row that the second case reads is the batch element's. -/
theorem rowB_apply (t : Fin cfg0.N) (h1 : t.val % 2 = 1) (x : FVec Ideal S1x1x8x1024 .f32) (k : Fin 1024) (b : Fin 8)
    (hb : b.val = t.val / 8) : rowB (F := Ideal) t h1 x (ix4 0 0 0 k) = x (ix4 0 0 b k) := by
  have hp := (places t).2.2.2.2.2.2.2.2.2
  show x _ = x _
  congr 1
  funext a
  apply Fin.ext
  match a with
  | ⟨0, _⟩ => show k0_off2 (grid0.coords t) 0 + 1 * 0 = 0; rw [hp]; rfl
  | ⟨1, _⟩ => show k0_off2 (grid0.coords t) 1 + 1 * 0 = 0; rw [hp]; rfl
  | ⟨2, _⟩ => show k0_off2 (grid0.coords t) 2 + 1 * 0 = b.val; rw [hp, hb]; rfl
  | ⟨3, _⟩ => show k0_off2 (grid0.coords t) 3 + 1 * k.val = k.val; rw [hp]; show 0 + 1 * k.val = k.val; omega

end Cert.FfnBody

end
-- ==== Proof.FfnPay.lean ====
/-
  THE FEED-FORWARD CALL, its payloads read at an index over the extended reals.
-/
module

public import proofs.«01_k».proof.Proof.Gen.KernelFfnIdeal.Skeleton
public import Idealize.ShloMosaic.Lib.Pointwise

@[expose] public section

set_option maxRecDepth 16384

noncomputable section

open Idealize.ShloMosaic

namespace Cert.FfnBody

open Cert.KernelFfnIdeal Cert.KernelFfnIdeal.Gen

/-- The rows normalised and modulated. -/
theorem pay1_apply (x : FVec Ideal S1x1024x1024 .f32) (w : FVec Ideal S1x1024 .f32) (sc sh : FVec Ideal S1x1x1x1024 .f32)
    (r k : Fin 1024) : k0_pay1 (F := Ideal) x w sc sh (ix2 r k)
      = x (ix3 0 r k) * Ideal.rsqrt (Ideal.div (∑ l, x (ix3 0 r l) * x (ix3 0 r l)) (Ideal.ofBits FTy.f32 1149239296#32)
          + Ideal.ofBits FTy.f32 897988541#32) * w (ix2 0 k) * (1 + sc (ix4 0 0 0 k)) + sh (ix4 0 0 0 k) := by
  pointwise [k0_pay1]

/-- The accumulator starts at zero. -/
theorem pay2_apply (r k : Fin 1024) : k0_pay2 (F := Ideal) (ix2 r k) = 0 := by
  pointwise [k0_pay2]

/-- One half of the hidden columns added to the accumulator. -/
theorem pay3_apply (h : FVec Ideal S1024x1024 .bf16) (w1 : FVec Ideal S1x1024x2048 .bf16) (a : FVec Ideal S1024x1024 .f32)
    (w2 : FVec Ideal S1x2048x1024 .bf16) (r d : Fin 1024) : k0_pay3 (F := Ideal) h w1 a w2 (ix2 r d)
      = a (ix2 r d) + ∑ n, max (∑ k, h (ix2 r k) * w1 (ix3 0 k n)) 0 * max (∑ k, h (ix2 r k) * w1 (ix3 0 k n)) 0
          * w2 (ix3 0 n d) := by
  pointwise [k0_pay3]

/-- The rows plus the gated product. -/
theorem pay4_apply (x : FVec Ideal S1x1024x1024 .f32) (g : FVec Ideal S1x1x1x1024 .f32) (a : FVec Ideal S1024x1024 .f32)
    (z : Fin 1) (r d : Fin 1024) :
    k0_pay4 (F := Ideal) x g a (ix3 z r d) = x (ix3 0 r d) + g (ix4 0 0 0 d) * a (ix2 r d) := by
  pointwise [k0_pay4]

end Cert.FfnBody

end
-- ==== Proof.FfnRef.lean ====
/-
  THE FEED-FORWARD BLOCK, the reference read at an index over the extended reals.

  `hid` is a modulated row's element, `act` a hidden column's activation before it is squared, `term` one summand of the
  second product.
-/
module

public import proofs.«01_k».proof.Proof.Gen.ReferenceFfnIdeal.Read
public import Idealize.ShloMosaic.Lib.Pointwise

@[expose] public section

set_option maxRecDepth 16384

noncomputable section

open Idealize.ShloMosaic

namespace Cert.FfnRef

open Cert.ReferenceFfnIdeal Cert.ReferenceFfnIdeal.Read

section Terms

variable (x : FVec Ideal S4x4096x1024 .f32) (ada : FVec Ideal S4x8x6144 .f32) (nw : FVec Ideal S4x1024 .f32)
  (w1 : FVec Ideal S4x1024x4096 .f32) (w2 : FVec Ideal S4x4096x1024 .f32)

/-- Column `k` of row `s` of batch element `b`, normalised, scaled and shifted. -/
def hid (b : Fin 4) (s : Fin 4096) (k : Fin 1024) : EReal :=
  x (ix3 b s k) * Ideal.rsqrt (Ideal.div (∑ l, x (ix3 b s l) * x (ix3 b s l)) (Ideal.ofBits FTy.f32 1149239296#32)
      + Ideal.ofBits FTy.f32 897988541#32) * nw (ix2 3 k)
    * (1 + ada (ix3 3 ⟨b.val, by omega⟩ ⟨4096 + k.val, by omega⟩))
    + ada (ix3 3 ⟨b.val, by omega⟩ ⟨3072 + k.val, by omega⟩)

/-- Hidden column `n` of the row, cut off below at zero. -/
def act (b : Fin 4) (s : Fin 4096) (n : Fin 4096) : EReal := max (∑ k, hid x ada nw b s k * w1 (ix3 3 k n)) 0

/-- What hidden column `n` adds to column `d` of the second product. -/
def term (b : Fin 4) (s : Fin 4096) (d : Fin 1024) (n : Fin 4096) : EReal :=
  act x ada nw w1 b s n * act x ada nw w1 b s n * w2 (ix3 3 n d)

end Terms

theorem ref_apply (x : FVec Ideal S4x4096x1024 .f32) (ada : FVec Ideal S4x8x6144 .f32) (nw : FVec Ideal S4x1024 .f32)
    (w1 : FVec Ideal S4x1024x4096 .f32) (w2 : FVec Ideal S4x4096x1024 .f32) (b : Fin 4) (s : Fin 4096) (d : Fin 1024) :
    val_main_v40 (F := Ideal) x ada nw w1 w2 (ix3 b s d) = x (ix3 b s d)
      + ada (ix3 3 ⟨b.val, by omega⟩ ⟨5120 + d.val, by omega⟩) * ∑ n, term x ada nw w1 w2 b s d n := by
  pointwise [    val_main_v40, val_main_v39, val_main_v38, val_main_v37, val_main_v36, val_main_v35, val_main_v34,
    val_main_v33, val_main_call0_v0, val_main_call0_cst, val_main_v32, val_main_v31, val_main_v30, val_main_v29,
    val_main_v28, val_main_v27, val_main_v26, val_main_v25, val_main_v24, val_main_cst_2, val_main_v23,
    val_main_v22, val_main_v21, val_main_v20, val_main_v19, val_main_v18, val_main_v17, val_main_v16,
    val_main_cst_1, val_main_v15, val_main_v14, val_main_cst_0, val_main_v13, val_main_v12, val_main_cst,
    val_main_v11, val_main_v10, val_main_v9, val_main_v8, val_main_v7, val_main_v6, val_main_v5, val_main_v4,
    val_main_v3, val_main_v2, val_main_v1, val_main_v0]
  rfl

end Cert.FfnRef

end
-- ==== Proof.FfnValue.lean ====
/-
  THE FEED-FORWARD CALL over the extended reals: the array it leaves is the reference's result of the same arguments.
  A row's two halves of hidden columns, added one after the other, are the one sum over all of them.
-/
module

public import proofs.«01_k».proof.Proof.FfnBlocks
public import proofs.«01_k».proof.Proof.FfnPay
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnBody

open Cert.KernelFfnIdeal Cert.KernelFfnIdeal.Gen Cert.FfnRef
open Cert.ReferenceFfnIdeal.Read (val_main_v40)

variable (m : (ℓ : Loc nD τ sig) → Buf (Elt Ideal) ℓ)

/-- The arguments as arrays of extended reals. -/
abbrev X (c : Dev nD) : FVec Ideal S4x4096x1024 .f32 := m ((c : Thread nD τ).loc main_arg0)
abbrev Ada (c : Dev nD) : FVec Ideal S4x8x6144 .f32 := m ((c : Thread nD τ).loc main_arg1)
abbrev Nw (c : Dev nD) : FVec Ideal S4x1024 .f32 := m ((c : Thread nD τ).loc main_arg2)
abbrev W1 (c : Dev nD) : FVec Ideal S4x1024x4096 .f32 := m ((c : Thread nD τ).loc main_arg3)
abbrev W2 (c : Dev nD) : FVec Ideal S4x4096x1024 .f32 := m ((c : Thread nD τ).loc main_arg4)

/-- The modulated rows of an even point are the reference's. -/
theorem hidden_apply (c : Dev nD) (t : Fin cfg0.N) (h0 : t.val % 2 = 0) (r k : Fin 1024) (b : Fin 4) (s : Fin 4096)
    (hb : b.val = t.val / 8) (hs : s.val = t.val / 2 % 4 * 1024 + r.val) :
    hidden m c t h0 (ix2 r k) = hid (X m c) (Ada m c) (Nw m c) b s k := by
  obtain ⟨⟨p00, p01, p02⟩, ⟨p10, p11⟩, ⟨p20, p21, p22, p23⟩, ⟨p30, p31, p32, p33⟩, -⟩ := places t
  have hx : ∀ l : Fin 1024, (iblk m c 0 t : FVec Ideal S1x1024x1024 .f32) (ix3 0 r l) = X m c (ix3 b s l) := fun l =>
    blk0 m c t 0 r l b s l (by rw [p00, hb]; simp) (by rw [p01, hs]) (by rw [p02]; simp)
  have hw : (iblk m c 1 t : FVec Ideal S1x1024 .f32) (ix2 0 k) = Nw m c (ix2 3 k) :=
    (blk1 m c t 0 k 0 k (by rw [p10]; simp) (by rw [p11]; simp)).trans (entry_norm m c 0 k)
  have hsc : rowA (F := Ideal) t h0 (iblk m c 2 t) (ix4 0 0 0 k) = Ada m c (ix3 3 ⟨b.val, by omega⟩ ⟨4096 + k.val, by omega⟩) := by
    rw [rowA_apply t h0 _ k ⟨b.val, by omega⟩ hb]
    refine (blk2 m c t 0 0 _ k 3 4 ⟨b.val, by omega⟩ k (by rw [p20]; simp) (by rw [p21]; simp) (by rw [p22]; simp) (by rw [p23]; simp)).trans ?_
    exact entry_mods m c 3 4 _ k
  have hsh : rowA (F := Ideal) t h0 (iblk m c 3 t) (ix4 0 0 0 k) = Ada m c (ix3 3 ⟨b.val, by omega⟩ ⟨3072 + k.val, by omega⟩) := by
    rw [rowA_apply t h0 _ k ⟨b.val, by omega⟩ hb]
    refine (blk3 m c t 0 0 _ k 3 3 ⟨b.val, by omega⟩ k (by rw [p30]; simp) (by rw [p31]; simp) (by rw [p32]; simp) (by rw [p33]; simp)).trans ?_
    exact entry_mods m c 3 3 _ k
  unfold hid
  refine (pay1_apply _ _ _ _ r k).trans ?_
  simp only [hx, hw]
  rw [hsc, hsh]

/-- The half of the hidden columns that a point adds. -/
theorem half_apply (c : Dev nD) (t : Fin cfg0.N) (h : FVec Ideal S1024x1024 .bf16) (a : FVec Ideal S1024x1024 .f32)
    (r d : Fin 1024) (b : Fin 4) (s : Fin 4096)
    (hh : ∀ k, h (ix2 r k) = hid (X m c) (Ada m c) (Nw m c) b s k) :
    k0_pay3 (F := Ideal) h (iblk m c 5 t) a (iblk m c 6 t) (ix2 r d)
      = a (ix2 r d) + ∑ n : Fin 2048, term (X m c) (Ada m c) (Nw m c) (W1 m c) (W2 m c) b s d ⟨t.val % 2 * 2048 + n.val, by omega⟩ := by
  obtain ⟨-, -, -, -, -, ⟨p50, p51, p52⟩, ⟨p60, p61, p62⟩, -⟩ := places t
  have h1 : ∀ (k : Fin 1024) (n : Fin 2048), (iblk m c 5 t : FVec Ideal S1x1024x2048 .bf16) (ix3 0 k n)
      = W1 m c (ix3 3 k ⟨t.val % 2 * 2048 + n.val, by omega⟩) := fun k n =>
    (blk5 m c t 0 k n 3 k ⟨t.val % 2 * 2048 + n.val, by omega⟩ (by rw [p50]; simp) (by rw [p51]; simp) (by rw [p52])).trans
      (entry_w1 m c _)
  have h2 : ∀ (n : Fin 2048), (iblk m c 6 t : FVec Ideal S1x2048x1024 .bf16) (ix3 0 n d)
      = W2 m c (ix3 3 ⟨t.val % 2 * 2048 + n.val, by omega⟩ d) := fun n =>
    (blk6 m c t 0 n d 3 ⟨t.val % 2 * 2048 + n.val, by omega⟩ d (by rw [p60]; simp) (by rw [p61]) (by rw [p62]; simp)).trans
      (entry_w2 m c _)
  refine (pay3_apply _ _ _ _ r d).trans ?_
  refine congrArg (a (ix2 r d) + ·) (Finset.sum_congr rfl fun n _ => ?_)
  unfold term act
  simp only [hh, h1, h2]

/-- What an odd point leaves in the output block is the reference's block. -/
theorem out_apply (c : Dev nD) (t : Fin cfg0.N) (h0 : ¬t.val % 2 = 0) (h1 : t.val % 2 = 1) (z : Fin 1) (r d : Fin 1024)
    (b : Fin 4) (s : Fin 4096) (hb : b.val = t.val / 8) (hs : s.val = t.val / 2 % 4 * 1024 + r.val) :
    (outsAt0 m c t.val t.isLt).1 (ix3 z r d)
      = val_main_v40 (F := Ideal) (X m c) (Ada m c) (Nw m c) (W1 m c) (W2 m c) (ix3 b s d) := by
  obtain ⟨⟨p00, p01, p02⟩, -, -, -, ⟨p40, p41, p42, p43⟩, -⟩ := places t
  have hlt : t.val - 1 < cfg0.N := by omega
  have e0 : (⟨t.val - 1, hlt⟩ : Fin cfg0.N).val % 2 = 0 := by show (t.val - 1) % 2 = 0; omega
  have e1 : ¬(⟨t.val - 1, hlt⟩ : Fin cfg0.N).val % 2 = 1 := by show ¬(t.val - 1) % 2 = 1; omega
  have eb : b.val = (⟨t.val - 1, hlt⟩ : Fin cfg0.N).val / 8 := by show b.val = (t.val - 1) / 8; omega
  have es : s.val = (⟨t.val - 1, hlt⟩ : Fin cfg0.N).val / 2 % 4 * 1024 + r.val := by
    show s.val = (t.val - 1) / 2 % 4 * 1024 + r.val; omega
  have hH := hidden_even m c ⟨t.val - 1, hlt⟩ e0 e1
  have hA := acc_even m c ⟨t.val - 1, hlt⟩ e0 e1
  rw [out_odd m c t h0 h1]
  rw [show (outsAt0 m c (t.val - 1) (by omega)).2.1 = _ from hH, show (outsAt0 m c (t.val - 1) (by omega)).2.2 = _ from hA]
  have hx : (iblk m c 0 t : FVec Ideal S1x1024x1024 .f32) (ix3 0 r d) = X m c (ix3 b s d) :=
    blk0 m c t 0 r d b s d (by rw [p00, hb]; simp) (by rw [p01, hs]) (by rw [p02]; simp)
  have hg : rowB (F := Ideal) t h1 (iblk m c 4 t) (ix4 0 0 0 d) = Ada m c (ix3 3 ⟨b.val, by omega⟩ ⟨5120 + d.val, by omega⟩) := by
    rw [rowB_apply t h1 _ d ⟨b.val, by omega⟩ hb]
    refine (blk4 m c t 0 0 _ d 3 5 ⟨b.val, by omega⟩ d (by rw [p40]; simp) (by rw [p41]; simp) (by rw [p42]; simp) (by rw [p43]; simp)).trans ?_
    exact entry_mods m c 3 5 _ d
  refine (pay4_apply _ _ _ z r d).trans ?_
  have hh := fun k => hidden_apply m c ⟨t.val - 1, hlt⟩ e0 r k b s eb es
  rw [hx, hg, half_apply m c t _ _ r d b s hh, half_apply m c ⟨t.val - 1, hlt⟩ _ _ r d b s hh, pay2_apply, ref_apply,
    Fin.sum_univ_two_halves 2048 2048 rfl, zero_add]
  refine congrArg (X m c (ix3 b s d) + _ * ·) (congrArg₂ (· + ·) ?_ ?_)
  · exact Finset.sum_congr rfl fun n _ => congrArg _ (Fin.ext (by show (t.val - 1) % 2 * 2048 + n.val = n.val; omega))
  · exact Finset.sum_congr rfl fun n _ => congrArg _ (Fin.ext (by show t.val % 2 * 2048 + n.val = 2048 + n.val; omega))

/-- What point `t` writes back is its block of the reference's result. -/
theorem flushed_eq (c : Dev nD) (t : Fin cfg0.N) (hf : (cfg0.win 7).flush t = true) :
    (dats m 0 c).flushed 7 t = ((cfg0.win 7).blk t).view.read (Elt Ideal)
      (val_main_v40 (F := Ideal) (X m c) (Ada m c) (Nw m c) (W1 m c) (W2 m c)) := by
  have h1 : t.val % 2 = 1 := (flush0_7 t).mp hf
  have h0 : ¬t.val % 2 = 0 := by omega
  have hN : cfg0.N = 32 := N_0
  have ht := t.isLt
  obtain ⟨-, -, -, -, -, -, -, ⟨p70, p71, p72⟩, -⟩ := places t
  rw [Cert.KernelFfnIdeal.Value.flushed7]
  funext j
  rw [View.read_apply]
  obtain ⟨z, r, d, rfl⟩ : ∃ (z : Fin 1) (r d : Fin 1024), j = ix3 z r d := ⟨j 0, j 1, j 2, eq_ix3 j⟩
  refine (out_apply m c t h0 h1 z r d ⟨t.val / 8, by omega⟩ ⟨t.val / 2 % 4 * 1024 + r.val, by omega⟩ rfl rfl).trans ?_
  congr 1
  funext a
  apply Fin.ext
  match a with
  | ⟨0, _⟩ => show t.val / 8 = cc0_transform_7 (grid0.coords t) 0 * 1 + 1 * z.val; omega
  | ⟨1, _⟩ => show t.val / 2 % 4 * 1024 + r.val = cc0_transform_7 (grid0.coords t) 1 * 1024 + 1 * r.val; omega
  | ⟨2, _⟩ => show d.val = cc0_transform_7 (grid0.coords t) 2 * 1024 + 1 * d.val; omega

/-- Every element of the result lies in the block of an odd point. -/
theorem cover (i : S4x4096x1024.Idx) :
    ∃ t : Fin cfg0.N, (cfg0.win 7).flush t = true ∧ i ∈ ((cfg0.win 7).blk t).view.set := by
  have i0 : (i 0).val < 4 := (i 0).isLt
  have i1 : (i 1).val < 4096 := (i 1).isLt
  have i2 : (i 2).val < 1024 := (i 2).isLt
  have hN : cfg0.N = 32 := N_0
  have ht : (i 0).val * 8 + (i 1).val / 1024 * 2 + 1 < cfg0.N := by omega
  obtain ⟨-, -, -, -, -, -, -, ⟨p70, p71, p72⟩, -⟩ := places ⟨_, ht⟩
  refine ⟨⟨_, ht⟩, (flush0_7 _).mpr (by show ((i 0).val * 8 + (i 1).val / 1024 * 2 + 1) % 2 = 1; omega), ?_⟩
  show i ∈ ((View.whole main_v7).slice (win0_7.rect ⟨_, ht⟩)).set
  rw [View.set_slice_whole, Rect.mem_set_unit]
  intro a
  dsimp only at p70 p71 p72
  match a with
  | ⟨0, _⟩ => show cc0_transform_7 (grid0.coords ⟨_, ht⟩) 0 * 1 ≤ (i 0).val ∧ (i 0).val < cc0_transform_7 (grid0.coords ⟨_, ht⟩) 0 * 1 + 1; omega
  | ⟨1, _⟩ => show cc0_transform_7 (grid0.coords ⟨_, ht⟩) 1 * 1024 ≤ (i 1).val ∧ (i 1).val < cc0_transform_7 (grid0.coords ⟨_, ht⟩) 1 * 1024 + 1024; omega
  | ⟨2, _⟩ => show cc0_transform_7 (grid0.coords ⟨_, ht⟩) 2 * 1024 ≤ (i 2).val ∧ (i 2).val < cc0_transform_7 (grid0.coords ⟨_, ht⟩) 2 * 1024 + 1024; omega

/-- The array the call leaves is the reference's result. -/
theorem final (c : Dev nD) : (dats m 0 c).arrAt 7 cfg0.N
    = val_main_v40 (F := Ideal) (X m c) (Ada m c) (Nw m c) (W1 m c) (W2 m c) :=
  (dats m 0 c).arrAt_eq_of_cover 7 _ (flushed_eq m c) cover

end Cert.FfnBody

end
-- ==== Proof.FfnClaims.lean ====
/-
  THE FEED-FORWARD CALL'S CLAIMS: the frames, and the equality with the reference over the extended reals.
-/
module

public import proofs.«01_k».proof.Defs
public import proofs.«01_k».proof.Proof.FfnValue
public import proofs.«01_k».proof.Proof.Gen.KernelFfn.Frame
public import proofs.«01_k».proof.Proof.Gen.ReferenceFfnIdeal.Run
public import Idealize.ShloMosaic.Lib.Quiescent

@[expose] public section

noncomputable section

open Idealize.ShloMosaic Idealize.ShloMosaic.TcCoe Idealize.SL.Sem

namespace Cert.Proof

theorem quiescent_kernelFfn : Cert.quiescent_KernelFfn := fun m ρ _ => Cert.KernelFfn.Gen.frame m ρ
theorem quiescent_kernelFfnIdeal : Cert.quiescent_KernelFfnIdeal := fun m ρ _ => Cert.KernelFfnIdeal.Gen.frame m ρ

theorem quiescent_referenceFfnIdeal : Cert.quiescent_ReferenceFfnIdeal := fun m ρ _ =>
  (θ_run Cert.ReferenceFfnIdeal.defs _ _).mono (fun r h => ⟨fun c => (h c).2, sem_eq_zero_of_no_sems (by decide) r.2⟩)
    (Cert.ReferenceFfnIdeal.Value.run (F := Ideal) m ρ)

theorem algebraic_ffn : Cert.algebraic_KernelFfnIdeal_ReferenceFfnIdeal := by
  intro m ρ m' ρ' _ hagree
  refine ⟨fun c => Cert.ReferenceFfnIdeal.Read.val_main_v40 (F := Ideal) (Cert.FfnBody.X m c) (Cert.FfnBody.Ada m c)
      (Cert.FfnBody.Nw m c) (Cert.FfnBody.W1 m c) (Cert.FfnBody.W2 m c), ?_, ?_⟩
  · exact (θ_run Cert.KernelFfnIdeal.defs _ _).mono (fun _ h c => ⟨(h c).1.trans (Cert.FfnBody.final m c), (h c).2⟩)
      (Cert.KernelFfnIdeal.Value.run_blocks (F := Ideal) m ρ)
  · refine (θ_run Cert.ReferenceFfnIdeal.defs _ _).mono (fun _ h c => ⟨(h c).1.trans ?_, (h c).2⟩)
      (Cert.ReferenceFfnIdeal.Value.run (F := Ideal) m' ρ')
    refine (Cert.ReferenceFfnIdeal.Read.val_main_v40_eq m' c).trans ?_
    obtain ⟨a0, a1, a2, a3, a4⟩ := hagree c
    rw [a0, a1, a2, a3, a4]

end Cert.Proof

end
-- ==== Proof.SlotRows.lean ====
/-
  A SCRATCH OF TWO SLOTS, each a plane of rows and columns, written and read by rectangles of one slot.

  A body that takes one slot, drops its unit axis and stores a rectangle of the plane writes a rectangle of the whole
  scratch; `canon_hit` reads such a write back under its rectangle, `canon_miss` passes it by where the index lies
  outside, and `plane_read` reads a plane's rectangle at an index.
-/
module

public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.SlotRows

variable {F : FTy → Type} [FloatOps F]

/-- The scratch: two planes of 544 rows and 1024 columns. -/
abbrev SB : Shape := ⟨3, ![2, 544, 1024]⟩
abbrev S1B : Shape := ⟨3, ![1, 544, 1024]⟩
abbrev SP : Shape := ⟨2, ![544, 1024]⟩

theorem hsz : ∀ i : Fin 2, (![1, 544, 1024] : Fin 3 → Nat) i.succ = (![544, 1024] : Fin 2 → Nat) i := fun i => by
  fin_cases i <;> rfl

theorem hsz0 : (![1, 544, 1024] : Fin 3 → Nat) 0 = 1 := rfl

/-- The whole of slot `a`. -/
abbrev slot (a : Nat) (ha : ∀ i, (![a, 0, 0] : Fin 3 → Nat) i + S1B.size i ≤ SB.size i) : Rect SB := Rect.unit (s := SB) ![a, 0, 0] S1B.size ha

variable {a o p R C : Nat} {ha : ∀ i, (![a, 0, 0] : Fin 3 → Nat) i + S1B.size i ≤ SB.size i}
  {hr : ∀ i, (![o, p] : Fin 2 → Nat) i + (![R, C] : Fin 2 → Nat) i ≤ SP.size i}

/-- A write's rectangle of the plane, as one of the scratch. -/
abbrev lifted (a o p R C : Nat) (ha : ∀ i, (![a, 0, 0] : Fin 3 → Nat) i + S1B.size i ≤ SB.size i)
    (hr : ∀ i, (![o, p] : Fin 2 → Nat) i + (![R, C] : Fin 2 → Nat) i ≤ SP.size i) : Rect SB :=
  (slot a ha).within ((Rect.unit (s := SP) ![o, p] ![R, C] hr).consLift ![1, 544, 1024] hsz0 hsz) fun _ => rfl

theorem numel_lifted : (lifted a o p R C ha hr).shape.numel = (Rect.unit (s := SP) ![o, p] ![R, C] hr).shape.numel :=
  Rect.numel_consLift (Rect.unit (s := SP) ![o, p] ![R, C] hr) ![1, 544, 1024] hsz0 hsz

/-- The write: the payload `w` at rows `o …` and columns `p …` of slot `a`. -/
abbrev put (a o p R C : Nat) (ha : ∀ i, (![a, 0, 0] : Fin 3 → Nat) i + S1B.size i ≤ SB.size i)
    (hr : ∀ i, (![o, p] : Fin 2 → Nat) i + (![R, C] : Fin 2 → Nat) i ≤ SP.size i) (w : FVec F ⟨2, ![R, C]⟩ .f32) :
    View.Piece (Elt F) SB .f32 :=
  ⟨lifted a o p R C ha hr, Rect.payAlong numel_lifted w⟩

theorem emb_lifted (r : Fin R) (k : Fin C) (hA : a < 2) (hR : o + r.val < 544) (hC : p + k.val < 1024) :
    ∃ x : (lifted a o p R C ha hr).shape.Idx, (lifted a o p R C ha hr).emb x = ix3 ⟨a, hA⟩ ⟨o + r.val, hR⟩ ⟨p + k.val, hC⟩
      ∧ ∀ {V : Type} (w : (⟨2, ![R, C]⟩ : Shape).Idx → V), Rect.payAlong (r := Rect.unit (s := SP) ![o, p] ![R, C] hr) numel_lifted w x = w (ix2 r k) := by
  refine ⟨Fin.cons ⟨0, Nat.one_pos⟩ (ix2 r k), ?_, ?_⟩
  · funext i
    apply Fin.ext
    fin_cases i
    · show a + 0 + 1 * 0 = a; omega
    · show 0 + o + 1 * r.val = o + r.val; omega
    · show 0 + p + 1 * k.val = p + k.val; omega
  · intro V w
    exact Rect.payAlong_consLift (r := Rect.unit (s := SP) ![o, p] ![R, C] hr) ![1, 544, 1024] hsz0 hsz w _ _ (ix2 r k) fun i => by
      fin_cases i <;> rfl

theorem canon_hit (w : FVec F ⟨2, ![R, C]⟩ .f32) (L : List (View.Piece (Elt F) SB .f32)) (r : Fin R) (k : Fin C) (hA : a < 2)
    (hR : o + r.val < 544) (hC : p + k.val < 1024) :
    View.canon (put a o p R C ha hr w :: L) (ix3 ⟨a, hA⟩ ⟨o + r.val, hR⟩ ⟨p + k.val, hC⟩) = w (ix2 r k) := by
  obtain ⟨x, hx, hw⟩ := emb_lifted (ha := ha) (hr := hr) r k hA hR hC
  rw [← hx, ← hw w]
  exact View.canon_cons_emb _ _ L x

theorem canon_miss (w : FVec F ⟨2, ![R, C]⟩ .f32) (L : List (View.Piece (Elt F) SB .f32)) (b : Fin 2) (r : Fin 544) (k : Fin 1024)
    (h : b.val ≠ a) : View.canon (put a o p R C ha hr w :: L) (ix3 b r k) = View.canon L (ix3 b r k) := by
  refine View.canon_cons_of_not_mem _ L fun hm => h ?_
  obtain ⟨j, hj⟩ := (lifted a o p R C ha hr).toLoadRect.exists_idx_of_mem hm
  have h0 : (j 0).val < 1 := (j 0).isLt
  have h1 : a + 0 + 1 * (j 0).val = b.val := congrArg (fun i : SB.Idx => (i 0).val) hj
  omega

/-- `canon_hit` at a row and a column given by equations. -/
theorem canon_at (w : FVec F ⟨2, ![R, C]⟩ .f32) (L : List (View.Piece (Elt F) SB .f32)) (P K : Nat) (hA : a < 2) (hP : P < 544)
    (hK : K < 1024) (r : Fin R) (k : Fin C) (h1 : P = o + r.val) (h2 : K = p + k.val) :
    View.canon (put a o p R C ha hr w :: L) (ix3 ⟨a, hA⟩ ⟨P, hP⟩ ⟨K, hK⟩) = w (ix2 r k) := by
  subst h1 h2
  exact canon_hit w L r k hA hP hK

/-- A write leaves the columns before its own. -/
theorem canon_left (w : FVec F ⟨2, ![R, C]⟩ .f32) (L : List (View.Piece (Elt F) SB .f32)) (b : Fin 2) (r : Fin 544) (k : Fin 1024)
    (h : k.val < p) : View.canon (put a o p R C ha hr w :: L) (ix3 b r k) = View.canon L (ix3 b r k) := by
  refine View.canon_cons_of_not_mem _ L fun hm => ?_
  obtain ⟨j, hj⟩ := (lifted a o p R C ha hr).toLoadRect.exists_idx_of_mem hm
  have h1 : 0 + p + 1 * (j 2).val = k.val := congrArg (fun i : SB.Idx => (i 2).val) hj
  omega

/-- A rectangle of slot `a`'s plane, read out of the scratch's contents `G`. -/
abbrev plane (a o p R C : Nat) (ha : ∀ i, (![a, 0, 0] : Fin 3 → Nat) i + S1B.size i ≤ SB.size i)
    (hr : ∀ i, (![o, p] : Fin 2 → Nat) i + (![R, C] : Fin 2 → Nat) i ≤ SP.size i) (G : FVec F SB .f32) : FVec F ⟨2, ![R, C]⟩ .f32 :=
  LoadRect.valAlong (lr := (Rect.unit (s := SP) ![o, p] ![R, C] hr).toLoadRect)
    (LR := (slot a ha).withinL ((Rect.unit (s := SP) ![o, p] ![R, C] hr).toLoadRect.consLift ![1, 544, 1024] hsz0 hsz) fun _ => rfl)
    (LoadRect.numel_consLift (Rect.unit (s := SP) ![o, p] ![R, C] hr).toLoadRect ![1, 544, 1024] hsz0 hsz) fun j => G (((slot a ha).withinL ((Rect.unit (s := SP) ![o, p] ![R, C] hr).toLoadRect.consLift ![1, 544, 1024] hsz0 hsz) fun _ => rfl).idx j)

theorem plane_read (G : FVec F SB .f32) (r : Fin R) (k : Fin C) (hA : a < 2) (hR : o + r.val < 544) (hC : p + k.val < 1024) :
    plane a o p R C ha hr G (ix2 r k) = G (ix3 ⟨a, hA⟩ ⟨o + r.val, hR⟩ ⟨p + k.val, hC⟩) := by
  have hx := Shape.reshapeEquiv_cons_one (d := ![R, C])
    (LoadRect.numel_consLift (Rect.unit (s := SP) ![o, p] ![R, C] hr).toLoadRect ![1, 544, 1024] hsz0 hsz) (ix2 r k)
  refine (congrArg (fun j => G (((slot a ha).withinL ((Rect.unit (s := SP) ![o, p] ![R, C] hr).toLoadRect.consLift ![1, 544, 1024] hsz0 hsz)
    fun _ => rfl).idx j)) hx).trans ?_
  refine congrArg G ?_
  funext i
  apply Fin.ext
  fin_cases i
  · show a + 0 + 1 * 0 = a; omega
  · show 0 + o + 1 * r.val = o + r.val; omega
  · show 0 + p + 1 * k.val = p + k.val; omega

theorem plane_at (G : FVec F SB .f32) (P K : Nat) (hA : a < 2) (hP : P < 544) (hK : K < 1024) (r : Fin R) (k : Fin C)
    (h1 : P = o + r.val) (h2 : K = p + k.val) : plane a o p R C ha hr G (ix2 r k) = G (ix3 ⟨a, hA⟩ ⟨P, hP⟩ ⟨K, hK⟩) := by
  subst h1 h2
  exact plane_read G r k hA hP hK

end Cert.SlotRows
-- ==== Proof.MergeBody.lean ====
/-
  THE MERGE CALL, what its body leaves: the rows plus the gated projection of the three branches, where the pooled
  branch's trailing sums are built in a two-slot scratch by doubling over the block's rows and the 32 rows before it.
-/
module

public import proofs.«01_k».proof.Proof.Gen.KernelMergeIdeal.Value
public import proofs.«01_k».proof.Proof.SlotRows
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MergeBody

open Cert.KernelMergeIdeal Cert.KernelMergeIdeal.Gen Cert.SlotRows

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- The two halves of the columns of a block of rows, and of a block of earlier rows. -/
abbrev lo (x : Vec F S1x2x512x512 .bf16) : Vec F S1x1x512x512 .bf16 :=
  View.ld x (Rect.unit (s := S1x2x512x512) ![0, 0, 0, 0] S1x1x512x512.size inb_S1x2x512x512_S1x1x512x512_0_0_0_0)
abbrev hi (x : Vec F S1x2x512x512 .bf16) : Vec F S1x1x512x512 .bf16 :=
  View.ld x (Rect.unit (s := S1x2x512x512) ![0, 1, 0, 0] S1x1x512x512.size inb_S1x2x512x512_S1x1x512x512_0_1_0_0)
abbrev lo32 (x : Vec F S1x2x32x512 .bf16) : Vec F S1x1x32x512 .bf16 :=
  View.ld x (Rect.unit (s := S1x2x32x512) ![0, 0, 0, 0] S1x1x32x512.size inb_S1x2x32x512_S1x1x32x512_0_0_0_0)
abbrev hi32 (x : Vec F S1x2x32x512 .bf16) : Vec F S1x1x32x512 .bf16 :=
  View.ld x (Rect.unit (s := S1x2x32x512) ![0, 1, 0, 0] S1x1x32x512.size inb_S1x2x32x512_S1x1x32x512_0_1_0_0)

/-- The two writes that fill the scratch of rows. -/
def wrE (i : grid0.Coords) (h : Vec F S1x2x32x512 .bf16) (u : Vec F S1x2x512x512 .bf16) : List (View.Piece (Elt F) S544x1024 .f32) :=
  [⟨Rect.unit (s := S544x1024) ![32, 0] S512x1024.size inb_S544x1024_S512x1024_32_0, k0_pay3 (lo u) (hi u)⟩,
    ⟨Rect.unit (s := S544x1024) ![0, 0] S32x1024.size inb_S544x1024_S32x1024_0_0, k0_pay2 i (lo32 h) (hi32 h)⟩]

/-- The block's rows behind the 32 rows before them (zeros before the first block). -/
def ext (i : grid0.Coords) (h : Vec F S1x2x32x512 .bf16) (u : Vec F S1x2x512x512 .bf16) : FVec F S544x1024 .f32 :=
  View.canon (wrE i h u)

section Doubling

variable (E : FVec F S544x1024 .f32)

/-- Sums of two rows. -/
def sum2 : FVec F S536x1024 .f32 :=
  k0_pay5 (k0_pay4 (View.ld E (Rect.unit (s := S544x1024) ![8, 0] S536x1024.size inb_S544x1024_S536x1024_8_0))
    (View.ld E (Rect.unit (s := S544x1024) ![7, 0] S536x1024.size inb_S544x1024_S536x1024_7_0)))
def wr2 : List (View.Piece (Elt F) SB .f32) :=
  [put 0 8 0 536 1024 inb_S2x544x1024_S1x544x1024_0_0_0 inb_S544x1024_S536x1024_8_0 (sum2 E)]
def slots2 : FVec F SB .f32 := View.canon (wr2 E)
/-- Sums of four rows, without the first 256 columns. -/
def sum4 : FVec F S528x768 .f32 :=
  k0_pay6 (plane 0 16 256 528 768 inb_S2x544x1024_S1x544x1024_0_0_0 inb_S544x1024_S528x768_16_256 (slots2 E))
    (plane 0 14 256 528 768 inb_S2x544x1024_S1x544x1024_0_0_0 inb_S544x1024_S528x768_14_256 (slots2 E))
def wr4 : List (View.Piece (Elt F) SB .f32) :=
  put 1 16 256 528 768 inb_S2x544x1024_S1x544x1024_1_0_0 inb_S544x1024_S528x768_16_256 (sum4 E) :: wr2 E
def slots4 : FVec F SB .f32 := View.canon (wr4 E)
/-- Sums of eight rows, in the last 512 columns. -/
def sum8 : FVec F S520x512 .f32 :=
  k0_pay7 (plane 1 24 512 520 512 inb_S2x544x1024_S1x544x1024_1_0_0 inb_S544x1024_S520x512_24_512 (slots4 E))
    (plane 1 20 512 520 512 inb_S2x544x1024_S1x544x1024_1_0_0 inb_S544x1024_S520x512_20_512 (slots4 E))
def wr8 : List (View.Piece (Elt F) SB .f32) :=
  put 0 24 512 520 512 inb_S2x544x1024_S1x544x1024_0_0_0 inb_S544x1024_S520x512_24_512 (sum8 E) :: wr4 E
def slots8 : FVec F SB .f32 := View.canon (wr8 E)
/-- Sums of sixteen rows, in the last 256 columns. -/
def sum16 : FVec F S512x256 .f32 :=
  k0_pay8 (plane 0 32 768 512 256 inb_S2x544x1024_S1x544x1024_0_0_0 inb_S544x1024_S512x256_32_768 (slots8 E))
    (plane 0 24 768 512 256 inb_S2x544x1024_S1x544x1024_0_0_0 inb_S544x1024_S512x256_24_768 (slots8 E))
def wr16 : List (View.Piece (Elt F) SB .f32) :=
  put 1 32 768 512 256 inb_S2x544x1024_S1x544x1024_1_0_0 inb_S544x1024_S512x256_32_768 (sum16 E) :: wr8 E
def slots16 : FVec F SB .f32 := View.canon (wr16 E)

end Doubling

/-- The plane of the mixing weights of group `g`. -/
abbrev mixOf (x : Vec F S1x4x256x256 .bf16) (g : Nat) (hg : ∀ a, (![g, 0, 0] : Fin 3 → Nat) a + S1x256x256.size a ≤ S4x256x256.size a) :
    Vec F S1x256x256 .bf16 :=
  LoadRect.valAlong (lr := (Rect.unit (s := S4x256x256) ![g, 0, 0] S1x256x256.size hg).toLoadRect)
    (LR := (Rect.unit (s := S1x4x256x256) ![0, 0, 0, 0] S1x4x256x256.size inb_S1x4x256x256_S1x4x256x256_0_0_0_0).withinL
      ((Rect.unit (s := S4x256x256) ![g, 0, 0] S1x256x256.size hg).toLoadRect.consLift ![1, 4, 256, 256] rfl (fun i => by fin_cases i <;> rfl))
      fun _ => rfl)
    (LoadRect.numel_consLift (Rect.unit (s := S4x256x256) ![g, 0, 0] S1x256x256.size hg).toLoadRect ![1, 4, 256, 256] rfl
      (fun i => by fin_cases i <;> rfl))
    fun j => x (((Rect.unit (s := S1x4x256x256) ![0, 0, 0, 0] S1x4x256x256.size inb_S1x4x256x256_S1x4x256x256_0_0_0_0).withinL
      ((Rect.unit (s := S4x256x256) ![g, 0, 0] S1x256x256.size hg).toLoadRect.consLift ![1, 4, 256, 256] rfl (fun i => by fin_cases i <;> rfl))
      fun _ => rfl).idx j)

/-- The row of the modulation block the body reads. -/
abbrev modRow (i : grid0.Coords) (x : Vec F S1x1x8x1024 .f32) : Vec F S1x1x1x1024 .f32 :=
  View.ld x (Rect.unit (s := S1x1x8x1024) (k0_off1 i) S1x1x1x1024.size (k0_off1_inb i))

/-- The pooled branch after mixing and scaling. -/
def pooled (i : grid0.Coords) (E : FVec F S544x1024 .f32) (W : Vec F S1x4x256x256 .bf16) (sc : Vec F S1x1024 .f32) : FVec F S512x1024 .bf16 :=
  k0_pay14 (k0_pay9 (BitVec.ofNat 32 (i 1).val))
    (k0_pay11 (k0_pay10 (BitVec.ofNat 32 (i 1).val)
      (View.ld (slots16 E) (Rect.unit (s := S2x544x1024) ![0, 32, 0] S1x512x256.size inb_S2x544x1024_S1x512x256_0_32_0))
      (View.ld E (Rect.unit (s := S544x1024) ![32, 0] S512x256.size inb_S544x1024_S512x256_32_0)))
      (mixOf W 0 inb_S4x256x256_S1x256x256_0_0_0))
    (k0_pay12 (k0_pay9 (BitVec.ofNat 32 (i 1).val))
      (View.ld (slots16 E) (Rect.unit (s := S2x544x1024) ![1, 32, 256] S1x512x256.size inb_S2x544x1024_S1x512x256_1_32_256))
      (View.ld E (Rect.unit (s := S544x1024) ![32, 256] S512x256.size inb_S544x1024_S512x256_32_256))
      (mixOf W 1 inb_S4x256x256_S1x256x256_1_0_0))
    (k0_pay13 (k0_pay9 (BitVec.ofNat 32 (i 1).val))
      (View.ld (slots16 E) (Rect.unit (s := S2x544x1024) ![0, 32, 512] S1x512x256.size inb_S2x544x1024_S1x512x256_0_32_512))
      (View.ld E (Rect.unit (s := S544x1024) ![32, 512] S512x256.size inb_S544x1024_S512x256_32_512)))
    (mixOf W 2 inb_S4x256x256_S1x256x256_2_0_0)
    (View.ld (slots16 E) (Rect.unit (s := S2x544x1024) ![1, 32, 768] S1x512x256.size inb_S2x544x1024_S1x512x256_1_32_768))
    (View.ld E (Rect.unit (s := S544x1024) ![32, 768] S512x256.size inb_S544x1024_S512x256_32_768))
    (mixOf W 3 inb_S4x256x256_S1x256x256_3_0_0) sc

section Words

variable (c : Dev nD) (i : grid0.Coords) (arg5 : Memref sig .tc .vmem S1x2x512x512 .bf16) (harg5 : arg5.IsWhole)
  (arg6 : Memref sig .tc .vmem S1x2x32x512 .bf16) (harg6 : arg6.IsWhole) (arg13 : Memref sig .tc .vmem S1x4x256x256 .bf16)
  (harg13 : arg13.IsWhole) (arg14 : Memref sig .tc .vmem S1x1024 .f32) (harg14 : arg14.IsWhole)
  (arg18 : Memref sig .tc .vmem S544x1024 .f32) (arg19 : Memref sig .tc .vmem S2x544x1024 .f32)
  (x3 : Vec F S1x2x512x512 .bf16) (x4 : Vec F S1x2x32x512 .bf16) (x11 : Vec F S1x4x256x256 .bf16) (x12 : Vec F S1x1024 .f32)

theorem HS0_2_eq : kernelRun0_A.sl.HS0_2 c i arg5 harg5 arg6 harg6 x3 x4 = wrE i x4 x3 := by
  unfold kernelRun0_A.sl.HS0_2
  simp only [View.readAt_eq_ld, harg5.read_unread, harg6.read_unread]
  rfl

theorem v21_eq : kernelRun0_A.sl.v21 c i arg5 harg5 arg6 harg6 arg18 x3 x4 = View.ld (ext i x4 x3) (Rect.unit (s := S544x1024) ![8, 0] S536x1024.size inb_S544x1024_S536x1024_8_0) := by
  unfold kernelRun0_A.sl.v21
  rw [View.readCov_eq_canon', HS0_2_eq]
  rfl

theorem v22_eq : kernelRun0_A.sl.v22 c i arg5 harg5 arg6 harg6 arg18 x3 x4 = View.ld (ext i x4 x3) (Rect.unit (s := S544x1024) ![7, 0] S536x1024.size inb_S544x1024_S536x1024_7_0) := by
  unfold kernelRun0_A.sl.v22
  rw [View.readCov_eq_canon', HS0_2_eq]
  rfl

theorem v78_eq : kernelRun0_A.sl.v78 c i arg5 harg5 arg6 harg6 arg18 x3 x4 = View.ld (ext i x4 x3) (Rect.unit (s := S544x1024) ![32, 0] S512x256.size inb_S544x1024_S512x256_32_0) := by
  unfold kernelRun0_A.sl.v78
  rw [View.readCov_eq_canon', HS0_2_eq]
  rfl

theorem v95_eq : kernelRun0_A.sl.v95 c i arg5 harg5 arg6 harg6 arg18 x3 x4 = View.ld (ext i x4 x3) (Rect.unit (s := S544x1024) ![32, 256] S512x256.size inb_S544x1024_S512x256_32_256) := by
  unfold kernelRun0_A.sl.v95
  rw [View.readCov_eq_canon', HS0_2_eq]
  rfl

theorem v112_eq : kernelRun0_A.sl.v112 c i arg5 harg5 arg6 harg6 arg18 x3 x4 = View.ld (ext i x4 x3) (Rect.unit (s := S544x1024) ![32, 512] S512x256.size inb_S544x1024_S512x256_32_512) := by
  unfold kernelRun0_A.sl.v112
  rw [View.readCov_eq_canon', HS0_2_eq]
  rfl

theorem v129_eq : kernelRun0_A.sl.v129 c i arg5 harg5 arg6 harg6 arg18 x3 x4 = View.ld (ext i x4 x3) (Rect.unit (s := S544x1024) ![32, 768] S512x256.size inb_S544x1024_S512x256_32_768) := by
  unfold kernelRun0_A.sl.v129
  rw [View.readCov_eq_canon', HS0_2_eq]
  rfl

theorem HS1_1_eq : kernelRun0_A.sl.HS1_1 c i arg5 harg5 arg6 harg6 arg18 x3 x4 = wr2 (ext i x4 x3) := by
  unfold kernelRun0_A.sl.HS1_1 kernelRun0_A.sl.r
  rw [v21_eq, v22_eq]
  rfl

theorem v31_eq : kernelRun0_A.sl.v31 c i arg5 harg5 arg6 harg6 arg18 arg19 x3 x4 = fun j => slots2 (ext i x4 x3) (((Rect.unit (s := S2x544x1024) ![0, 0, 0] S1x544x1024.size inb_S2x544x1024_S1x544x1024_0_0_0).withinL ((Rect.unit (s := S544x1024) ![16, 256] S528x768.size inb_S544x1024_S528x768_16_256).toLoadRect.consLift ![1, 544, 1024] hsz0 hsz) fun _ => rfl).idx j) := by
  unfold kernelRun0_A.sl.v31
  rw [View.readCov_eq_canon', HS1_1_eq]
  rfl

theorem v34_eq : kernelRun0_A.sl.v34 c i arg5 harg5 arg6 harg6 arg18 arg19 x3 x4 = fun j => slots2 (ext i x4 x3) (((Rect.unit (s := S2x544x1024) ![0, 0, 0] S1x544x1024.size inb_S2x544x1024_S1x544x1024_0_0_0).withinL ((Rect.unit (s := S544x1024) ![14, 256] S528x768.size inb_S544x1024_S528x768_14_256).toLoadRect.consLift ![1, 544, 1024] hsz0 hsz) fun _ => rfl).idx j) := by
  unfold kernelRun0_A.sl.v34
  rw [View.readCov_eq_canon', HS1_1_eq]
  rfl

theorem HS1_2_eq : kernelRun0_A.sl.HS1_2 c i arg5 harg5 arg6 harg6 arg18 arg19 x3 x4 = wr4 (ext i x4 x3) := by
  unfold kernelRun0_A.sl.HS1_2
  rw [v31_eq, v34_eq, HS1_1_eq]
  rfl

theorem v43_eq : kernelRun0_A.sl.v43 c i arg5 harg5 arg6 harg6 arg18 arg19 x3 x4 = fun j => slots4 (ext i x4 x3) (((Rect.unit (s := S2x544x1024) ![1, 0, 0] S1x544x1024.size inb_S2x544x1024_S1x544x1024_1_0_0).withinL ((Rect.unit (s := S544x1024) ![24, 512] S520x512.size inb_S544x1024_S520x512_24_512).toLoadRect.consLift ![1, 544, 1024] hsz0 hsz) fun _ => rfl).idx j) := by
  unfold kernelRun0_A.sl.v43
  rw [View.readCov_eq_canon', HS1_2_eq]
  rfl

theorem v46_eq : kernelRun0_A.sl.v46 c i arg5 harg5 arg6 harg6 arg18 arg19 x3 x4 = fun j => slots4 (ext i x4 x3) (((Rect.unit (s := S2x544x1024) ![1, 0, 0] S1x544x1024.size inb_S2x544x1024_S1x544x1024_1_0_0).withinL ((Rect.unit (s := S544x1024) ![20, 512] S520x512.size inb_S544x1024_S520x512_20_512).toLoadRect.consLift ![1, 544, 1024] hsz0 hsz) fun _ => rfl).idx j) := by
  unfold kernelRun0_A.sl.v46
  rw [View.readCov_eq_canon', HS1_2_eq]
  rfl

theorem r_1_eq : kernelRun0_A.sl.r_1 c i arg5 harg5 arg6 harg6 arg18 arg19 x3 x4 = sum8 (ext i x4 x3) := by
  unfold kernelRun0_A.sl.r_1
  rw [v43_eq, v46_eq]
  rfl

theorem HS1_3_eq : kernelRun0_A.sl.HS1_3 c i arg5 harg5 arg6 harg6 arg18 arg19 x3 x4 = wr8 (ext i x4 x3) := by
  unfold kernelRun0_A.sl.HS1_3
  rw [r_1_eq, HS1_2_eq]
  rfl

theorem v55_eq : kernelRun0_A.sl.v55 c i arg5 harg5 arg6 harg6 arg18 arg19 x3 x4 = fun j => slots8 (ext i x4 x3) (((Rect.unit (s := S2x544x1024) ![0, 0, 0] S1x544x1024.size inb_S2x544x1024_S1x544x1024_0_0_0).withinL ((Rect.unit (s := S544x1024) ![32, 768] S512x256.size inb_S544x1024_S512x256_32_768).toLoadRect.consLift ![1, 544, 1024] hsz0 hsz) fun _ => rfl).idx j) := by
  unfold kernelRun0_A.sl.v55
  rw [View.readCov_eq_canon', HS1_3_eq]
  rfl

theorem v58_eq : kernelRun0_A.sl.v58 c i arg5 harg5 arg6 harg6 arg18 arg19 x3 x4 = fun j => slots8 (ext i x4 x3) (((Rect.unit (s := S2x544x1024) ![0, 0, 0] S1x544x1024.size inb_S2x544x1024_S1x544x1024_0_0_0).withinL ((Rect.unit (s := S544x1024) ![24, 768] S512x256.size inb_S544x1024_S512x256_24_768).toLoadRect.consLift ![1, 544, 1024] hsz0 hsz) fun _ => rfl).idx j) := by
  unfold kernelRun0_A.sl.v58
  rw [View.readCov_eq_canon', HS1_3_eq]
  rfl

theorem HS1_4_eq : kernelRun0_A.sl.HS1_4 c i arg5 harg5 arg6 harg6 arg18 arg19 x3 x4 = wr16 (ext i x4 x3) := by
  unfold kernelRun0_A.sl.HS1_4
  rw [v55_eq, v58_eq, HS1_3_eq]
  rfl

theorem v74_eq : kernelRun0_A.sl.v74 c i arg5 harg5 arg6 harg6 arg18 arg19 x3 x4 = View.ld (slots16 (ext i x4 x3)) (Rect.unit (s := S2x544x1024) ![0, 32, 0] S1x512x256.size inb_S2x544x1024_S1x512x256_0_32_0) := by
  unfold kernelRun0_A.sl.v74
  rw [View.readCov_eq_canon', HS1_4_eq]
  rfl

theorem v91_eq : kernelRun0_A.sl.v91 c i arg5 harg5 arg6 harg6 arg18 arg19 x3 x4 = View.ld (slots16 (ext i x4 x3)) (Rect.unit (s := S2x544x1024) ![1, 32, 256] S1x512x256.size inb_S2x544x1024_S1x512x256_1_32_256) := by
  unfold kernelRun0_A.sl.v91
  rw [View.readCov_eq_canon', HS1_4_eq]
  rfl

theorem v108_eq : kernelRun0_A.sl.v108 c i arg5 harg5 arg6 harg6 arg18 arg19 x3 x4 = View.ld (slots16 (ext i x4 x3)) (Rect.unit (s := S2x544x1024) ![0, 32, 512] S1x512x256.size inb_S2x544x1024_S1x512x256_0_32_512) := by
  unfold kernelRun0_A.sl.v108
  rw [View.readCov_eq_canon', HS1_4_eq]
  rfl

theorem v125_eq : kernelRun0_A.sl.v125 c i arg5 harg5 arg6 harg6 arg18 arg19 x3 x4 = View.ld (slots16 (ext i x4 x3)) (Rect.unit (s := S2x544x1024) ![1, 32, 768] S1x512x256.size inb_S2x544x1024_S1x512x256_1_32_768) := by
  unfold kernelRun0_A.sl.v125
  rw [View.readCov_eq_canon', HS1_4_eq]
  rfl

theorem v83_eq : kernelRun0_A.sl.v83 c arg13 harg13 x11 = fun j => x11 (((Rect.unit (s := S1x4x256x256) ![0, 0, 0, 0] S1x4x256x256.size
    inb_S1x4x256x256_S1x4x256x256_0_0_0_0).withinL ((Rect.unit (s := S4x256x256) ![0, 0, 0] S1x256x256.size
      inb_S4x256x256_S1x256x256_0_0_0).toLoadRect.consLift ![1, 4, 256, 256] rfl (fun i => by fin_cases i <;> rfl)) fun _ => rfl).idx j) := by
  unfold kernelRun0_A.sl.v83
  unfold View.readAt
  rw [harg13.read_unread]

theorem v100_eq : kernelRun0_A.sl.v100 c arg13 harg13 x11 = fun j => x11 (((Rect.unit (s := S1x4x256x256) ![0, 0, 0, 0] S1x4x256x256.size
    inb_S1x4x256x256_S1x4x256x256_0_0_0_0).withinL ((Rect.unit (s := S4x256x256) ![1, 0, 0] S1x256x256.size
      inb_S4x256x256_S1x256x256_1_0_0).toLoadRect.consLift ![1, 4, 256, 256] rfl (fun i => by fin_cases i <;> rfl)) fun _ => rfl).idx j) := by
  unfold kernelRun0_A.sl.v100
  unfold View.readAt
  rw [harg13.read_unread]

theorem v117_eq : kernelRun0_A.sl.v117 c arg13 harg13 x11 = fun j => x11 (((Rect.unit (s := S1x4x256x256) ![0, 0, 0, 0] S1x4x256x256.size
    inb_S1x4x256x256_S1x4x256x256_0_0_0_0).withinL ((Rect.unit (s := S4x256x256) ![2, 0, 0] S1x256x256.size
      inb_S4x256x256_S1x256x256_2_0_0).toLoadRect.consLift ![1, 4, 256, 256] rfl (fun i => by fin_cases i <;> rfl)) fun _ => rfl).idx j) := by
  unfold kernelRun0_A.sl.v117
  unfold View.readAt
  rw [harg13.read_unread]

theorem v134_eq : kernelRun0_A.sl.v134 c arg13 harg13 x11 = fun j => x11 (((Rect.unit (s := S1x4x256x256) ![0, 0, 0, 0] S1x4x256x256.size
    inb_S1x4x256x256_S1x4x256x256_0_0_0_0).withinL ((Rect.unit (s := S4x256x256) ![3, 0, 0] S1x256x256.size
      inb_S4x256x256_S1x256x256_3_0_0).toLoadRect.consLift ![1, 4, 256, 256] rfl (fun i => by fin_cases i <;> rfl)) fun _ => rfl).idx j) := by
  unfold kernelRun0_A.sl.v134
  unfold View.readAt
  rw [harg13.read_unread]

theorem r_7_eq : kernelRun0_A.sl.r_7 c i arg5 harg5 arg6 harg6 arg13 harg13 arg14 harg14 arg18 arg19 x3 x4 x11 x12
    = pooled i (ext i x4 x3) x11 x12 := by
  unfold kernelRun0_A.sl.r_7 kernelRun0_A.sl.r_4 kernelRun0_A.sl.r_5 kernelRun0_A.sl.r_6 kernelRun0_A.sl.r_3 kernelRun0_A.sl.r_2
  rw [v74_eq, v78_eq, v91_eq, v95_eq, v108_eq, v112_eq, v125_eq, v129_eq, v83_eq, v100_eq, v117_eq, v134_eq, View.readAt_eq_ld,
    harg14.read_unread, View.ld_unit_zero (S := S1x1024) z2]
  rfl

end Words

variable (m : (ℓ : Loc nD τ sig) → Buf (Elt F) ℓ)

/-- What a grid point writes, over its blocks. -/
theorem out_eq (c : Dev nD) (t : Fin cfg0.N) :
    outsAt0 m c t = k0_pay1 (k0_pay19
      (pooled (grid0.coords t) (ext (grid0.coords t) (iblk m c 4 t) (iblk m c 3 t)) (iblk m c 11 t) (iblk m c 12 t))
      (k0_pay16 (k0_pay15 (lo (iblk m c 5 t))) (hi (iblk m c 5 t)) (iblk m c 1 t) (iblk m c 9 t))
      (k0_pay17 (lo (iblk m c 6 t)) (hi (iblk m c 6 t))) (k0_pay18 (iblk m c 2 t)) (iblk m c 10 t)
      (lo (iblk m c 7 t)) (hi (iblk m c 7 t)) (iblk m c 13 t) (iblk m c 0 t) (modRow (grid0.coords t) (iblk m c 8 t)) (iblk m c 14 t)) := by
  unfold outsAt0 out0_A_15
  refine (View.read_writes_eq_canon _ _ _ fun y => cover0_A_15 ..).trans ?_
  unfold kernelRun0_A
  dsimp only
  rw [View.canon_unit_zero (S := S1x512x1024) z3]
  unfold kernelRun0_A.sl.r_13
  rw [r_7_eq]
  sl_unfold_words
  simp only [View.readCov_eq_canon', View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, (hs0_9 t).read_unread, (hs0_10 t).read_unread, (hs0_11 t).read_unread, (hs0_12 t).read_unread,
    (hs0_13 t).read_unread, (hs0_14 t).read_unread, View.ld_unit_zero (S := S1x1024) z2,
    View.ld_unit_zero (S := S1x512x1024) z3, View.ld_unit_zero (S := S1x512x512) z3, View.ld_unit_zero (S := S1x1024x1024) z3]
  rfl

end Cert.MergeBody
-- ==== Proof.MergeWin.lean ====
/-
  SUMS OVER A TRAILING WINDOW OF ROWS, AND TWO WAYS TO WRITE A GATE, over the extended reals.

  `windowAdd_apply` reads the reference's window sum at an index; `gate_eq` says that half of one plus the hyperbolic
  tangent of half an argument is the logistic function of it.
-/
module

public import Idealize.ShloMosaic.Lib.Pointwise

@[expose] public section

set_option maxRecDepth 16384

noncomputable section

open Idealize.ShloMosaic

namespace Cert.MergeWin

/-- A left fold that adds to its accumulator is the start plus the sum. -/
theorem foldl_add_eq {α : Type} (l : List α) (g : α → EReal) (v : EReal) :
    l.foldl (fun r n => r + g n) v = v + (l.map g).sum := by
  induction l generalizing v with
  | nil => simp
  | cons a l ih => simp [ih, add_assoc]

/-- The trailing sum of `w` rows, the rows before the first counting as the initial zero. -/
theorem windowAdd_apply (w : Nat) (hw : 0 < w) (x : FVec Ideal ⟨3, ![4, 4096, 256]⟩ .f32) (init : FVec Ideal ⟨0, ![]⟩ .f32)
    (h0 : init ix0 = 0)
    (h : (⟨3, ![4, 4096, 256]⟩ : Shape).ReduceWindows (![1, w, 1] : Fin 3 → Nat) ![1, 1, 1] ![0, w - 1, 0] ![0, 0, 0]
      ⟨3, ![4, 4096, 256]⟩) (hu : 0 < (⟨0, ![]⟩ : Shape).numel) (b : Fin 4) (s : Fin 4096) (d : Fin 256) :
    Host.reduceWindowAdd ![1, w, 1] ![1, 1, 1] ![0, w - 1, 0] ![0, 0, 0] x init h hu (ix3 b s d)
      = ∑ n : Fin w, if w - 1 ≤ s.val + n.val then x (ix3 b ⟨s.val + n.val - (w - 1), by omega⟩ d) else 0 := by
  have hf : init (Shape.Idx.first hu) = 0 := by rw [← h0]; congr 1; funext a; exact a.elim0
  unfold Host.reduceWindowAdd
  rw [Ideal.hostReduceWindowAdd_def, hf]
  unfold Ideal.hostReduceWindowAdd Host.reduceWindow
  dsimp only
  rw [foldl_add_eq, zero_add, ← List.ofFn_eq_map, List.sum_ofFn]
  have hb := b.isLt
  have hd := d.isLt
  have hs := s.isLt
  refine (Fintype.sum_equiv (Shape.rowMajor ⟨3, ![1, w, 1]⟩).symm _ (fun i : (⟨3, ![1, w, 1]⟩ : Shape).Idx =>
    if w - 1 ≤ s.val + (i 1).val then x (ix3 b ⟨s.val + (i 1).val - (w - 1), by
      have h1 : (i 1).val < w := (i 1).isLt
      omega⟩ d) else 0) fun k => ?_).trans ?_
  · let i : (⟨3, ![1, w, 1]⟩ : Shape).Idx := (Shape.rowMajor ⟨3, ![1, w, 1]⟩).symm k
    have h0 : (i 0).val < 1 := (i 0).isLt
    have h1 : (i 1).val < w := (i 1).isLt
    have h2 : (i 2).val < 1 := (i 2).isLt
    by_cases hle : w - 1 ≤ s.val + (i 1).val
    · rw [if_pos hle, dif_pos]
      · congr 1
        funext a
        apply Fin.ext
        fin_cases a
        · show b.val * 1 + (i 0).val - 0 = b.val; omega
        · show s.val * 1 + (i 1).val - (w - 1) = s.val + (i 1).val - (w - 1); omega
        · show d.val * 1 + (i 2).val - 0 = d.val; omega
      · intro a
        fin_cases a
        · exact ⟨Nat.zero_le _, by show b.val * 1 + (i 0).val - 0 < 4; omega⟩
        · exact ⟨by show w - 1 ≤ s.val * 1 + (i 1).val; omega, by show s.val * 1 + (i 1).val - (w - 1) < 4096; omega⟩
        · exact ⟨Nat.zero_le _, by show d.val * 1 + (i 2).val - 0 < 256; omega⟩
    · rw [if_neg hle, dif_neg]
      intro hin
      have h1 : w - 1 ≤ s.val * 1 + (i 1).val := (hin 1).1
      omega
  · rw [sum_idx3]
    simp only [Finset.univ_unique, Finset.sum_singleton]
    rfl

/-- The same window, as a sum of a sequence held in a longer array behind `32` zero rows. -/
def tail (f : Nat → EReal) (w p : Nat) : EReal := ∑ n ∈ Finset.range w, f (p + 1 - w + n)

theorem tail_two (f : Nat → EReal) (p : Nat) (hp : 1 ≤ p) : f p + f (p - 1) = tail f 2 p := by
  unfold tail
  rw [Finset.sum_range_succ, Finset.sum_range_one, add_comm]
  congr 2 <;> omega

/-- Doubling: a window of `2w` rows is the window of `w` ending at its last row and the one ending `w` rows before. -/
theorem tail_double (f : Nat → EReal) (w p : Nat) (hp : 2 * w ≤ p + 1) :
    tail f w p + tail f w (p - w) = tail f (2 * w) p := by
  unfold tail
  rw [two_mul, Finset.sum_range_add, add_comm]
  congr 1 <;> refine Finset.sum_congr rfl fun n hn => ?_ <;> congr 1 <;> rw [Finset.mem_range] at hn <;> omega

/-- The reference's sum is the tail of the same rows held behind `32` zeros. -/
theorem sum_eq_tail (w : Nat) (hw : w ≤ 32) (f : Nat → EReal) (g : Nat → EReal) (s : Nat)
    (hf : ∀ n, f n = if 32 ≤ n then g (n - 32) else 0) :
    (∑ n : Fin w, if w - 1 ≤ s + n.val then g (s + n.val - (w - 1)) else 0) = tail f w (32 + s) := by
  unfold tail
  rw [← Fin.sum_univ_eq_sum_range (fun n => f (32 + s + 1 - w + n))]
  refine Finset.sum_congr rfl fun n _ => ?_
  have hn := n.isLt
  rw [hf]
  by_cases hle : w - 1 ≤ s + n.val
  · rw [if_pos hle, if_pos (by omega)]
    congr 1; omega
  · rw [if_neg hle, if_neg (by omega)]

/-- Half of one plus the hyperbolic tangent of half an argument is its logistic function. -/
theorem gate_eq (x : EReal) :
    Ideal.ofBits FTy.f32 0x3F000000#32 * (1 + Ideal.tanh (Ideal.ofBits FTy.f32 0x3F000000#32 * x))
      = Ideal.div 1 (1 + Ideal.exp (-x)) := by
  have hc : Ideal.ofBits FTy.f32 0x3F000000#32 = ((1 / 2 : ℝ) : EReal) := by
    simp [Ideal.ofBits, Ideal.ieee, -EReal.coe_mul]
    norm_num
  rw [hc]
  induction x using EReal.rec with
  | bot =>
    rw [EReal.coe_mul_bot_of_pos (by norm_num)]
    show ((1 / 2 : ℝ) : EReal) * (1 + (-1)) = Ideal.div 1 (1 + Ideal.exp (-⊥))
    rw [EReal.neg_bot]
    show ((1 / 2 : ℝ) : EReal) * (1 + (-1)) = Ideal.div 1 (1 + ⊤)
    have h1 : (1 : EReal) + ⊤ = ⊤ := by
      rw [← EReal.coe_one]; exact EReal.coe_add_top 1
    have h2 : (1 : EReal) + (-1) = 0 := by
      rw [← EReal.coe_one, ← EReal.coe_neg, ← EReal.coe_add]; norm_num
    rw [h1, h2, mul_zero]
    unfold Ideal.div
    simp
  | top =>
    rw [EReal.coe_mul_top_of_pos (by norm_num), EReal.neg_top]
    show ((1 / 2 : ℝ) : EReal) * (1 + 1) = Ideal.div 1 (1 + 0)
    unfold Ideal.div
    rw [add_zero, if_neg one_ne_zero]
    have h2 : (1 : EReal) + 1 = ((2 : ℝ) : EReal) := by
      rw [← EReal.coe_one, ← EReal.coe_add]; norm_num
    rw [h2, ← EReal.coe_mul, one_mul, ← EReal.coe_one, ← EReal.coe_inv]
    norm_num
  | coe r =>
    have hl : ((1 / 2 : ℝ) : EReal) * (1 + Ideal.tanh (((1 / 2 : ℝ) : EReal) * (r : EReal)))
        = ((1 / 2 * (1 + Real.tanh (1 / 2 * r)) : ℝ) : EReal) := by
      rw [← EReal.coe_mul, Ideal.tanh_coe, EReal.coe_mul, EReal.coe_add, EReal.coe_one]
    have hr : Ideal.div 1 (1 + Ideal.exp (-(r : EReal))) = ((1 * (1 + Real.exp (-r))⁻¹ : ℝ) : EReal) := by
      have he : Ideal.exp (-(r : EReal)) = ((Real.exp (-r) : ℝ) : EReal) := by
        rw [← EReal.coe_neg]; rfl
      have hs : (1 : EReal) + ((Real.exp (-r) : ℝ) : EReal) = ((1 + Real.exp (-r) : ℝ) : EReal) := by
        rw [EReal.coe_add, EReal.coe_one]
      rw [he, hs]
      unfold Ideal.div
      rw [if_neg, ← EReal.coe_inv, EReal.coe_mul, EReal.coe_one]
      have : (1 + Real.exp (-r)) ≠ 0 := by positivity
      exact_mod_cast this
    rw [hl, hr]
    congr 1
    have ha : Real.exp (1 / 2 * r) ≠ 0 := (Real.exp_pos _).ne'
    have h2 : Real.exp (-r) = (Real.exp (1 / 2 * r))⁻¹ * (Real.exp (1 / 2 * r))⁻¹ := by
      rw [← Real.exp_neg, ← Real.exp_add]; congr 1; ring
    rw [Real.tanh_eq_sinh_div_cosh, Real.sinh_eq, Real.cosh_eq, h2, Real.exp_neg]
    generalize Real.exp (1 / 2 * r) = e at ha
    have h3 : e * e + 1 ≠ 0 := by nlinarith [mul_self_nonneg e]
    have h4 : e ^ 2 + 1 ≠ 0 := by nlinarith [sq_nonneg e]
    field_simp
    ring

/-- A word below `2 ^ 31` as a signed integer converts to the number it counts. -/
theorem sitofp_nat (n : Nat) (hn : n < 2 ^ 31) :
    (FloatOps.sitofp (F := Ideal) FTy.f32 (BitVec.ofNat 32 n) : EReal) = ((n : ℝ) : EReal) := by
  show (((BitVec.ofNat 32 n).toInt : ℝ) : EReal) = _
  have h : (BitVec.ofNat 32 n).toInt = (n : ℤ) := by
    rw [BitVec.toInt_eq_toNat_of_lt] <;> rw [BitVec.toNat_ofNat, Nat.mod_eq_of_lt (by omega)]
    omega
  rw [h, Int.cast_natCast]

theorem two_f32 : Ideal.ofBits FTy.f32 0x40000000#32 = ((2 : ℝ) : EReal) := by
  simp [Ideal.ofBits, Ideal.ieee, -EReal.coe_mul]; norm_num
theorem four_f32 : Ideal.ofBits FTy.f32 0x40800000#32 = ((4 : ℝ) : EReal) := by
  simp [Ideal.ofBits, Ideal.ieee, -EReal.coe_mul]; norm_num
theorem eight_f32 : Ideal.ofBits FTy.f32 0x41000000#32 = ((8 : ℝ) : EReal) := by
  simp [Ideal.ofBits, Ideal.ieee, -EReal.coe_mul]; norm_num
theorem sixteen_f32 : Ideal.ofBits FTy.f32 0x41800000#32 = ((16 : ℝ) : EReal) := by
  simp [Ideal.ofBits, Ideal.ieee, -EReal.coe_mul]; norm_num

/-- How many rows a window of `w` sees at row `s`, counted in floats as the reference does. -/
theorem count_eq (s w : Nat) (hs : s < 2 ^ 31) :
    min ((FloatOps.sitofp (F := Ideal) FTy.f32 (BitVec.ofNat 32 s) : EReal) + 1) (((w : ℕ) : ℝ) : EReal)
      = (((min (s + 1) w : ℕ) : ℝ) : EReal) := by
  rw [sitofp_nat s hs, ← EReal.coe_one, ← EReal.coe_add]
  rw [← EReal.coe_strictMono.monotone.map_min]
  congr 1
  push_cast
  rfl

end Cert.MergeWin
-- ==== Proof.MergeSums.lean ====
/-
  THE MERGE CALL, its two-slot scratch: where the pooled branch reads it, each column holds the sum of the last 2, 4, 8
  or 16 rows.
-/
module

public import proofs.«01_k».proof.Proof.MergeBody
public import proofs.«01_k».proof.Proof.MergeWin
public import Idealize.ShloMosaic.Lib.Pointwise

@[expose] public section

set_option maxRecDepth 16384

noncomputable section

open Idealize.ShloMosaic Idealize.ShloMosaic.TcCoe Idealize.SL.Sem

namespace Cert.MergeBody

open Cert.KernelMergeIdeal Cert.KernelMergeIdeal.Gen Cert.SlotRows Cert.MergeWin

theorem pay45_apply (a b : FVec Ideal S536x1024 .f32) (r : Fin 536) (k : Fin 1024) :
    k0_pay5 (F := Ideal) (k0_pay4 a b) (ix2 r k) = a (ix2 r k) + b (ix2 r k) := by
  pointwise [k0_pay5, k0_pay4]
theorem pay6_apply (a b : FVec Ideal S528x768 .f32) (r : Fin 528) (k : Fin 768) :
    k0_pay6 (F := Ideal) a b (ix2 r k) = a (ix2 r k) + b (ix2 r k) := by
  pointwise [k0_pay6]
theorem pay7_apply (a b : FVec Ideal S520x512 .f32) (r : Fin 520) (k : Fin 512) :
    k0_pay7 (F := Ideal) a b (ix2 r k) = a (ix2 r k) + b (ix2 r k) := by
  pointwise [k0_pay7]
theorem pay8_apply (a b : FVec Ideal S512x256 .f32) (r : Fin 512) (k : Fin 256) :
    k0_pay8 (F := Ideal) a b (ix2 r k) = a (ix2 r k) + b (ix2 r k) := by
  pointwise [k0_pay8]

/-- A rectangle of the scratch of rows. -/
theorem rows_at {o p R C : Nat} {hr : ∀ i, (![o, p] : Fin 2 → Nat) i + (![R, C] : Fin 2 → Nat) i ≤ S544x1024.size i}
    (E : FVec Ideal S544x1024 .f32) (P K : Nat) (hP : P < 544) (hK : K < 1024) (r : Fin R) (k : Fin C) (h1 : P = o + r.val)
    (h2 : K = p + k.val) :
    View.ld (Val := Elt Ideal) (e' := .f32) E (Rect.unit (s := S544x1024) ![o, p] ![R, C] hr) (ix2 r k) = E (ix2 ⟨P, hP⟩ ⟨K, hK⟩) := by
  subst h1 h2
  refine congrArg E (funext fun a => Fin.ext ?_)
  fin_cases a
  · show o + 1 * r.val = o + r.val; omega
  · show p + 1 * k.val = p + k.val; omega

/-- A rectangle of one slot of the scratch of sums. -/
theorem slot_at {a o p R C : Nat} {hr : ∀ i, (![a, o, p] : Fin 3 → Nat) i + (![1, R, C] : Fin 3 → Nat) i ≤ S2x544x1024.size i}
    (G : FVec Ideal S2x544x1024 .f32) (P K : Nat) (hA : a < 2) (hP : P < 544) (hK : K < 1024) (z : Fin 1) (r : Fin R) (k : Fin C)
    (h1 : P = o + r.val) (h2 : K = p + k.val) :
    View.ld (Val := Elt Ideal) (e' := .f32) G (Rect.unit (s := S2x544x1024) ![a, o, p] ![1, R, C] hr) (ix3 z r k)
      = G (ix3 ⟨a, hA⟩ ⟨P, hP⟩ ⟨K, hK⟩) := by
  subst h1 h2
  refine congrArg G (funext fun i => Fin.ext ?_)
  have hz : z.val = 0 := by omega
  fin_cases i
  · show a + 1 * z.val = a; omega
  · show o + 1 * r.val = o + r.val; omega
  · show p + 1 * k.val = p + k.val; omega

variable (E : FVec Ideal S544x1024 .f32) (f : Nat → Nat → EReal)
  (hE : ∀ (p d : Nat) (hp : p < 544) (hd : d < 1024), E (ix2 ⟨p, hp⟩ ⟨d, hd⟩) = f d p)
include hE

theorem slots2_at (p d : Nat) (h8 : 8 ≤ p) (hp : p < 544) (hd : d < 1024) :
    slots2 E (ix3 ⟨0, by decide⟩ ⟨p, hp⟩ ⟨d, hd⟩) = tail (f d) 2 p := by
  unfold slots2 wr2
  rw [canon_at (sum2 E) [] p d (by decide) hp hd ⟨p - 8, by omega⟩ ⟨d, hd⟩ (by simp only; omega) (by simp only; omega)]
  unfold sum2
  rw [pay45_apply, rows_at E p d hp hd _ _ (by simp only; omega) (by simp only; omega),
    rows_at E (p - 1) d (by omega) hd _ _ (by simp only; omega) (by simp only; omega), hE, hE, tail_two _ _ (by omega)]

theorem slots4_at (p d : Nat) (h16 : 16 ≤ p) (hp : p < 544) (h256 : 256 ≤ d) (hd : d < 1024) :
    slots4 E (ix3 ⟨1, by decide⟩ ⟨p, hp⟩ ⟨d, hd⟩) = tail (f d) 4 p := by
  unfold slots4 wr4
  rw [canon_at (sum4 E) (wr2 E) p d (by decide) hp hd ⟨p - 16, by omega⟩ ⟨d - 256, by omega⟩ (by simp only; omega) (by simp only; omega)]
  unfold sum4
  rw [pay6_apply, plane_at (slots2 E) p d (by decide) hp hd _ _ (by simp only; omega) (by simp only; omega),
    plane_at (slots2 E) (p - 2) d (by decide) (by omega) hd _ _ (by simp only; omega) (by simp only; omega),
    slots2_at E f hE p d (by omega) hp hd, slots2_at E f hE (p - 2) d (by omega) (by omega) hd, tail_double _ _ _ (by omega)]

theorem slots8_at (p d : Nat) (h24 : 24 ≤ p) (hp : p < 544) (h512 : 512 ≤ d) (hd : d < 1024) :
    slots8 E (ix3 ⟨0, by decide⟩ ⟨p, hp⟩ ⟨d, hd⟩) = tail (f d) 8 p := by
  unfold slots8 wr8
  rw [canon_at (sum8 E) (wr4 E) p d (by decide) hp hd ⟨p - 24, by omega⟩ ⟨d - 512, by omega⟩ (by simp only; omega) (by simp only; omega)]
  unfold sum8
  rw [pay7_apply, plane_at (slots4 E) p d (by decide) hp hd _ _ (by simp only; omega) (by simp only; omega),
    plane_at (slots4 E) (p - 4) d (by decide) (by omega) hd _ _ (by simp only; omega) (by simp only; omega),
    slots4_at E f hE p d (by omega) hp (by omega) hd, slots4_at E f hE (p - 4) d (by omega) (by omega) (by omega) hd, tail_double _ _ _ (by omega)]

/-- The last 256 columns: sixteen rows. -/
theorem read16 (p d : Nat) (h32 : 32 ≤ p) (hp : p < 544) (h768 : 768 ≤ d) (hd : d < 1024) :
    slots16 E (ix3 ⟨1, by decide⟩ ⟨p, hp⟩ ⟨d, hd⟩) = tail (f d) 16 p := by
  unfold slots16 wr16
  rw [canon_at (sum16 E) (wr8 E) p d (by decide) hp hd ⟨p - 32, by omega⟩ ⟨d - 768, by omega⟩ (by simp only; omega) (by simp only; omega)]
  unfold sum16
  rw [pay8_apply, plane_at (slots8 E) p d (by decide) hp hd _ _ (by simp only; omega) (by simp only; omega),
    plane_at (slots8 E) (p - 8) d (by decide) (by omega) hd _ _ (by simp only; omega) (by simp only; omega),
    slots8_at E f hE p d (by omega) hp (by omega) hd, slots8_at E f hE (p - 8) d (by omega) (by omega) (by omega) hd, tail_double _ _ _ (by omega)]

/-- The first 256 columns: two rows. -/
theorem read2 (p d : Nat) (h32 : 32 ≤ p) (hp : p < 544) (hd : d < 256) :
    slots16 E (ix3 ⟨0, by decide⟩ ⟨p, hp⟩ ⟨d, by omega⟩) = tail (f d) 2 p := by
  unfold slots16 wr16
  rw [canon_miss (sum16 E) (wr8 E) _ _ _ (by decide)]
  unfold wr8
  rw [canon_left (sum8 E) (wr4 E) _ _ _ (by simp only; omega)]
  unfold wr4
  rw [canon_miss (sum4 E) (wr2 E) _ _ _ (by decide)]
  exact slots2_at E f hE p d (by omega) hp (by omega)

/-- The second 256 columns: four rows. -/
theorem read4 (p d : Nat) (h32 : 32 ≤ p) (hp : p < 544) (h256 : 256 ≤ d) (hd : d < 512) :
    slots16 E (ix3 ⟨1, by decide⟩ ⟨p, hp⟩ ⟨d, by omega⟩) = tail (f d) 4 p := by
  unfold slots16 wr16
  rw [canon_left (sum16 E) (wr8 E) _ _ _ (by simp only; omega)]
  unfold wr8
  rw [canon_miss (sum8 E) (wr4 E) _ _ _ (by decide)]
  exact slots4_at E f hE p d (by omega) hp h256 (by omega)

/-- The third 256 columns: eight rows. -/
theorem read8 (p d : Nat) (h32 : 32 ≤ p) (hp : p < 544) (h512 : 512 ≤ d) (hd : d < 768) :
    slots16 E (ix3 ⟨0, by decide⟩ ⟨p, hp⟩ ⟨d, by omega⟩) = tail (f d) 8 p := by
  unfold slots16 wr16
  rw [canon_miss (sum16 E) (wr8 E) _ _ _ (by decide)]
  exact slots8_at E f hE p d (by omega) hp h512 (by omega)

end Cert.MergeBody

end
-- ==== Proof.MergeRef.lean ====
/-
  THE MERGE CALL, the reference read at an index over the extended reals.

  `uat` is a column of the projected rows at a position, `past` the same column with 32 zeros before its first position,
  `mean` the mean of its last `w` positions, `mixed` the pooled branch after its linear map, `gate` a branch's gate, `merged`
  the gated sum of the three branches.
-/
module

public import proofs.«01_k».proof.Proof.Gen.ReferenceMergeIdeal.Read
public import proofs.«01_k».proof.Proof.MergeWin
public import Idealize.ShloMosaic.Lib.Pointwise

@[expose] public section

set_option maxRecDepth 16384

noncomputable section

open Idealize.ShloMosaic

namespace Cert.MergeRef

open Cert.ReferenceMergeIdeal Cert.ReferenceMergeIdeal.Read Cert.MergeWin

section Terms

variable (ug : FVec Ideal S4x8x4096x512 .bf16)

/-- Column `q` of the projected rows (u, then the three gates) at position `s` of batch element `b`. -/
def uat (b : Fin 4) (q s : Nat) : EReal :=
  if h : s < 4096 ∧ q < 4096 then ug (ix4 b ⟨q / 512, by omega⟩ ⟨s, h.1⟩ ⟨q % 512, by omega⟩) else 0

theorem uat_eq (b : Fin 4) (q s : Nat) (hs : s < 4096) (hq : q < 4096) (e : Fin 8) (k : Fin 512) (he : e.val = q / 512)
    (hk : k.val = q % 512) : ug (ix4 b e ⟨s, hs⟩ k) = uat ug b q s := by
  unfold uat
  rw [dif_pos ⟨hs, hq⟩]
  have e1 : e = ⟨q / 512, by omega⟩ := Fin.ext he
  have e2 : k = ⟨q % 512, by omega⟩ := Fin.ext hk
  rw [e1, e2]

/-- The column behind 32 zeros. -/
def past (b : Fin 4) (q n : Nat) : EReal := if 32 ≤ n then uat ug b q (n - 32) else 0

/-- The mean of the column's last `w` positions, of those there are. -/
def mean (b : Fin 4) (q s w : Nat) : EReal :=
  Ideal.div (tail (past ug b q) w (32 + s)) (((min (s + 1) w : ℕ) : ℝ) : EReal)

/-- A trailing mean minus the column itself, at the width of the column's group. -/
def pool (b : Fin 4) (q s : Nat) : EReal := mean ug b q s (2 * 2 ^ (q / 256)) - uat ug b q s

/-- The pooled branch after its linear map. -/
def mixed (w7 : FVec Ideal S4x4x256x256 .f32) (b : Fin 4) (s : Nat) (d : Fin 1024) : EReal :=
  ∑ x : Fin 256, pool ug b (256 * (d.val / 256) + x.val) s * w7 (ix4 3 ⟨d.val / 256, by omega⟩ x ⟨d.val % 256, by omega⟩)

/-- The gate in column `q`. -/
def gate (b : Fin 4) (s q : Nat) : EReal := Ideal.div 1 (1 + Ideal.exp (-uat ug b q s))

/-- Column `e` of the gated sum of the three branches. -/
def merged (y1 : FVec Ideal S4x4096x1024 .bf16) (y2 : FVec Ideal S4x4096x512 .bf16) (w5 : FVec Ideal S4x1024x1024 .f32)
    (w6 : FVec Ideal S4x512x1024 .f32) (w7 : FVec Ideal S4x4x256x256 .f32) (sc : FVec Ideal S4x1024 .f32)
    (w9 : FVec Ideal S4x1024x1024 .f32) (b : Fin 4) (s : Fin 4096) (e : Fin 1024) : EReal :=
  gate ug b s.val (1024 + e.val) * (∑ k, y1 (ix3 b s k) * w5 (ix3 3 k e))
    + gate ug b s.val (2048 + e.val) * (∑ k, y2 (ix3 b s k) * w6 (ix3 3 k e))
    + gate ug b s.val (3072 + e.val) * (∑ k, mixed ug w7 b s.val k * sc (ix2 3 k) * w9 (ix3 3 k e))

/-- A window's sum divided by how many positions it holds is the mean. -/
theorem window_mean (w : Nat) (hw0 : 0 < w) (hw : w ≤ 32) (x : FVec Ideal S4x4096x256 .f32) (init : FVec Ideal S_ .f32)
    (h0 : init ix0 = 0)
    (h : S4x4096x256.ReduceWindows (![1, w, 1] : Fin 3 → Nat) ![1, 1, 1] ![0, w - 1, 0] ![0, 0, 0] S4x4096x256)
    (hu : 0 < S_.numel) (b : Fin 4) (s : Fin 4096) (d : Fin 256) (q : Nat)
    (hx : ∀ s' : Fin 4096, x (ix3 b s' d) = uat ug b q s'.val) (cw : EReal) (hc : cw = (((w : ℕ) : ℝ) : EReal)) :
    Ideal.div (Host.reduceWindowAdd ![1, w, 1] ![1, 1, 1] ![0, w - 1, 0] ![0, 0, 0] x init h hu (ix3 b s d))
      (min (FloatOps.sitofp (F := Ideal) FTy.f32 (BitVec.ofNat 32 s.val) + 1) cw) = mean ug b q s.val w := by
  rw [windowAdd_apply w hw0 x init h0 h hu b s d, hc, count_eq s.val w (by omega)]
  unfold mean
  rw [← sum_eq_tail w hw (past ug b q) (uat ug b q) s.val fun n => rfl]
  refine congrArg (Ideal.div · _) (Finset.sum_congr rfl fun n _ => ?_)
  by_cases hn : w - 1 ≤ s.val + n.val
  · simp only [hn, if_true, dif_pos, hx]
  · simp only [hn, if_false, dif_neg, not_false_iff]

end Terms

variable (x3 : FVec Ideal S4x8x4096x512 .bf16)

theorem rows_apply (b : Fin 4) (s : Fin 4096) (g : Fin 4) (d : Fin 256) :
    val_main_v18 (F := Ideal) x3 (ix4 b s g d) = uat x3 b (256 * g.val + d.val) s.val := by
  rw [← uat_eq x3 b (256 * g.val + d.val) s.val s.isLt (by omega) ⟨(g.val * 256 + d.val) / 512, by omega⟩
    ⟨(g.val * 256 + d.val) % 512, by omega⟩ (by simp only; omega) (by simp only; omega)]
  pointwise [val_main_v18, val_main_v6, val_main_v5, val_main_v4, val_main_v3]

theorem group0 (b : Fin 4) (s : Fin 4096) (d : Fin 256) : val_main_v24 (F := Ideal) x3 (ix3 b s d) = val_main_v18 (F := Ideal) x3 (ix4 b s 0 d) := by
  pointwise [val_main_v24, val_main_v23]
theorem group1 (b : Fin 4) (s : Fin 4096) (d : Fin 256) : val_main_v33 (F := Ideal) x3 (ix3 b s d) = val_main_v18 (F := Ideal) x3 (ix4 b s 1 d) := by
  pointwise [val_main_v33, val_main_v32]
theorem group2 (b : Fin 4) (s : Fin 4096) (d : Fin 256) : val_main_v42 (F := Ideal) x3 (ix3 b s d) = val_main_v18 (F := Ideal) x3 (ix4 b s 2 d) := by
  pointwise [val_main_v42, val_main_v41]
theorem group3 (b : Fin 4) (s : Fin 4096) (d : Fin 256) : val_main_v51 (F := Ideal) x3 (ix3 b s d) = val_main_v18 (F := Ideal) x3 (ix4 b s 3 d) := by
  pointwise [val_main_v51, val_main_v50]

theorem mean0 (b : Fin 4) (s : Fin 4096) (d : Fin 256) : val_main_v31 (F := Ideal) x3 (ix3 b s d) = mean x3 b d.val s.val 2 := by
  pointwise [val_main_v31, val_main_v30, val_main_v29, val_main_v28, val_main_v27, val_main_cst_1, val_main_v26, val_main_v22,
    val_main_v21, val_main_cst, val_main_v20, val_main_v19]
  refine window_mean x3 2 (by decide) (by decide) _ _ (by pointwise [val_main_v25, val_main_cst_0]) _ _ b s d d.val (fun s' => ?_) _
    (by rw [two_f32]; norm_num)
  rw [group0, rows_apply]
  simp

theorem mean1 (b : Fin 4) (s : Fin 4096) (d : Fin 256) : val_main_v40 (F := Ideal) x3 (ix3 b s d) = mean x3 b (256 + d.val) s.val 4 := by
  pointwise [val_main_v40, val_main_v39, val_main_v38, val_main_v37, val_main_v36, val_main_cst_3, val_main_v35, val_main_v22,
    val_main_v21, val_main_cst, val_main_v20, val_main_v19]
  refine window_mean x3 4 (by decide) (by decide) _ _ (by pointwise [val_main_v34, val_main_cst_2]) _ _ b s d (256 + d.val) (fun s' => ?_) _
    (by rw [four_f32]; norm_num)
  rw [group1, rows_apply]
  simp

theorem mean2 (b : Fin 4) (s : Fin 4096) (d : Fin 256) : val_main_v49 (F := Ideal) x3 (ix3 b s d) = mean x3 b (512 + d.val) s.val 8 := by
  pointwise [val_main_v49, val_main_v48, val_main_v47, val_main_v46, val_main_v45, val_main_cst_5, val_main_v44, val_main_v22,
    val_main_v21, val_main_cst, val_main_v20, val_main_v19]
  refine window_mean x3 8 (by decide) (by decide) _ _ (by pointwise [val_main_v43, val_main_cst_4]) _ _ b s d (512 + d.val) (fun s' => ?_) _
    (by rw [eight_f32]; norm_num)
  rw [group2, rows_apply]
  simp

theorem mean3 (b : Fin 4) (s : Fin 4096) (d : Fin 256) : val_main_v58 (F := Ideal) x3 (ix3 b s d) = mean x3 b (768 + d.val) s.val 16 := by
  pointwise [val_main_v58, val_main_v57, val_main_v56, val_main_v55, val_main_v54, val_main_cst_7, val_main_v53, val_main_v22,
    val_main_v21, val_main_cst, val_main_v20, val_main_v19]
  refine window_mean x3 16 (by decide) (by decide) _ _ (by pointwise [val_main_v52, val_main_cst_6]) _ _ b s d (768 + d.val) (fun s' => ?_) _
    (by rw [sixteen_f32]; norm_num)
  rw [group3, rows_apply]
  simp

theorem stack0 (b : Fin 4) (s : Fin 4096) (d : Fin 256) : val_main_v63 (F := Ideal) x3 (ix4 b s 0 d) = val_main_v31 (F := Ideal) x3 (ix3 b s d) := by
  pointwise [val_main_v63, val_main_v62, val_main_v61, val_main_v60, val_main_v59]
theorem stack1 (b : Fin 4) (s : Fin 4096) (d : Fin 256) : val_main_v63 (F := Ideal) x3 (ix4 b s 1 d) = val_main_v40 (F := Ideal) x3 (ix3 b s d) := by
  pointwise [val_main_v63, val_main_v62, val_main_v61, val_main_v60, val_main_v59]
theorem stack2 (b : Fin 4) (s : Fin 4096) (d : Fin 256) : val_main_v63 (F := Ideal) x3 (ix4 b s 2 d) = val_main_v49 (F := Ideal) x3 (ix3 b s d) := by
  pointwise [val_main_v63, val_main_v62, val_main_v61, val_main_v60, val_main_v59]
theorem stack3 (b : Fin 4) (s : Fin 4096) (d : Fin 256) : val_main_v63 (F := Ideal) x3 (ix4 b s 3 d) = val_main_v58 (F := Ideal) x3 (ix3 b s d) := by
  pointwise [val_main_v63, val_main_v62, val_main_v61, val_main_v60, val_main_v59]

theorem pool_apply (b : Fin 4) (s : Fin 4096) (g : Fin 4) (d : Fin 256) :
    val_main_v63 (F := Ideal) x3 (ix4 b s g d) - val_main_v18 (F := Ideal) x3 (ix4 b s g d) = pool x3 b (256 * g.val + d.val) s.val := by
  unfold pool
  rw [rows_apply]
  refine congrArg (· - _) ?_
  rw [show (256 * g.val + d.val) / 256 = g.val by omega]
  match g with
  | ⟨0, _⟩ => refine ((stack0 x3 b s d).trans (mean0 x3 b s d)).trans ?_; simp
  | ⟨1, _⟩ => exact (stack1 x3 b s d).trans (mean1 x3 b s d)
  | ⟨2, _⟩ => exact (stack2 x3 b s d).trans (mean2 x3 b s d)
  | ⟨3, _⟩ => exact (stack3 x3 b s d).trans (mean3 x3 b s d)

theorem mixed_apply (x7 : FVec Ideal S4x4x256x256 .f32) (b : Fin 4) (s : Fin 4096) (d : Fin 1024) :
    val_main_v67 (F := Ideal) x3 x7 (ix3 b s d) = mixed x3 x7 b s.val d := by
  pointwise [val_main_v67, val_main_v66, val_main_v65, val_main_v64, val_main_v17, val_main_v16]
  unfold mixed
  refine Finset.sum_congr rfl fun x _ => ?_
  refine (mul_comm _ _).trans (congrArg (· * _) ?_)
  exact pool_apply x3 b s ⟨d.val / 256, by omega⟩ x

theorem gate0 (b : Fin 4) (s : Fin 4096) (d : Fin 1024) : val_main_v82 (F := Ideal) x3 (ix3 b s d) = gate x3 b s.val (1024 + d.val) := by
  unfold gate
  rw [← uat_eq x3 b (1024 + d.val) s.val s.isLt (by omega) ⟨(1024 + d.val) / 512, by omega⟩ ⟨(1024 + d.val) % 512, by omega⟩ rfl rfl]
  pointwise [val_main_v82, val_main_v81, val_main_v80, val_main_cst_9, val_main_v79, val_main_v78, val_main_cst_8, val_main_v77,
    val_main_v76, val_main_v7, val_main_v5, val_main_v4, val_main_v3]
theorem gate1 (b : Fin 4) (s : Fin 4096) (d : Fin 1024) : val_main_v83 (F := Ideal) x3 (ix3 b s d) = gate x3 b s.val (2048 + d.val) := by
  unfold gate
  rw [← uat_eq x3 b (2048 + d.val) s.val s.isLt (by omega) ⟨(1024 + (1024 + d.val)) / 512, by omega⟩
    ⟨(1024 + (1024 + d.val)) % 512, by omega⟩ (by simp only; omega) (by simp only; omega)]
  pointwise [val_main_v83, val_main_v81, val_main_v80, val_main_cst_9, val_main_v79, val_main_v78, val_main_cst_8, val_main_v77,
    val_main_v76, val_main_v7, val_main_v5, val_main_v4, val_main_v3]
theorem gate2 (b : Fin 4) (s : Fin 4096) (d : Fin 1024) : val_main_v84 (F := Ideal) x3 (ix3 b s d) = gate x3 b s.val (3072 + d.val) := by
  unfold gate
  rw [← uat_eq x3 b (3072 + d.val) s.val s.isLt (by omega) ⟨(1024 + (2048 + d.val)) / 512, by omega⟩
    ⟨(1024 + (2048 + d.val)) % 512, by omega⟩ (by simp only; omega) (by simp only; omega)]
  pointwise [val_main_v84, val_main_v81, val_main_v80, val_main_cst_9, val_main_v79, val_main_v78, val_main_cst_8, val_main_v77,
    val_main_v76, val_main_v7, val_main_v5, val_main_v4, val_main_v3]

theorem ref_apply (x0 : FVec Ideal S4x4096x1024 .f32) (x1 : FVec Ideal S4x4096x1024 .bf16) (x2 : FVec Ideal S4x4096x512 .bf16)
    (x4 : FVec Ideal S4x8x6144 .f32) (x5 : FVec Ideal S4x1024x1024 .f32) (x6 : FVec Ideal S4x512x1024 .f32)
    (x7 : FVec Ideal S4x4x256x256 .f32) (x8 : FVec Ideal S4x1024 .f32) (x9 x10 : FVec Ideal S4x1024x1024 .f32)
    (b : Fin 4) (s : Fin 4096) (d : Fin 1024) :
    val_main_v95 (F := Ideal) x0 x1 x2 x3 x4 x5 x6 x7 x8 x9 x10 (ix3 b s d)
      = x0 (ix3 b s d) + x4 (ix3 3 ⟨b.val, by omega⟩ ⟨2048 + d.val, by omega⟩)
          * ∑ e, merged x3 x1 x2 x5 x6 x7 x8 x9 b s e * x10 (ix3 3 e d) := by
  unfold merged
  simp only [← gate0, ← gate1, ← gate2, ← mixed_apply]
  pointwise [val_main_v95, val_main_v94, val_main_v93, val_main_v92, val_main_v91, val_main_v90, val_main_v89, val_main_v88,
    val_main_v87, val_main_v86, val_main_v85, val_main_v75, val_main_v74, val_main_v73, val_main_v72, val_main_v71, val_main_v70,
    val_main_v69, val_main_v68, val_main_v15, val_main_v14, val_main_v13, val_main_v12, val_main_v11, val_main_v10, val_main_v9,
    val_main_v8, val_main_v2, val_main_v1, val_main_v0]

end Cert.MergeRef

end
-- ==== Proof.MergePay.lean ====
/-
  THE MERGE CALL, its payloads read at an index over the extended reals.
-/
module

public import proofs.«01_k».proof.Proof.MergeSums
public import proofs.«01_k».proof.Proof.MergeRef

@[expose] public section

set_option maxRecDepth 16384

noncomputable section

open Idealize.ShloMosaic Idealize.ShloMosaic.TcCoe Idealize.SL.Sem

namespace Cert.MergeBody

open Cert.KernelMergeIdeal Cert.KernelMergeIdeal.Gen Cert.SlotRows Cert.MergeWin

/-! ## The rows -/

theorem pay3_apply (a b : FVec Ideal S1x1x512x512 .bf16) (r : Fin 512) (k : Fin 1024) :
    k0_pay3 (F := Ideal) a b (ix2 r k)
      = if h : k.val < 512 then a (ix4 0 0 r ⟨k.val, by omega⟩) else b (ix4 0 0 r ⟨k.val - 512, by omega⟩) := by
  pointwise [k0_pay3]

theorem pay2_apply (i : grid0.Coords) (a b : FVec Ideal S1x1x32x512 .bf16) (r : Fin 32) (k : Fin 1024) :
    k0_pay2 (F := Ideal) i a b (ix2 r k) = Scalar.select (Scalar.cmpi .sgt (BitVec.ofNat 32 (i 1).val) 0#32)
      (if h : k.val < 512 then a (ix4 0 0 r ⟨k.val, by omega⟩) else b (ix4 0 0 r ⟨k.val - 512, by omega⟩)) 0 := by
  pointwise [k0_pay2]

theorem lo_at (x : FVec Ideal S1x2x512x512 .bf16) (z z' : Fin 1) (r k : Fin 512) : lo (F := Ideal) x (ix4 z z' r k) = x (ix4 0 0 r k) := by
  refine congrArg x (funext fun a => Fin.ext ?_)
  match a with
  | ⟨0, _⟩ => show 0 + 1 * z.val = 0; omega
  | ⟨1, _⟩ => show 0 + 1 * z'.val = 0; omega
  | ⟨2, _⟩ => show 0 + 1 * r.val = r.val; omega
  | ⟨3, _⟩ => show 0 + 1 * k.val = k.val; omega
theorem hi_at (x : FVec Ideal S1x2x512x512 .bf16) (z z' : Fin 1) (r k : Fin 512) : hi (F := Ideal) x (ix4 z z' r k) = x (ix4 0 1 r k) := by
  refine congrArg x (funext fun a => Fin.ext ?_)
  match a with
  | ⟨0, _⟩ => show 0 + 1 * z.val = 0; omega
  | ⟨1, _⟩ => show 1 + 1 * z'.val = 1; omega
  | ⟨2, _⟩ => show 0 + 1 * r.val = r.val; omega
  | ⟨3, _⟩ => show 0 + 1 * k.val = k.val; omega
theorem lo32_at (x : FVec Ideal S1x2x32x512 .bf16) (z z' : Fin 1) (r : Fin 32) (k : Fin 512) : lo32 (F := Ideal) x (ix4 z z' r k) = x (ix4 0 0 r k) := by
  refine congrArg x (funext fun a => Fin.ext ?_)
  match a with
  | ⟨0, _⟩ => show 0 + 1 * z.val = 0; omega
  | ⟨1, _⟩ => show 0 + 1 * z'.val = 0; omega
  | ⟨2, _⟩ => show 0 + 1 * r.val = r.val; omega
  | ⟨3, _⟩ => show 0 + 1 * k.val = k.val; omega
theorem hi32_at (x : FVec Ideal S1x2x32x512 .bf16) (z z' : Fin 1) (r : Fin 32) (k : Fin 512) : hi32 (F := Ideal) x (ix4 z z' r k) = x (ix4 0 1 r k) := by
  refine congrArg x (funext fun a => Fin.ext ?_)
  match a with
  | ⟨0, _⟩ => show 0 + 1 * z.val = 0; omega
  | ⟨1, _⟩ => show 1 + 1 * z'.val = 1; omega
  | ⟨2, _⟩ => show 0 + 1 * r.val = r.val; omega
  | ⟨3, _⟩ => show 0 + 1 * k.val = k.val; omega

/-- Two halves of 512 columns are one row of 1024. -/
theorem halves (x : FVec Ideal S1x2x512x512 .bf16) (r : Fin 512) (k : Fin 1024) :
    (if h : k.val < 512 then lo (F := Ideal) x (ix4 0 0 r ⟨k.val, h⟩) else hi (F := Ideal) x (ix4 0 0 r ⟨k.val - 512, by omega⟩))
      = x (ix4 0 ⟨k.val / 512, by omega⟩ r ⟨k.val % 512, by omega⟩) := by
  split
  · rename_i h
    rw [lo_at]
    exact congrArg₂ (fun (e : Fin 2) (l : Fin 512) => x (ix4 0 e r l)) (Fin.ext (by show 0 = k.val / 512; omega)) (Fin.ext (by show k.val = k.val % 512; omega))
  · rename_i h
    rw [hi_at]
    exact congrArg₂ (fun (e : Fin 2) (l : Fin 512) => x (ix4 0 e r l)) (Fin.ext (by show 1 = k.val / 512; omega)) (Fin.ext (by show k.val - 512 = k.val % 512; omega))
theorem halves32 (x : FVec Ideal S1x2x32x512 .bf16) (r : Fin 32) (k : Fin 1024) :
    (if h : k.val < 512 then lo32 (F := Ideal) x (ix4 0 0 r ⟨k.val, h⟩) else hi32 (F := Ideal) x (ix4 0 0 r ⟨k.val - 512, by omega⟩))
      = x (ix4 0 ⟨k.val / 512, by omega⟩ r ⟨k.val % 512, by omega⟩) := by
  split
  · rename_i h
    rw [lo32_at]
    exact congrArg₂ (fun (e : Fin 2) (l : Fin 512) => x (ix4 0 e r l)) (Fin.ext (by show 0 = k.val / 512; omega)) (Fin.ext (by show k.val = k.val % 512; omega))
  · rename_i h
    rw [hi32_at]
    exact congrArg₂ (fun (e : Fin 2) (l : Fin 512) => x (ix4 0 e r l)) (Fin.ext (by show 1 = k.val / 512; omega)) (Fin.ext (by show k.val - 512 = k.val % 512; omega))

/-- The scratch of rows: the 32 rows before the block, then the block. -/
theorem ext_at (i : grid0.Coords) (h : FVec Ideal S1x2x32x512 .bf16) (u : FVec Ideal S1x2x512x512 .bf16) (f : Nat → Nat → EReal)
    (hu : ∀ (r : Fin 512) (k : Fin 1024), u (ix4 0 ⟨k.val / 512, by omega⟩ r ⟨k.val % 512, by omega⟩) = f k.val (32 + r.val))
    (hh : ∀ (r : Fin 32) (k : Fin 1024), Scalar.select (Scalar.cmpi .sgt (BitVec.ofNat 32 (i 1).val) 0#32)
      (h (ix4 0 ⟨k.val / 512, by omega⟩ r ⟨k.val % 512, by omega⟩)) (0 : EReal) = f k.val r.val)
    (p d : Nat) (hp : p < 544) (hd : d < 1024) : ext (F := Ideal) i h u (ix2 ⟨p, hp⟩ ⟨d, hd⟩) = f d p := by
  unfold ext wrE
  by_cases h32 : 32 ≤ p
  · have hx : (Rect.unit (s := S544x1024) ![32, 0] S512x1024.size inb_S544x1024_S512x1024_32_0).emb (ix2 (⟨p - 32, by omega⟩ : Fin 512) (⟨d, hd⟩ : Fin 1024))
        = ix2 ⟨p, hp⟩ ⟨d, hd⟩ := by
      funext a
      apply Fin.ext
      match a with
      | ⟨0, _⟩ => show 32 + 1 * (p - 32) = p; omega
      | ⟨1, _⟩ => show 0 + 1 * d = d; omega
    rw [← hx]
    refine (View.canon_cons_emb _ _ _ _).trans ?_
    refine (pay3_apply _ _ _ _).trans ((halves u _ _).trans ((hu _ _).trans ?_))
    show f d (32 + (p - 32)) = f d p
    congr 1; omega
  · refine (View.canon_cons_of_not_mem _ _ fun hm => ?_).trans ?_
    · obtain ⟨j, hj⟩ := (Rect.unit (s := S544x1024) ![32, 0] S512x1024.size inb_S544x1024_S512x1024_32_0).toLoadRect.exists_idx_of_mem hm
      have h1 : 32 + 1 * (j 0).val = p := congrArg (fun i : S544x1024.Idx => (i 0).val) hj
      omega
    · have hx : (Rect.unit (s := S544x1024) ![0, 0] S32x1024.size inb_S544x1024_S32x1024_0_0).emb (ix2 (⟨p, by omega⟩ : Fin 32) (⟨d, hd⟩ : Fin 1024))
          = ix2 ⟨p, hp⟩ ⟨d, hd⟩ := by
        funext a
        apply Fin.ext
        match a with
        | ⟨0, _⟩ => show 0 + 1 * p = p; omega
        | ⟨1, _⟩ => show 0 + 1 * d = d; omega
      rw [← hx]
      refine (View.canon_cons_emb _ _ _ _).trans ?_
      refine (pay2_apply _ _ _ _ _).trans ?_
      rw [halves32]
      exact hh _ _

/-! ## The pooled branch -/

/-- How many positions the kernel counts, in integers. -/
theorem count_int (j r w : Nat) (hj : j < 8) (hr : r < 512) (hw : w ≤ 16) :
    FloatOps.sitofp (F := Ideal) FTy.f32 (IntOp.minsi (IntOp.addi (IntOp.addi (Scalar.muli (BitVec.ofNat 32 j) 512#32) (BitVec.ofNat 32 r)) 1#32)
      (BitVec.ofNat 32 w)) = (((min (512 * j + r + 1) w : ℕ) : ℝ) : EReal) := by
  have h1 : IntOp.addi (IntOp.addi (Scalar.muli (BitVec.ofNat 32 j) 512#32) (BitVec.ofNat 32 r)) 1#32 = BitVec.ofNat 32 (512 * j + r + 1) := by
    show BitVec.ofNat 32 j * 512#32 + BitVec.ofNat 32 r + 1#32 = _
    apply BitVec.eq_of_toNat_eq
    simp only [BitVec.toNat_add, BitVec.toNat_mul, BitVec.toNat_ofNat]
    omega
  have h2 : ∀ n, n < 2 ^ 31 → (BitVec.ofNat 32 n).toInt = (n : ℤ) := fun n hn => by
    rw [BitVec.toInt_eq_toNat_of_lt] <;> rw [BitVec.toNat_ofNat, Nat.mod_eq_of_lt (by omega)]
    omega
  have h3 : IntOp.minsi (BitVec.ofNat 32 (512 * j + r + 1)) (BitVec.ofNat 32 w) = BitVec.ofNat 32 (min (512 * j + r + 1) w) := by
    unfold IntOp.minsi
    simp only [BitVec.slt, h2 _ (show 512 * j + r + 1 < 2 ^ 31 by omega), h2 w (by omega), decide_eq_true_eq]
    split
    · rw [min_eq_left (by omega)]
    · rw [min_eq_right (by omega)]
  rw [h1, h3]
  exact sitofp_nat _ (by omega)

theorem pay10_apply (i : BitVec 32) (a : FVec Ideal S1x512x256 .f32) (b : FVec Ideal S512x256 .f32) (r : Fin 512) (k : Fin 256) :
    k0_pay10 (F := Ideal) i a b (ix2 r k) = Ideal.div (a (ix3 0 r k)) (FloatOps.sitofp (F := Ideal) FTy.f32
      (IntOp.minsi (IntOp.addi (IntOp.addi (Scalar.muli i 512#32) (BitVec.ofNat 32 r.val)) 1#32) 2#32)) - b (ix2 r k) := by
  pointwise [k0_pay10, k0_pay9]
theorem pay11_apply (p : FVec Ideal S512x256 .bf16) (w : FVec Ideal S1x256x256 .bf16) (r : Fin 512) (k : Fin 256) :
    k0_pay11 (F := Ideal) p w (ix2 r k) = ∑ x, p (ix2 r x) * w (ix3 0 x k) := by
  pointwise [k0_pay11]
theorem pay12_apply (i : BitVec 32) (a : FVec Ideal S1x512x256 .f32) (b : FVec Ideal S512x256 .f32) (w : FVec Ideal S1x256x256 .bf16)
    (r : Fin 512) (k : Fin 256) :
    k0_pay12 (F := Ideal) (k0_pay9 i) a b w (ix2 r k) = ∑ x, (Ideal.div (a (ix3 0 r x)) (FloatOps.sitofp (F := Ideal) FTy.f32
      (IntOp.minsi (IntOp.addi (IntOp.addi (Scalar.muli i 512#32) (BitVec.ofNat 32 r.val)) 1#32) 4#32)) - b (ix2 r x)) * w (ix3 0 x k) := by
  pointwise [k0_pay12, k0_pay9]
theorem pay13_apply (i : BitVec 32) (a : FVec Ideal S1x512x256 .f32) (b : FVec Ideal S512x256 .f32) (r : Fin 512) (k : Fin 256) :
    k0_pay13 (F := Ideal) (k0_pay9 i) a b (ix2 r k) = Ideal.div (a (ix3 0 r k)) (FloatOps.sitofp (F := Ideal) FTy.f32
      (IntOp.minsi (IntOp.addi (IntOp.addi (Scalar.muli i 512#32) (BitVec.ofNat 32 r.val)) 1#32) 8#32)) - b (ix2 r k) := by
  pointwise [k0_pay13, k0_pay9]
theorem pay14_apply (i : BitVec 32) (x y : FVec Ideal S512x256 .f32) (q : FVec Ideal S512x256 .bf16) (w : FVec Ideal S1x256x256 .bf16)
    (a : FVec Ideal S1x512x256 .f32) (b : FVec Ideal S512x256 .f32) (v : FVec Ideal S1x256x256 .bf16) (sc : FVec Ideal S1x1024 .f32)
    (r : Fin 512) (k : Fin 1024) :
    k0_pay14 (F := Ideal) (k0_pay9 i) x y q w a b v sc (ix2 r k) = (if h : k.val < 256 then x (ix2 r ⟨k.val, by omega⟩)
      else if h : k.val - 256 < 256 then y (ix2 r ⟨k.val - 256, by omega⟩)
      else if h : k.val - 256 - 256 < 256 then ∑ l, q (ix2 r l) * w (ix3 0 l ⟨k.val - 256 - 256, by omega⟩)
      else ∑ l, (Ideal.div (a (ix3 0 r l)) (FloatOps.sitofp (F := Ideal) FTy.f32
        (IntOp.minsi (IntOp.addi (IntOp.addi (Scalar.muli i 512#32) (BitVec.ofNat 32 r.val)) 1#32) 16#32)) - b (ix2 r l))
          * v (ix3 0 l ⟨k.val - 256 - 256 - 256, by omega⟩)) * sc (ix2 0 k) := by
  pointwise [k0_pay14, k0_pay9]

/-- The mixing weights of a group. -/
theorem mix_at (x : FVec Ideal S1x4x256x256 .bf16) (g : Nat) (hg : ∀ a, (![g, 0, 0] : Fin 3 → Nat) a + S1x256x256.size a ≤ S4x256x256.size a)
    (hG : g < 4) (z : Fin 1) (l k : Fin 256) : mixOf (F := Ideal) x g hg (ix3 z l k) = x (ix4 0 ⟨g, hG⟩ l k) := by
  have hx := Shape.reshapeEquiv_cons_one (d := ![1, 256, 256])
    (LoadRect.numel_consLift (Rect.unit (s := S4x256x256) ![g, 0, 0] S1x256x256.size hg).toLoadRect ![1, 4, 256, 256] rfl
      (fun i => by fin_cases i <;> rfl)) (ix3 z l k)
  refine (congrArg (fun j => x (((Rect.unit (s := S1x4x256x256) ![0, 0, 0, 0] S1x4x256x256.size inb_S1x4x256x256_S1x4x256x256_0_0_0_0).withinL
      ((Rect.unit (s := S4x256x256) ![g, 0, 0] S1x256x256.size hg).toLoadRect.consLift ![1, 4, 256, 256] rfl (fun i => by fin_cases i <;> rfl))
      fun _ => rfl).idx j)) hx).trans ?_
  refine congrArg x ?_
  funext i
  apply Fin.ext
  have hz : z.val = 0 := by omega
  match i with
  | ⟨0, _⟩ => show 0 + 0 + 1 * 0 = 0; omega
  | ⟨1, _⟩ => show 0 + g + 1 * z.val = g; omega
  | ⟨2, _⟩ => show 0 + 0 + 1 * l.val = l.val; omega
  | ⟨3, _⟩ => show 0 + 0 + 1 * k.val = k.val; omega

/-- The pooled branch: the mean of each column's last positions minus the column, mixed within its group and scaled. -/
theorem pooled_at (i : grid0.Coords) (E : FVec Ideal S544x1024 .f32) (W : FVec Ideal S1x4x256x256 .bf16) (sc : FVec Ideal S1x1024 .f32)
    (f : Nat → Nat → EReal) (hE : ∀ (p d : Nat) (hp : p < 544) (hd : d < 1024), E (ix2 ⟨p, hp⟩ ⟨d, hd⟩) = f d p)
    (r : Fin 512) (k : Fin 1024) :
    pooled (F := Ideal) i E W sc (ix2 r k) = (∑ x : Fin 256,
      (Ideal.div (tail (f (256 * (k.val / 256) + x.val)) (2 * 2 ^ (k.val / 256)) (32 + r.val))
          (((min (512 * (i 1).val + r.val + 1) (2 * 2 ^ (k.val / 256)) : ℕ) : ℝ) : EReal)
        - f (256 * (k.val / 256) + x.val) (32 + r.val)) * W (ix4 0 ⟨k.val / 256, by omega⟩ x ⟨k.val % 256, by omega⟩)) * sc (ix2 0 k) := by
  have hi : (i 1).val < 8 := (i 1).isLt
  unfold pooled
  rw [pay14_apply]
  refine congrArg (· * _) ?_
  have hm : ∀ (g : Nat) (hg : g < 4) (l l' : Fin 256), k.val / 256 = g → l'.val = k.val % 256 →
      W (ix4 0 ⟨g, hg⟩ l l') = W (ix4 0 ⟨k.val / 256, by omega⟩ l ⟨k.val % 256, by omega⟩) := by
    intro g hg l l' h1 h2
    subst h1
    exact congrArg (fun q : Fin 256 => W (ix4 0 _ l q)) (Fin.ext h2)
  split
  · rename_i h
    have hq : k.val / 256 = 0 := by omega
    rw [pay11_apply]
    refine Finset.sum_congr rfl fun l _ => ?_
    rw [pay10_apply, mix_at W 0 _ (by decide), hm 0 (by decide) l _ hq (by simp only; omega), count_int _ _ 2 hi r.isLt (by decide)]
    refine congrArg (· * _) ?_
    rw [hq,
      slot_at (slots16 E) (32 + r.val) l.val (by decide) (by omega) (by omega) 0 r l rfl (by omega),
      read2 E f hE (32 + r.val) l.val (by omega) (by omega) l.isLt,
      rows_at E (32 + r.val) l.val (by omega) (by omega) r l rfl (by omega), hE]
    simp
  · split
    · rename_i h0 h
      have hq : k.val / 256 = 1 := by omega
      rw [pay12_apply]
      refine Finset.sum_congr rfl fun l _ => ?_
      rw [mix_at W 1 _ (by decide), hm 1 (by decide) l _ hq (by simp only; omega), count_int _ _ 4 hi r.isLt (by decide)]
      refine congrArg (· * _) ?_
      rw [hq,
        slot_at (slots16 E) (32 + r.val) (256 + l.val) (by decide) (by omega) (by omega) 0 r l rfl rfl,
        read4 E f hE (32 + r.val) (256 + l.val) (by omega) (by omega) (by omega) (by omega),
        rows_at E (32 + r.val) (256 + l.val) (by omega) (by omega) r l rfl rfl, hE]
      rfl
    · split
      · rename_i h0 h1 h
        have hq : k.val / 256 = 2 := by omega
        refine Finset.sum_congr rfl fun l _ => ?_
        rw [pay13_apply, mix_at W 2 _ (by decide), hm 2 (by decide) l _ hq (by simp only; omega), count_int _ _ 8 hi r.isLt (by decide)]
        refine congrArg (· * _) ?_
        rw [hq,
          slot_at (slots16 E) (32 + r.val) (512 + l.val) (by decide) (by omega) (by omega) 0 r l rfl rfl,
          read8 E f hE (32 + r.val) (512 + l.val) (by omega) (by omega) (by omega) (by omega),
          rows_at E (32 + r.val) (512 + l.val) (by omega) (by omega) r l rfl rfl, hE]
        rfl
      · rename_i h0 h1 h2
        have hq : k.val / 256 = 3 := by omega
        refine Finset.sum_congr rfl fun l _ => ?_
        rw [mix_at W 3 _ (by decide), hm 3 (by decide) l _ hq (by simp only; omega), count_int _ _ 16 hi r.isLt (by decide)]
        refine congrArg (· * _) ?_
        rw [hq,
          slot_at (slots16 E) (32 + r.val) (768 + l.val) (by decide) (by omega) (by omega) 0 r l rfl rfl,
          read16 E f hE (32 + r.val) (768 + l.val) (by omega) (by omega) (by omega) (by omega),
          rows_at E (32 + r.val) (768 + l.val) (by omega) (by omega) r l rfl rfl, hE]
        rfl

/-! ## The merge -/

theorem pay16_apply (a b : FVec Ideal S1x1x512x512 .bf16) (y : FVec Ideal S1x512x1024 .bf16) (w : FVec Ideal S1x1024x1024 .bf16)
    (r : Fin 512) (k : Fin 1024) : k0_pay16 (F := Ideal) (k0_pay15 a) b y w (ix2 r k)
      = Ideal.div 1 (1 + Ideal.exp (-(if h : k.val < 512 then a (ix4 0 0 r ⟨k.val, by omega⟩) else b (ix4 0 0 r ⟨k.val - 512, by omega⟩))))
        * ∑ x, y (ix3 0 r x) * w (ix3 0 x k) := by
  rw [← gate_eq]
  pointwise [k0_pay16, k0_pay15]
theorem pay17_apply (a b : FVec Ideal S1x1x512x512 .bf16) (r : Fin 512) (k : Fin 1024) : k0_pay17 (F := Ideal) a b (ix2 r k)
      = Ideal.div 1 (1 + Ideal.exp (-(if h : k.val < 512 then a (ix4 0 0 r ⟨k.val, by omega⟩) else b (ix4 0 0 r ⟨k.val - 512, by omega⟩)))) := by
  rw [← gate_eq]
  pointwise [k0_pay17]
theorem pay19_apply (p : FVec Ideal S512x1024 .bf16) (x16 x17 : FVec Ideal S512x1024 .f32) (y : FVec Ideal S1x512x512 .bf16)
    (w : FVec Ideal S1x512x1024 .bf16) (a b : FVec Ideal S1x1x512x512 .bf16) (wp : FVec Ideal S1x1024x1024 .bf16)
    (x : FVec Ideal S1x512x1024 .f32) (mr : FVec Ideal S1x1x1x1024 .f32) (wo : FVec Ideal S1x1024x1024 .bf16) (r : Fin 512) (k : Fin 1024)
    (z : Fin 1) : k0_pay1 (F := Ideal) (k0_pay19 p x16 x17 (k0_pay18 y) w a b wp x mr wo) (ix3 z r k)
      = x (ix3 0 r k) + mr (ix4 0 0 0 k) * ∑ e : Fin 1024,
        (x16 (ix2 r e) + x17 (ix2 r e) * (∑ l, y (ix3 0 r l) * w (ix3 0 l e))
          + Ideal.div 1 (1 + Ideal.exp (-(if h : e.val < 512 then a (ix4 0 0 r ⟨e.val, by omega⟩) else b (ix4 0 0 r ⟨e.val - 512, by omega⟩))))
            * ∑ l, p (ix2 r l) * wp (ix3 0 l e)) * wo (ix3 0 e k) := by
  simp only [← gate_eq]
  rw [Fin.sum_univ_two_halves 512 512 rfl]
  pointwise [k0_pay1, k0_pay19, k0_pay18]

end Cert.MergeBody

end
-- ==== Proof.MergeBlocks.lean ====
/-
  THE MERGE CALL, its windows: where each block lies, and each block read as an element of an argument.
-/
module

public import proofs.«01_k».proof.Proof.MergeBody
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeBody

open Cert.KernelMergeIdeal Cert.KernelMergeIdeal.Gen

/-- Where each window's block lies at every grid point. -/
theorem places : ∀ t : Fin grid0.N,
    (cc0_transform_0 (grid0.coords t) 0 = t.val / 8 ∧ cc0_transform_0 (grid0.coords t) 1 = t.val % 8 ∧ cc0_transform_0 (grid0.coords t) 2 = 0)
    ∧ (cc0_transform_1 (grid0.coords t) 0 = t.val / 8 ∧ cc0_transform_1 (grid0.coords t) 1 = t.val % 8 ∧ cc0_transform_1 (grid0.coords t) 2 = 0)
    ∧ (cc0_transform_2 (grid0.coords t) 0 = t.val / 8 ∧ cc0_transform_2 (grid0.coords t) 1 = t.val % 8 ∧ cc0_transform_2 (grid0.coords t) 2 = 0)
    ∧ (cc0_transform_3 (grid0.coords t) 0 = t.val / 8 ∧ cc0_transform_3 (grid0.coords t) 1 = 0 ∧ cc0_transform_3 (grid0.coords t) 2 = t.val % 8 ∧ cc0_transform_3 (grid0.coords t) 3 = 0)
    ∧ (cc0_transform_4 (grid0.coords t) 0 = t.val / 8 ∧ cc0_transform_4 (grid0.coords t) 1 = 0 ∧ cc0_transform_4 (grid0.coords t) 2 = t.val % 8 * 16 - 1 ∧ cc0_transform_4 (grid0.coords t) 3 = 0)
    ∧ (cc0_transform_5 (grid0.coords t) 0 = t.val / 8 ∧ cc0_transform_5 (grid0.coords t) 1 = 1 ∧ cc0_transform_5 (grid0.coords t) 2 = t.val % 8 ∧ cc0_transform_5 (grid0.coords t) 3 = 0)
    ∧ (cc0_transform_6 (grid0.coords t) 0 = t.val / 8 ∧ cc0_transform_6 (grid0.coords t) 1 = 2 ∧ cc0_transform_6 (grid0.coords t) 2 = t.val % 8 ∧ cc0_transform_6 (grid0.coords t) 3 = 0)
    ∧ (cc0_transform_7 (grid0.coords t) 0 = t.val / 8 ∧ cc0_transform_7 (grid0.coords t) 1 = 3 ∧ cc0_transform_7 (grid0.coords t) 2 = t.val % 8 ∧ cc0_transform_7 (grid0.coords t) 3 = 0)
    ∧ (cc0_transform_8 (grid0.coords t) 0 = 3 ∧ cc0_transform_8 (grid0.coords t) 1 = 2 ∧ cc0_transform_8 (grid0.coords t) 2 = 0 ∧ cc0_transform_8 (grid0.coords t) 3 = 0)
    ∧ (cc0_transform_9 (grid0.coords t) 0 = 3 ∧ cc0_transform_9 (grid0.coords t) 1 = 0 ∧ cc0_transform_9 (grid0.coords t) 2 = 0)
    ∧ (cc0_transform_10 (grid0.coords t) 0 = 3 ∧ cc0_transform_10 (grid0.coords t) 1 = 0 ∧ cc0_transform_10 (grid0.coords t) 2 = 0)
    ∧ (cc0_transform_11 (grid0.coords t) 0 = 3 ∧ cc0_transform_11 (grid0.coords t) 1 = 0 ∧ cc0_transform_11 (grid0.coords t) 2 = 0 ∧ cc0_transform_11 (grid0.coords t) 3 = 0)
    ∧ (cc0_transform_12 (grid0.coords t) 0 = 0 ∧ cc0_transform_12 (grid0.coords t) 1 = 0)
    ∧ (cc0_transform_13 (grid0.coords t) 0 = 3 ∧ cc0_transform_13 (grid0.coords t) 1 = 0 ∧ cc0_transform_13 (grid0.coords t) 2 = 0)
    ∧ (cc0_transform_14 (grid0.coords t) 0 = 3 ∧ cc0_transform_14 (grid0.coords t) 1 = 0 ∧ cc0_transform_14 (grid0.coords t) 2 = 0)
    ∧ (cc0_transform_15 (grid0.coords t) 0 = t.val / 8 ∧ cc0_transform_15 (grid0.coords t) 1 = t.val % 8 ∧ cc0_transform_15 (grid0.coords t) 2 = 0)
    ∧ k0_off1 (grid0.coords t) = ![0, 0, t.val / 8, 0] ∧ (grid0.coords t 1).val = t.val % 8 := by
  decide +kernel

variable (m : (ℓ : Loc nD τ sig) → Buf (Elt Ideal) ℓ)

/-! ## What the host prepared, read at an index -/

theorem entry_mods (c : Dev nD) (a : Fin 4) (e : Fin 6) (b : Fin 8) (k : Fin 1024) :
    (V m c main_v1 : FVec Ideal S4x6x8x1024 .f32) (ix4 a e b k)
      = (m ((c : Thread nD τ).loc main_arg4) : FVec Ideal S4x8x6144 .f32) (ix3 a b ⟨e.val * 1024 + k.val, by omega⟩) := by
  entry_read
  pointwise

theorem entry_scale (c : Dev nD) (z : Fin 1) (k : Fin 1024) :
    (V m c main_v9 : FVec Ideal S1x1024 .f32) (ix2 z k)
      = (m ((c : Thread nD τ).loc main_arg8) : FVec Ideal S4x1024 .f32) (ix2 3 k) := by
  entry_read
  pointwise

theorem entry_v2 (c : Dev nD) (i : S4x1024x1024.Idx) :
    (V m c main_v2 : FVec Ideal S4x1024x1024 .bf16) i
      = (m ((c : Thread nD τ).loc main_arg5) : FVec Ideal S4x1024x1024 .f32) i := by
  entry_read
  rfl

theorem entry_v3 (c : Dev nD) (i : S4x512x1024.Idx) :
    (V m c main_v3 : FVec Ideal S4x512x1024 .bf16) i
      = (m ((c : Thread nD τ).loc main_arg6) : FVec Ideal S4x512x1024 .f32) i := by
  entry_read
  rfl

theorem entry_v4 (c : Dev nD) (i : S4x4x256x256.Idx) :
    (V m c main_v4 : FVec Ideal S4x4x256x256 .bf16) i
      = (m ((c : Thread nD τ).loc main_arg7) : FVec Ideal S4x4x256x256 .f32) i := by
  entry_read
  rfl

theorem entry_v5 (c : Dev nD) (i : S4x1024x1024.Idx) :
    (V m c main_v5 : FVec Ideal S4x1024x1024 .bf16) i
      = (m ((c : Thread nD τ).loc main_arg9) : FVec Ideal S4x1024x1024 .f32) i := by
  entry_read
  rfl

theorem entry_v6 (c : Dev nD) (i : S4x1024x1024.Idx) :
    (V m c main_v6 : FVec Ideal S4x1024x1024 .bf16) i
      = (m ((c : Thread nD τ).loc main_arg10) : FVec Ideal S4x1024x1024 .f32) i := by
  entry_read
  rfl

/-! ## The blocks -/

/-- Window 0's block at an index, as an element of its array. -/
theorem blk0 (c : Dev nD) (t : Fin cfg0.N) (j0 : Fin 1) (j1 : Fin 512) (j2 : Fin 1024) (i0 : Fin 4) (i1 : Fin 4096) (i2 : Fin 1024)
    (h0 : i0.val = cc0_transform_0 (grid0.coords t) 0 * 1 + j0.val)
    (h1 : i1.val = cc0_transform_0 (grid0.coords t) 1 * 512 + j1.val)
    (h2 : i2.val = cc0_transform_0 (grid0.coords t) 2 * 1024 + j2.val) :
    (iblk m c 0 t : FVec Ideal S1x512x1024 .f32) (ix3 j0 j1 j2)
      = (m ((c : Thread nD τ).loc main_arg0) : FVec Ideal S4x4096x1024 .f32) (ix3 i0 i1 i2) := by
  unfold iblk
  rw [View.read_apply]
  show V m c main_arg0 _ = _
  rw [V_main_arg0]
  congr 1
  funext a
  apply Fin.ext
  match a with
  | ⟨0, _⟩ => refine Eq.trans ?_ h0.symm; show cc0_transform_0 (grid0.coords t) 0 * 1 + 1 * j0.val = _; omega
  | ⟨1, _⟩ => refine Eq.trans ?_ h1.symm; show cc0_transform_0 (grid0.coords t) 1 * 512 + 1 * j1.val = _; omega
  | ⟨2, _⟩ => refine Eq.trans ?_ h2.symm; show cc0_transform_0 (grid0.coords t) 2 * 1024 + 1 * j2.val = _; omega

/-- Window 1's block at an index, as an element of its array. -/
theorem blk1 (c : Dev nD) (t : Fin cfg0.N) (j0 : Fin 1) (j1 : Fin 512) (j2 : Fin 1024) (i0 : Fin 4) (i1 : Fin 4096) (i2 : Fin 1024)
    (h0 : i0.val = cc0_transform_1 (grid0.coords t) 0 * 1 + j0.val)
    (h1 : i1.val = cc0_transform_1 (grid0.coords t) 1 * 512 + j1.val)
    (h2 : i2.val = cc0_transform_1 (grid0.coords t) 2 * 1024 + j2.val) :
    (iblk m c 1 t : FVec Ideal S1x512x1024 .bf16) (ix3 j0 j1 j2)
      = (m ((c : Thread nD τ).loc main_arg1) : FVec Ideal S4x4096x1024 .bf16) (ix3 i0 i1 i2) := by
  unfold iblk
  rw [View.read_apply]
  show V m c main_arg1 _ = _
  rw [V_main_arg1]
  congr 1
  funext a
  apply Fin.ext
  match a with
  | ⟨0, _⟩ => refine Eq.trans ?_ h0.symm; show cc0_transform_1 (grid0.coords t) 0 * 1 + 1 * j0.val = _; omega
  | ⟨1, _⟩ => refine Eq.trans ?_ h1.symm; show cc0_transform_1 (grid0.coords t) 1 * 512 + 1 * j1.val = _; omega
  | ⟨2, _⟩ => refine Eq.trans ?_ h2.symm; show cc0_transform_1 (grid0.coords t) 2 * 1024 + 1 * j2.val = _; omega

/-- Window 2's block at an index, as an element of its array. -/
theorem blk2 (c : Dev nD) (t : Fin cfg0.N) (j0 : Fin 1) (j1 : Fin 512) (j2 : Fin 512) (i0 : Fin 4) (i1 : Fin 4096) (i2 : Fin 512)
    (h0 : i0.val = cc0_transform_2 (grid0.coords t) 0 * 1 + j0.val)
    (h1 : i1.val = cc0_transform_2 (grid0.coords t) 1 * 512 + j1.val)
    (h2 : i2.val = cc0_transform_2 (grid0.coords t) 2 * 512 + j2.val) :
    (iblk m c 2 t : FVec Ideal S1x512x512 .bf16) (ix3 j0 j1 j2)
      = (m ((c : Thread nD τ).loc main_arg2) : FVec Ideal S4x4096x512 .bf16) (ix3 i0 i1 i2) := by
  unfold iblk
  rw [View.read_apply]
  show V m c main_arg2 _ = _
  rw [V_main_arg2]
  congr 1
  funext a
  apply Fin.ext
  match a with
  | ⟨0, _⟩ => refine Eq.trans ?_ h0.symm; show cc0_transform_2 (grid0.coords t) 0 * 1 + 1 * j0.val = _; omega
  | ⟨1, _⟩ => refine Eq.trans ?_ h1.symm; show cc0_transform_2 (grid0.coords t) 1 * 512 + 1 * j1.val = _; omega
  | ⟨2, _⟩ => refine Eq.trans ?_ h2.symm; show cc0_transform_2 (grid0.coords t) 2 * 512 + 1 * j2.val = _; omega

/-- Window 3's block at an index, as an element of its array. -/
theorem blk3 (c : Dev nD) (t : Fin cfg0.N) (j0 : Fin 1) (j1 : Fin 2) (j2 : Fin 512) (j3 : Fin 512) (i0 : Fin 4) (i1 : Fin 8) (i2 : Fin 4096) (i3 : Fin 512)
    (h0 : i0.val = cc0_transform_3 (grid0.coords t) 0 * 1 + j0.val)
    (h1 : i1.val = cc0_transform_3 (grid0.coords t) 1 * 2 + j1.val)
    (h2 : i2.val = cc0_transform_3 (grid0.coords t) 2 * 512 + j2.val)
    (h3 : i3.val = cc0_transform_3 (grid0.coords t) 3 * 512 + j3.val) :
    (iblk m c 3 t : FVec Ideal S1x2x512x512 .bf16) (ix4 j0 j1 j2 j3)
      = (m ((c : Thread nD τ).loc main_arg3) : FVec Ideal S4x8x4096x512 .bf16) (ix4 i0 i1 i2 i3) := by
  unfold iblk
  rw [View.read_apply]
  show V m c main_arg3 _ = _
  rw [V_main_arg3]
  congr 1
  funext a
  apply Fin.ext
  match a with
  | ⟨0, _⟩ => refine Eq.trans ?_ h0.symm; show cc0_transform_3 (grid0.coords t) 0 * 1 + 1 * j0.val = _; omega
  | ⟨1, _⟩ => refine Eq.trans ?_ h1.symm; show cc0_transform_3 (grid0.coords t) 1 * 2 + 1 * j1.val = _; omega
  | ⟨2, _⟩ => refine Eq.trans ?_ h2.symm; show cc0_transform_3 (grid0.coords t) 2 * 512 + 1 * j2.val = _; omega
  | ⟨3, _⟩ => refine Eq.trans ?_ h3.symm; show cc0_transform_3 (grid0.coords t) 3 * 512 + 1 * j3.val = _; omega

/-- Window 4's block at an index, as an element of its array. -/
theorem blk4 (c : Dev nD) (t : Fin cfg0.N) (j0 : Fin 1) (j1 : Fin 2) (j2 : Fin 32) (j3 : Fin 512) (i0 : Fin 4) (i1 : Fin 8) (i2 : Fin 4096) (i3 : Fin 512)
    (h0 : i0.val = cc0_transform_4 (grid0.coords t) 0 * 1 + j0.val)
    (h1 : i1.val = cc0_transform_4 (grid0.coords t) 1 * 2 + j1.val)
    (h2 : i2.val = cc0_transform_4 (grid0.coords t) 2 * 32 + j2.val)
    (h3 : i3.val = cc0_transform_4 (grid0.coords t) 3 * 512 + j3.val) :
    (iblk m c 4 t : FVec Ideal S1x2x32x512 .bf16) (ix4 j0 j1 j2 j3)
      = (m ((c : Thread nD τ).loc main_arg3) : FVec Ideal S4x8x4096x512 .bf16) (ix4 i0 i1 i2 i3) := by
  unfold iblk
  rw [View.read_apply]
  show V m c main_arg3 _ = _
  rw [V_main_arg3]
  congr 1
  funext a
  apply Fin.ext
  match a with
  | ⟨0, _⟩ => refine Eq.trans ?_ h0.symm; show cc0_transform_4 (grid0.coords t) 0 * 1 + 1 * j0.val = _; omega
  | ⟨1, _⟩ => refine Eq.trans ?_ h1.symm; show cc0_transform_4 (grid0.coords t) 1 * 2 + 1 * j1.val = _; omega
  | ⟨2, _⟩ => refine Eq.trans ?_ h2.symm; show cc0_transform_4 (grid0.coords t) 2 * 32 + 1 * j2.val = _; omega
  | ⟨3, _⟩ => refine Eq.trans ?_ h3.symm; show cc0_transform_4 (grid0.coords t) 3 * 512 + 1 * j3.val = _; omega

/-- Window 5's block at an index, as an element of its array. -/
theorem blk5 (c : Dev nD) (t : Fin cfg0.N) (j0 : Fin 1) (j1 : Fin 2) (j2 : Fin 512) (j3 : Fin 512) (i0 : Fin 4) (i1 : Fin 8) (i2 : Fin 4096) (i3 : Fin 512)
    (h0 : i0.val = cc0_transform_5 (grid0.coords t) 0 * 1 + j0.val)
    (h1 : i1.val = cc0_transform_5 (grid0.coords t) 1 * 2 + j1.val)
    (h2 : i2.val = cc0_transform_5 (grid0.coords t) 2 * 512 + j2.val)
    (h3 : i3.val = cc0_transform_5 (grid0.coords t) 3 * 512 + j3.val) :
    (iblk m c 5 t : FVec Ideal S1x2x512x512 .bf16) (ix4 j0 j1 j2 j3)
      = (m ((c : Thread nD τ).loc main_arg3) : FVec Ideal S4x8x4096x512 .bf16) (ix4 i0 i1 i2 i3) := by
  unfold iblk
  rw [View.read_apply]
  show V m c main_arg3 _ = _
  rw [V_main_arg3]
  congr 1
  funext a
  apply Fin.ext
  match a with
  | ⟨0, _⟩ => refine Eq.trans ?_ h0.symm; show cc0_transform_5 (grid0.coords t) 0 * 1 + 1 * j0.val = _; omega
  | ⟨1, _⟩ => refine Eq.trans ?_ h1.symm; show cc0_transform_5 (grid0.coords t) 1 * 2 + 1 * j1.val = _; omega
  | ⟨2, _⟩ => refine Eq.trans ?_ h2.symm; show cc0_transform_5 (grid0.coords t) 2 * 512 + 1 * j2.val = _; omega
  | ⟨3, _⟩ => refine Eq.trans ?_ h3.symm; show cc0_transform_5 (grid0.coords t) 3 * 512 + 1 * j3.val = _; omega

/-- Window 6's block at an index, as an element of its array. -/
theorem blk6 (c : Dev nD) (t : Fin cfg0.N) (j0 : Fin 1) (j1 : Fin 2) (j2 : Fin 512) (j3 : Fin 512) (i0 : Fin 4) (i1 : Fin 8) (i2 : Fin 4096) (i3 : Fin 512)
    (h0 : i0.val = cc0_transform_6 (grid0.coords t) 0 * 1 + j0.val)
    (h1 : i1.val = cc0_transform_6 (grid0.coords t) 1 * 2 + j1.val)
    (h2 : i2.val = cc0_transform_6 (grid0.coords t) 2 * 512 + j2.val)
    (h3 : i3.val = cc0_transform_6 (grid0.coords t) 3 * 512 + j3.val) :
    (iblk m c 6 t : FVec Ideal S1x2x512x512 .bf16) (ix4 j0 j1 j2 j3)
      = (m ((c : Thread nD τ).loc main_arg3) : FVec Ideal S4x8x4096x512 .bf16) (ix4 i0 i1 i2 i3) := by
  unfold iblk
  rw [View.read_apply]
  show V m c main_arg3 _ = _
  rw [V_main_arg3]
  congr 1
  funext a
  apply Fin.ext
  match a with
  | ⟨0, _⟩ => refine Eq.trans ?_ h0.symm; show cc0_transform_6 (grid0.coords t) 0 * 1 + 1 * j0.val = _; omega
  | ⟨1, _⟩ => refine Eq.trans ?_ h1.symm; show cc0_transform_6 (grid0.coords t) 1 * 2 + 1 * j1.val = _; omega
  | ⟨2, _⟩ => refine Eq.trans ?_ h2.symm; show cc0_transform_6 (grid0.coords t) 2 * 512 + 1 * j2.val = _; omega
  | ⟨3, _⟩ => refine Eq.trans ?_ h3.symm; show cc0_transform_6 (grid0.coords t) 3 * 512 + 1 * j3.val = _; omega

/-- Window 7's block at an index, as an element of its array. -/
theorem blk7 (c : Dev nD) (t : Fin cfg0.N) (j0 : Fin 1) (j1 : Fin 2) (j2 : Fin 512) (j3 : Fin 512) (i0 : Fin 4) (i1 : Fin 8) (i2 : Fin 4096) (i3 : Fin 512)
    (h0 : i0.val = cc0_transform_7 (grid0.coords t) 0 * 1 + j0.val)
    (h1 : i1.val = cc0_transform_7 (grid0.coords t) 1 * 2 + j1.val)
    (h2 : i2.val = cc0_transform_7 (grid0.coords t) 2 * 512 + j2.val)
    (h3 : i3.val = cc0_transform_7 (grid0.coords t) 3 * 512 + j3.val) :
    (iblk m c 7 t : FVec Ideal S1x2x512x512 .bf16) (ix4 j0 j1 j2 j3)
      = (m ((c : Thread nD τ).loc main_arg3) : FVec Ideal S4x8x4096x512 .bf16) (ix4 i0 i1 i2 i3) := by
  unfold iblk
  rw [View.read_apply]
  show V m c main_arg3 _ = _
  rw [V_main_arg3]
  congr 1
  funext a
  apply Fin.ext
  match a with
  | ⟨0, _⟩ => refine Eq.trans ?_ h0.symm; show cc0_transform_7 (grid0.coords t) 0 * 1 + 1 * j0.val = _; omega
  | ⟨1, _⟩ => refine Eq.trans ?_ h1.symm; show cc0_transform_7 (grid0.coords t) 1 * 2 + 1 * j1.val = _; omega
  | ⟨2, _⟩ => refine Eq.trans ?_ h2.symm; show cc0_transform_7 (grid0.coords t) 2 * 512 + 1 * j2.val = _; omega
  | ⟨3, _⟩ => refine Eq.trans ?_ h3.symm; show cc0_transform_7 (grid0.coords t) 3 * 512 + 1 * j3.val = _; omega

/-- Window 8's block at an index, as an element of its array. -/
theorem blk8 (c : Dev nD) (t : Fin cfg0.N) (j0 : Fin 1) (j1 : Fin 1) (j2 : Fin 8) (j3 : Fin 1024) (i0 : Fin 4) (i1 : Fin 6) (i2 : Fin 8) (i3 : Fin 1024)
    (h0 : i0.val = cc0_transform_8 (grid0.coords t) 0 * 1 + j0.val)
    (h1 : i1.val = cc0_transform_8 (grid0.coords t) 1 * 1 + j1.val)
    (h2 : i2.val = cc0_transform_8 (grid0.coords t) 2 * 8 + j2.val)
    (h3 : i3.val = cc0_transform_8 (grid0.coords t) 3 * 1024 + j3.val) :
    (iblk m c 8 t : FVec Ideal S1x1x8x1024 .f32) (ix4 j0 j1 j2 j3)
      = (V m c main_v1 : FVec Ideal S4x6x8x1024 .f32) (ix4 i0 i1 i2 i3) := by
  unfold iblk
  rw [View.read_apply]
  show V m c main_v1 _ = _
  congr 1
  funext a
  apply Fin.ext
  match a with
  | ⟨0, _⟩ => refine Eq.trans ?_ h0.symm; show cc0_transform_8 (grid0.coords t) 0 * 1 + 1 * j0.val = _; omega
  | ⟨1, _⟩ => refine Eq.trans ?_ h1.symm; show cc0_transform_8 (grid0.coords t) 1 * 1 + 1 * j1.val = _; omega
  | ⟨2, _⟩ => refine Eq.trans ?_ h2.symm; show cc0_transform_8 (grid0.coords t) 2 * 8 + 1 * j2.val = _; omega
  | ⟨3, _⟩ => refine Eq.trans ?_ h3.symm; show cc0_transform_8 (grid0.coords t) 3 * 1024 + 1 * j3.val = _; omega

/-- Window 9's block at an index, as an element of its array. -/
theorem blk9 (c : Dev nD) (t : Fin cfg0.N) (j0 : Fin 1) (j1 : Fin 1024) (j2 : Fin 1024) (i0 : Fin 4) (i1 : Fin 1024) (i2 : Fin 1024)
    (h0 : i0.val = cc0_transform_9 (grid0.coords t) 0 * 1 + j0.val)
    (h1 : i1.val = cc0_transform_9 (grid0.coords t) 1 * 1024 + j1.val)
    (h2 : i2.val = cc0_transform_9 (grid0.coords t) 2 * 1024 + j2.val) :
    (iblk m c 9 t : FVec Ideal S1x1024x1024 .bf16) (ix3 j0 j1 j2)
      = (V m c main_v2 : FVec Ideal S4x1024x1024 .bf16) (ix3 i0 i1 i2) := by
  unfold iblk
  rw [View.read_apply]
  show V m c main_v2 _ = _
  congr 1
  funext a
  apply Fin.ext
  match a with
  | ⟨0, _⟩ => refine Eq.trans ?_ h0.symm; show cc0_transform_9 (grid0.coords t) 0 * 1 + 1 * j0.val = _; omega
  | ⟨1, _⟩ => refine Eq.trans ?_ h1.symm; show cc0_transform_9 (grid0.coords t) 1 * 1024 + 1 * j1.val = _; omega
  | ⟨2, _⟩ => refine Eq.trans ?_ h2.symm; show cc0_transform_9 (grid0.coords t) 2 * 1024 + 1 * j2.val = _; omega

/-- Window 10's block at an index, as an element of its array. -/
theorem blk10 (c : Dev nD) (t : Fin cfg0.N) (j0 : Fin 1) (j1 : Fin 512) (j2 : Fin 1024) (i0 : Fin 4) (i1 : Fin 512) (i2 : Fin 1024)
    (h0 : i0.val = cc0_transform_10 (grid0.coords t) 0 * 1 + j0.val)
    (h1 : i1.val = cc0_transform_10 (grid0.coords t) 1 * 512 + j1.val)
    (h2 : i2.val = cc0_transform_10 (grid0.coords t) 2 * 1024 + j2.val) :
    (iblk m c 10 t : FVec Ideal S1x512x1024 .bf16) (ix3 j0 j1 j2)
      = (V m c main_v3 : FVec Ideal S4x512x1024 .bf16) (ix3 i0 i1 i2) := by
  unfold iblk
  rw [View.read_apply]
  show V m c main_v3 _ = _
  congr 1
  funext a
  apply Fin.ext
  match a with
  | ⟨0, _⟩ => refine Eq.trans ?_ h0.symm; show cc0_transform_10 (grid0.coords t) 0 * 1 + 1 * j0.val = _; omega
  | ⟨1, _⟩ => refine Eq.trans ?_ h1.symm; show cc0_transform_10 (grid0.coords t) 1 * 512 + 1 * j1.val = _; omega
  | ⟨2, _⟩ => refine Eq.trans ?_ h2.symm; show cc0_transform_10 (grid0.coords t) 2 * 1024 + 1 * j2.val = _; omega

/-- Window 11's block at an index, as an element of its array. -/
theorem blk11 (c : Dev nD) (t : Fin cfg0.N) (j0 : Fin 1) (j1 : Fin 4) (j2 : Fin 256) (j3 : Fin 256) (i0 : Fin 4) (i1 : Fin 4) (i2 : Fin 256) (i3 : Fin 256)
    (h0 : i0.val = cc0_transform_11 (grid0.coords t) 0 * 1 + j0.val)
    (h1 : i1.val = cc0_transform_11 (grid0.coords t) 1 * 4 + j1.val)
    (h2 : i2.val = cc0_transform_11 (grid0.coords t) 2 * 256 + j2.val)
    (h3 : i3.val = cc0_transform_11 (grid0.coords t) 3 * 256 + j3.val) :
    (iblk m c 11 t : FVec Ideal S1x4x256x256 .bf16) (ix4 j0 j1 j2 j3)
      = (V m c main_v4 : FVec Ideal S4x4x256x256 .bf16) (ix4 i0 i1 i2 i3) := by
  unfold iblk
  rw [View.read_apply]
  show V m c main_v4 _ = _
  congr 1
  funext a
  apply Fin.ext
  match a with
  | ⟨0, _⟩ => refine Eq.trans ?_ h0.symm; show cc0_transform_11 (grid0.coords t) 0 * 1 + 1 * j0.val = _; omega
  | ⟨1, _⟩ => refine Eq.trans ?_ h1.symm; show cc0_transform_11 (grid0.coords t) 1 * 4 + 1 * j1.val = _; omega
  | ⟨2, _⟩ => refine Eq.trans ?_ h2.symm; show cc0_transform_11 (grid0.coords t) 2 * 256 + 1 * j2.val = _; omega
  | ⟨3, _⟩ => refine Eq.trans ?_ h3.symm; show cc0_transform_11 (grid0.coords t) 3 * 256 + 1 * j3.val = _; omega

/-- Window 12's block at an index, as an element of its array. -/
theorem blk12 (c : Dev nD) (t : Fin cfg0.N) (j0 : Fin 1) (j1 : Fin 1024) (i0 : Fin 1) (i1 : Fin 1024)
    (h0 : i0.val = cc0_transform_12 (grid0.coords t) 0 * 1 + j0.val)
    (h1 : i1.val = cc0_transform_12 (grid0.coords t) 1 * 1024 + j1.val) :
    (iblk m c 12 t : FVec Ideal S1x1024 .f32) (ix2 j0 j1)
      = (V m c main_v9 : FVec Ideal S1x1024 .f32) (ix2 i0 i1) := by
  unfold iblk
  rw [View.read_apply]
  show V m c main_v9 _ = _
  congr 1
  funext a
  apply Fin.ext
  match a with
  | ⟨0, _⟩ => refine Eq.trans ?_ h0.symm; show cc0_transform_12 (grid0.coords t) 0 * 1 + 1 * j0.val = _; omega
  | ⟨1, _⟩ => refine Eq.trans ?_ h1.symm; show cc0_transform_12 (grid0.coords t) 1 * 1024 + 1 * j1.val = _; omega

/-- Window 13's block at an index, as an element of its array. -/
theorem blk13 (c : Dev nD) (t : Fin cfg0.N) (j0 : Fin 1) (j1 : Fin 1024) (j2 : Fin 1024) (i0 : Fin 4) (i1 : Fin 1024) (i2 : Fin 1024)
    (h0 : i0.val = cc0_transform_13 (grid0.coords t) 0 * 1 + j0.val)
    (h1 : i1.val = cc0_transform_13 (grid0.coords t) 1 * 1024 + j1.val)
    (h2 : i2.val = cc0_transform_13 (grid0.coords t) 2 * 1024 + j2.val) :
    (iblk m c 13 t : FVec Ideal S1x1024x1024 .bf16) (ix3 j0 j1 j2)
      = (V m c main_v5 : FVec Ideal S4x1024x1024 .bf16) (ix3 i0 i1 i2) := by
  unfold iblk
  rw [View.read_apply]
  show V m c main_v5 _ = _
  congr 1
  funext a
  apply Fin.ext
  match a with
  | ⟨0, _⟩ => refine Eq.trans ?_ h0.symm; show cc0_transform_13 (grid0.coords t) 0 * 1 + 1 * j0.val = _; omega
  | ⟨1, _⟩ => refine Eq.trans ?_ h1.symm; show cc0_transform_13 (grid0.coords t) 1 * 1024 + 1 * j1.val = _; omega
  | ⟨2, _⟩ => refine Eq.trans ?_ h2.symm; show cc0_transform_13 (grid0.coords t) 2 * 1024 + 1 * j2.val = _; omega

/-- Window 14's block at an index, as an element of its array. -/
theorem blk14 (c : Dev nD) (t : Fin cfg0.N) (j0 : Fin 1) (j1 : Fin 1024) (j2 : Fin 1024) (i0 : Fin 4) (i1 : Fin 1024) (i2 : Fin 1024)
    (h0 : i0.val = cc0_transform_14 (grid0.coords t) 0 * 1 + j0.val)
    (h1 : i1.val = cc0_transform_14 (grid0.coords t) 1 * 1024 + j1.val)
    (h2 : i2.val = cc0_transform_14 (grid0.coords t) 2 * 1024 + j2.val) :
    (iblk m c 14 t : FVec Ideal S1x1024x1024 .bf16) (ix3 j0 j1 j2)
      = (V m c main_v6 : FVec Ideal S4x1024x1024 .bf16) (ix3 i0 i1 i2) := by
  unfold iblk
  rw [View.read_apply]
  show V m c main_v6 _ = _
  congr 1
  funext a
  apply Fin.ext
  match a with
  | ⟨0, _⟩ => refine Eq.trans ?_ h0.symm; show cc0_transform_14 (grid0.coords t) 0 * 1 + 1 * j0.val = _; omega
  | ⟨1, _⟩ => refine Eq.trans ?_ h1.symm; show cc0_transform_14 (grid0.coords t) 1 * 1024 + 1 * j1.val = _; omega
  | ⟨2, _⟩ => refine Eq.trans ?_ h2.symm; show cc0_transform_14 (grid0.coords t) 2 * 1024 + 1 * j2.val = _; omega

/-- The modulation row that the body reads is the batch element's. -/
theorem modRow_at (t : Fin grid0.N) (x : FVec Ideal S1x1x8x1024 .f32) (k : Fin 1024) (b : Fin 8)
    (hb : b.val = t.val / 8) : modRow (F := Ideal) (grid0.coords t) x (ix4 0 0 0 k) = x (ix4 0 0 b k) := by
  have hp := (places t).2.2.2.2.2.2.2.2.2.2.2.2.2.2.2.2.1
  show x _ = x _
  congr 1
  funext a
  apply Fin.ext
  match a with
  | ⟨0, _⟩ => show k0_off1 (grid0.coords t) 0 + 1 * 0 = 0; rw [hp]; rfl
  | ⟨1, _⟩ => show k0_off1 (grid0.coords t) 1 + 1 * 0 = 0; rw [hp]; rfl
  | ⟨2, _⟩ => show k0_off1 (grid0.coords t) 2 + 1 * 0 = b.val; rw [hp, hb]; rfl
  | ⟨3, _⟩ => show k0_off1 (grid0.coords t) 3 + 1 * k.val = k.val; rw [hp]; show 0 + 1 * k.val = k.val; omega

end Cert.MergeBody

end
-- ==== Proof.MergeValue.lean ====
/-
  THE MERGE CALL, its value: what each grid point writes back is its block of the reference's result, and the blocks cover
  the array.
-/
module

public import proofs.«01_k».proof.Proof.MergePay
public import proofs.«01_k».proof.Proof.MergeBlocks

@[expose] public section

set_option maxRecDepth 16384

noncomputable section

open Idealize.ShloMosaic Idealize.ShloMosaic.TcCoe Idealize.SL.Sem
open Idealize.ShloMosaic.Pipeline (Dat)

namespace Cert.MergeBody

open Cert.KernelMergeIdeal Cert.KernelMergeIdeal.Gen Cert.MergeRef Cert.MergeWin
open Cert.ReferenceMergeIdeal.Read (val_main_v95)

variable (m : (ℓ : Loc nD τ sig) → Buf (Elt Ideal) ℓ)

/-- The arguments as arrays of extended reals. -/
abbrev X (c : Dev nD) : FVec Ideal S4x4096x1024 .f32 := m ((c : Thread nD τ).loc main_arg0)
abbrev Y1 (c : Dev nD) : FVec Ideal S4x4096x1024 .bf16 := m ((c : Thread nD τ).loc main_arg1)
abbrev Y2 (c : Dev nD) : FVec Ideal S4x4096x512 .bf16 := m ((c : Thread nD τ).loc main_arg2)
abbrev Ug (c : Dev nD) : FVec Ideal S4x8x4096x512 .bf16 := m ((c : Thread nD τ).loc main_arg3)
abbrev Ada (c : Dev nD) : FVec Ideal S4x8x6144 .f32 := m ((c : Thread nD τ).loc main_arg4)
abbrev Wssd (c : Dev nD) : FVec Ideal S4x1024x1024 .f32 := m ((c : Thread nD τ).loc main_arg5)
abbrev Watt (c : Dev nD) : FVec Ideal S4x512x1024 .f32 := m ((c : Thread nD τ).loc main_arg6)
abbrev Wmix (c : Dev nD) : FVec Ideal S4x4x256x256 .f32 := m ((c : Thread nD τ).loc main_arg7)
abbrev Sc (c : Dev nD) : FVec Ideal S4x1024 .f32 := m ((c : Thread nD τ).loc main_arg8)
abbrev Wpool (c : Dev nD) : FVec Ideal S4x1024x1024 .f32 := m ((c : Thread nD τ).loc main_arg9)
abbrev Wout (c : Dev nD) : FVec Ideal S4x1024x1024 .f32 := m ((c : Thread nD τ).loc main_arg10)

theorem tail_shift (g : Nat → EReal) (a w p : Nat) (h : w ≤ p + 1) : tail (fun n => g (a + n)) w p = tail g w (a + p) := by
  unfold tail
  exact Finset.sum_congr rfl fun n _ => congrArg g (by omega)

theorem first_block : ∀ j : Fin 8, Scalar.cmpi .sgt (BitVec.ofNat 32 j.val) 0#32 = if 0 < j.val then 1#1 else 0#1 := by decide

/-- The scratch of rows holds the columns from 32 positions before the block on, zeros before the first position. -/
theorem rows_scratch (c : Dev nD) (t : Fin cfg0.N) (b : Fin 4) (hb : b.val = t.val / 8) (p d : Nat) (hp : p < 544) (hd : d < 1024) :
    ext (F := Ideal) (grid0.coords t) (iblk m c 4 t) (iblk m c 3 t) (ix2 ⟨p, hp⟩ ⟨d, hd⟩)
      = past (Ug m c) b d (512 * (t.val % 8) + p) := by
  have hN : cfg0.N = 32 := N_0
  have ht := t.isLt
  obtain ⟨-, -, -, ⟨p30, p31, p32, p33⟩, ⟨p40, p41, p42, p43⟩, -, -, -, -, -, -, -, -, -, -, -, -, hj⟩ := places t
  refine ext_at (grid0.coords t) _ _ (fun d p => past (Ug m c) b d (512 * (t.val % 8) + p)) (fun r k => ?_) (fun r k => ?_) p d hp hd
  · refine (blk3 m c t 0 ⟨k.val / 512, by omega⟩ r ⟨k.val % 512, by omega⟩ b ⟨k.val / 512, by omega⟩ ⟨512 * (t.val % 8) + r.val, by omega⟩
      ⟨k.val % 512, by omega⟩ (by rw [p30, hb]; simp) (by rw [p31]; simp) (by rw [p32]; simp only; omega) (by rw [p33]; simp)).trans ?_
    refine (uat_eq (Ug m c) b k.val _ (by omega) (by omega) _ _ rfl rfl).trans ?_
    show _ = past (Ug m c) b k.val (512 * (t.val % 8) + (32 + r.val))
    unfold past
    rw [if_pos (by omega)]
    congr 1; omega
  · rw [hj, first_block ⟨t.val % 8, by omega⟩]
    show _ = past (Ug m c) b k.val (512 * (t.val % 8) + r.val)
    unfold past
    by_cases h0 : 0 < t.val % 8
    · rw [if_pos h0, if_pos (by omega)]
      show iblk m c 4 t _ = _
      refine (blk4 m c t 0 ⟨k.val / 512, by omega⟩ r ⟨k.val % 512, by omega⟩ b ⟨k.val / 512, by omega⟩
        ⟨512 * (t.val % 8) + r.val - 32, by omega⟩ ⟨k.val % 512, by omega⟩ (by rw [p40, hb]; simp) (by rw [p41]; simp)
        (by rw [p42]; simp only; omega) (by rw [p43]; simp)).trans ?_
      exact uat_eq (Ug m c) b k.val _ (by omega) (by omega) _ _ rfl rfl
    · rw [if_neg h0, if_neg (by omega)]
      rfl

section Point

variable (c : Dev nD) (t : Fin cfg0.N) (r : Fin 512) (b : Fin 4) (s : Fin 4096) (hb : b.val = t.val / 8)
  (hs : s.val = t.val % 8 * 512 + r.val)
include hb hs

/-- The pooled branch of a point's rows is the reference's, scaled. -/
theorem pooled_point (k : Fin 1024) :
    pooled (F := Ideal) (grid0.coords t) (ext (F := Ideal) (grid0.coords t) (iblk m c 4 t) (iblk m c 3 t)) (iblk m c 11 t) (iblk m c 12 t) (ix2 r k)
      = mixed (Ug m c) (Wmix m c) b s.val k * Sc m c (ix2 3 k) := by
  obtain ⟨-, -, -, -, -, -, -, -, -, -, -, ⟨p0, p1, p2, p3⟩, ⟨q0, q1⟩, -, -, -, -, hj⟩ := places t
  refine (pooled_at (grid0.coords t) _ _ _ (fun d p => past (Ug m c) b d (512 * (t.val % 8) + p))
    (fun p d hp hd => rows_scratch m c t b hb p d hp hd) r k).trans ?_
  refine congrArg₂ (· * ·) ?_ ?_
  · unfold mixed MergeRef.pool mean
    refine Finset.sum_congr rfl fun x _ => ?_
    have hw : 2 * 2 ^ (k.val / 256) ≤ 16 := by
      have : k.val / 256 ≤ 3 := by omega
      calc 2 * 2 ^ (k.val / 256) ≤ 2 * 2 ^ 3 := by gcongr; decide
        _ = 16 := rfl
    have hq : (256 * (k.val / 256) + x.val) / 256 = k.val / 256 := by omega
    rw [hq, hj]
    refine congrArg₂ (· * ·) (congrArg₂ (· - ·) (congrArg₂ Ideal.div ?_ ?_) ?_) ?_
    · refine (tail_shift (past (Ug m c) b (256 * (k.val / 256) + x.val)) (512 * (t.val % 8)) _ (32 + r.val) (by omega)).trans ?_
      congr 1; omega
    · rw [show 512 * (t.val % 8) + r.val + 1 = s.val + 1 by omega]
    · show past (Ug m c) b _ (512 * (t.val % 8) + (32 + r.val)) = _
      unfold past
      rw [if_pos (by omega)]
      congr 1; omega
    · exact (blk11 m c t 0 ⟨k.val / 256, by omega⟩ x ⟨k.val % 256, by omega⟩ 3 ⟨k.val / 256, by omega⟩ x ⟨k.val % 256, by omega⟩
        (by rw [p0]; simp) (by rw [p1]; simp) (by rw [p2]; simp) (by rw [p3]; simp)).trans (entry_v4 m c _)
  · exact (blk12 m c t 0 k 0 k (by rw [q0]; simp) (by rw [q1]; simp)).trans (entry_scale m c 0 k)

/-- The three gates of a point's rows. -/
theorem gate_ssd (k : Fin 1024) :
    Ideal.div 1 (1 + Ideal.exp (-(if h : k.val < 512 then lo (F := Ideal) (iblk m c 5 t) (ix4 0 0 r ⟨k.val, by omega⟩)
      else hi (F := Ideal) (iblk m c 5 t) (ix4 0 0 r ⟨k.val - 512, by omega⟩)))) = gate (Ug m c) b s.val (1024 + k.val) := by
  obtain ⟨-, -, -, -, -, ⟨p0, p1, p2, p3⟩, -⟩ := places t
  rw [halves]
  unfold gate
  rw [← uat_eq (Ug m c) b (1024 + k.val) s.val s.isLt (by omega) ⟨(1024 + k.val) / 512, by omega⟩ ⟨(1024 + k.val) % 512, by omega⟩ rfl rfl]
  rw [blk5 m c t 0 ⟨k.val / 512, by omega⟩ r ⟨k.val % 512, by omega⟩ b ⟨(1024 + k.val) / 512, by omega⟩ s ⟨(1024 + k.val) % 512, by omega⟩
    (by rw [p0, hb]; simp) (by rw [p1]; simp only; omega) (by rw [p2, hs]) (by rw [p3]; simp only; omega)]
theorem gate_att (k : Fin 1024) :
    Ideal.div 1 (1 + Ideal.exp (-(if h : k.val < 512 then lo (F := Ideal) (iblk m c 6 t) (ix4 0 0 r ⟨k.val, by omega⟩)
      else hi (F := Ideal) (iblk m c 6 t) (ix4 0 0 r ⟨k.val - 512, by omega⟩)))) = gate (Ug m c) b s.val (2048 + k.val) := by
  obtain ⟨-, -, -, -, -, -, ⟨p0, p1, p2, p3⟩, -⟩ := places t
  rw [halves]
  unfold gate
  rw [← uat_eq (Ug m c) b (2048 + k.val) s.val s.isLt (by omega) ⟨(2048 + k.val) / 512, by omega⟩ ⟨(2048 + k.val) % 512, by omega⟩ rfl rfl]
  rw [blk6 m c t 0 ⟨k.val / 512, by omega⟩ r ⟨k.val % 512, by omega⟩ b ⟨(2048 + k.val) / 512, by omega⟩ s ⟨(2048 + k.val) % 512, by omega⟩
    (by rw [p0, hb]; simp) (by rw [p1]; simp only; omega) (by rw [p2, hs]) (by rw [p3]; simp only; omega)]
theorem gate_pool (k : Fin 1024) :
    Ideal.div 1 (1 + Ideal.exp (-(if h : k.val < 512 then lo (F := Ideal) (iblk m c 7 t) (ix4 0 0 r ⟨k.val, by omega⟩)
      else hi (F := Ideal) (iblk m c 7 t) (ix4 0 0 r ⟨k.val - 512, by omega⟩)))) = gate (Ug m c) b s.val (3072 + k.val) := by
  obtain ⟨-, -, -, -, -, -, -, ⟨p0, p1, p2, p3⟩, -⟩ := places t
  rw [halves]
  unfold gate
  rw [← uat_eq (Ug m c) b (3072 + k.val) s.val s.isLt (by omega) ⟨(3072 + k.val) / 512, by omega⟩ ⟨(3072 + k.val) % 512, by omega⟩ rfl rfl]
  rw [blk7 m c t 0 ⟨k.val / 512, by omega⟩ r ⟨k.val % 512, by omega⟩ b ⟨(3072 + k.val) / 512, by omega⟩ s ⟨(3072 + k.val) % 512, by omega⟩
    (by rw [p0, hb]; simp) (by rw [p1]; simp only; omega) (by rw [p2, hs]) (by rw [p3]; simp only; omega)]

/-- What a point leaves in the output block is the reference's block. -/
theorem out_apply (z : Fin 1) (d : Fin 1024) :
    outsAt0 m c t (ix3 z r d) = val_main_v95 (F := Ideal) (X m c) (Y1 m c) (Y2 m c) (Ug m c) (Ada m c) (Wssd m c) (Watt m c) (Wmix m c)
      (Sc m c) (Wpool m c) (Wout m c) (ix3 b s d) := by
  obtain ⟨⟨a0, a1, a2⟩, ⟨b0, b1, b2⟩, ⟨c0, c1, c2⟩, -, -, -, -, -, ⟨i0, i1, i2, i3⟩, ⟨j0, j1, j2⟩, ⟨k0, k1, k2⟩, -, -, ⟨l0, l1, l2⟩,
    ⟨n0, n1, n2⟩, -⟩ := places t
  have hx : (iblk m c 0 t : FVec Ideal S1x512x1024 .f32) (ix3 0 r d) = X m c (ix3 b s d) :=
    blk0 m c t 0 r d b s d (by rw [a0, hb]; simp) (by rw [a1, hs]) (by rw [a2]; simp)
  have hy1 : ∀ l : Fin 1024, (iblk m c 1 t : FVec Ideal S1x512x1024 .bf16) (ix3 0 r l) = Y1 m c (ix3 b s l) := fun l =>
    blk1 m c t 0 r l b s l (by rw [b0, hb]; simp) (by rw [b1, hs]) (by rw [b2]; simp)
  have hy2 : ∀ l : Fin 512, (iblk m c 2 t : FVec Ideal S1x512x512 .bf16) (ix3 0 r l) = Y2 m c (ix3 b s l) := fun l =>
    blk2 m c t 0 r l b s l (by rw [c0, hb]; simp) (by rw [c1, hs]) (by rw [c2]; simp)
  have hw9 : ∀ l e : Fin 1024, (iblk m c 9 t : FVec Ideal S1x1024x1024 .bf16) (ix3 0 l e) = Wssd m c (ix3 3 l e) := fun l e =>
    (blk9 m c t 0 l e 3 l e (by rw [j0]; simp) (by rw [j1]; simp) (by rw [j2]; simp)).trans (entry_v2 m c _)
  have hw10 : ∀ (l : Fin 512) (e : Fin 1024), (iblk m c 10 t : FVec Ideal S1x512x1024 .bf16) (ix3 0 l e) = Watt m c (ix3 3 l e) := fun l e =>
    (blk10 m c t 0 l e 3 l e (by rw [k0]; simp) (by rw [k1]; simp) (by rw [k2]; simp)).trans (entry_v3 m c _)
  have hw13 : ∀ l e : Fin 1024, (iblk m c 13 t : FVec Ideal S1x1024x1024 .bf16) (ix3 0 l e) = Wpool m c (ix3 3 l e) := fun l e =>
    (blk13 m c t 0 l e 3 l e (by rw [l0]; simp) (by rw [l1]; simp) (by rw [l2]; simp)).trans (entry_v5 m c _)
  have hw14 : ∀ l e : Fin 1024, (iblk m c 14 t : FVec Ideal S1x1024x1024 .bf16) (ix3 0 l e) = Wout m c (ix3 3 l e) := fun l e =>
    (blk14 m c t 0 l e 3 l e (by rw [n0]; simp) (by rw [n1]; simp) (by rw [n2]; simp)).trans (entry_v6 m c _)
  have hg : modRow (F := Ideal) (grid0.coords t) (iblk m c 8 t) (ix4 0 0 0 d) = Ada m c (ix3 3 ⟨b.val, by omega⟩ ⟨2048 + d.val, by omega⟩) := by
    rw [modRow_at t _ d ⟨b.val, by omega⟩ hb]
    refine (blk8 m c t 0 0 _ d 3 2 ⟨b.val, by omega⟩ d (by rw [i0]; simp) (by rw [i1]; simp) (by rw [i2]; simp) (by rw [i3]; simp)).trans ?_
    exact entry_mods m c 3 2 _ d
  rw [out_eq]
  refine (pay19_apply _ _ _ _ _ _ _ _ _ _ _ r d z).trans ?_
  rw [ref_apply, hx, hg]
  refine congrArg (X m c (ix3 b s d) + _ * ·) (Finset.sum_congr rfl fun e _ => ?_)
  rw [hw14, gate_pool m c t r b s hb hs e, pay16_apply, pay17_apply, gate_ssd m c t r b s hb hs e, gate_att m c t r b s hb hs e]
  simp only [hy1, hy2, hw9, hw10, hw13, pooled_point m c t r b s hb hs]
  rfl

end Point

/-- What point `t` writes back is its block of the reference's result. -/
theorem flushed_eq (c : Dev nD) (t : Fin cfg0.N) (_hf : (cfg0.win 15).flush t = true) :
    (dats m 0 c).flushed 15 t = ((cfg0.win 15).blk t).view.read (Elt Ideal)
      (val_main_v95 (F := Ideal) (X m c) (Y1 m c) (Y2 m c) (Ug m c) (Ada m c) (Wssd m c) (Watt m c) (Wmix m c)
      (Sc m c) (Wpool m c) (Wout m c)) := by
  have hN : cfg0.N = 32 := N_0
  have ht := t.isLt
  obtain ⟨-, -, -, -, -, -, -, -, -, -, -, -, -, -, -, ⟨p0, p1, p2⟩, -⟩ := places t
  rw [Cert.KernelMergeIdeal.Value.flushed15]
  funext j
  rw [View.read_apply]
  obtain ⟨z, r, d, rfl⟩ : ∃ (z : Fin 1) (r : Fin 512) (d : Fin 1024), j = ix3 z r d := ⟨j 0, j 1, j 2, eq_ix3 j⟩
  refine (out_apply m c t r ⟨t.val / 8, by omega⟩ ⟨t.val % 8 * 512 + r.val, by omega⟩ rfl rfl z d).trans ?_
  congr 1
  funext a
  apply Fin.ext
  match a with
  | ⟨0, _⟩ => show t.val / 8 = cc0_transform_15 (grid0.coords t) 0 * 1 + 1 * z.val; omega
  | ⟨1, _⟩ => show t.val % 8 * 512 + r.val = cc0_transform_15 (grid0.coords t) 1 * 512 + 1 * r.val; omega
  | ⟨2, _⟩ => show d.val = cc0_transform_15 (grid0.coords t) 2 * 1024 + 1 * d.val; omega

/-- Every element of the result lies in a point's block. -/
theorem cover (i : S4x4096x1024.Idx) :
    ∃ t : Fin cfg0.N, (cfg0.win 15).flush t = true ∧ i ∈ ((cfg0.win 15).blk t).view.set := by
  have i0 : (i 0).val < 4 := (i 0).isLt
  have i1 : (i 1).val < 4096 := (i 1).isLt
  have i2 : (i 2).val < 1024 := (i 2).isLt
  have hN : cfg0.N = 32 := N_0
  have ht : (i 0).val * 8 + (i 1).val / 512 < cfg0.N := by omega
  obtain ⟨-, -, -, -, -, -, -, -, -, -, -, -, -, -, -, ⟨p0, p1, p2⟩, -⟩ := places ⟨_, ht⟩
  refine ⟨⟨_, ht⟩, flush0_15 _, ?_⟩
  show i ∈ ((View.whole main_v10).slice (win0_15.rect ⟨_, ht⟩)).set
  rw [View.set_slice_whole, Rect.mem_set_unit]
  intro a
  dsimp only at p0 p1 p2
  match a with
  | ⟨0, _⟩ => show cc0_transform_15 (grid0.coords ⟨_, ht⟩) 0 * 1 ≤ (i 0).val ∧ (i 0).val < cc0_transform_15 (grid0.coords ⟨_, ht⟩) 0 * 1 + 1; omega
  | ⟨1, _⟩ => show cc0_transform_15 (grid0.coords ⟨_, ht⟩) 1 * 512 ≤ (i 1).val ∧ (i 1).val < cc0_transform_15 (grid0.coords ⟨_, ht⟩) 1 * 512 + 512; omega
  | ⟨2, _⟩ => show cc0_transform_15 (grid0.coords ⟨_, ht⟩) 2 * 1024 ≤ (i 2).val ∧ (i 2).val < cc0_transform_15 (grid0.coords ⟨_, ht⟩) 2 * 1024 + 1024; omega

/-- The array the call leaves is the reference's result. -/
theorem final (c : Dev nD) : (dats m 0 c).arrAt 15 cfg0.N
    = val_main_v95 (F := Ideal) (X m c) (Y1 m c) (Y2 m c) (Ug m c) (Ada m c) (Wssd m c) (Watt m c) (Wmix m c)
      (Sc m c) (Wpool m c) (Wout m c) :=
  (dats m 0 c).arrAt_eq_of_cover 15 _ (flushed_eq m c) cover

end Cert.MergeBody

end
-- ==== Proof.MergeClaims.lean ====
/-
  THE MERGE CALL'S CLAIMS: the frames, and the equality with the reference over the extended reals.
-/
module

public import proofs.«01_k».proof.Defs
public import proofs.«01_k».proof.Proof.MergeValue
public import proofs.«01_k».proof.Proof.Gen.KernelMerge.Frame
public import proofs.«01_k».proof.Proof.Gen.ReferenceMergeIdeal.Run
public import Idealize.ShloMosaic.Lib.Quiescent

@[expose] public section

noncomputable section

open Idealize.ShloMosaic Idealize.ShloMosaic.TcCoe Idealize.SL.Sem

namespace Cert.Proof

theorem quiescent_kernelMerge : Cert.quiescent_KernelMerge := fun m ρ _ => Cert.KernelMerge.Gen.frame m ρ
theorem quiescent_kernelMergeIdeal : Cert.quiescent_KernelMergeIdeal := fun m ρ _ => Cert.KernelMergeIdeal.Gen.frame m ρ

theorem quiescent_referenceMergeIdeal : Cert.quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

theorem algebraic_merge : Cert.algebraic_KernelMergeIdeal_ReferenceMergeIdeal := by
  intro m ρ m' ρ' _ hagree
  refine ⟨fun c => Cert.ReferenceMergeIdeal.Read.val_main_v95 (F := Ideal) (Cert.MergeBody.X m c) (Cert.MergeBody.Y1 m c) (Cert.MergeBody.Y2 m c) (Cert.MergeBody.Ug m c)
      (Cert.MergeBody.Ada m c) (Cert.MergeBody.Wssd m c) (Cert.MergeBody.Watt m c) (Cert.MergeBody.Wmix m c) (Cert.MergeBody.Sc m c)
      (Cert.MergeBody.Wpool m c) (Cert.MergeBody.Wout m c), ?_, ?_⟩
  · exact (θ_run Cert.KernelMergeIdeal.defs _ _).mono (fun _ h c => ⟨(h c).1.trans (Cert.MergeBody.final m c), (h c).2⟩)
      (Cert.KernelMergeIdeal.Value.run_blocks (F := Ideal) m ρ)
  · refine (θ_run Cert.ReferenceMergeIdeal.defs _ _).mono (fun _ h c => ⟨(h c).1.trans ?_, (h c).2⟩)
      (Cert.ReferenceMergeIdeal.Value.run (F := Ideal) m' ρ')
    refine (Cert.ReferenceMergeIdeal.Read.val_main_v95_eq m' c).trans ?_
    obtain ⟨a0, a1, a2, a3, a4, a5, a6, a7, a8, a9, a10⟩ := hagree c
    rw [a0, a1, a2, a3, a4, a5, a6, a7, a8, a9, a10]

end Cert.Proof

end
-- ==== Proof.QkvPay.lean ====
/-
  THE PROJECTION CALL: what its values are at an index.

  The call norms and modulates a block of rows, sorts the rows by residue for the two dilated groups, multiplies by the
  weights in chunks of 256 columns, norms each head of 128 columns of q and k, and writes the rows residue by residue.
-/
module

public import proofs.«01_k».proof.Proof.Gen.KernelQkvIdeal.Value
public import Idealize.ShloMosaic.Lib.Pointwise
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem

namespace Cert.QkvBody

open Cert.KernelQkvIdeal Cert.KernelQkvIdeal.Gen

/-- The rows normalised and modulated. -/
theorem pay5_apply (x : FVec Ideal S1x1024x1024 .f32) (w : FVec Ideal S1x1024 .f32) (sc sh : FVec Ideal S1x1x1x1024 .f32)
    (r k : Fin 1024) : k0_pay5 (F := Ideal) x w sc sh (ix2 r k)
      = x (ix3 0 r k) * Ideal.rsqrt (Ideal.div (∑ l, x (ix3 0 r l) * x (ix3 0 r l)) (Ideal.ofBits FTy.f32 1149239296#32)
          + Ideal.ofBits FTy.f32 897988541#32) * w (ix2 0 k) * (1 + sc (ix4 0 0 0 k)) + sh (ix4 0 0 0 k) := by
  pointwise [k0_pay5]

/-- A cut of 128 columns, stored with a unit axis. -/
def cutCols (o : Nat) (h : S1024x1024.Slices ![0, o] S1024x128) (x : FVec Ideal S1024x1024 .f32) : FVec Ideal S1x1024x128 .f32 :=
  shapeCast S1x1024x128 (extractStridedSlice S1024x128 ![0, o] x h) shapeCasts_S1024x128_S1x1024x128

theorem cutCols_apply (o : Nat) (h : S1024x1024.Slices ![0, o] S1024x128) (x : FVec Ideal S1024x1024 .f32) (z : Fin 1) (r : Fin 1024)
    (k : Fin 128) (K : Fin 1024) (hK : K.val = o + k.val) : cutCols o h x (ix3 z r k) = x (ix2 r K) := by
  pointwise [cutCols]
  congr 2; exact Fin.ext hK.symm

/-- The rows rounded for the products: the same rows. -/
theorem pay52_apply (v : FVec Ideal S1x64x128 .f32) (z : Fin 1) (r : Fin 64) (k : Fin 128) :
    k0_pay52 (F := Ideal) v (ix3 z r k) = v (ix3 0 r k) := by
  pointwise [k0_pay52]

theorem pay15_apply (v : FVec Ideal S1x256x128 .f32) (z : Fin 1) (r : Fin 256) (k : Fin 128) :
    k0_pay15 (F := Ideal) v (ix3 z r k) = v (ix3 0 r k) := by
  pointwise [k0_pay15]

/-- A cut of rows, stored with two unit axes. -/
def cut64 (o : Nat) (h : S1024x256.Slices ![o, 0] S64x256) (x : FVec Ideal S1024x256 .bf16) : FVec Ideal S1x1x64x256 .bf16 :=
  shapeCast S1x1x64x256 (extractStridedSlice S64x256 ![o, 0] x h) shapeCasts_S64x256_S1x1x64x256

theorem cut64_apply (o : Nat) (h : S1024x256.Slices ![o, 0] S64x256) (x : FVec Ideal S1024x256 .bf16) (y z : Fin 1) (r : Fin 64)
    (k : Fin 256) (R : Fin 1024) (hR : R.val = o + r.val) : cut64 o h x (ix4 y z r k) = x (ix2 R k) := by
  pointwise [cut64]
  congr 2; exact Fin.ext hR.symm

def cut256 (o : Nat) (h : S1024x256.Slices ![o, 0] S256x256) (x : FVec Ideal S1024x256 .bf16) : FVec Ideal S1x1x256x256 .bf16 :=
  shapeCast S1x1x256x256 (extractStridedSlice S256x256 ![o, 0] x h) shapeCasts_S256x256_S1x1x256x256

theorem cut256_apply (o : Nat) (h : S1024x256.Slices ![o, 0] S256x256) (x : FVec Ideal S1024x256 .bf16) (y z : Fin 1) (r : Fin 256)
    (k : Fin 256) (R : Fin 1024) (hR : R.val = o + r.val) : cut256 o h x (ix4 y z r k) = x (ix2 R k) := by
  pointwise [cut256]
  congr 2; exact Fin.ext hR.symm

def cutAll (x : FVec Ideal S1024x256 .bf16) : FVec Ideal S1x1x1024x256 .bf16 :=
  shapeCast S1x1x1024x256 x shapeCasts_S1024x256_S1x1x1024x256

theorem cutAll_apply (x : FVec Ideal S1024x256 .bf16) (y z : Fin 1) (r : Fin 1024) (k : Fin 256) :
    cutAll x (ix4 y z r k) = x (ix2 r k) := by
  pointwise [cutAll]

/-- A column of the product of the rows and the nine blocks of weights. -/
def proj (h : FVec Ideal S1x1024x1024 .bf16) (w : FVec Ideal S1x9x1024x512 .bf16) (r : Fin 1024) (n : Fin 4608) : EReal :=
  ∑ d : Fin 1024, h (ix3 0 r d) * w (ix4 0 ⟨n.val / 512, by omega⟩ d ⟨n.val % 512, by omega⟩)

/-- The same, normed over its head of 128 columns and weighted. -/
def normed (h : FVec Ideal S1x1024x1024 .bf16) (w : FVec Ideal S1x9x1024x512 .bf16) (g : FVec Ideal S1x4608 .f32) (r : Fin 1024)
    (n : Fin 4608) : EReal :=
  proj h w r n * Ideal.rsqrt (Ideal.div (∑ l : Fin 128, proj h w r ⟨n.val / 128 * 128 + l.val, by omega⟩
      * proj h w r ⟨n.val / 128 * 128 + l.val, by omega⟩) (Ideal.ofBits FTy.f32 1124073472#32) + Ideal.ofBits FTy.f32 897988541#32)
    * g (ix2 0 n)

/-- What a column holds: q and k normed, v as it is; a group is 1536 columns, the last 512 of them v. -/
def entry (h : FVec Ideal S1x1024x1024 .bf16) (w : FVec Ideal S1x9x1024x512 .bf16) (g : FVec Ideal S1x4608 .f32) (r : Fin 1024)
    (n : Fin 4608) : EReal := if n.val % 1536 < 1024 then normed h w g r n else proj h w r n

/-- A chunk of 256 columns of v. -/
theorem chunk_plain (h : FVec Ideal S1x1024x1024 .bf16) (w : FVec Ideal S1x9x1024x512 .bf16) (C : Nat) (hC : C < 18)
    (wc : FVec Ideal S1x1x1024x256 .bf16)
    (hw : ∀ (d : Fin 1024) (k : Fin 256), wc (ix4 0 0 d k) = w (ix4 0 ⟨(256 * C + k.val) / 512, by omega⟩ d ⟨(256 * C + k.val) % 512, by omega⟩))
    (r : Fin 1024) (k : Fin 256) :
    k0_pay363 (F := Ideal) h wc (ix2 r k) = proj h w r ⟨256 * C + k.val, by omega⟩ := by
  refine Eq.trans (b := ∑ d, h (ix3 0 r d) * wc (ix4 0 0 d k)) (by pointwise [k0_pay363]) ?_
  unfold proj
  exact Finset.sum_congr rfl fun d _ => congrArg (_ * ·) (hw d k)

/-- A chunk of 256 columns, two heads of q or of k. -/
theorem chunk_normed (h : FVec Ideal S1x1024x1024 .bf16) (w : FVec Ideal S1x9x1024x512 .bf16) (g : FVec Ideal S1x4608 .f32)
    (C : Nat) (hC : C < 18) (wc : FVec Ideal S1x1x1024x256 .bf16) (gc : FVec Ideal S1x256 .f32)
    (hw : ∀ (d : Fin 1024) (k : Fin 256), wc (ix4 0 0 d k) = w (ix4 0 ⟨(256 * C + k.val) / 512, by omega⟩ d ⟨(256 * C + k.val) % 512, by omega⟩))
    (hg : ∀ k : Fin 256, gc (ix2 0 k) = g (ix2 0 ⟨256 * C + k.val, by omega⟩)) (r : Fin 1024) (k : Fin 256) :
    k0_pay216 (F := Ideal) h wc gc (ix2 r k) = normed h w g r ⟨256 * C + k.val, by omega⟩ := by
  have hp : ∀ k : Fin 256, ∑ d, h (ix3 0 r d) * wc (ix4 0 0 d k) = proj h w r ⟨256 * C + k.val, by omega⟩ := fun k => by
    unfold proj
    exact Finset.sum_congr rfl fun d _ => congrArg (_ * ·) (hw d k)
  have hP : ∀ (a b : Fin 4608), a.val = b.val → proj h w r a = proj h w r b := fun a b e => by rw [Fin.ext e]
  pointwise [k0_pay216]
  unfold normed
  simp only [hp]
  refine congrArg₂ (· * ·) ?_ (hg k)
  by_cases hk : k.val < 128
  · rw [dif_pos hk]
    refine congrArg (fun s => _ * Ideal.rsqrt (Ideal.div s _ + _)) (Finset.sum_congr rfl fun l _ => ?_)
    exact congrArg₂ (· * ·) (hP _ _ (by simp only; omega)) (hP _ _ (by simp only; omega))
  · rw [dif_neg hk]
    refine congrArg₂ (· * ·) (hP _ _ (by simp only; omega)) (congrArg (fun s => Ideal.rsqrt (Ideal.div s _ + _)) (Finset.sum_congr rfl fun l _ => ?_))
    exact congrArg₂ (· * ·) (hP _ _ (by simp only; omega)) (hP _ _ (by simp only; omega))

end Cert.QkvBody

end
-- ==== Proof.QkvRows.lean ====
/-
  THE PROJECTION CALL, its two scratch buffers: the normed rows by columns of 128, and the rows sorted by residue.
-/
module

public import proofs.«01_k».proof.Proof.QkvPay

@[expose] public section

set_option maxRecDepth 65536

noncomputable section

open Idealize.ShloMosaic Idealize.ShloMosaic.TcCoe Idealize.SL.Sem

namespace Cert.QkvBody

open Cert.KernelQkvIdeal Cert.KernelQkvIdeal.Gen

/-- The rows by columns of 128. -/
def byCols (h : FVec Ideal S1024x1024 .f32) : FVec Ideal S8x1024x128 .f32 := fun i =>
  h (ix2 ⟨(i 1).val, (i 1).isLt⟩ ⟨128 * (i 0).val + (i 2).val, by have h0 : (i 0).val < 8 := (i 0).isLt; have h2 : (i 2).val < 128 := (i 2).isLt; omega⟩)

theorem byCols_at (h : FVec Ideal S1024x1024 .f32) (i : S8x1024x128.Idx) (R K : Fin 1024) (hR : R.val = (i 1).val)
    (hK : K.val = 128 * (i 0).val + (i 2).val) : byCols h i = h (ix2 R K) := by
  unfold byCols
  congr 2 <;> exact Fin.ext (by first | exact hR.symm | exact hK.symm)

theorem cols_piece (h : FVec Ideal S1024x1024 .f32) (ct : Nat) (hct : ct < 8) (hs : S1024x1024.Slices ![0, 128 * ct] S1024x128)
    (inb : ∀ a, (![ct, 0, 0] : Fin 3 → Nat) a + S1x1024x128.size a ≤ S8x1024x128.size a) (x : S1x1024x128.Idx) :
    cutCols (128 * ct) hs h x = byCols h ((Rect.unit (s := S8x1024x128) ![ct, 0, 0] S1x1024x128.size inb).emb x) := by
  obtain ⟨z, r, k, rfl⟩ : ∃ (z : Fin 1) (r : Fin 1024) (k : Fin 128), x = ix3 z r k := ⟨x 0, x 1, x 2, eq_ix3 x⟩
  refine (cutCols_apply (128 * ct) hs h z r k ⟨128 * ct + k.val, by omega⟩ rfl).trans (byCols_at h _ _ _ ?_ ?_).symm
  · show r.val = 0 + 1 * r.val; omega
  · show 128 * ct + k.val = 128 * (ct + 1 * z.val) + (0 + 1 * k.val); omega

/-- The rows sorted by residue modulo 4, and modulo 16. -/
def sorted (h : FVec Ideal S1024x1024 .f32) : FVec Ideal S2x1024x1024 .bf16 := fun i =>
  h (ix2 (if (i 0).val = 0 then ⟨(i 1).val % 256 * 4 + (i 1).val / 256, by have := (i 1).isLt; have h1 : (i 1).val < 1024 := this; omega⟩
    else ⟨(i 1).val % 64 * 16 + (i 1).val / 64, by have := (i 1).isLt; have h1 : (i 1).val < 1024 := this; omega⟩) ⟨(i 2).val, (i 2).isLt⟩)

theorem sorted_zero (h : FVec Ideal S1024x1024 .f32) (i : S2x1024x1024.Idx) (h0 : (i 0).val = 0) (R K : Fin 1024)
    (hR : R.val = (i 1).val % 256 * 4 + (i 1).val / 256) (hK : K.val = (i 2).val) : sorted h i = h (ix2 R K) := by
  unfold sorted
  rw [if_pos h0]
  congr 2 <;> exact Fin.ext (by first | exact hR.symm | exact hK.symm)

theorem sorted_one (h : FVec Ideal S1024x1024 .f32) (i : S2x1024x1024.Idx) (h0 : (i 0).val ≠ 0) (R K : Fin 1024)
    (hR : R.val = (i 1).val % 64 * 16 + (i 1).val / 64) (hK : K.val = (i 2).val) : sorted h i = h (ix2 R K) := by
  unfold sorted
  rw [if_neg h0]
  congr 2 <;> exact Fin.ext (by first | exact hR.symm | exact hK.symm)

section Pieces

variable (v : Memref sig .tc .vmem S8x1024x128 .f32) (L : List (View.Piece (Elt Ideal) S8x1024x128 .f32))
  (h : FVec Ideal S1024x1024 .f32) (hL : ∀ y, View.canon L y = byCols h y)
include hL

theorem piece4 (ct r : Nat) (hct : ct < 8) (hr : r < 4) (inbL)
    (inb : ∀ a, (![0, 256 * r, 128 * ct] : Fin 3 → Nat) a + S1x256x128.size a ≤ S2x1024x1024.size a) (x : S1x256x128.Idx) :
    k0_pay15 (F := Ideal) (v.view.readCov L { off := ![ct, r, 0], size := S1x256x128.size, stride := ![1, 4, 1], inb := inbL }) x
      = sorted h ((Rect.unit (s := S2x1024x1024) ![0, 256 * r, 128 * ct] S1x256x128.size inb).emb x) := by
  obtain ⟨z, q, k, rfl⟩ : ∃ (z : Fin 1) (q : Fin 256) (k : Fin 128), x = ix3 z q k := ⟨x 0, x 1, x 2, eq_ix3 x⟩
  refine (pay15_apply _ z q k).trans ?_
  rw [View.readCov_eq_canon']
  refine (hL _).trans ((byCols_at h _ ⟨4 * q.val + r, by omega⟩ ⟨128 * ct + k.val, by omega⟩ ?_ ?_).trans (sorted_zero h _ ?_ _ _ ?_ ?_).symm)
  · show 4 * q.val + r = r + 4 * q.val; omega
  · show 128 * ct + k.val = 128 * (ct + 1 * 0) + (0 + 1 * k.val); omega
  · show 0 + 1 * z.val = 0; omega
  · show 4 * q.val + r = (256 * r + 1 * q.val) % 256 * 4 + (256 * r + 1 * q.val) / 256; omega
  · show 128 * ct + k.val = 128 * ct + 1 * k.val; omega

theorem piece16 (ct r : Nat) (hct : ct < 8) (hr : r < 16) (inbL)
    (inb : ∀ a, (![1, 64 * r, 128 * ct] : Fin 3 → Nat) a + S1x64x128.size a ≤ S2x1024x1024.size a) (x : S1x64x128.Idx) :
    k0_pay52 (F := Ideal) (v.view.readCov L { off := ![ct, r, 0], size := S1x64x128.size, stride := ![1, 16, 1], inb := inbL }) x
      = sorted h ((Rect.unit (s := S2x1024x1024) ![1, 64 * r, 128 * ct] S1x64x128.size inb).emb x) := by
  obtain ⟨z, q, k, rfl⟩ : ∃ (z : Fin 1) (q : Fin 64) (k : Fin 128), x = ix3 z q k := ⟨x 0, x 1, x 2, eq_ix3 x⟩
  refine (pay52_apply _ z q k).trans ?_
  rw [View.readCov_eq_canon']
  refine (hL _).trans ((byCols_at h _ ⟨16 * q.val + r, by omega⟩ ⟨128 * ct + k.val, by omega⟩ ?_ ?_).trans (sorted_one h _ ?_ _ _ ?_ ?_).symm)
  · show 16 * q.val + r = r + 16 * q.val; omega
  · show 128 * ct + k.val = 128 * (ct + 1 * 0) + (0 + 1 * k.val); omega
  · show 1 + 1 * z.val ≠ 0; omega
  · show 16 * q.val + r = (64 * r + 1 * q.val) % 64 * 16 + (64 * r + 1 * q.val) / 64; omega
  · show 128 * ct + k.val = 128 * ct + 1 * k.val; omega

end Pieces

variable (c : Dev nD) (i : grid0.Coords) (arg2 : Memref sig .tc .vmem S1x1024x1024 .f32) (harg2 : arg2.IsWhole)
  (arg3 : Memref sig .tc .vmem S1x1024 .f32) (harg3 : arg3.IsWhole) (arg4 : Memref sig .tc .vmem S1x1x8x1024 .f32)
  (harg4 : arg4.IsWhole) (arg5 : Memref sig .tc .vmem S1x1x8x1024 .f32) (harg5 : arg5.IsWhole)
  (arg12 : Memref sig .tc .vmem S8x1024x128 .f32)
  (x0 : FVec Ideal S1x1024x1024 .f32) (x1 : FVec Ideal S1x1024 .f32) (x2 x3 : FVec Ideal S1x1x8x1024 .f32)

/-- The normed rows, as the body computed them. -/
abbrev rows : FVec Ideal S1024x1024 .f32 := kernelRun0_A.sl.r (F := Ideal) c i arg2 harg2 arg3 harg3 arg4 harg4 arg5 harg5 x0 x1 x2 x3

/-- The first scratch holds the rows by columns of 128. -/
theorem cols_canon (y : S8x1024x128.Idx) : View.canon (kernelRun0_A.sl.HS0_8 (F := Ideal) c i arg2 harg2 arg3 harg3 arg4 harg4 arg5 harg5 x0 x1 x2 x3) y = byCols (rows c i arg2 harg2 arg3 harg3 arg4 harg4 arg5 harg5 x0 x1 x2 x3) y := by
  refine View.canon_apply_of_pieces _ _ (View.PiecesOf.mem ?_) y
    (View.cover_of_tiledL (kernelRun0_A.sl.HS0_8 (F := Ideal) c i arg2 harg2 arg3 harg3 arg4 harg4 arg5 harg5 x0 x1 x2 x3) S1x1024x128.size (by sl_kernel_rfl) y)
  unfold kernelRun0_A.sl.HS0_8
  exact ⟨cols_piece (rows c i arg2 harg2 arg3 harg3 arg4 harg4 arg5 harg5 x0 x1 x2 x3) 7 (by decide) slices_S1024x1024_o0_896_S1024x128 inb_S8x1024x128_S1x1024x128_7_0_0,
    cols_piece (rows c i arg2 harg2 arg3 harg3 arg4 harg4 arg5 harg5 x0 x1 x2 x3) 6 (by decide) slices_S1024x1024_o0_768_S1024x128 inb_S8x1024x128_S1x1024x128_6_0_0,
    cols_piece (rows c i arg2 harg2 arg3 harg3 arg4 harg4 arg5 harg5 x0 x1 x2 x3) 5 (by decide) slices_S1024x1024_o0_640_S1024x128 inb_S8x1024x128_S1x1024x128_5_0_0,
    cols_piece (rows c i arg2 harg2 arg3 harg3 arg4 harg4 arg5 harg5 x0 x1 x2 x3) 4 (by decide) slices_S1024x1024_o0_512_S1024x128 inb_S8x1024x128_S1x1024x128_4_0_0,
    cols_piece (rows c i arg2 harg2 arg3 harg3 arg4 harg4 arg5 harg5 x0 x1 x2 x3) 3 (by decide) slices_S1024x1024_o0_384_S1024x128 inb_S8x1024x128_S1x1024x128_3_0_0,
    cols_piece (rows c i arg2 harg2 arg3 harg3 arg4 harg4 arg5 harg5 x0 x1 x2 x3) 2 (by decide) slices_S1024x1024_o0_256_S1024x128 inb_S8x1024x128_S1x1024x128_2_0_0,
    cols_piece (rows c i arg2 harg2 arg3 harg3 arg4 harg4 arg5 harg5 x0 x1 x2 x3) 1 (by decide) slices_S1024x1024_o0_128_S1024x128 inb_S8x1024x128_S1x1024x128_1_0_0,
    cols_piece (rows c i arg2 harg2 arg3 harg3 arg4 harg4 arg5 harg5 x0 x1 x2 x3) 0 (by decide) slices_S1024x1024_o0_0_S1024x128 inb_S8x1024x128_S1x1024x128_0_0_0,
    trivial⟩

set_option maxHeartbeats 4000000 in
/-- The second scratch holds the rows sorted by residue. -/
theorem sorted_canon (y : S2x1024x1024.Idx) : View.canon (kernelRun0_A.sl.HS1_160 (F := Ideal) c i arg2 harg2 arg3 harg3 arg4 harg4 arg5 harg5 arg12 x0 x1 x2 x3) y = sorted (rows c i arg2 harg2 arg3 harg3 arg4 harg4 arg5 harg5 x0 x1 x2 x3) y := by
  refine View.canon_apply_of_pieces _ _ (View.PiecesOf.mem ?_) y
    (View.cover_of_tiledBy (kernelRun0_A.sl.HS1_160 (F := Ideal) c i arg2 harg2 arg3 harg3 arg4 harg4 arg5 harg5 arg12 x0 x1 x2 x3) ![1, 64, 128] (by sl_kernel_rfl) y)
  have p := piece16 arg12 _ _ (cols_canon c i arg2 harg2 arg3 harg3 arg4 harg4 arg5 harg5 x0 x1 x2 x3)
  have q := piece4 arg12 _ _ (cols_canon c i arg2 harg2 arg3 harg3 arg4 harg4 arg5 harg5 x0 x1 x2 x3)
  unfold kernelRun0_A.sl.HS1_160
  exact ⟨p 7 15 (by decide) (by decide) inb_S8x1024x128_S1x64x128_7_15_0_s_1_16_1 inb_S2x1024x1024_S1x64x128_1_960_896,
    p 7 14 (by decide) (by decide) inb_S8x1024x128_S1x64x128_7_14_0_s_1_16_1 inb_S2x1024x1024_S1x64x128_1_896_896,
    p 7 13 (by decide) (by decide) inb_S8x1024x128_S1x64x128_7_13_0_s_1_16_1 inb_S2x1024x1024_S1x64x128_1_832_896,
    p 7 12 (by decide) (by decide) inb_S8x1024x128_S1x64x128_7_12_0_s_1_16_1 inb_S2x1024x1024_S1x64x128_1_768_896,
    p 7 11 (by decide) (by decide) inb_S8x1024x128_S1x64x128_7_11_0_s_1_16_1 inb_S2x1024x1024_S1x64x128_1_704_896,
    p 7 10 (by decide) (by decide) inb_S8x1024x128_S1x64x128_7_10_0_s_1_16_1 inb_S2x1024x1024_S1x64x128_1_640_896,
    p 7 9 (by decide) (by decide) inb_S8x1024x128_S1x64x128_7_9_0_s_1_16_1 inb_S2x1024x1024_S1x64x128_1_576_896,
    p 7 8 (by decide) (by decide) inb_S8x1024x128_S1x64x128_7_8_0_s_1_16_1 inb_S2x1024x1024_S1x64x128_1_512_896,
    p 7 7 (by decide) (by decide) inb_S8x1024x128_S1x64x128_7_7_0_s_1_16_1 inb_S2x1024x1024_S1x64x128_1_448_896,
    p 7 6 (by decide) (by decide) inb_S8x1024x128_S1x64x128_7_6_0_s_1_16_1 inb_S2x1024x1024_S1x64x128_1_384_896,
    p 7 5 (by decide) (by decide) inb_S8x1024x128_S1x64x128_7_5_0_s_1_16_1 inb_S2x1024x1024_S1x64x128_1_320_896,
    p 7 4 (by decide) (by decide) inb_S8x1024x128_S1x64x128_7_4_0_s_1_16_1 inb_S2x1024x1024_S1x64x128_1_256_896,
    p 7 3 (by decide) (by decide) inb_S8x1024x128_S1x64x128_7_3_0_s_1_16_1 inb_S2x1024x1024_S1x64x128_1_192_896,
    p 7 2 (by decide) (by decide) inb_S8x1024x128_S1x64x128_7_2_0_s_1_16_1 inb_S2x1024x1024_S1x64x128_1_128_896,
    p 7 1 (by decide) (by decide) inb_S8x1024x128_S1x64x128_7_1_0_s_1_16_1 inb_S2x1024x1024_S1x64x128_1_64_896,
    p 7 0 (by decide) (by decide) inb_S8x1024x128_S1x64x128_7_0_0_s_1_16_1 inb_S2x1024x1024_S1x64x128_1_0_896,
    p 6 15 (by decide) (by decide) inb_S8x1024x128_S1x64x128_6_15_0_s_1_16_1 inb_S2x1024x1024_S1x64x128_1_960_768,
    p 6 14 (by decide) (by decide) inb_S8x1024x128_S1x64x128_6_14_0_s_1_16_1 inb_S2x1024x1024_S1x64x128_1_896_768,
    p 6 13 (by decide) (by decide) inb_S8x1024x128_S1x64x128_6_13_0_s_1_16_1 inb_S2x1024x1024_S1x64x128_1_832_768,
    p 6 12 (by decide) (by decide) inb_S8x1024x128_S1x64x128_6_12_0_s_1_16_1 inb_S2x1024x1024_S1x64x128_1_768_768,
    p 6 11 (by decide) (by decide) inb_S8x1024x128_S1x64x128_6_11_0_s_1_16_1 inb_S2x1024x1024_S1x64x128_1_704_768,
    p 6 10 (by decide) (by decide) inb_S8x1024x128_S1x64x128_6_10_0_s_1_16_1 inb_S2x1024x1024_S1x64x128_1_640_768,
    p 6 9 (by decide) (by decide) inb_S8x1024x128_S1x64x128_6_9_0_s_1_16_1 inb_S2x1024x1024_S1x64x128_1_576_768,
    p 6 8 (by decide) (by decide) inb_S8x1024x128_S1x64x128_6_8_0_s_1_16_1 inb_S2x1024x1024_S1x64x128_1_512_768,
    p 6 7 (by decide) (by decide) inb_S8x1024x128_S1x64x128_6_7_0_s_1_16_1 inb_S2x1024x1024_S1x64x128_1_448_768,
    p 6 6 (by decide) (by decide) inb_S8x1024x128_S1x64x128_6_6_0_s_1_16_1 inb_S2x1024x1024_S1x64x128_1_384_768,
    p 6 5 (by decide) (by decide) inb_S8x1024x128_S1x64x128_6_5_0_s_1_16_1 inb_S2x1024x1024_S1x64x128_1_320_768,
    p 6 4 (by decide) (by decide) inb_S8x1024x128_S1x64x128_6_4_0_s_1_16_1 inb_S2x1024x1024_S1x64x128_1_256_768,
    p 6 3 (by decide) (by decide) inb_S8x1024x128_S1x64x128_6_3_0_s_1_16_1 inb_S2x1024x1024_S1x64x128_1_192_768,
    p 6 2 (by decide) (by decide) inb_S8x1024x128_S1x64x128_6_2_0_s_1_16_1 inb_S2x1024x1024_S1x64x128_1_128_768,
    p 6 1 (by decide) (by decide) inb_S8x1024x128_S1x64x128_6_1_0_s_1_16_1 inb_S2x1024x1024_S1x64x128_1_64_768,
    p 6 0 (by decide) (by decide) inb_S8x1024x128_S1x64x128_6_0_0_s_1_16_1 inb_S2x1024x1024_S1x64x128_1_0_768,
    p 5 15 (by decide) (by decide) inb_S8x1024x128_S1x64x128_5_15_0_s_1_16_1 inb_S2x1024x1024_S1x64x128_1_960_640,
    p 5 14 (by decide) (by decide) inb_S8x1024x128_S1x64x128_5_14_0_s_1_16_1 inb_S2x1024x1024_S1x64x128_1_896_640,
    p 5 13 (by decide) (by decide) inb_S8x1024x128_S1x64x128_5_13_0_s_1_16_1 inb_S2x1024x1024_S1x64x128_1_832_640,
    p 5 12 (by decide) (by decide) inb_S8x1024x128_S1x64x128_5_12_0_s_1_16_1 inb_S2x1024x1024_S1x64x128_1_768_640,
    p 5 11 (by decide) (by decide) inb_S8x1024x128_S1x64x128_5_11_0_s_1_16_1 inb_S2x1024x1024_S1x64x128_1_704_640,
    p 5 10 (by decide) (by decide) inb_S8x1024x128_S1x64x128_5_10_0_s_1_16_1 inb_S2x1024x1024_S1x64x128_1_640_640,
    p 5 9 (by decide) (by decide) inb_S8x1024x128_S1x64x128_5_9_0_s_1_16_1 inb_S2x1024x1024_S1x64x128_1_576_640,
    p 5 8 (by decide) (by decide) inb_S8x1024x128_S1x64x128_5_8_0_s_1_16_1 inb_S2x1024x1024_S1x64x128_1_512_640,
    p 5 7 (by decide) (by decide) inb_S8x1024x128_S1x64x128_5_7_0_s_1_16_1 inb_S2x1024x1024_S1x64x128_1_448_640,
    p 5 6 (by decide) (by decide) inb_S8x1024x128_S1x64x128_5_6_0_s_1_16_1 inb_S2x1024x1024_S1x64x128_1_384_640,
    p 5 5 (by decide) (by decide) inb_S8x1024x128_S1x64x128_5_5_0_s_1_16_1 inb_S2x1024x1024_S1x64x128_1_320_640,
    p 5 4 (by decide) (by decide) inb_S8x1024x128_S1x64x128_5_4_0_s_1_16_1 inb_S2x1024x1024_S1x64x128_1_256_640,
    p 5 3 (by decide) (by decide) inb_S8x1024x128_S1x64x128_5_3_0_s_1_16_1 inb_S2x1024x1024_S1x64x128_1_192_640,
    p 5 2 (by decide) (by decide) inb_S8x1024x128_S1x64x128_5_2_0_s_1_16_1 inb_S2x1024x1024_S1x64x128_1_128_640,
    p 5 1 (by decide) (by decide) inb_S8x1024x128_S1x64x128_5_1_0_s_1_16_1 inb_S2x1024x1024_S1x64x128_1_64_640,
    p 5 0 (by decide) (by decide) inb_S8x1024x128_S1x64x128_5_0_0_s_1_16_1 inb_S2x1024x1024_S1x64x128_1_0_640,
    p 4 15 (by decide) (by decide) inb_S8x1024x128_S1x64x128_4_15_0_s_1_16_1 inb_S2x1024x1024_S1x64x128_1_960_512,
    p 4 14 (by decide) (by decide) inb_S8x1024x128_S1x64x128_4_14_0_s_1_16_1 inb_S2x1024x1024_S1x64x128_1_896_512,
    p 4 13 (by decide) (by decide) inb_S8x1024x128_S1x64x128_4_13_0_s_1_16_1 inb_S2x1024x1024_S1x64x128_1_832_512,
    p 4 12 (by decide) (by decide) inb_S8x1024x128_S1x64x128_4_12_0_s_1_16_1 inb_S2x1024x1024_S1x64x128_1_768_512,
    p 4 11 (by decide) (by decide) inb_S8x1024x128_S1x64x128_4_11_0_s_1_16_1 inb_S2x1024x1024_S1x64x128_1_704_512,
    p 4 10 (by decide) (by decide) inb_S8x1024x128_S1x64x128_4_10_0_s_1_16_1 inb_S2x1024x1024_S1x64x128_1_640_512,
    p 4 9 (by decide) (by decide) inb_S8x1024x128_S1x64x128_4_9_0_s_1_16_1 inb_S2x1024x1024_S1x64x128_1_576_512,
    p 4 8 (by decide) (by decide) inb_S8x1024x128_S1x64x128_4_8_0_s_1_16_1 inb_S2x1024x1024_S1x64x128_1_512_512,
    p 4 7 (by decide) (by decide) inb_S8x1024x128_S1x64x128_4_7_0_s_1_16_1 inb_S2x1024x1024_S1x64x128_1_448_512,
    p 4 6 (by decide) (by decide) inb_S8x1024x128_S1x64x128_4_6_0_s_1_16_1 inb_S2x1024x1024_S1x64x128_1_384_512,
    p 4 5 (by decide) (by decide) inb_S8x1024x128_S1x64x128_4_5_0_s_1_16_1 inb_S2x1024x1024_S1x64x128_1_320_512,
    p 4 4 (by decide) (by decide) inb_S8x1024x128_S1x64x128_4_4_0_s_1_16_1 inb_S2x1024x1024_S1x64x128_1_256_512,
    p 4 3 (by decide) (by decide) inb_S8x1024x128_S1x64x128_4_3_0_s_1_16_1 inb_S2x1024x1024_S1x64x128_1_192_512,
    p 4 2 (by decide) (by decide) inb_S8x1024x128_S1x64x128_4_2_0_s_1_16_1 inb_S2x1024x1024_S1x64x128_1_128_512,
    p 4 1 (by decide) (by decide) inb_S8x1024x128_S1x64x128_4_1_0_s_1_16_1 inb_S2x1024x1024_S1x64x128_1_64_512,
    p 4 0 (by decide) (by decide) inb_S8x1024x128_S1x64x128_4_0_0_s_1_16_1 inb_S2x1024x1024_S1x64x128_1_0_512,
    p 3 15 (by decide) (by decide) inb_S8x1024x128_S1x64x128_3_15_0_s_1_16_1 inb_S2x1024x1024_S1x64x128_1_960_384,
    p 3 14 (by decide) (by decide) inb_S8x1024x128_S1x64x128_3_14_0_s_1_16_1 inb_S2x1024x1024_S1x64x128_1_896_384,
    p 3 13 (by decide) (by decide) inb_S8x1024x128_S1x64x128_3_13_0_s_1_16_1 inb_S2x1024x1024_S1x64x128_1_832_384,
    p 3 12 (by decide) (by decide) inb_S8x1024x128_S1x64x128_3_12_0_s_1_16_1 inb_S2x1024x1024_S1x64x128_1_768_384,
    p 3 11 (by decide) (by decide) inb_S8x1024x128_S1x64x128_3_11_0_s_1_16_1 inb_S2x1024x1024_S1x64x128_1_704_384,
    p 3 10 (by decide) (by decide) inb_S8x1024x128_S1x64x128_3_10_0_s_1_16_1 inb_S2x1024x1024_S1x64x128_1_640_384,
    p 3 9 (by decide) (by decide) inb_S8x1024x128_S1x64x128_3_9_0_s_1_16_1 inb_S2x1024x1024_S1x64x128_1_576_384,
    p 3 8 (by decide) (by decide) inb_S8x1024x128_S1x64x128_3_8_0_s_1_16_1 inb_S2x1024x1024_S1x64x128_1_512_384,
    p 3 7 (by decide) (by decide) inb_S8x1024x128_S1x64x128_3_7_0_s_1_16_1 inb_S2x1024x1024_S1x64x128_1_448_384,
    p 3 6 (by decide) (by decide) inb_S8x1024x128_S1x64x128_3_6_0_s_1_16_1 inb_S2x1024x1024_S1x64x128_1_384_384,
    p 3 5 (by decide) (by decide) inb_S8x1024x128_S1x64x128_3_5_0_s_1_16_1 inb_S2x1024x1024_S1x64x128_1_320_384,
    p 3 4 (by decide) (by decide) inb_S8x1024x128_S1x64x128_3_4_0_s_1_16_1 inb_S2x1024x1024_S1x64x128_1_256_384,
    p 3 3 (by decide) (by decide) inb_S8x1024x128_S1x64x128_3_3_0_s_1_16_1 inb_S2x1024x1024_S1x64x128_1_192_384,
    p 3 2 (by decide) (by decide) inb_S8x1024x128_S1x64x128_3_2_0_s_1_16_1 inb_S2x1024x1024_S1x64x128_1_128_384,
    p 3 1 (by decide) (by decide) inb_S8x1024x128_S1x64x128_3_1_0_s_1_16_1 inb_S2x1024x1024_S1x64x128_1_64_384,
    p 3 0 (by decide) (by decide) inb_S8x1024x128_S1x64x128_3_0_0_s_1_16_1 inb_S2x1024x1024_S1x64x128_1_0_384,
    p 2 15 (by decide) (by decide) inb_S8x1024x128_S1x64x128_2_15_0_s_1_16_1 inb_S2x1024x1024_S1x64x128_1_960_256,
    p 2 14 (by decide) (by decide) inb_S8x1024x128_S1x64x128_2_14_0_s_1_16_1 inb_S2x1024x1024_S1x64x128_1_896_256,
    p 2 13 (by decide) (by decide) inb_S8x1024x128_S1x64x128_2_13_0_s_1_16_1 inb_S2x1024x1024_S1x64x128_1_832_256,
    p 2 12 (by decide) (by decide) inb_S8x1024x128_S1x64x128_2_12_0_s_1_16_1 inb_S2x1024x1024_S1x64x128_1_768_256,
    p 2 11 (by decide) (by decide) inb_S8x1024x128_S1x64x128_2_11_0_s_1_16_1 inb_S2x1024x1024_S1x64x128_1_704_256,
    p 2 10 (by decide) (by decide) inb_S8x1024x128_S1x64x128_2_10_0_s_1_16_1 inb_S2x1024x1024_S1x64x128_1_640_256,
    p 2 9 (by decide) (by decide) inb_S8x1024x128_S1x64x128_2_9_0_s_1_16_1 inb_S2x1024x1024_S1x64x128_1_576_256,
    p 2 8 (by decide) (by decide) inb_S8x1024x128_S1x64x128_2_8_0_s_1_16_1 inb_S2x1024x1024_S1x64x128_1_512_256,
    p 2 7 (by decide) (by decide) inb_S8x1024x128_S1x64x128_2_7_0_s_1_16_1 inb_S2x1024x1024_S1x64x128_1_448_256,
    p 2 6 (by decide) (by decide) inb_S8x1024x128_S1x64x128_2_6_0_s_1_16_1 inb_S2x1024x1024_S1x64x128_1_384_256,
    p 2 5 (by decide) (by decide) inb_S8x1024x128_S1x64x128_2_5_0_s_1_16_1 inb_S2x1024x1024_S1x64x128_1_320_256,
    p 2 4 (by decide) (by decide) inb_S8x1024x128_S1x64x128_2_4_0_s_1_16_1 inb_S2x1024x1024_S1x64x128_1_256_256,
    p 2 3 (by decide) (by decide) inb_S8x1024x128_S1x64x128_2_3_0_s_1_16_1 inb_S2x1024x1024_S1x64x128_1_192_256,
    p 2 2 (by decide) (by decide) inb_S8x1024x128_S1x64x128_2_2_0_s_1_16_1 inb_S2x1024x1024_S1x64x128_1_128_256,
    p 2 1 (by decide) (by decide) inb_S8x1024x128_S1x64x128_2_1_0_s_1_16_1 inb_S2x1024x1024_S1x64x128_1_64_256,
    p 2 0 (by decide) (by decide) inb_S8x1024x128_S1x64x128_2_0_0_s_1_16_1 inb_S2x1024x1024_S1x64x128_1_0_256,
    p 1 15 (by decide) (by decide) inb_S8x1024x128_S1x64x128_1_15_0_s_1_16_1 inb_S2x1024x1024_S1x64x128_1_960_128,
    p 1 14 (by decide) (by decide) inb_S8x1024x128_S1x64x128_1_14_0_s_1_16_1 inb_S2x1024x1024_S1x64x128_1_896_128,
    p 1 13 (by decide) (by decide) inb_S8x1024x128_S1x64x128_1_13_0_s_1_16_1 inb_S2x1024x1024_S1x64x128_1_832_128,
    p 1 12 (by decide) (by decide) inb_S8x1024x128_S1x64x128_1_12_0_s_1_16_1 inb_S2x1024x1024_S1x64x128_1_768_128,
    p 1 11 (by decide) (by decide) inb_S8x1024x128_S1x64x128_1_11_0_s_1_16_1 inb_S2x1024x1024_S1x64x128_1_704_128,
    p 1 10 (by decide) (by decide) inb_S8x1024x128_S1x64x128_1_10_0_s_1_16_1 inb_S2x1024x1024_S1x64x128_1_640_128,
    p 1 9 (by decide) (by decide) inb_S8x1024x128_S1x64x128_1_9_0_s_1_16_1 inb_S2x1024x1024_S1x64x128_1_576_128,
    p 1 8 (by decide) (by decide) inb_S8x1024x128_S1x64x128_1_8_0_s_1_16_1 inb_S2x1024x1024_S1x64x128_1_512_128,
    p 1 7 (by decide) (by decide) inb_S8x1024x128_S1x64x128_1_7_0_s_1_16_1 inb_S2x1024x1024_S1x64x128_1_448_128,
    p 1 6 (by decide) (by decide) inb_S8x1024x128_S1x64x128_1_6_0_s_1_16_1 inb_S2x1024x1024_S1x64x128_1_384_128,
    p 1 5 (by decide) (by decide) inb_S8x1024x128_S1x64x128_1_5_0_s_1_16_1 inb_S2x1024x1024_S1x64x128_1_320_128,
    p 1 4 (by decide) (by decide) inb_S8x1024x128_S1x64x128_1_4_0_s_1_16_1 inb_S2x1024x1024_S1x64x128_1_256_128,
    p 1 3 (by decide) (by decide) inb_S8x1024x128_S1x64x128_1_3_0_s_1_16_1 inb_S2x1024x1024_S1x64x128_1_192_128,
    p 1 2 (by decide) (by decide) inb_S8x1024x128_S1x64x128_1_2_0_s_1_16_1 inb_S2x1024x1024_S1x64x128_1_128_128,
    p 1 1 (by decide) (by decide) inb_S8x1024x128_S1x64x128_1_1_0_s_1_16_1 inb_S2x1024x1024_S1x64x128_1_64_128,
    p 1 0 (by decide) (by decide) inb_S8x1024x128_S1x64x128_1_0_0_s_1_16_1 inb_S2x1024x1024_S1x64x128_1_0_128,
    p 0 15 (by decide) (by decide) inb_S8x1024x128_S1x64x128_0_15_0_s_1_16_1 inb_S2x1024x1024_S1x64x128_1_960_0,
    p 0 14 (by decide) (by decide) inb_S8x1024x128_S1x64x128_0_14_0_s_1_16_1 inb_S2x1024x1024_S1x64x128_1_896_0,
    p 0 13 (by decide) (by decide) inb_S8x1024x128_S1x64x128_0_13_0_s_1_16_1 inb_S2x1024x1024_S1x64x128_1_832_0,
    p 0 12 (by decide) (by decide) inb_S8x1024x128_S1x64x128_0_12_0_s_1_16_1 inb_S2x1024x1024_S1x64x128_1_768_0,
    p 0 11 (by decide) (by decide) inb_S8x1024x128_S1x64x128_0_11_0_s_1_16_1 inb_S2x1024x1024_S1x64x128_1_704_0,
    p 0 10 (by decide) (by decide) inb_S8x1024x128_S1x64x128_0_10_0_s_1_16_1 inb_S2x1024x1024_S1x64x128_1_640_0,
    p 0 9 (by decide) (by decide) inb_S8x1024x128_S1x64x128_0_9_0_s_1_16_1 inb_S2x1024x1024_S1x64x128_1_576_0,
    p 0 8 (by decide) (by decide) inb_S8x1024x128_S1x64x128_0_8_0_s_1_16_1 inb_S2x1024x1024_S1x64x128_1_512_0,
    p 0 7 (by decide) (by decide) inb_S8x1024x128_S1x64x128_0_7_0_s_1_16_1 inb_S2x1024x1024_S1x64x128_1_448_0,
    p 0 6 (by decide) (by decide) inb_S8x1024x128_S1x64x128_0_6_0_s_1_16_1 inb_S2x1024x1024_S1x64x128_1_384_0,
    p 0 5 (by decide) (by decide) inb_S8x1024x128_S1x64x128_0_5_0_s_1_16_1 inb_S2x1024x1024_S1x64x128_1_320_0,
    p 0 4 (by decide) (by decide) inb_S8x1024x128_S1x64x128_0_4_0_s_1_16_1 inb_S2x1024x1024_S1x64x128_1_256_0,
    p 0 3 (by decide) (by decide) inb_S8x1024x128_S1x64x128_0_3_0_s_1_16_1 inb_S2x1024x1024_S1x64x128_1_192_0,
    p 0 2 (by decide) (by decide) inb_S8x1024x128_S1x64x128_0_2_0_s_1_16_1 inb_S2x1024x1024_S1x64x128_1_128_0,
    p 0 1 (by decide) (by decide) inb_S8x1024x128_S1x64x128_0_1_0_s_1_16_1 inb_S2x1024x1024_S1x64x128_1_64_0,
    p 0 0 (by decide) (by decide) inb_S8x1024x128_S1x64x128_0_0_0_s_1_16_1 inb_S2x1024x1024_S1x64x128_1_0_0,
    q 7 3 (by decide) (by decide) inb_S8x1024x128_S1x256x128_7_3_0_s_1_4_1 inb_S2x1024x1024_S1x256x128_0_768_896,
    q 7 2 (by decide) (by decide) inb_S8x1024x128_S1x256x128_7_2_0_s_1_4_1 inb_S2x1024x1024_S1x256x128_0_512_896,
    q 7 1 (by decide) (by decide) inb_S8x1024x128_S1x256x128_7_1_0_s_1_4_1 inb_S2x1024x1024_S1x256x128_0_256_896,
    q 7 0 (by decide) (by decide) inb_S8x1024x128_S1x256x128_7_0_0_s_1_4_1 inb_S2x1024x1024_S1x256x128_0_0_896,
    q 6 3 (by decide) (by decide) inb_S8x1024x128_S1x256x128_6_3_0_s_1_4_1 inb_S2x1024x1024_S1x256x128_0_768_768,
    q 6 2 (by decide) (by decide) inb_S8x1024x128_S1x256x128_6_2_0_s_1_4_1 inb_S2x1024x1024_S1x256x128_0_512_768,
    q 6 1 (by decide) (by decide) inb_S8x1024x128_S1x256x128_6_1_0_s_1_4_1 inb_S2x1024x1024_S1x256x128_0_256_768,
    q 6 0 (by decide) (by decide) inb_S8x1024x128_S1x256x128_6_0_0_s_1_4_1 inb_S2x1024x1024_S1x256x128_0_0_768,
    q 5 3 (by decide) (by decide) inb_S8x1024x128_S1x256x128_5_3_0_s_1_4_1 inb_S2x1024x1024_S1x256x128_0_768_640,
    q 5 2 (by decide) (by decide) inb_S8x1024x128_S1x256x128_5_2_0_s_1_4_1 inb_S2x1024x1024_S1x256x128_0_512_640,
    q 5 1 (by decide) (by decide) inb_S8x1024x128_S1x256x128_5_1_0_s_1_4_1 inb_S2x1024x1024_S1x256x128_0_256_640,
    q 5 0 (by decide) (by decide) inb_S8x1024x128_S1x256x128_5_0_0_s_1_4_1 inb_S2x1024x1024_S1x256x128_0_0_640,
    q 4 3 (by decide) (by decide) inb_S8x1024x128_S1x256x128_4_3_0_s_1_4_1 inb_S2x1024x1024_S1x256x128_0_768_512,
    q 4 2 (by decide) (by decide) inb_S8x1024x128_S1x256x128_4_2_0_s_1_4_1 inb_S2x1024x1024_S1x256x128_0_512_512,
    q 4 1 (by decide) (by decide) inb_S8x1024x128_S1x256x128_4_1_0_s_1_4_1 inb_S2x1024x1024_S1x256x128_0_256_512,
    q 4 0 (by decide) (by decide) inb_S8x1024x128_S1x256x128_4_0_0_s_1_4_1 inb_S2x1024x1024_S1x256x128_0_0_512,
    q 3 3 (by decide) (by decide) inb_S8x1024x128_S1x256x128_3_3_0_s_1_4_1 inb_S2x1024x1024_S1x256x128_0_768_384,
    q 3 2 (by decide) (by decide) inb_S8x1024x128_S1x256x128_3_2_0_s_1_4_1 inb_S2x1024x1024_S1x256x128_0_512_384,
    q 3 1 (by decide) (by decide) inb_S8x1024x128_S1x256x128_3_1_0_s_1_4_1 inb_S2x1024x1024_S1x256x128_0_256_384,
    q 3 0 (by decide) (by decide) inb_S8x1024x128_S1x256x128_3_0_0_s_1_4_1 inb_S2x1024x1024_S1x256x128_0_0_384,
    q 2 3 (by decide) (by decide) inb_S8x1024x128_S1x256x128_2_3_0_s_1_4_1 inb_S2x1024x1024_S1x256x128_0_768_256,
    q 2 2 (by decide) (by decide) inb_S8x1024x128_S1x256x128_2_2_0_s_1_4_1 inb_S2x1024x1024_S1x256x128_0_512_256,
    q 2 1 (by decide) (by decide) inb_S8x1024x128_S1x256x128_2_1_0_s_1_4_1 inb_S2x1024x1024_S1x256x128_0_256_256,
    q 2 0 (by decide) (by decide) inb_S8x1024x128_S1x256x128_2_0_0_s_1_4_1 inb_S2x1024x1024_S1x256x128_0_0_256,
    q 1 3 (by decide) (by decide) inb_S8x1024x128_S1x256x128_1_3_0_s_1_4_1 inb_S2x1024x1024_S1x256x128_0_768_128,
    q 1 2 (by decide) (by decide) inb_S8x1024x128_S1x256x128_1_2_0_s_1_4_1 inb_S2x1024x1024_S1x256x128_0_512_128,
    q 1 1 (by decide) (by decide) inb_S8x1024x128_S1x256x128_1_1_0_s_1_4_1 inb_S2x1024x1024_S1x256x128_0_256_128,
    q 1 0 (by decide) (by decide) inb_S8x1024x128_S1x256x128_1_0_0_s_1_4_1 inb_S2x1024x1024_S1x256x128_0_0_128,
    q 0 3 (by decide) (by decide) inb_S8x1024x128_S1x256x128_0_3_0_s_1_4_1 inb_S2x1024x1024_S1x256x128_0_768_0,
    q 0 2 (by decide) (by decide) inb_S8x1024x128_S1x256x128_0_2_0_s_1_4_1 inb_S2x1024x1024_S1x256x128_0_512_0,
    q 0 1 (by decide) (by decide) inb_S8x1024x128_S1x256x128_0_1_0_s_1_4_1 inb_S2x1024x1024_S1x256x128_0_256_0,
    q 0 0 (by decide) (by decide) inb_S8x1024x128_S1x256x128_0_0_0_s_1_4_1 inb_S2x1024x1024_S1x256x128_0_0_0,
    trivial⟩

end Cert.QkvBody

end
-- ==== Proof.QkvPieces.lean ====
/-
  THE PROJECTION CALL: a chunk of columns of each group's output, written residue by residue.
-/
module

public import proofs.«01_k».proof.Proof.QkvRows

@[expose] public section

set_option maxRecDepth 65536

noncomputable section

open Idealize.ShloMosaic Idealize.ShloMosaic.TcCoe Idealize.SL.Sem

namespace Cert.QkvBody

open Cert.KernelQkvIdeal Cert.KernelQkvIdeal.Gen

/-- The three groups' blocks: rows sorted by residue, columns of q, k and v. -/
def block1 (h : FVec Ideal S1x1024x1024 .bf16) (w : FVec Ideal S1x9x1024x512 .bf16) (g : FVec Ideal S1x4608 .f32) :
    FVec Ideal S1x1x1024x1536 .bf16 := fun i =>
  entry h w g ⟨(i 2).val, (i 2).isLt⟩ ⟨(i 3).val, by have h3 : (i 3).val < 1536 := (i 3).isLt; omega⟩
def block4 (h : FVec Ideal S1x1024x1024 .bf16) (w : FVec Ideal S1x9x1024x512 .bf16) (g : FVec Ideal S1x4608 .f32) :
    FVec Ideal S1x4x256x1536 .bf16 := fun i =>
  entry h w g ⟨256 * (i 1).val + (i 2).val, by have h1 : (i 1).val < 4 := (i 1).isLt; have h2 : (i 2).val < 256 := (i 2).isLt; omega⟩
    ⟨1536 + (i 3).val, by have h3 : (i 3).val < 1536 := (i 3).isLt; omega⟩
def block16 (h : FVec Ideal S1x1024x1024 .bf16) (w : FVec Ideal S1x9x1024x512 .bf16) (g : FVec Ideal S1x4608 .f32) :
    FVec Ideal S1x16x64x1536 .bf16 := fun i =>
  entry h w g ⟨64 * (i 1).val + (i 2).val, by have h1 : (i 1).val < 16 := (i 1).isLt; have h2 : (i 2).val < 64 := (i 2).isLt; omega⟩
    ⟨3072 + (i 3).val, by have h3 : (i 3).val < 1536 := (i 3).isLt; omega⟩

section Pieces

variable (arg6 : Memref sig .tc .vmem S1x9x1024x512 .bf16) (harg6 : arg6.IsWhole) (arg7 : Memref sig .tc .vmem S1x4608 .f32)
  (harg7 : arg7.IsWhole) (w : FVec Ideal S1x9x1024x512 .bf16) (g : FVec Ideal S1x4608 .f32) (h : FVec Ideal S1x1024x1024 .bf16)

/-- The weights of a chunk, and its heads' weights, as the body reads them. -/
abbrev rdW (C : Nat) (inb : ∀ a, (![0, C / 2, 0, 256 * (C % 2)] : Fin 4 → Nat) a + S1x1x1024x256.size a ≤ S1x9x1024x512.size a) :
    FVec Ideal S1x1x1024x256 .bf16 :=
  View.readAt (Elt Ideal) arg6.view (Rect.unit (s := S1x9x1024x512) ![0, C / 2, 0, 256 * (C % 2)] S1x1x1024x256.size inb).toLoadRect (harg6.unread w)
abbrev rdG (C : Nat) (inb : ∀ a, (![0, 256 * C] : Fin 2 → Nat) a + S1x256.size a ≤ S1x4608.size a) : FVec Ideal S1x256 .f32 :=
  View.readAt (Elt Ideal) arg7.view (Rect.unit (s := S1x4608) ![0, 256 * C] S1x256.size inb).toLoadRect (harg7.unread g)

theorem rdW_apply (C : Nat) (hC : C < 18) (inb) (d : Fin 1024) (k : Fin 256) :
    rdW arg6 harg6 w C inb (ix4 0 0 d k) = w (ix4 0 ⟨(256 * C + k.val) / 512, by omega⟩ d ⟨(256 * C + k.val) % 512, by omega⟩) := by
  unfold rdW
  rw [View.readAt_eq_ld, harg6.read_unread]
  refine congrArg w ?_
  funext a
  apply Fin.ext
  match a with
  | ⟨0, _⟩ => rfl
  | ⟨1, _⟩ => show C / 2 + 1 * 0 = (256 * C + k.val) / 512; omega
  | ⟨2, _⟩ => show 0 + 1 * d.val = d.val; omega
  | ⟨3, _⟩ => show 256 * (C % 2) + 1 * k.val = (256 * C + k.val) % 512; omega

theorem rdG_apply (C : Nat) (hC : C < 18) (inb) (k : Fin 256) :
    rdG arg7 harg7 g C inb (ix2 0 k) = g (ix2 0 ⟨256 * C + k.val, by omega⟩) := by
  unfold rdG
  rw [View.readAt_eq_ld, harg7.read_unread]
  refine congrArg g ?_
  funext a
  apply Fin.ext
  match a with
  | ⟨0, _⟩ => rfl
  | ⟨1, _⟩ => show 256 * C + 1 * k.val = 256 * C + k.val; omega

theorem entry_normed (r R : Fin 1024) (n N : Fin 4608) (hr : R.val = r.val) (hn : N.val = n.val) (hlt : n.val % 1536 < 1024) :
    normed h w g r n = entry h w g R N := by
  obtain rfl := Fin.ext hr
  obtain rfl := Fin.ext hn
  exact (if_pos hlt).symm
theorem entry_plain (r R : Fin 1024) (n N : Fin 4608) (hr : R.val = r.val) (hn : N.val = n.val) (hlt : 1024 ≤ n.val % 1536) :
    proj h w r n = entry h w g R N := by
  obtain rfl := Fin.ext hr
  obtain rfl := Fin.ext hn
  exact (if_neg (by omega)).symm

theorem normed16 (cc : Nat) (hc : 0 ≤ cc ∧ cc < 4) (r : Nat) (hr : r < 16) (hs : S1024x256.Slices ![64 * r, 0] S64x256)
    (inbW : ∀ a, (![0, (12 + cc) / 2, 0, 256 * ((12 + cc) % 2)] : Fin 4 → Nat) a + S1x1x1024x256.size a ≤ S1x9x1024x512.size a) (inbG : ∀ a, (![0, 256 * (12 + cc)] : Fin 2 → Nat) a + S1x256.size a ≤ S1x4608.size a)
    (inb : ∀ a, (![0, r, 0, 256 * cc] : Fin 4 → Nat) a + S1x1x64x256.size a ≤ S1x16x64x1536.size a) (x : S1x1x64x256.Idx) :
    cut64 (64 * r) hs (k0_pay216 (F := Ideal) h (rdW arg6 harg6 w (12 + cc) inbW) (rdG arg7 harg7 g (12 + cc) inbG)) x
      = block16 h w g ((Rect.unit (s := S1x16x64x1536) ![0, r, 0, 256 * cc] S1x1x64x256.size inb).emb x) := by
  obtain ⟨y, z, q, k, rfl⟩ : ∃ (y z : Fin 1) (q : Fin 64) (k : Fin 256), x = ix4 y z q k := ⟨x 0, x 1, x 2, x 3, eq_ix4 x⟩
  refine (cut64_apply (64 * r) hs _ y z q k ⟨64 * r + q.val, by omega⟩ rfl).trans ((chunk_normed h w g (12 + cc) (by omega) _ _ (rdW_apply arg6 harg6 w (12 + cc) (by omega) inbW) (rdG_apply arg7 harg7 g (12 + cc) (by omega) inbG) ⟨64 * r + q.val, by omega⟩ k).trans (entry_normed w g h _ _ _ _ ?_ ?_ ?_))
  · show 64 * (r + 1 * z.val) + (0 + 1 * q.val) = 64 * r + q.val; omega
  · show 3072 + (256 * cc + 1 * k.val) = 256 * (12 + cc) + k.val; omega
  · show (256 * (12 + cc) + k.val) % 1536 < 1024; omega

theorem plain16 (cc : Nat) (hc : 4 ≤ cc ∧ cc < 6) (r : Nat) (hr : r < 16) (hs : S1024x256.Slices ![64 * r, 0] S64x256)
    (inbW : ∀ a, (![0, (12 + cc) / 2, 0, 256 * ((12 + cc) % 2)] : Fin 4 → Nat) a + S1x1x1024x256.size a ≤ S1x9x1024x512.size a)
    (inb : ∀ a, (![0, r, 0, 256 * cc] : Fin 4 → Nat) a + S1x1x64x256.size a ≤ S1x16x64x1536.size a) (x : S1x1x64x256.Idx) :
    cut64 (64 * r) hs (k0_pay363 (F := Ideal) h (rdW arg6 harg6 w (12 + cc) inbW)) x
      = block16 h w g ((Rect.unit (s := S1x16x64x1536) ![0, r, 0, 256 * cc] S1x1x64x256.size inb).emb x) := by
  obtain ⟨y, z, q, k, rfl⟩ : ∃ (y z : Fin 1) (q : Fin 64) (k : Fin 256), x = ix4 y z q k := ⟨x 0, x 1, x 2, x 3, eq_ix4 x⟩
  refine (cut64_apply (64 * r) hs _ y z q k ⟨64 * r + q.val, by omega⟩ rfl).trans ((chunk_plain h w (12 + cc) (by omega) _ (rdW_apply arg6 harg6 w (12 + cc) (by omega) inbW) ⟨64 * r + q.val, by omega⟩ k).trans (entry_plain w g h _ _ _ _ ?_ ?_ ?_))
  · show 64 * (r + 1 * z.val) + (0 + 1 * q.val) = 64 * r + q.val; omega
  · show 3072 + (256 * cc + 1 * k.val) = 256 * (12 + cc) + k.val; omega
  · show 1024 ≤ (256 * (12 + cc) + k.val) % 1536; omega

theorem normed4 (cc : Nat) (hc : 0 ≤ cc ∧ cc < 4) (r : Nat) (hr : r < 4) (hs : S1024x256.Slices ![256 * r, 0] S256x256)
    (inbW : ∀ a, (![0, (6 + cc) / 2, 0, 256 * ((6 + cc) % 2)] : Fin 4 → Nat) a + S1x1x1024x256.size a ≤ S1x9x1024x512.size a) (inbG : ∀ a, (![0, 256 * (6 + cc)] : Fin 2 → Nat) a + S1x256.size a ≤ S1x4608.size a)
    (inb : ∀ a, (![0, r, 0, 256 * cc] : Fin 4 → Nat) a + S1x1x256x256.size a ≤ S1x4x256x1536.size a) (x : S1x1x256x256.Idx) :
    cut256 (256 * r) hs (k0_pay216 (F := Ideal) h (rdW arg6 harg6 w (6 + cc) inbW) (rdG arg7 harg7 g (6 + cc) inbG)) x
      = block4 h w g ((Rect.unit (s := S1x4x256x1536) ![0, r, 0, 256 * cc] S1x1x256x256.size inb).emb x) := by
  obtain ⟨y, z, q, k, rfl⟩ : ∃ (y z : Fin 1) (q : Fin 256) (k : Fin 256), x = ix4 y z q k := ⟨x 0, x 1, x 2, x 3, eq_ix4 x⟩
  refine (cut256_apply (256 * r) hs _ y z q k ⟨256 * r + q.val, by omega⟩ rfl).trans ((chunk_normed h w g (6 + cc) (by omega) _ _ (rdW_apply arg6 harg6 w (6 + cc) (by omega) inbW) (rdG_apply arg7 harg7 g (6 + cc) (by omega) inbG) ⟨256 * r + q.val, by omega⟩ k).trans (entry_normed w g h _ _ _ _ ?_ ?_ ?_))
  · show 256 * (r + 1 * z.val) + (0 + 1 * q.val) = 256 * r + q.val; omega
  · show 1536 + (256 * cc + 1 * k.val) = 256 * (6 + cc) + k.val; omega
  · show (256 * (6 + cc) + k.val) % 1536 < 1024; omega

theorem plain4 (cc : Nat) (hc : 4 ≤ cc ∧ cc < 6) (r : Nat) (hr : r < 4) (hs : S1024x256.Slices ![256 * r, 0] S256x256)
    (inbW : ∀ a, (![0, (6 + cc) / 2, 0, 256 * ((6 + cc) % 2)] : Fin 4 → Nat) a + S1x1x1024x256.size a ≤ S1x9x1024x512.size a)
    (inb : ∀ a, (![0, r, 0, 256 * cc] : Fin 4 → Nat) a + S1x1x256x256.size a ≤ S1x4x256x1536.size a) (x : S1x1x256x256.Idx) :
    cut256 (256 * r) hs (k0_pay363 (F := Ideal) h (rdW arg6 harg6 w (6 + cc) inbW)) x
      = block4 h w g ((Rect.unit (s := S1x4x256x1536) ![0, r, 0, 256 * cc] S1x1x256x256.size inb).emb x) := by
  obtain ⟨y, z, q, k, rfl⟩ : ∃ (y z : Fin 1) (q : Fin 256) (k : Fin 256), x = ix4 y z q k := ⟨x 0, x 1, x 2, x 3, eq_ix4 x⟩
  refine (cut256_apply (256 * r) hs _ y z q k ⟨256 * r + q.val, by omega⟩ rfl).trans ((chunk_plain h w (6 + cc) (by omega) _ (rdW_apply arg6 harg6 w (6 + cc) (by omega) inbW) ⟨256 * r + q.val, by omega⟩ k).trans (entry_plain w g h _ _ _ _ ?_ ?_ ?_))
  · show 256 * (r + 1 * z.val) + (0 + 1 * q.val) = 256 * r + q.val; omega
  · show 1536 + (256 * cc + 1 * k.val) = 256 * (6 + cc) + k.val; omega
  · show 1024 ≤ (256 * (6 + cc) + k.val) % 1536; omega

theorem normed1 (cc : Nat) (hc : 0 ≤ cc ∧ cc < 4)
    (inbW : ∀ a, (![0, (cc) / 2, 0, 256 * ((cc) % 2)] : Fin 4 → Nat) a + S1x1x1024x256.size a ≤ S1x9x1024x512.size a) (inbG : ∀ a, (![0, 256 * (cc)] : Fin 2 → Nat) a + S1x256.size a ≤ S1x4608.size a)
    (inb : ∀ a, (![0, 0, 0, 256 * cc] : Fin 4 → Nat) a + S1x1x1024x256.size a ≤ S1x1x1024x1536.size a) (x : S1x1x1024x256.Idx) :
    cutAll (k0_pay216 (F := Ideal) h (rdW arg6 harg6 w (cc) inbW) (rdG arg7 harg7 g (cc) inbG)) x
      = block1 h w g ((Rect.unit (s := S1x1x1024x1536) ![0, 0, 0, 256 * cc] S1x1x1024x256.size inb).emb x) := by
  obtain ⟨y, z, q, k, rfl⟩ : ∃ (y z : Fin 1) (q : Fin 1024) (k : Fin 256), x = ix4 y z q k := ⟨x 0, x 1, x 2, x 3, eq_ix4 x⟩
  refine (cutAll_apply _ y z q k).trans ((chunk_normed h w g (cc) (by omega) _ _ (rdW_apply arg6 harg6 w (cc) (by omega) inbW) (rdG_apply arg7 harg7 g (cc) (by omega) inbG) q k).trans (entry_normed w g h _ _ _ _ ?_ ?_ ?_))
  · show 0 + 1 * q.val = q.val; omega
  · show (256 * cc + 1 * k.val) = 256 * (cc) + k.val; omega
  · show (256 * (cc) + k.val) % 1536 < 1024; omega

theorem plain1 (cc : Nat) (hc : 4 ≤ cc ∧ cc < 6)
    (inbW : ∀ a, (![0, (cc) / 2, 0, 256 * ((cc) % 2)] : Fin 4 → Nat) a + S1x1x1024x256.size a ≤ S1x9x1024x512.size a)
    (inb : ∀ a, (![0, 0, 0, 256 * cc] : Fin 4 → Nat) a + S1x1x1024x256.size a ≤ S1x1x1024x1536.size a) (x : S1x1x1024x256.Idx) :
    cutAll (k0_pay363 (F := Ideal) h (rdW arg6 harg6 w (cc) inbW)) x
      = block1 h w g ((Rect.unit (s := S1x1x1024x1536) ![0, 0, 0, 256 * cc] S1x1x1024x256.size inb).emb x) := by
  obtain ⟨y, z, q, k, rfl⟩ : ∃ (y z : Fin 1) (q : Fin 1024) (k : Fin 256), x = ix4 y z q k := ⟨x 0, x 1, x 2, x 3, eq_ix4 x⟩
  refine (cutAll_apply _ y z q k).trans ((chunk_plain h w (cc) (by omega) _ (rdW_apply arg6 harg6 w (cc) (by omega) inbW) q k).trans (entry_plain w g h _ _ _ _ ?_ ?_ ?_))
  · show 0 + 1 * q.val = q.val; omega
  · show (256 * cc + 1 * k.val) = 256 * (cc) + k.val; omega
  · show 1024 ≤ (256 * (cc) + k.val) % 1536; omega

end Pieces

end Cert.QkvBody

end
-- ==== Proof.QkvOutA.lean ====
/-
  THE PROJECTION CALL: what it leaves for the undilated group and for the group of dilation 4.
-/
module

public import proofs.«01_k».proof.Proof.QkvPieces

@[expose] public section

set_option maxRecDepth 65536

noncomputable section

open Idealize.ShloMosaic Idealize.ShloMosaic.TcCoe Idealize.SL.Sem

namespace Cert.QkvBody

open Cert.KernelQkvIdeal Cert.KernelQkvIdeal.Gen

variable (c : Dev nD) (i : grid0.Coords)
  (arg2 : Memref sig .tc .vmem S1x1024x1024 .f32) (harg2 : arg2.IsWhole)
  (arg3 : Memref sig .tc .vmem S1x1024 .f32) (harg3 : arg3.IsWhole)
  (arg4 : Memref sig .tc .vmem S1x1x8x1024 .f32) (harg4 : arg4.IsWhole)
  (arg5 : Memref sig .tc .vmem S1x1x8x1024 .f32) (harg5 : arg5.IsWhole)
  (arg6 : Memref sig .tc .vmem S1x9x1024x512 .bf16) (harg6 : arg6.IsWhole)
  (arg7 : Memref sig .tc .vmem S1x4608 .f32) (harg7 : arg7.IsWhole)
  (arg8 : Memref sig .tc .vmem S1x1024x1024 .bf16) (harg8 : arg8.IsWhole)
  (arg9 : Memref sig .tc .vmem S1x1x1024x1536 .bf16) (harg9 : arg9.IsWhole)
  (arg10 : Memref sig .tc .vmem S1x4x256x1536 .bf16) (harg10 : arg10.IsWhole)
  (arg11 : Memref sig .tc .vmem S1x16x64x1536 .bf16) (harg11 : arg11.IsWhole)
  (arg12 : Memref sig .tc .vmem S8x1024x128 .f32) (harg12 : arg12.IsWhole)
  (arg13 : Memref sig .tc .vmem S2x1024x1024 .bf16) (harg13 : arg13.IsWhole)
  (x0 : FVec Ideal S1x1024x1024 .f32) (x1 : FVec Ideal S1x1024 .f32) (x2 x3 : FVec Ideal S1x1x8x1024 .f32)
  (x4 : FVec Ideal S1x9x1024x512 .bf16) (x5 : FVec Ideal S1x4608 .f32)

/-- The rows as the undilated group reads them. -/
abbrev lhs1 : FVec Ideal S1x1024x1024 .bf16 := kernelRun0_A.sl.v1024 (F := Ideal) c i arg2 harg2 arg3 harg3 arg4 harg4 arg5 harg5 arg8 x0 x1 x2 x3

set_option maxHeartbeats 4000000 in
theorem out1 (y : S1x1x1024x1536.Idx) : View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.1 y
    = block1 (lhs1 c i arg2 harg2 arg3 harg3 arg4 harg4 arg5 harg5 arg8 x0 x1 x2 x3) x4 x5 y := by
  have hc := cover0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y
  have n := normed1 arg6 harg6 arg7 harg7 x4 x5 (lhs1 c i arg2 harg2 arg3 harg3 arg4 harg4 arg5 harg5 arg8 x0 x1 x2 x3)
  have p := plain1 arg6 harg6 x4 x5 (lhs1 c i arg2 harg2 arg3 harg3 arg4 harg4 arg5 harg5 arg8 x0 x1 x2 x3)
  unfold kernelRun0_A at hc ⊢
  dsimp only at hc ⊢
  refine View.canon_apply_of_pieces (block1 (lhs1 c i arg2 harg2 arg3 harg3 arg4 harg4 arg5 harg5 arg8 x0 x1 x2 x3) x4 x5) _ (View.PiecesOf.mem ?_) y hc
  exact ⟨p 5 (by decide) inb_S1x9x1024x512_S1x1x1024x256_0_2_0_256 inb_S1x1x1024x1536_S1x1x1024x256_0_0_0_1280,
    p 4 (by decide) inb_S1x9x1024x512_S1x1x1024x256_0_2_0_0 inb_S1x1x1024x1536_S1x1x1024x256_0_0_0_1024,
    n 3 (by decide) inb_S1x9x1024x512_S1x1x1024x256_0_1_0_256 inb_S1x4608_S1x256_0_768 inb_S1x1x1024x1536_S1x1x1024x256_0_0_0_768,
    n 2 (by decide) inb_S1x9x1024x512_S1x1x1024x256_0_1_0_0 inb_S1x4608_S1x256_0_512 inb_S1x1x1024x1536_S1x1x1024x256_0_0_0_512,
    n 1 (by decide) inb_S1x9x1024x512_S1x1x1024x256_0_0_0_256 inb_S1x4608_S1x256_0_256 inb_S1x1x1024x1536_S1x1x1024x256_0_0_0_256,
    n 0 (by decide) inb_S1x9x1024x512_S1x1x1024x256_0_0_0_0 inb_S1x4608_S1x256_0_0 inb_S1x1x1024x1536_S1x1x1024x256_0_0_0_0,
    trivial⟩

/-- The rows as the group of dilation 4 reads them. -/
abbrev lhs4 : FVec Ideal S1x1024x1024 .bf16 := kernelRun0_A.sl.v1186 (F := Ideal) c i arg2 harg2 arg3 harg3 arg4 harg4 arg5 harg5 arg12 arg13 x0 x1 x2 x3

set_option maxHeartbeats 4000000 in
theorem out4 (y : S1x4x256x1536.Idx) : View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.1 y
    = block4 (lhs4 c i arg2 harg2 arg3 harg3 arg4 harg4 arg5 harg5 arg12 arg13 x0 x1 x2 x3) x4 x5 y := by
  have hc := cover0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y
  have n := normed4 arg6 harg6 arg7 harg7 x4 x5 (lhs4 c i arg2 harg2 arg3 harg3 arg4 harg4 arg5 harg5 arg12 arg13 x0 x1 x2 x3)
  have p := plain4 arg6 harg6 x4 x5 (lhs4 c i arg2 harg2 arg3 harg3 arg4 harg4 arg5 harg5 arg12 arg13 x0 x1 x2 x3)
  unfold kernelRun0_A at hc ⊢
  dsimp only at hc ⊢
  refine View.canon_apply_of_pieces (block4 (lhs4 c i arg2 harg2 arg3 harg3 arg4 harg4 arg5 harg5 arg12 arg13 x0 x1 x2 x3) x4 x5) _ (View.PiecesOf.mem ?_) y hc
  exact ⟨p 5 (by decide) 3 (by decide) slices_S1024x256_o768_0_S256x256 inb_S1x9x1024x512_S1x1x1024x256_0_5_0_256 inb_S1x4x256x1536_S1x1x256x256_0_3_0_1280,
    p 5 (by decide) 2 (by decide) slices_S1024x256_o512_0_S256x256 inb_S1x9x1024x512_S1x1x1024x256_0_5_0_256 inb_S1x4x256x1536_S1x1x256x256_0_2_0_1280,
    p 5 (by decide) 1 (by decide) slices_S1024x256_o256_0_S256x256 inb_S1x9x1024x512_S1x1x1024x256_0_5_0_256 inb_S1x4x256x1536_S1x1x256x256_0_1_0_1280,
    p 5 (by decide) 0 (by decide) slices_S1024x256_o0_0_S256x256 inb_S1x9x1024x512_S1x1x1024x256_0_5_0_256 inb_S1x4x256x1536_S1x1x256x256_0_0_0_1280,
    p 4 (by decide) 3 (by decide) slices_S1024x256_o768_0_S256x256 inb_S1x9x1024x512_S1x1x1024x256_0_5_0_0 inb_S1x4x256x1536_S1x1x256x256_0_3_0_1024,
    p 4 (by decide) 2 (by decide) slices_S1024x256_o512_0_S256x256 inb_S1x9x1024x512_S1x1x1024x256_0_5_0_0 inb_S1x4x256x1536_S1x1x256x256_0_2_0_1024,
    p 4 (by decide) 1 (by decide) slices_S1024x256_o256_0_S256x256 inb_S1x9x1024x512_S1x1x1024x256_0_5_0_0 inb_S1x4x256x1536_S1x1x256x256_0_1_0_1024,
    p 4 (by decide) 0 (by decide) slices_S1024x256_o0_0_S256x256 inb_S1x9x1024x512_S1x1x1024x256_0_5_0_0 inb_S1x4x256x1536_S1x1x256x256_0_0_0_1024,
    n 3 (by decide) 3 (by decide) slices_S1024x256_o768_0_S256x256 inb_S1x9x1024x512_S1x1x1024x256_0_4_0_256 inb_S1x4608_S1x256_0_2304 inb_S1x4x256x1536_S1x1x256x256_0_3_0_768,
    n 3 (by decide) 2 (by decide) slices_S1024x256_o512_0_S256x256 inb_S1x9x1024x512_S1x1x1024x256_0_4_0_256 inb_S1x4608_S1x256_0_2304 inb_S1x4x256x1536_S1x1x256x256_0_2_0_768,
    n 3 (by decide) 1 (by decide) slices_S1024x256_o256_0_S256x256 inb_S1x9x1024x512_S1x1x1024x256_0_4_0_256 inb_S1x4608_S1x256_0_2304 inb_S1x4x256x1536_S1x1x256x256_0_1_0_768,
    n 3 (by decide) 0 (by decide) slices_S1024x256_o0_0_S256x256 inb_S1x9x1024x512_S1x1x1024x256_0_4_0_256 inb_S1x4608_S1x256_0_2304 inb_S1x4x256x1536_S1x1x256x256_0_0_0_768,
    n 2 (by decide) 3 (by decide) slices_S1024x256_o768_0_S256x256 inb_S1x9x1024x512_S1x1x1024x256_0_4_0_0 inb_S1x4608_S1x256_0_2048 inb_S1x4x256x1536_S1x1x256x256_0_3_0_512,
    n 2 (by decide) 2 (by decide) slices_S1024x256_o512_0_S256x256 inb_S1x9x1024x512_S1x1x1024x256_0_4_0_0 inb_S1x4608_S1x256_0_2048 inb_S1x4x256x1536_S1x1x256x256_0_2_0_512,
    n 2 (by decide) 1 (by decide) slices_S1024x256_o256_0_S256x256 inb_S1x9x1024x512_S1x1x1024x256_0_4_0_0 inb_S1x4608_S1x256_0_2048 inb_S1x4x256x1536_S1x1x256x256_0_1_0_512,
    n 2 (by decide) 0 (by decide) slices_S1024x256_o0_0_S256x256 inb_S1x9x1024x512_S1x1x1024x256_0_4_0_0 inb_S1x4608_S1x256_0_2048 inb_S1x4x256x1536_S1x1x256x256_0_0_0_512,
    n 1 (by decide) 3 (by decide) slices_S1024x256_o768_0_S256x256 inb_S1x9x1024x512_S1x1x1024x256_0_3_0_256 inb_S1x4608_S1x256_0_1792 inb_S1x4x256x1536_S1x1x256x256_0_3_0_256,
    n 1 (by decide) 2 (by decide) slices_S1024x256_o512_0_S256x256 inb_S1x9x1024x512_S1x1x1024x256_0_3_0_256 inb_S1x4608_S1x256_0_1792 inb_S1x4x256x1536_S1x1x256x256_0_2_0_256,
    n 1 (by decide) 1 (by decide) slices_S1024x256_o256_0_S256x256 inb_S1x9x1024x512_S1x1x1024x256_0_3_0_256 inb_S1x4608_S1x256_0_1792 inb_S1x4x256x1536_S1x1x256x256_0_1_0_256,
    n 1 (by decide) 0 (by decide) slices_S1024x256_o0_0_S256x256 inb_S1x9x1024x512_S1x1x1024x256_0_3_0_256 inb_S1x4608_S1x256_0_1792 inb_S1x4x256x1536_S1x1x256x256_0_0_0_256,
    n 0 (by decide) 3 (by decide) slices_S1024x256_o768_0_S256x256 inb_S1x9x1024x512_S1x1x1024x256_0_3_0_0 inb_S1x4608_S1x256_0_1536 inb_S1x4x256x1536_S1x1x256x256_0_3_0_0,
    n 0 (by decide) 2 (by decide) slices_S1024x256_o512_0_S256x256 inb_S1x9x1024x512_S1x1x1024x256_0_3_0_0 inb_S1x4608_S1x256_0_1536 inb_S1x4x256x1536_S1x1x256x256_0_2_0_0,
    n 0 (by decide) 1 (by decide) slices_S1024x256_o256_0_S256x256 inb_S1x9x1024x512_S1x1x1024x256_0_3_0_0 inb_S1x4608_S1x256_0_1536 inb_S1x4x256x1536_S1x1x256x256_0_1_0_0,
    n 0 (by decide) 0 (by decide) slices_S1024x256_o0_0_S256x256 inb_S1x9x1024x512_S1x1x1024x256_0_3_0_0 inb_S1x4608_S1x256_0_1536 inb_S1x4x256x1536_S1x1x256x256_0_0_0_0,
    trivial⟩

end Cert.QkvBody

end
-- ==== Proof.QkvOutB.lean ====
/-
  THE PROJECTION CALL: what it leaves for the group of dilation 16.
-/
module

public import proofs.«01_k».proof.Proof.QkvPieces

@[expose] public section

set_option maxRecDepth 65536

noncomputable section

open Idealize.ShloMosaic Idealize.ShloMosaic.TcCoe Idealize.SL.Sem

namespace Cert.QkvBody

open Cert.KernelQkvIdeal Cert.KernelQkvIdeal.Gen

variable (c : Dev nD) (i : grid0.Coords)
  (arg2 : Memref sig .tc .vmem S1x1024x1024 .f32) (harg2 : arg2.IsWhole)
  (arg3 : Memref sig .tc .vmem S1x1024 .f32) (harg3 : arg3.IsWhole)
  (arg4 : Memref sig .tc .vmem S1x1x8x1024 .f32) (harg4 : arg4.IsWhole)
  (arg5 : Memref sig .tc .vmem S1x1x8x1024 .f32) (harg5 : arg5.IsWhole)
  (arg6 : Memref sig .tc .vmem S1x9x1024x512 .bf16) (harg6 : arg6.IsWhole)
  (arg7 : Memref sig .tc .vmem S1x4608 .f32) (harg7 : arg7.IsWhole)
  (arg8 : Memref sig .tc .vmem S1x1024x1024 .bf16) (harg8 : arg8.IsWhole)
  (arg9 : Memref sig .tc .vmem S1x1x1024x1536 .bf16) (harg9 : arg9.IsWhole)
  (arg10 : Memref sig .tc .vmem S1x4x256x1536 .bf16) (harg10 : arg10.IsWhole)
  (arg11 : Memref sig .tc .vmem S1x16x64x1536 .bf16) (harg11 : arg11.IsWhole)
  (arg12 : Memref sig .tc .vmem S8x1024x128 .f32) (harg12 : arg12.IsWhole)
  (arg13 : Memref sig .tc .vmem S2x1024x1024 .bf16) (harg13 : arg13.IsWhole)
  (x0 : FVec Ideal S1x1024x1024 .f32) (x1 : FVec Ideal S1x1024 .f32) (x2 x3 : FVec Ideal S1x1x8x1024 .f32)
  (x4 : FVec Ideal S1x9x1024x512 .bf16) (x5 : FVec Ideal S1x4608 .f32)

/-- The rows as the group of dilation 16 reads them. -/
abbrev lhs16 : FVec Ideal S1x1024x1024 .bf16 := kernelRun0_A.sl.v1426 (F := Ideal) c i arg2 harg2 arg3 harg3 arg4 harg4 arg5 harg5 arg12 arg13 x0 x1 x2 x3

set_option maxHeartbeats 4000000 in
theorem out16 (y : S1x16x64x1536.Idx) : View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.2.1 y
    = block16 (lhs16 c i arg2 harg2 arg3 harg3 arg4 harg4 arg5 harg5 arg12 arg13 x0 x1 x2 x3) x4 x5 y := by
  have hc := cover0_A_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y
  have n := normed16 arg6 harg6 arg7 harg7 x4 x5 (lhs16 c i arg2 harg2 arg3 harg3 arg4 harg4 arg5 harg5 arg12 arg13 x0 x1 x2 x3)
  have p := plain16 arg6 harg6 x4 x5 (lhs16 c i arg2 harg2 arg3 harg3 arg4 harg4 arg5 harg5 arg12 arg13 x0 x1 x2 x3)
  unfold kernelRun0_A at hc ⊢
  dsimp only at hc ⊢
  refine View.canon_apply_of_pieces (block16 (lhs16 c i arg2 harg2 arg3 harg3 arg4 harg4 arg5 harg5 arg12 arg13 x0 x1 x2 x3) x4 x5) _ (View.PiecesOf.mem ?_) y hc
  exact ⟨p 5 (by decide) 15 (by decide) slices_S1024x256_o960_0_S64x256 inb_S1x9x1024x512_S1x1x1024x256_0_8_0_256 inb_S1x16x64x1536_S1x1x64x256_0_15_0_1280,
    p 5 (by decide) 14 (by decide) slices_S1024x256_o896_0_S64x256 inb_S1x9x1024x512_S1x1x1024x256_0_8_0_256 inb_S1x16x64x1536_S1x1x64x256_0_14_0_1280,
    p 5 (by decide) 13 (by decide) slices_S1024x256_o832_0_S64x256 inb_S1x9x1024x512_S1x1x1024x256_0_8_0_256 inb_S1x16x64x1536_S1x1x64x256_0_13_0_1280,
    p 5 (by decide) 12 (by decide) slices_S1024x256_o768_0_S64x256 inb_S1x9x1024x512_S1x1x1024x256_0_8_0_256 inb_S1x16x64x1536_S1x1x64x256_0_12_0_1280,
    p 5 (by decide) 11 (by decide) slices_S1024x256_o704_0_S64x256 inb_S1x9x1024x512_S1x1x1024x256_0_8_0_256 inb_S1x16x64x1536_S1x1x64x256_0_11_0_1280,
    p 5 (by decide) 10 (by decide) slices_S1024x256_o640_0_S64x256 inb_S1x9x1024x512_S1x1x1024x256_0_8_0_256 inb_S1x16x64x1536_S1x1x64x256_0_10_0_1280,
    p 5 (by decide) 9 (by decide) slices_S1024x256_o576_0_S64x256 inb_S1x9x1024x512_S1x1x1024x256_0_8_0_256 inb_S1x16x64x1536_S1x1x64x256_0_9_0_1280,
    p 5 (by decide) 8 (by decide) slices_S1024x256_o512_0_S64x256 inb_S1x9x1024x512_S1x1x1024x256_0_8_0_256 inb_S1x16x64x1536_S1x1x64x256_0_8_0_1280,
    p 5 (by decide) 7 (by decide) slices_S1024x256_o448_0_S64x256 inb_S1x9x1024x512_S1x1x1024x256_0_8_0_256 inb_S1x16x64x1536_S1x1x64x256_0_7_0_1280,
    p 5 (by decide) 6 (by decide) slices_S1024x256_o384_0_S64x256 inb_S1x9x1024x512_S1x1x1024x256_0_8_0_256 inb_S1x16x64x1536_S1x1x64x256_0_6_0_1280,
    p 5 (by decide) 5 (by decide) slices_S1024x256_o320_0_S64x256 inb_S1x9x1024x512_S1x1x1024x256_0_8_0_256 inb_S1x16x64x1536_S1x1x64x256_0_5_0_1280,
    p 5 (by decide) 4 (by decide) slices_S1024x256_o256_0_S64x256 inb_S1x9x1024x512_S1x1x1024x256_0_8_0_256 inb_S1x16x64x1536_S1x1x64x256_0_4_0_1280,
    p 5 (by decide) 3 (by decide) slices_S1024x256_o192_0_S64x256 inb_S1x9x1024x512_S1x1x1024x256_0_8_0_256 inb_S1x16x64x1536_S1x1x64x256_0_3_0_1280,
    p 5 (by decide) 2 (by decide) slices_S1024x256_o128_0_S64x256 inb_S1x9x1024x512_S1x1x1024x256_0_8_0_256 inb_S1x16x64x1536_S1x1x64x256_0_2_0_1280,
    p 5 (by decide) 1 (by decide) slices_S1024x256_o64_0_S64x256 inb_S1x9x1024x512_S1x1x1024x256_0_8_0_256 inb_S1x16x64x1536_S1x1x64x256_0_1_0_1280,
    p 5 (by decide) 0 (by decide) slices_S1024x256_o0_0_S64x256 inb_S1x9x1024x512_S1x1x1024x256_0_8_0_256 inb_S1x16x64x1536_S1x1x64x256_0_0_0_1280,
    p 4 (by decide) 15 (by decide) slices_S1024x256_o960_0_S64x256 inb_S1x9x1024x512_S1x1x1024x256_0_8_0_0 inb_S1x16x64x1536_S1x1x64x256_0_15_0_1024,
    p 4 (by decide) 14 (by decide) slices_S1024x256_o896_0_S64x256 inb_S1x9x1024x512_S1x1x1024x256_0_8_0_0 inb_S1x16x64x1536_S1x1x64x256_0_14_0_1024,
    p 4 (by decide) 13 (by decide) slices_S1024x256_o832_0_S64x256 inb_S1x9x1024x512_S1x1x1024x256_0_8_0_0 inb_S1x16x64x1536_S1x1x64x256_0_13_0_1024,
    p 4 (by decide) 12 (by decide) slices_S1024x256_o768_0_S64x256 inb_S1x9x1024x512_S1x1x1024x256_0_8_0_0 inb_S1x16x64x1536_S1x1x64x256_0_12_0_1024,
    p 4 (by decide) 11 (by decide) slices_S1024x256_o704_0_S64x256 inb_S1x9x1024x512_S1x1x1024x256_0_8_0_0 inb_S1x16x64x1536_S1x1x64x256_0_11_0_1024,
    p 4 (by decide) 10 (by decide) slices_S1024x256_o640_0_S64x256 inb_S1x9x1024x512_S1x1x1024x256_0_8_0_0 inb_S1x16x64x1536_S1x1x64x256_0_10_0_1024,
    p 4 (by decide) 9 (by decide) slices_S1024x256_o576_0_S64x256 inb_S1x9x1024x512_S1x1x1024x256_0_8_0_0 inb_S1x16x64x1536_S1x1x64x256_0_9_0_1024,
    p 4 (by decide) 8 (by decide) slices_S1024x256_o512_0_S64x256 inb_S1x9x1024x512_S1x1x1024x256_0_8_0_0 inb_S1x16x64x1536_S1x1x64x256_0_8_0_1024,
    p 4 (by decide) 7 (by decide) slices_S1024x256_o448_0_S64x256 inb_S1x9x1024x512_S1x1x1024x256_0_8_0_0 inb_S1x16x64x1536_S1x1x64x256_0_7_0_1024,
    p 4 (by decide) 6 (by decide) slices_S1024x256_o384_0_S64x256 inb_S1x9x1024x512_S1x1x1024x256_0_8_0_0 inb_S1x16x64x1536_S1x1x64x256_0_6_0_1024,
    p 4 (by decide) 5 (by decide) slices_S1024x256_o320_0_S64x256 inb_S1x9x1024x512_S1x1x1024x256_0_8_0_0 inb_S1x16x64x1536_S1x1x64x256_0_5_0_1024,
    p 4 (by decide) 4 (by decide) slices_S1024x256_o256_0_S64x256 inb_S1x9x1024x512_S1x1x1024x256_0_8_0_0 inb_S1x16x64x1536_S1x1x64x256_0_4_0_1024,
    p 4 (by decide) 3 (by decide) slices_S1024x256_o192_0_S64x256 inb_S1x9x1024x512_S1x1x1024x256_0_8_0_0 inb_S1x16x64x1536_S1x1x64x256_0_3_0_1024,
    p 4 (by decide) 2 (by decide) slices_S1024x256_o128_0_S64x256 inb_S1x9x1024x512_S1x1x1024x256_0_8_0_0 inb_S1x16x64x1536_S1x1x64x256_0_2_0_1024,
    p 4 (by decide) 1 (by decide) slices_S1024x256_o64_0_S64x256 inb_S1x9x1024x512_S1x1x1024x256_0_8_0_0 inb_S1x16x64x1536_S1x1x64x256_0_1_0_1024,
    p 4 (by decide) 0 (by decide) slices_S1024x256_o0_0_S64x256 inb_S1x9x1024x512_S1x1x1024x256_0_8_0_0 inb_S1x16x64x1536_S1x1x64x256_0_0_0_1024,
    n 3 (by decide) 15 (by decide) slices_S1024x256_o960_0_S64x256 inb_S1x9x1024x512_S1x1x1024x256_0_7_0_256 inb_S1x4608_S1x256_0_3840 inb_S1x16x64x1536_S1x1x64x256_0_15_0_768,
    n 3 (by decide) 14 (by decide) slices_S1024x256_o896_0_S64x256 inb_S1x9x1024x512_S1x1x1024x256_0_7_0_256 inb_S1x4608_S1x256_0_3840 inb_S1x16x64x1536_S1x1x64x256_0_14_0_768,
    n 3 (by decide) 13 (by decide) slices_S1024x256_o832_0_S64x256 inb_S1x9x1024x512_S1x1x1024x256_0_7_0_256 inb_S1x4608_S1x256_0_3840 inb_S1x16x64x1536_S1x1x64x256_0_13_0_768,
    n 3 (by decide) 12 (by decide) slices_S1024x256_o768_0_S64x256 inb_S1x9x1024x512_S1x1x1024x256_0_7_0_256 inb_S1x4608_S1x256_0_3840 inb_S1x16x64x1536_S1x1x64x256_0_12_0_768,
    n 3 (by decide) 11 (by decide) slices_S1024x256_o704_0_S64x256 inb_S1x9x1024x512_S1x1x1024x256_0_7_0_256 inb_S1x4608_S1x256_0_3840 inb_S1x16x64x1536_S1x1x64x256_0_11_0_768,
    n 3 (by decide) 10 (by decide) slices_S1024x256_o640_0_S64x256 inb_S1x9x1024x512_S1x1x1024x256_0_7_0_256 inb_S1x4608_S1x256_0_3840 inb_S1x16x64x1536_S1x1x64x256_0_10_0_768,
    n 3 (by decide) 9 (by decide) slices_S1024x256_o576_0_S64x256 inb_S1x9x1024x512_S1x1x1024x256_0_7_0_256 inb_S1x4608_S1x256_0_3840 inb_S1x16x64x1536_S1x1x64x256_0_9_0_768,
    n 3 (by decide) 8 (by decide) slices_S1024x256_o512_0_S64x256 inb_S1x9x1024x512_S1x1x1024x256_0_7_0_256 inb_S1x4608_S1x256_0_3840 inb_S1x16x64x1536_S1x1x64x256_0_8_0_768,
    n 3 (by decide) 7 (by decide) slices_S1024x256_o448_0_S64x256 inb_S1x9x1024x512_S1x1x1024x256_0_7_0_256 inb_S1x4608_S1x256_0_3840 inb_S1x16x64x1536_S1x1x64x256_0_7_0_768,
    n 3 (by decide) 6 (by decide) slices_S1024x256_o384_0_S64x256 inb_S1x9x1024x512_S1x1x1024x256_0_7_0_256 inb_S1x4608_S1x256_0_3840 inb_S1x16x64x1536_S1x1x64x256_0_6_0_768,
    n 3 (by decide) 5 (by decide) slices_S1024x256_o320_0_S64x256 inb_S1x9x1024x512_S1x1x1024x256_0_7_0_256 inb_S1x4608_S1x256_0_3840 inb_S1x16x64x1536_S1x1x64x256_0_5_0_768,
    n 3 (by decide) 4 (by decide) slices_S1024x256_o256_0_S64x256 inb_S1x9x1024x512_S1x1x1024x256_0_7_0_256 inb_S1x4608_S1x256_0_3840 inb_S1x16x64x1536_S1x1x64x256_0_4_0_768,
    n 3 (by decide) 3 (by decide) slices_S1024x256_o192_0_S64x256 inb_S1x9x1024x512_S1x1x1024x256_0_7_0_256 inb_S1x4608_S1x256_0_3840 inb_S1x16x64x1536_S1x1x64x256_0_3_0_768,
    n 3 (by decide) 2 (by decide) slices_S1024x256_o128_0_S64x256 inb_S1x9x1024x512_S1x1x1024x256_0_7_0_256 inb_S1x4608_S1x256_0_3840 inb_S1x16x64x1536_S1x1x64x256_0_2_0_768,
    n 3 (by decide) 1 (by decide) slices_S1024x256_o64_0_S64x256 inb_S1x9x1024x512_S1x1x1024x256_0_7_0_256 inb_S1x4608_S1x256_0_3840 inb_S1x16x64x1536_S1x1x64x256_0_1_0_768,
    n 3 (by decide) 0 (by decide) slices_S1024x256_o0_0_S64x256 inb_S1x9x1024x512_S1x1x1024x256_0_7_0_256 inb_S1x4608_S1x256_0_3840 inb_S1x16x64x1536_S1x1x64x256_0_0_0_768,
    n 2 (by decide) 15 (by decide) slices_S1024x256_o960_0_S64x256 inb_S1x9x1024x512_S1x1x1024x256_0_7_0_0 inb_S1x4608_S1x256_0_3584 inb_S1x16x64x1536_S1x1x64x256_0_15_0_512,
    n 2 (by decide) 14 (by decide) slices_S1024x256_o896_0_S64x256 inb_S1x9x1024x512_S1x1x1024x256_0_7_0_0 inb_S1x4608_S1x256_0_3584 inb_S1x16x64x1536_S1x1x64x256_0_14_0_512,
    n 2 (by decide) 13 (by decide) slices_S1024x256_o832_0_S64x256 inb_S1x9x1024x512_S1x1x1024x256_0_7_0_0 inb_S1x4608_S1x256_0_3584 inb_S1x16x64x1536_S1x1x64x256_0_13_0_512,
    n 2 (by decide) 12 (by decide) slices_S1024x256_o768_0_S64x256 inb_S1x9x1024x512_S1x1x1024x256_0_7_0_0 inb_S1x4608_S1x256_0_3584 inb_S1x16x64x1536_S1x1x64x256_0_12_0_512,
    n 2 (by decide) 11 (by decide) slices_S1024x256_o704_0_S64x256 inb_S1x9x1024x512_S1x1x1024x256_0_7_0_0 inb_S1x4608_S1x256_0_3584 inb_S1x16x64x1536_S1x1x64x256_0_11_0_512,
    n 2 (by decide) 10 (by decide) slices_S1024x256_o640_0_S64x256 inb_S1x9x1024x512_S1x1x1024x256_0_7_0_0 inb_S1x4608_S1x256_0_3584 inb_S1x16x64x1536_S1x1x64x256_0_10_0_512,
    n 2 (by decide) 9 (by decide) slices_S1024x256_o576_0_S64x256 inb_S1x9x1024x512_S1x1x1024x256_0_7_0_0 inb_S1x4608_S1x256_0_3584 inb_S1x16x64x1536_S1x1x64x256_0_9_0_512,
    n 2 (by decide) 8 (by decide) slices_S1024x256_o512_0_S64x256 inb_S1x9x1024x512_S1x1x1024x256_0_7_0_0 inb_S1x4608_S1x256_0_3584 inb_S1x16x64x1536_S1x1x64x256_0_8_0_512,
    n 2 (by decide) 7 (by decide) slices_S1024x256_o448_0_S64x256 inb_S1x9x1024x512_S1x1x1024x256_0_7_0_0 inb_S1x4608_S1x256_0_3584 inb_S1x16x64x1536_S1x1x64x256_0_7_0_512,
    n 2 (by decide) 6 (by decide) slices_S1024x256_o384_0_S64x256 inb_S1x9x1024x512_S1x1x1024x256_0_7_0_0 inb_S1x4608_S1x256_0_3584 inb_S1x16x64x1536_S1x1x64x256_0_6_0_512,
    n 2 (by decide) 5 (by decide) slices_S1024x256_o320_0_S64x256 inb_S1x9x1024x512_S1x1x1024x256_0_7_0_0 inb_S1x4608_S1x256_0_3584 inb_S1x16x64x1536_S1x1x64x256_0_5_0_512,
    n 2 (by decide) 4 (by decide) slices_S1024x256_o256_0_S64x256 inb_S1x9x1024x512_S1x1x1024x256_0_7_0_0 inb_S1x4608_S1x256_0_3584 inb_S1x16x64x1536_S1x1x64x256_0_4_0_512,
    n 2 (by decide) 3 (by decide) slices_S1024x256_o192_0_S64x256 inb_S1x9x1024x512_S1x1x1024x256_0_7_0_0 inb_S1x4608_S1x256_0_3584 inb_S1x16x64x1536_S1x1x64x256_0_3_0_512,
    n 2 (by decide) 2 (by decide) slices_S1024x256_o128_0_S64x256 inb_S1x9x1024x512_S1x1x1024x256_0_7_0_0 inb_S1x4608_S1x256_0_3584 inb_S1x16x64x1536_S1x1x64x256_0_2_0_512,
    n 2 (by decide) 1 (by decide) slices_S1024x256_o64_0_S64x256 inb_S1x9x1024x512_S1x1x1024x256_0_7_0_0 inb_S1x4608_S1x256_0_3584 inb_S1x16x64x1536_S1x1x64x256_0_1_0_512,
    n 2 (by decide) 0 (by decide) slices_S1024x256_o0_0_S64x256 inb_S1x9x1024x512_S1x1x1024x256_0_7_0_0 inb_S1x4608_S1x256_0_3584 inb_S1x16x64x1536_S1x1x64x256_0_0_0_512,
    n 1 (by decide) 15 (by decide) slices_S1024x256_o960_0_S64x256 inb_S1x9x1024x512_S1x1x1024x256_0_6_0_256 inb_S1x4608_S1x256_0_3328 inb_S1x16x64x1536_S1x1x64x256_0_15_0_256,
    n 1 (by decide) 14 (by decide) slices_S1024x256_o896_0_S64x256 inb_S1x9x1024x512_S1x1x1024x256_0_6_0_256 inb_S1x4608_S1x256_0_3328 inb_S1x16x64x1536_S1x1x64x256_0_14_0_256,
    n 1 (by decide) 13 (by decide) slices_S1024x256_o832_0_S64x256 inb_S1x9x1024x512_S1x1x1024x256_0_6_0_256 inb_S1x4608_S1x256_0_3328 inb_S1x16x64x1536_S1x1x64x256_0_13_0_256,
    n 1 (by decide) 12 (by decide) slices_S1024x256_o768_0_S64x256 inb_S1x9x1024x512_S1x1x1024x256_0_6_0_256 inb_S1x4608_S1x256_0_3328 inb_S1x16x64x1536_S1x1x64x256_0_12_0_256,
    n 1 (by decide) 11 (by decide) slices_S1024x256_o704_0_S64x256 inb_S1x9x1024x512_S1x1x1024x256_0_6_0_256 inb_S1x4608_S1x256_0_3328 inb_S1x16x64x1536_S1x1x64x256_0_11_0_256,
    n 1 (by decide) 10 (by decide) slices_S1024x256_o640_0_S64x256 inb_S1x9x1024x512_S1x1x1024x256_0_6_0_256 inb_S1x4608_S1x256_0_3328 inb_S1x16x64x1536_S1x1x64x256_0_10_0_256,
    n 1 (by decide) 9 (by decide) slices_S1024x256_o576_0_S64x256 inb_S1x9x1024x512_S1x1x1024x256_0_6_0_256 inb_S1x4608_S1x256_0_3328 inb_S1x16x64x1536_S1x1x64x256_0_9_0_256,
    n 1 (by decide) 8 (by decide) slices_S1024x256_o512_0_S64x256 inb_S1x9x1024x512_S1x1x1024x256_0_6_0_256 inb_S1x4608_S1x256_0_3328 inb_S1x16x64x1536_S1x1x64x256_0_8_0_256,
    n 1 (by decide) 7 (by decide) slices_S1024x256_o448_0_S64x256 inb_S1x9x1024x512_S1x1x1024x256_0_6_0_256 inb_S1x4608_S1x256_0_3328 inb_S1x16x64x1536_S1x1x64x256_0_7_0_256,
    n 1 (by decide) 6 (by decide) slices_S1024x256_o384_0_S64x256 inb_S1x9x1024x512_S1x1x1024x256_0_6_0_256 inb_S1x4608_S1x256_0_3328 inb_S1x16x64x1536_S1x1x64x256_0_6_0_256,
    n 1 (by decide) 5 (by decide) slices_S1024x256_o320_0_S64x256 inb_S1x9x1024x512_S1x1x1024x256_0_6_0_256 inb_S1x4608_S1x256_0_3328 inb_S1x16x64x1536_S1x1x64x256_0_5_0_256,
    n 1 (by decide) 4 (by decide) slices_S1024x256_o256_0_S64x256 inb_S1x9x1024x512_S1x1x1024x256_0_6_0_256 inb_S1x4608_S1x256_0_3328 inb_S1x16x64x1536_S1x1x64x256_0_4_0_256,
    n 1 (by decide) 3 (by decide) slices_S1024x256_o192_0_S64x256 inb_S1x9x1024x512_S1x1x1024x256_0_6_0_256 inb_S1x4608_S1x256_0_3328 inb_S1x16x64x1536_S1x1x64x256_0_3_0_256,
    n 1 (by decide) 2 (by decide) slices_S1024x256_o128_0_S64x256 inb_S1x9x1024x512_S1x1x1024x256_0_6_0_256 inb_S1x4608_S1x256_0_3328 inb_S1x16x64x1536_S1x1x64x256_0_2_0_256,
    n 1 (by decide) 1 (by decide) slices_S1024x256_o64_0_S64x256 inb_S1x9x1024x512_S1x1x1024x256_0_6_0_256 inb_S1x4608_S1x256_0_3328 inb_S1x16x64x1536_S1x1x64x256_0_1_0_256,
    n 1 (by decide) 0 (by decide) slices_S1024x256_o0_0_S64x256 inb_S1x9x1024x512_S1x1x1024x256_0_6_0_256 inb_S1x4608_S1x256_0_3328 inb_S1x16x64x1536_S1x1x64x256_0_0_0_256,
    n 0 (by decide) 15 (by decide) slices_S1024x256_o960_0_S64x256 inb_S1x9x1024x512_S1x1x1024x256_0_6_0_0 inb_S1x4608_S1x256_0_3072 inb_S1x16x64x1536_S1x1x64x256_0_15_0_0,
    n 0 (by decide) 14 (by decide) slices_S1024x256_o896_0_S64x256 inb_S1x9x1024x512_S1x1x1024x256_0_6_0_0 inb_S1x4608_S1x256_0_3072 inb_S1x16x64x1536_S1x1x64x256_0_14_0_0,
    n 0 (by decide) 13 (by decide) slices_S1024x256_o832_0_S64x256 inb_S1x9x1024x512_S1x1x1024x256_0_6_0_0 inb_S1x4608_S1x256_0_3072 inb_S1x16x64x1536_S1x1x64x256_0_13_0_0,
    n 0 (by decide) 12 (by decide) slices_S1024x256_o768_0_S64x256 inb_S1x9x1024x512_S1x1x1024x256_0_6_0_0 inb_S1x4608_S1x256_0_3072 inb_S1x16x64x1536_S1x1x64x256_0_12_0_0,
    n 0 (by decide) 11 (by decide) slices_S1024x256_o704_0_S64x256 inb_S1x9x1024x512_S1x1x1024x256_0_6_0_0 inb_S1x4608_S1x256_0_3072 inb_S1x16x64x1536_S1x1x64x256_0_11_0_0,
    n 0 (by decide) 10 (by decide) slices_S1024x256_o640_0_S64x256 inb_S1x9x1024x512_S1x1x1024x256_0_6_0_0 inb_S1x4608_S1x256_0_3072 inb_S1x16x64x1536_S1x1x64x256_0_10_0_0,
    n 0 (by decide) 9 (by decide) slices_S1024x256_o576_0_S64x256 inb_S1x9x1024x512_S1x1x1024x256_0_6_0_0 inb_S1x4608_S1x256_0_3072 inb_S1x16x64x1536_S1x1x64x256_0_9_0_0,
    n 0 (by decide) 8 (by decide) slices_S1024x256_o512_0_S64x256 inb_S1x9x1024x512_S1x1x1024x256_0_6_0_0 inb_S1x4608_S1x256_0_3072 inb_S1x16x64x1536_S1x1x64x256_0_8_0_0,
    n 0 (by decide) 7 (by decide) slices_S1024x256_o448_0_S64x256 inb_S1x9x1024x512_S1x1x1024x256_0_6_0_0 inb_S1x4608_S1x256_0_3072 inb_S1x16x64x1536_S1x1x64x256_0_7_0_0,
    n 0 (by decide) 6 (by decide) slices_S1024x256_o384_0_S64x256 inb_S1x9x1024x512_S1x1x1024x256_0_6_0_0 inb_S1x4608_S1x256_0_3072 inb_S1x16x64x1536_S1x1x64x256_0_6_0_0,
    n 0 (by decide) 5 (by decide) slices_S1024x256_o320_0_S64x256 inb_S1x9x1024x512_S1x1x1024x256_0_6_0_0 inb_S1x4608_S1x256_0_3072 inb_S1x16x64x1536_S1x1x64x256_0_5_0_0,
    n 0 (by decide) 4 (by decide) slices_S1024x256_o256_0_S64x256 inb_S1x9x1024x512_S1x1x1024x256_0_6_0_0 inb_S1x4608_S1x256_0_3072 inb_S1x16x64x1536_S1x1x64x256_0_4_0_0,
    n 0 (by decide) 3 (by decide) slices_S1024x256_o192_0_S64x256 inb_S1x9x1024x512_S1x1x1024x256_0_6_0_0 inb_S1x4608_S1x256_0_3072 inb_S1x16x64x1536_S1x1x64x256_0_3_0_0,
    n 0 (by decide) 2 (by decide) slices_S1024x256_o128_0_S64x256 inb_S1x9x1024x512_S1x1x1024x256_0_6_0_0 inb_S1x4608_S1x256_0_3072 inb_S1x16x64x1536_S1x1x64x256_0_2_0_0,
    n 0 (by decide) 1 (by decide) slices_S1024x256_o64_0_S64x256 inb_S1x9x1024x512_S1x1x1024x256_0_6_0_0 inb_S1x4608_S1x256_0_3072 inb_S1x16x64x1536_S1x1x64x256_0_1_0_0,
    n 0 (by decide) 0 (by decide) slices_S1024x256_o0_0_S64x256 inb_S1x9x1024x512_S1x1x1024x256_0_6_0_0 inb_S1x4608_S1x256_0_3072 inb_S1x16x64x1536_S1x1x64x256_0_0_0_0,
    trivial⟩

end Cert.QkvBody

end
-- ==== Proof.QkvBlocks.lean ====
/-
  THE PROJECTION CALL, its windows: where each block lies, and each block read as an element of an argument.
-/
module

public import proofs.«01_k».proof.Proof.Gen.KernelQkvIdeal.Frame
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvBody

open Cert.KernelQkvIdeal Cert.KernelQkvIdeal.Gen

/-- Where each window's block lies at every grid point. -/
theorem places : ∀ t : Fin grid0.N,
    (cc0_transform_0 (grid0.coords t) 0 = t.val / 4 ∧ cc0_transform_0 (grid0.coords t) 1 = t.val % 4 ∧ cc0_transform_0 (grid0.coords t) 2 = 0)
    ∧ (cc0_transform_1 (grid0.coords t) 0 = 0 ∧ cc0_transform_1 (grid0.coords t) 1 = 0)
    ∧ (cc0_transform_2 (grid0.coords t) 0 = 3 ∧ cc0_transform_2 (grid0.coords t) 1 = 1 ∧ cc0_transform_2 (grid0.coords t) 2 = 0 ∧ cc0_transform_2 (grid0.coords t) 3 = 0)
    ∧ (cc0_transform_3 (grid0.coords t) 0 = 3 ∧ cc0_transform_3 (grid0.coords t) 1 = 0 ∧ cc0_transform_3 (grid0.coords t) 2 = 0 ∧ cc0_transform_3 (grid0.coords t) 3 = 0)
    ∧ (cc0_transform_4 (grid0.coords t) 0 = 3 ∧ cc0_transform_4 (grid0.coords t) 1 = 0 ∧ cc0_transform_4 (grid0.coords t) 2 = 0 ∧ cc0_transform_4 (grid0.coords t) 3 = 0)
    ∧ (cc0_transform_5 (grid0.coords t) 0 = 0 ∧ cc0_transform_5 (grid0.coords t) 1 = 0)
    ∧ (cc0_transform_6 (grid0.coords t) 0 = t.val / 4 ∧ cc0_transform_6 (grid0.coords t) 1 = t.val % 4 ∧ cc0_transform_6 (grid0.coords t) 2 = 0)
    ∧ (cc0_transform_7 (grid0.coords t) 0 = t.val / 4 ∧ cc0_transform_7 (grid0.coords t) 1 = 0 ∧ cc0_transform_7 (grid0.coords t) 2 = t.val % 4 ∧ cc0_transform_7 (grid0.coords t) 3 = 0)
    ∧ (cc0_transform_8 (grid0.coords t) 0 = t.val / 4 ∧ cc0_transform_8 (grid0.coords t) 1 = 0 ∧ cc0_transform_8 (grid0.coords t) 2 = t.val % 4 ∧ cc0_transform_8 (grid0.coords t) 3 = 0)
    ∧ (cc0_transform_9 (grid0.coords t) 0 = t.val / 4 ∧ cc0_transform_9 (grid0.coords t) 1 = 0 ∧ cc0_transform_9 (grid0.coords t) 2 = t.val % 4 ∧ cc0_transform_9 (grid0.coords t) 3 = 0)
    ∧ k0_off1 (grid0.coords t) = ![0, 0, t.val / 4, 0] := by
  decide +kernel

variable (m : (ℓ : Loc nD τ sig) → Buf (Elt Ideal) ℓ)

/-! ## What the host prepared, read at an index -/

theorem entry_mods (c : Dev nD) (a : Fin 4) (e : Fin 6) (b : Fin 8) (k : Fin 1024) :
    (V m c main_v1 : FVec Ideal S4x6x8x1024 .f32) (ix4 a e b k)
      = (m ((c : Thread nD τ).loc main_arg1) : FVec Ideal S4x8x6144 .f32) (ix3 a b ⟨e.val * 1024 + k.val, by omega⟩) := by
  entry_read
  pointwise

theorem entry_norm (c : Dev nD) (z : Fin 1) (k : Fin 1024) :
    (V m c main_v20 : FVec Ideal S1x1024 .f32) (ix2 z k)
      = (m ((c : Thread nD τ).loc main_arg2) : FVec Ideal S4x1024 .f32) (ix2 3 k) := by
  entry_read
  pointwise

/-- The weights of the columns: q's with the scale of the scores in them, k's, and ones for v. -/
def headW (x4 x5 : FVec Ideal S4x128 .f32) (n : Fin 4608) : EReal :=
  if n.val % 1536 < 512 then x4 (ix2 3 ⟨n.val % 128, by omega⟩) * Ideal.ofBits FTy.f32 0x3DB504F3#32
  else if n.val % 1536 < 1024 then x5 (ix2 3 ⟨n.val % 128, by omega⟩)
  else 1

/-- A row of 128 weights once per head. -/
def perHead (x : FVec Ideal S4x128 .f32) : FVec Ideal S4x512 .f32 :=
  shapeCast S4x512 (broadcastInDim S1x4x4x128 ![0, 1, 2, 3] bcast_S1x4x1x128_S1x4x4x128_0_1_2_3
    (shapeCast S1x4x1x128 x shapeCasts_S4x128_S1x4x1x128)) shapeCasts_S1x4x4x128_S4x512

def scaled (x4 : FVec Ideal S4x128 .f32) : FVec Ideal S4x128 .f32 :=
  mulf x4 (broadcastInDim S4x128 ![] bcast_S_S4x128 (constant (F := Ideal) S_ .f32 0x3DB504F3#32))

def onesRow : FVec Ideal S4x512 .f32 := broadcastInDim S4x512 ![] bcast_S_S4x512 (constant (F := Ideal) S_ .f32 0x3F800000#32)

/-- The weights of a group's columns. -/
def group (x4 x5 : FVec Ideal S4x128 .f32) : FVec Ideal S4x1536 .f32 :=
  concatenate S4x1536 1 [⟨S4x512, perHead (scaled x4)⟩, ⟨S4x512, perHead x5⟩, ⟨S4x512, onesRow⟩] concatenates_S4x512_S4x512_S4x512_S4x1536_d1

def heads (y : FVec Ideal S4x1536 .f32) : FVec Ideal S1x4608 .f32 :=
  shapeCast S1x4608 (extractStridedSlice S1x1x4608 ![3, 0, 0] (broadcastInDim S4x1x4608 ![0, 2] bcast_S4x4608_S4x1x4608_0_2
    (shapeCast S4x4608 (broadcastInDim S1x4x3x1536 ![0, 1, 2, 3] bcast_S1x4x1x1536_S1x4x3x1536_0_1_2_3
      (shapeCast S1x4x1x1536 y shapeCasts_S4x1536_S1x4x1x1536)) shapeCasts_S1x4x3x1536_S4x4608)) slices_S4x1x4608_S1x1x4608_3_0_0)
    shapeCasts_S1x1x4608_S1x4608

theorem perHead_apply (x : FVec Ideal S4x128 .f32) (z : Fin 4) (k : Fin 512) : perHead x (ix2 z k) = x (ix2 z ⟨k.val % 128, by omega⟩) := by
  pointwise [perHead]

theorem group_q (x4 x5 : FVec Ideal S4x128 .f32) (z : Fin 4) (k : Fin 512) :
    group x4 x5 (ix2 z ⟨k.val, by omega⟩) = x4 (ix2 z ⟨k.val % 128, by omega⟩) * Ideal.ofBits FTy.f32 0x3DB504F3#32 := by
  refine Eq.trans (b := perHead (scaled x4) (ix2 z k)) ?_ ((perHead_apply _ z k).trans ?_)
  · pointwise [group]
  · pointwise [scaled]
theorem group_k (x4 x5 : FVec Ideal S4x128 .f32) (z : Fin 4) (k : Fin 512) :
    group x4 x5 (ix2 z ⟨512 + k.val, by omega⟩) = x5 (ix2 z ⟨k.val % 128, by omega⟩) := by
  refine Eq.trans (b := perHead x5 (ix2 z k)) ?_ (perHead_apply _ z k)
  pointwise [group]
theorem group_v (x4 x5 : FVec Ideal S4x128 .f32) (z : Fin 4) (k : Fin 512) : group x4 x5 (ix2 z ⟨1024 + k.val, by omega⟩) = 1 := by
  pointwise [group, onesRow]
  rw [dif_neg (by omega), dif_neg (by omega)]

theorem heads_apply (y : FVec Ideal S4x1536 .f32) (z : Fin 1) (n : Fin 4608) : heads y (ix2 z n) = y (ix2 3 ⟨n.val % 1536, by omega⟩) := by
  pointwise [heads]

set_option maxHeartbeats 1600000 in
theorem heads_eq (c : Dev nD) : (V m c main_v19 : FVec Ideal S1x4608 .f32)
    = heads (group (m ((c : Thread nD τ).loc main_arg4)) (m ((c : Thread nD τ).loc main_arg5))) := by
  show StableHlo.after hostOps0 _ _ = _
  after_results_simp <;> (try dsimp only [Matrix.cons_val]) <;> (try after_results_simp) <;> rfl

theorem entry_heads (c : Dev nD) (z : Fin 1) (n : Fin 4608) :
    (V m c main_v19 : FVec Ideal S1x4608 .f32) (ix2 z n)
      = headW (m ((c : Thread nD τ).loc main_arg4)) (m ((c : Thread nD τ).loc main_arg5)) n := by
  rw [heads_eq, heads_apply]
  unfold headW
  by_cases h1 : n.val % 1536 < 512
  · rw [if_pos h1]
    refine (group_q _ _ 3 ⟨n.val % 1536, h1⟩).trans ?_
    congr 3; exact Fin.ext (by simp only; omega)
  rw [if_neg h1]
  by_cases h2 : n.val % 1536 < 1024
  · rw [if_pos h2]
    refine Eq.trans (congrArg _ (congrArg (ix2 3) (Fin.ext (by simp only; omega)))) ((group_k _ _ 3 ⟨n.val % 1536 - 512, by omega⟩).trans ?_)
    congr 2; exact Fin.ext (by simp only; omega)
  · rw [if_neg h2]
    exact Eq.trans (congrArg _ (congrArg (ix2 3) (Fin.ext (by simp only; omega)))) (group_v _ _ 3 ⟨n.val % 1536 - 1024, by omega⟩)

/-! ## The blocks -/

/-- Window 0's block at an index, as an element of its array. -/
theorem blk0 (c : Dev nD) (t : Fin cfg0.N) (j0 : Fin 1) (j1 : Fin 1024) (j2 : Fin 1024) (i0 : Fin 4) (i1 : Fin 4096) (i2 : Fin 1024)
    (h0 : i0.val = cc0_transform_0 (grid0.coords t) 0 * 1 + j0.val)
    (h1 : i1.val = cc0_transform_0 (grid0.coords t) 1 * 1024 + j1.val)
    (h2 : i2.val = cc0_transform_0 (grid0.coords t) 2 * 1024 + j2.val) :
    (iblk m c 0 t : FVec Ideal S1x1024x1024 .f32) (ix3 j0 j1 j2)
      = (m ((c : Thread nD τ).loc main_arg0) : FVec Ideal S4x4096x1024 .f32) (ix3 i0 i1 i2) := by
  unfold iblk
  rw [View.read_apply]
  show V m c main_arg0 _ = _
  rw [V_main_arg0]
  congr 1
  funext a
  apply Fin.ext
  match a with
  | ⟨0, _⟩ => refine Eq.trans ?_ h0.symm; show cc0_transform_0 (grid0.coords t) 0 * 1 + 1 * j0.val = _; omega
  | ⟨1, _⟩ => refine Eq.trans ?_ h1.symm; show cc0_transform_0 (grid0.coords t) 1 * 1024 + 1 * j1.val = _; omega
  | ⟨2, _⟩ => refine Eq.trans ?_ h2.symm; show cc0_transform_0 (grid0.coords t) 2 * 1024 + 1 * j2.val = _; omega

/-- Window 1's block at an index, as an element of its array. -/
theorem blk1 (c : Dev nD) (t : Fin cfg0.N) (j0 : Fin 1) (j1 : Fin 1024) (i0 : Fin 1) (i1 : Fin 1024)
    (h0 : i0.val = cc0_transform_1 (grid0.coords t) 0 * 1 + j0.val)
    (h1 : i1.val = cc0_transform_1 (grid0.coords t) 1 * 1024 + j1.val) :
    (iblk m c 1 t : FVec Ideal S1x1024 .f32) (ix2 j0 j1)
      = (V m c main_v20 : FVec Ideal S1x1024 .f32) (ix2 i0 i1) := by
  unfold iblk
  rw [View.read_apply]
  show V m c main_v20 _ = _
  congr 1
  funext a
  apply Fin.ext
  match a with
  | ⟨0, _⟩ => refine Eq.trans ?_ h0.symm; show cc0_transform_1 (grid0.coords t) 0 * 1 + 1 * j0.val = _; omega
  | ⟨1, _⟩ => refine Eq.trans ?_ h1.symm; show cc0_transform_1 (grid0.coords t) 1 * 1024 + 1 * j1.val = _; omega

/-- Window 2's block at an index, as an element of its array. -/
theorem blk2 (c : Dev nD) (t : Fin cfg0.N) (j0 : Fin 1) (j1 : Fin 1) (j2 : Fin 8) (j3 : Fin 1024) (i0 : Fin 4) (i1 : Fin 6) (i2 : Fin 8) (i3 : Fin 1024)
    (h0 : i0.val = cc0_transform_2 (grid0.coords t) 0 * 1 + j0.val)
    (h1 : i1.val = cc0_transform_2 (grid0.coords t) 1 * 1 + j1.val)
    (h2 : i2.val = cc0_transform_2 (grid0.coords t) 2 * 8 + j2.val)
    (h3 : i3.val = cc0_transform_2 (grid0.coords t) 3 * 1024 + j3.val) :
    (iblk m c 2 t : FVec Ideal S1x1x8x1024 .f32) (ix4 j0 j1 j2 j3)
      = (V m c main_v1 : FVec Ideal S4x6x8x1024 .f32) (ix4 i0 i1 i2 i3) := by
  unfold iblk
  rw [View.read_apply]
  show V m c main_v1 _ = _
  congr 1
  funext a
  apply Fin.ext
  match a with
  | ⟨0, _⟩ => refine Eq.trans ?_ h0.symm; show cc0_transform_2 (grid0.coords t) 0 * 1 + 1 * j0.val = _; omega
  | ⟨1, _⟩ => refine Eq.trans ?_ h1.symm; show cc0_transform_2 (grid0.coords t) 1 * 1 + 1 * j1.val = _; omega
  | ⟨2, _⟩ => refine Eq.trans ?_ h2.symm; show cc0_transform_2 (grid0.coords t) 2 * 8 + 1 * j2.val = _; omega
  | ⟨3, _⟩ => refine Eq.trans ?_ h3.symm; show cc0_transform_2 (grid0.coords t) 3 * 1024 + 1 * j3.val = _; omega

/-- Window 3's block at an index, as an element of its array. -/
theorem blk3 (c : Dev nD) (t : Fin cfg0.N) (j0 : Fin 1) (j1 : Fin 1) (j2 : Fin 8) (j3 : Fin 1024) (i0 : Fin 4) (i1 : Fin 6) (i2 : Fin 8) (i3 : Fin 1024)
    (h0 : i0.val = cc0_transform_3 (grid0.coords t) 0 * 1 + j0.val)
    (h1 : i1.val = cc0_transform_3 (grid0.coords t) 1 * 1 + j1.val)
    (h2 : i2.val = cc0_transform_3 (grid0.coords t) 2 * 8 + j2.val)
    (h3 : i3.val = cc0_transform_3 (grid0.coords t) 3 * 1024 + j3.val) :
    (iblk m c 3 t : FVec Ideal S1x1x8x1024 .f32) (ix4 j0 j1 j2 j3)
      = (V m c main_v1 : FVec Ideal S4x6x8x1024 .f32) (ix4 i0 i1 i2 i3) := by
  unfold iblk
  rw [View.read_apply]
  show V m c main_v1 _ = _
  congr 1
  funext a
  apply Fin.ext
  match a with
  | ⟨0, _⟩ => refine Eq.trans ?_ h0.symm; show cc0_transform_3 (grid0.coords t) 0 * 1 + 1 * j0.val = _; omega
  | ⟨1, _⟩ => refine Eq.trans ?_ h1.symm; show cc0_transform_3 (grid0.coords t) 1 * 1 + 1 * j1.val = _; omega
  | ⟨2, _⟩ => refine Eq.trans ?_ h2.symm; show cc0_transform_3 (grid0.coords t) 2 * 8 + 1 * j2.val = _; omega
  | ⟨3, _⟩ => refine Eq.trans ?_ h3.symm; show cc0_transform_3 (grid0.coords t) 3 * 1024 + 1 * j3.val = _; omega

/-- Window 4's block at an index, as an element of its array. -/
theorem blk4 (c : Dev nD) (t : Fin cfg0.N) (j0 : Fin 1) (j1 : Fin 9) (j2 : Fin 1024) (j3 : Fin 512) (i0 : Fin 4) (i1 : Fin 9) (i2 : Fin 1024) (i3 : Fin 512)
    (h0 : i0.val = cc0_transform_4 (grid0.coords t) 0 * 1 + j0.val)
    (h1 : i1.val = cc0_transform_4 (grid0.coords t) 1 * 9 + j1.val)
    (h2 : i2.val = cc0_transform_4 (grid0.coords t) 2 * 1024 + j2.val)
    (h3 : i3.val = cc0_transform_4 (grid0.coords t) 3 * 512 + j3.val) :
    (iblk m c 4 t : FVec Ideal S1x9x1024x512 .bf16) (ix4 j0 j1 j2 j3)
      = (m ((c : Thread nD τ).loc main_arg3) : FVec Ideal S4x9x1024x512 .bf16) (ix4 i0 i1 i2 i3) := by
  unfold iblk
  rw [View.read_apply]
  show V m c main_arg3 _ = _
  rw [V_main_arg3]
  congr 1
  funext a
  apply Fin.ext
  match a with
  | ⟨0, _⟩ => refine Eq.trans ?_ h0.symm; show cc0_transform_4 (grid0.coords t) 0 * 1 + 1 * j0.val = _; omega
  | ⟨1, _⟩ => refine Eq.trans ?_ h1.symm; show cc0_transform_4 (grid0.coords t) 1 * 9 + 1 * j1.val = _; omega
  | ⟨2, _⟩ => refine Eq.trans ?_ h2.symm; show cc0_transform_4 (grid0.coords t) 2 * 1024 + 1 * j2.val = _; omega
  | ⟨3, _⟩ => refine Eq.trans ?_ h3.symm; show cc0_transform_4 (grid0.coords t) 3 * 512 + 1 * j3.val = _; omega

/-- Window 5's block at an index, as an element of its array. -/
theorem blk5 (c : Dev nD) (t : Fin cfg0.N) (j0 : Fin 1) (j1 : Fin 4608) (i0 : Fin 1) (i1 : Fin 4608)
    (h0 : i0.val = cc0_transform_5 (grid0.coords t) 0 * 1 + j0.val)
    (h1 : i1.val = cc0_transform_5 (grid0.coords t) 1 * 4608 + j1.val) :
    (iblk m c 5 t : FVec Ideal S1x4608 .f32) (ix2 j0 j1)
      = (V m c main_v19 : FVec Ideal S1x4608 .f32) (ix2 i0 i1) := by
  unfold iblk
  rw [View.read_apply]
  show V m c main_v19 _ = _
  congr 1
  funext a
  apply Fin.ext
  match a with
  | ⟨0, _⟩ => refine Eq.trans ?_ h0.symm; show cc0_transform_5 (grid0.coords t) 0 * 1 + 1 * j0.val = _; omega
  | ⟨1, _⟩ => refine Eq.trans ?_ h1.symm; show cc0_transform_5 (grid0.coords t) 1 * 4608 + 1 * j1.val = _; omega

end Cert.QkvBody

end
-- ==== Proof.QkvBody.lean ====
/-
  THE PROJECTION CALL'S BODY, over its blocks: what the four outputs hold.
-/
module

public import proofs.«01_k».proof.Proof.QkvOutA
public import proofs.«01_k».proof.Proof.QkvOutB
public import proofs.«01_k».proof.Proof.QkvBlocks

@[expose] public section

set_option maxRecDepth 65536

noncomputable section

open Idealize.ShloMosaic Idealize.ShloMosaic.TcCoe Idealize.SL.Sem
open Idealize.ShloMosaic.Pipeline (Dat)

namespace Cert.QkvBody

open Cert.KernelQkvIdeal Cert.KernelQkvIdeal.Gen

theorem z3 : (![0, 0, 0] : Fin 3 → Nat) = fun _ => 0 := funext fun a => by fin_cases a <;> rfl
theorem z2 : (![0, 0] : Fin 2 → Nat) = fun _ => 0 := funext fun a => by fin_cases a <;> rfl

/-- The row of a modulation block that the body reads. -/
abbrev modRow (i : grid0.Coords) (x : Vec Ideal S1x1x8x1024 .f32) : Vec Ideal S1x1x1x1024 .f32 :=
  View.ld x (Rect.unit (s := S1x1x8x1024) (k0_off1 i) S1x1x1x1024.size (k0_off1_inb i))

section Rows

variable (c : Dev nD) (i : grid0.Coords) (arg2 : Memref sig .tc .vmem S1x1024x1024 .f32) (harg2 : arg2.IsWhole)
  (arg3 : Memref sig .tc .vmem S1x1024 .f32) (harg3 : arg3.IsWhole) (arg4 : Memref sig .tc .vmem S1x1x8x1024 .f32)
  (harg4 : arg4.IsWhole) (arg5 : Memref sig .tc .vmem S1x1x8x1024 .f32) (harg5 : arg5.IsWhole)
  (arg8 : Memref sig .tc .vmem S1x1024x1024 .bf16) (arg12 : Memref sig .tc .vmem S8x1024x128 .f32) (arg13 : Memref sig .tc .vmem S2x1024x1024 .bf16)
  (x0 : FVec Ideal S1x1024x1024 .f32) (x1 : FVec Ideal S1x1024 .f32) (x2 x3 : FVec Ideal S1x1x8x1024 .f32)

theorem rows_eq : rows c i arg2 harg2 arg3 harg3 arg4 harg4 arg5 harg5 x0 x1 x2 x3 = k0_pay5 (F := Ideal) x0 x1 (modRow i x2) (modRow i x3) := by
  unfold rows kernelRun0_A.sl.r
  simp only [View.readAt_eq_ld, harg2.read_unread, harg3.read_unread, harg4.read_unread, harg5.read_unread,
    View.ld_unit_zero (S := S1x1024) z2, View.ld_unit_zero (S := S1x1024x1024) z3]

/-- The rows stored: the same, with a unit axis. -/
theorem stored_apply (a : FVec Ideal S1x1024x1024 .f32) (b : FVec Ideal S1x1024 .f32) (d e : FVec Ideal S1x1x1x1024 .f32) (z : Fin 1)
    (r k : Fin 1024) : k0_pay6 (F := Ideal) a b d e (ix3 z r k) = k0_pay5 (F := Ideal) a b d e (ix2 r k) := by
  refine Eq.trans (b := shapeCast S1x1024x1024 (truncf .bf16 (k0_pay5 (F := Ideal) a b d e) bitsLt_bf16_f32) shapeCasts_S1024x1024_S1x1024x1024 (ix3 z r k)) rfl ?_
  generalize k0_pay5 (F := Ideal) a b d e = y
  pointwise

theorem first_canon (z : Fin 1) (r k : Fin 1024) : View.canon (kernelRun0_A.sl.H6_1 (F := Ideal) c i arg2 harg2 arg3 harg3 arg4 harg4 arg5 harg5 x0 x1 x2 x3) (ix3 z r k)
    = rows c i arg2 harg2 arg3 harg3 arg4 harg4 arg5 harg5 x0 x1 x2 x3 (ix2 r k) := by
  unfold kernelRun0_A.sl.H6_1
  rw [View.canon_unit_zero (S := S1x1024x1024) z3]
  exact stored_apply _ _ _ _ z r k

theorem lhs1_apply (r k : Fin 1024) : lhs1 c i arg2 harg2 arg3 harg3 arg4 harg4 arg5 harg5 arg8 x0 x1 x2 x3 (ix3 0 r k) = rows c i arg2 harg2 arg3 harg3 arg4 harg4 arg5 harg5 x0 x1 x2 x3 (ix2 r k) := by
  unfold lhs1 kernelRun0_A.sl.v1024
  unfold kernelRun0_A.sl.H6_1
  rw [View.readCov_unit_zero (S := S1x1024x1024) arg8.view z3]
  exact stored_apply _ _ _ _ 0 r k

theorem lhs4_apply (r k : Fin 1024) (R : Fin 1024) (hR : R.val = r.val % 256 * 4 + r.val / 256) :
    lhs4 c i arg2 harg2 arg3 harg3 arg4 harg4 arg5 harg5 arg12 arg13 x0 x1 x2 x3 (ix3 0 r k) = rows c i arg2 harg2 arg3 harg3 arg4 harg4 arg5 harg5 x0 x1 x2 x3 (ix2 R k) := by
  unfold lhs4 kernelRun0_A.sl.v1186
  rw [View.readCov_eq_canon']
  refine (sorted_canon c i arg2 harg2 arg3 harg3 arg4 harg4 arg5 harg5 arg12 x0 x1 x2 x3 _).trans (sorted_zero _ _ rfl R k ?_ ?_)
  · show R.val = (0 + 1 * r.val) % 256 * 4 + (0 + 1 * r.val) / 256
    omega
  · show k.val = 0 + 1 * k.val
    omega

theorem lhs16_apply (r k : Fin 1024) (R : Fin 1024) (hR : R.val = r.val % 64 * 16 + r.val / 64) :
    lhs16 c i arg2 harg2 arg3 harg3 arg4 harg4 arg5 harg5 arg12 arg13 x0 x1 x2 x3 (ix3 0 r k) = rows c i arg2 harg2 arg3 harg3 arg4 harg4 arg5 harg5 x0 x1 x2 x3 (ix2 R k) := by
  unfold lhs16 kernelRun0_A.sl.v1426
  rw [View.readCov_eq_canon']
  refine (sorted_canon c i arg2 harg2 arg3 harg3 arg4 harg4 arg5 harg5 arg12 x0 x1 x2 x3 _).trans (sorted_one _ _ (by show 1 + 1 * 0 ≠ 0; omega) R k ?_ ?_)
  · show R.val = (0 + 1 * r.val) % 64 * 16 + (0 + 1 * r.val) / 64
    omega
  · show k.val = 0 + 1 * k.val
    omega

end Rows

end Cert.QkvBody

end
-- ==== Proof.QkvOuts.lean ====
/-
  THE PROJECTION CALL'S FOUR OUTPUT BLOCKS, read as its run leaves them.
-/
module

public import proofs.«01_k».proof.Proof.QkvBody

@[expose] public section

set_option maxRecDepth 65536

noncomputable section

open Idealize.ShloMosaic Idealize.ShloMosaic.TcCoe Idealize.SL.Sem
open Idealize.ShloMosaic.Pipeline (Dat)

namespace Cert.QkvBody

open Cert.KernelQkvIdeal Cert.KernelQkvIdeal.Gen

section Outs

variable (c : Dev nD) (i : grid0.Coords)
  (arg2 : Memref sig .tc .vmem S1x1024x1024 .f32) (harg2 : arg2.IsWhole)
  (arg3 : Memref sig .tc .vmem S1x1024 .f32) (harg3 : arg3.IsWhole)
  (arg4 : Memref sig .tc .vmem S1x1x8x1024 .f32) (harg4 : arg4.IsWhole)
  (arg5 : Memref sig .tc .vmem S1x1x8x1024 .f32) (harg5 : arg5.IsWhole)
  (arg6 : Memref sig .tc .vmem S1x9x1024x512 .bf16) (harg6 : arg6.IsWhole)
  (arg7 : Memref sig .tc .vmem S1x4608 .f32) (harg7 : arg7.IsWhole)
  (arg8 : Memref sig .tc .vmem S1x1024x1024 .bf16) (harg8 : arg8.IsWhole)
  (arg9 : Memref sig .tc .vmem S1x1x1024x1536 .bf16) (harg9 : arg9.IsWhole)
  (arg10 : Memref sig .tc .vmem S1x4x256x1536 .bf16) (harg10 : arg10.IsWhole)
  (arg11 : Memref sig .tc .vmem S1x16x64x1536 .bf16) (harg11 : arg11.IsWhole)
  (arg12 : Memref sig .tc .vmem S8x1024x128 .f32) (harg12 : arg12.IsWhole)
  (arg13 : Memref sig .tc .vmem S2x1024x1024 .bf16) (harg13 : arg13.IsWhole)
  (x0 : FVec Ideal S1x1024x1024 .f32) (x1 : FVec Ideal S1x1024 .f32) (x2 x3 : FVec Ideal S1x1x8x1024 .f32)
  (x4 : FVec Ideal S1x9x1024x512 .bf16) (x5 : FVec Ideal S1x4608 .f32)

theorem left6 (z : Fin 1) (r k : Fin 1024) : out0_A_6 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 (ix3 z r k) = rows c i arg2 harg2 arg3 harg3 arg4 harg4 arg5 harg5 x0 x1 x2 x3 (ix2 r k) := by
  refine Eq.trans ?_ (first_canon c i arg2 harg2 arg3 harg3 arg4 harg4 arg5 harg5 x0 x1 x2 x3 z r k)
  unfold out0_A_6
  exact congrFun (View.read_writes_eq_canon _ _ _ fun y => cover0_A_6 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y) (ix3 z r k)
theorem left7 (y : S1x1x1024x1536.Idx) : out0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y = block1 (lhs1 c i arg2 harg2 arg3 harg3 arg4 harg4 arg5 harg5 arg8 x0 x1 x2 x3) x4 x5 y := by
  refine Eq.trans ?_ (out1 c i arg2 harg2 arg3 harg3 arg4 harg4 arg5 harg5 arg6 harg6 arg7 harg7 arg8 harg8 arg9 harg9 arg10 harg10 arg11 harg11 arg12 harg12 arg13 harg13 x0 x1 x2 x3 x4 x5 y)
  unfold out0_A_7
  exact congrFun (View.read_writes_eq_canon _ _ _ fun y => cover0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y) y
theorem left8 (y : S1x4x256x1536.Idx) : out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y = block4 (lhs4 c i arg2 harg2 arg3 harg3 arg4 harg4 arg5 harg5 arg12 arg13 x0 x1 x2 x3) x4 x5 y := by
  refine Eq.trans ?_ (out4 c i arg2 harg2 arg3 harg3 arg4 harg4 arg5 harg5 arg6 harg6 arg7 harg7 arg8 harg8 arg9 harg9 arg10 harg10 arg11 harg11 arg12 harg12 arg13 harg13 x0 x1 x2 x3 x4 x5 y)
  unfold out0_A_8
  exact congrFun (View.read_writes_eq_canon _ _ _ fun y => cover0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y) y
theorem left9 (y : S1x16x64x1536.Idx) : out0_A_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y = block16 (lhs16 c i arg2 harg2 arg3 harg3 arg4 harg4 arg5 harg5 arg12 arg13 x0 x1 x2 x3) x4 x5 y := by
  refine Eq.trans ?_ (out16 c i arg2 harg2 arg3 harg3 arg4 harg4 arg5 harg5 arg6 harg6 arg7 harg7 arg8 harg8 arg9 harg9 arg10 harg10 arg11 harg11 arg12 harg12 arg13 harg13 x0 x1 x2 x3 x4 x5 y)
  unfold out0_A_9
  exact congrFun (View.read_writes_eq_canon _ _ _ fun y => cover0_A_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 y) y

end Outs

end Cert.QkvBody

end
-- ==== Proof.QkvRef.lean ====
/-
  THE PROJECTION'S REFERENCE, read at an index: the normed rows, a column of their product, and the three sorted results.
-/
module

public import proofs.«01_k».proof.Proof.Gen.ReferenceQkvIdeal.Read
public import Idealize.ShloMosaic.Lib.Pointwise

@[expose] public section

set_option maxRecDepth 16384

noncomputable section

open Idealize.ShloMosaic Idealize.ShloMosaic.TcCoe Idealize.SL.Sem

namespace Cert.QkvRef

open Cert.ReferenceQkvIdeal Cert.ReferenceQkvIdeal.Gen Cert.ReferenceQkvIdeal.Read

variable (x0 : FVec Ideal S4x4096x1024 .f32) (x1 : FVec Ideal S4x8x6144 .f32) (x2 : FVec Ideal S4x1024 .f32)
  (x3 : FVec Ideal S4x9x1024x512 .bf16) (x4 x5 : FVec Ideal S4x128 .f32)

/-- A position's features: normed, weighted, scaled and shifted. -/
def rowAt (b : Fin 4) (s : Fin 4096) (d : Fin 1024) : EReal :=
  x0 (ix3 b s d) * Ideal.rsqrt (Ideal.div (∑ l, x0 (ix3 b s l) * x0 (ix3 b s l)) (Ideal.ofBits FTy.f32 1149239296#32)
      + Ideal.ofBits FTy.f32 897988541#32) * x2 (ix2 3 d) * (1 + x1 (ix3 3 ⟨b.val, by omega⟩ ⟨1024 + d.val, by omega⟩))
    + x1 (ix3 3 ⟨b.val, by omega⟩ ⟨d.val, by omega⟩)

/-- A column of their product with the nine blocks of weights. -/
def colAt (b : Fin 4) (s : Fin 4096) (n : Fin 4608) : EReal :=
  ∑ d : Fin 1024, rowAt x0 x1 x2 b s d * x3 (ix4 3 ⟨n.val / 512, by omega⟩ d ⟨n.val % 512, by omega⟩)

/-- The same divided by the root mean square over its head of 128 columns. -/
def headAt (b : Fin 4) (s : Fin 4096) (n : Fin 4608) : EReal :=
  colAt x0 x1 x2 x3 b s n * Ideal.rsqrt (Ideal.div (∑ l : Fin 128, colAt x0 x1 x2 x3 b s ⟨n.val / 128 * 128 + l.val, by omega⟩
      * colAt x0 x1 x2 x3 b s ⟨n.val / 128 * 128 + l.val, by omega⟩) (Ideal.ofBits FTy.f32 1124073472#32) + Ideal.ofBits FTy.f32 897988541#32)

/-- A column of q, of k or of v. -/
def resAt (b : Fin 4) (s : Fin 4096) (n : Fin 4608) : EReal :=
  if n.val % 1536 < 512 then headAt x0 x1 x2 x3 b s n * x4 (ix2 3 ⟨n.val % 128, by omega⟩) * Ideal.ofBits FTy.f32 0x3DB504F3#32
  else if n.val % 1536 < 1024 then headAt x0 x1 x2 x3 b s n * x5 (ix2 3 ⟨n.val % 128, by omega⟩)
  else colAt x0 x1 x2 x3 b s n

theorem row_apply (b : Fin 4) (s : Fin 4096) (d : Fin 1024) : val_main_v26 (F := Ideal) x0 x1 x2 (ix3 b s d) = rowAt x0 x1 x2 b s d := by
  unfold rowAt
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem out_rows (b : Fin 4) (s : Fin 4096) (d : Fin 1024) : val_main_v76 (F := Ideal) x0 x1 x2 (ix3 b s d) = rowAt x0 x1 x2 b s d := by
  rw [← row_apply]
  pointwise [val_main_v76]

theorem col_apply (b : Fin 4) (s : Fin 4096) (g t : Fin 3) (a : Fin 4) (l : Fin 128) (n : Fin 4608)
    (hn : n.val = g.val * 1536 + t.val * 512 + a.val * 128 + l.val) :
    val_main_v32 (F := Ideal) x0 x1 x2 x3 (ix6 b s g t a l) = colAt x0 x1 x2 x3 b s n := by
  unfold colAt
  simp only [← row_apply]
  pointwise [val_main_v32, val_main_v31, val_main_v30, val_main_v29, val_main_v28, val_main_v27]
  refine Finset.sum_congr rfl fun d _ => ?_
  refine congrArg (_ * x3 ·) ?_
  congr 1 <;> exact Fin.ext (by simp only; omega)

section Parts

variable (b : Fin 4) (s : Fin 4096) (g : Fin 3) (a : Fin 4) (l : Fin 128) (n : Fin 4608)

theorem head_eq (t : Fin 3) (hn : n.val = g.val * 1536 + t.val * 512 + a.val * 128 + l.val) :
    val_main_v32 (F := Ideal) x0 x1 x2 x3 (ix6 b s g t a l) * Ideal.rsqrt (Ideal.div (∑ e : Fin 128,
        val_main_v32 (F := Ideal) x0 x1 x2 x3 (ix6 b s g t a e) * val_main_v32 (F := Ideal) x0 x1 x2 x3 (ix6 b s g t a e))
        (Ideal.ofBits FTy.f32 1124073472#32) + Ideal.ofBits FTy.f32 897988541#32) = headAt x0 x1 x2 x3 b s n := by
  unfold headAt
  rw [col_apply x0 x1 x2 x3 b s g t a l n hn]
  refine congrArg (fun z => _ * Ideal.rsqrt (Ideal.div z _ + _)) (Finset.sum_congr rfl fun e _ => ?_)
  rw [col_apply x0 x1 x2 x3 b s g t a e ⟨n.val / 128 * 128 + e.val, by omega⟩ (by simp only; omega)]

theorem q_apply (hn : n.val = g.val * 1536 + 0 * 512 + a.val * 128 + l.val) :
    val_main_v51 (F := Ideal) x0 x1 x2 x3 x4 (ix5 b s g a l) = headAt x0 x1 x2 x3 b s n * x4 (ix2 3 l) * Ideal.ofBits FTy.f32 0x3DB504F3#32 := by
  rw [← head_eq x0 x1 x2 x3 b s g a l n 0 hn]
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_cst_3, val_main_cst_4, val_main_cst_5, val_main_cst_6]

theorem k_apply (hn : n.val = g.val * 1536 + 1 * 512 + a.val * 128 + l.val) :
    val_main_v68 (F := Ideal) x0 x1 x2 x3 x5 (ix5 b s g a l) = headAt x0 x1 x2 x3 b s n * x5 (ix2 3 l) := by
  rw [← head_eq x0 x1 x2 x3 b s g a l n 1 hn]
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_cst_7, val_main_cst_8, val_main_cst_9]

theorem v_apply (hn : n.val = g.val * 1536 + 2 * 512 + a.val * 128 + l.val) :
    val_main_v70 (F := Ideal) x0 x1 x2 x3 (ix5 b s g a l) = colAt x0 x1 x2 x3 b s n := by
  rw [← col_apply x0 x1 x2 x3 b s g 2 a l n hn]
  pointwise [val_main_v70, val_main_v69]

theorem part0 : val_main_v74 (F := Ideal) x0 x1 x2 x3 x4 x5 (ix6 b s g 0 a l) = val_main_v51 (F := Ideal) x0 x1 x2 x3 x4 (ix5 b s g a l) := by
  pointwise [val_main_v74, val_main_v73, val_main_v72, val_main_v71]
theorem part1 : val_main_v74 (F := Ideal) x0 x1 x2 x3 x4 x5 (ix6 b s g 1 a l) = val_main_v68 (F := Ideal) x0 x1 x2 x3 x5 (ix5 b s g a l) := by
  pointwise [val_main_v74, val_main_v73, val_main_v72, val_main_v71]
theorem part2 : val_main_v74 (F := Ideal) x0 x1 x2 x3 x4 x5 (ix6 b s g 2 a l) = val_main_v70 (F := Ideal) x0 x1 x2 x3 (ix5 b s g a l) := by
  pointwise [val_main_v74, val_main_v73, val_main_v72, val_main_v71]

theorem parts (t : Fin 3) (hn : n.val = g.val * 1536 + t.val * 512 + a.val * 128 + l.val) :
    val_main_v74 (F := Ideal) x0 x1 x2 x3 x4 x5 (ix6 b s g t a l) = resAt x0 x1 x2 x3 x4 x5 b s n := by
  have hl : (⟨n.val % 128, by omega⟩ : Fin 128) = l := Fin.ext (by simp only; omega)
  unfold resAt
  rw [hl]
  rcases (by omega : t.val = 0 ∨ t.val = 1 ∨ t.val = 2) with h | h | h <;> rw [h] at hn
  · obtain rfl : t = 0 := Fin.ext h
    rw [if_pos (by omega)]
    exact (part0 x0 x1 x2 x3 x4 x5 b s g a l).trans (q_apply x0 x1 x2 x3 x4 b s g a l n hn)
  · obtain rfl : t = 1 := Fin.ext h
    rw [if_neg (by omega), if_pos (by omega)]
    exact (part1 x0 x1 x2 x3 x4 x5 b s g a l).trans (k_apply x0 x1 x2 x3 x5 b s g a l n hn)
  · obtain rfl : t = 2 := Fin.ext h
    rw [if_neg (by omega), if_neg (by omega)]
    exact (part2 x0 x1 x2 x3 x4 x5 b s g a l).trans (v_apply x0 x1 x2 x3 b s g a l n hn)

/-- The joined columns of a group, by part and head. -/
theorem flat_apply (y : FVec Ideal S4x4096x3x3x4x128 .f32) (j : Fin 1536) :
    shapeCast S4x4096x3x1536 y shapeCasts_S4x4096x3x3x4x128_S4x4096x3x1536 (ix4 b s g j)
      = y (ix6 b s g ⟨j.val / 512, by omega⟩ ⟨j.val / 128 % 4, by omega⟩ ⟨j.val % 128, by omega⟩) := by
  pointwise

theorem joined (j : Fin 1536) (hn : n.val = g.val * 1536 + j.val) :
    val_main_v75 (F := Ideal) x0 x1 x2 x3 x4 x5 (ix4 b s g j) = resAt x0 x1 x2 x3 x4 x5 b s n := by
  unfold val_main_v75
  refine (flat_apply b s g _ j).trans ?_
  exact parts x0 x1 x2 x3 x4 x5 b s g ⟨j.val / 128 % 4, by omega⟩ ⟨j.val % 128, by omega⟩ n ⟨j.val / 512, by omega⟩ (by simp only; omega)

end Parts

/-- Group 0 of the joined columns, its rows sorted by residue modulo 1. -/
def sort1 (y : FVec Ideal S4x4096x3x1536 .f32) : FVec Ideal S4x1x4096x1536 .bf16 :=
  truncf .bf16 (transpose S4x1x4096x1536 [0, 2, 1, 3] (shapeCast S4x4096x1x1536 (shapeCast S4x4096x1536
    (extractStridedSlice S4x4096x1x1536 ![0, 0, 0, 0] y slices_S4x4096x3x1536_S4x4096x1x1536_0_0_0_0)
    shapeCasts_S4x4096x1x1536_S4x4096x1536) shapeCasts_S4x4096x1536_S4x4096x1x1536) transposes_S4x4096x1x1536_S4x1x4096x1536_0_2_1_3) bitsLt_bf16_f32

/-- Group 1 of the joined columns, its rows sorted by residue modulo 4. -/
def sort4 (y : FVec Ideal S4x4096x3x1536 .f32) : FVec Ideal S4x4x1024x1536 .bf16 :=
  truncf .bf16 (transpose S4x4x1024x1536 [0, 2, 1, 3] (shapeCast S4x1024x4x1536 (shapeCast S4x4096x1536
    (extractStridedSlice S4x4096x1x1536 ![0, 0, 1, 0] y slices_S4x4096x3x1536_S4x4096x1x1536_0_0_1_0)
    shapeCasts_S4x4096x1x1536_S4x4096x1536) shapeCasts_S4x4096x1536_S4x1024x4x1536) transposes_S4x1024x4x1536_S4x4x1024x1536_0_2_1_3) bitsLt_bf16_f32

/-- Group 2 of the joined columns, its rows sorted by residue modulo 16. -/
def sort16 (y : FVec Ideal S4x4096x3x1536 .f32) : FVec Ideal S4x16x256x1536 .bf16 :=
  truncf .bf16 (transpose S4x16x256x1536 [0, 2, 1, 3] (shapeCast S4x256x16x1536 (shapeCast S4x4096x1536
    (extractStridedSlice S4x4096x1x1536 ![0, 0, 2, 0] y slices_S4x4096x3x1536_S4x4096x1x1536_0_0_2_0)
    shapeCasts_S4x4096x1x1536_S4x4096x1536) shapeCasts_S4x4096x1536_S4x256x16x1536) transposes_S4x256x16x1536_S4x16x256x1536_0_2_1_3) bitsLt_bf16_f32

/-- The row of residue `r` and place `q` is the position `q * dil + r`. -/
theorem sort1_apply (y : FVec Ideal S4x4096x3x1536 .f32) (b : Fin 4) (r : Fin 1) (q : Fin 4096) (j : Fin 1536) :
    sort1 y (ix4 b r q j) = y (ix4 b q 0 j) := by
  pointwise [sort1]
theorem sort4_apply (y : FVec Ideal S4x4096x3x1536 .f32) (b : Fin 4) (r : Fin 4) (q : Fin 1024) (j : Fin 1536) :
    sort4 y (ix4 b r q j) = y (ix4 b ⟨q.val * 4 + r.val, by omega⟩ 1 j) := by
  pointwise [sort4]
theorem sort16_apply (y : FVec Ideal S4x4096x3x1536 .f32) (b : Fin 4) (r : Fin 16) (q : Fin 256) (j : Fin 1536) :
    sort16 y (ix4 b r q j) = y (ix4 b ⟨q.val * 16 + r.val, by omega⟩ 2 j) := by
  pointwise [sort16]

theorem sort1_eq : val_main_v81 (F := Ideal) x0 x1 x2 x3 x4 x5 = sort1 (val_main_v75 (F := Ideal) x0 x1 x2 x3 x4 x5) := by
  unfold val_main_v81 val_main_v80 val_main_v79 val_main_v78 val_main_v77 sort1
  exact Eq.refl _
theorem sort4_eq : val_main_v86 (F := Ideal) x0 x1 x2 x3 x4 x5 = sort4 (val_main_v75 (F := Ideal) x0 x1 x2 x3 x4 x5) := by
  unfold val_main_v86 val_main_v85 val_main_v84 val_main_v83 val_main_v82 sort4
  exact Eq.refl _
theorem sort16_eq : val_main_v91 (F := Ideal) x0 x1 x2 x3 x4 x5 = sort16 (val_main_v75 (F := Ideal) x0 x1 x2 x3 x4 x5) := by
  unfold val_main_v91 val_main_v90 val_main_v89 val_main_v88 val_main_v87 sort16
  exact Eq.refl _

/-- The three sorted results. -/
theorem out_one (b : Fin 4) (r : Fin 1) (q : Fin 4096) (j : Fin 1536) (n : Fin 4608) (hn : n.val = j.val) :
    val_main_v81 (F := Ideal) x0 x1 x2 x3 x4 x5 (ix4 b r q j) = resAt x0 x1 x2 x3 x4 x5 b q n := by
  rw [sort1_eq, sort1_apply, joined x0 x1 x2 x3 x4 x5 b q 0 n j (by simp [hn])]
theorem out_four (b : Fin 4) (r : Fin 4) (q : Fin 1024) (j : Fin 1536) (s : Fin 4096) (hs : s.val = q.val * 4 + r.val) (n : Fin 4608)
    (hn : n.val = 1536 + j.val) :
    val_main_v86 (F := Ideal) x0 x1 x2 x3 x4 x5 (ix4 b r q j) = resAt x0 x1 x2 x3 x4 x5 b s n := by
  rw [sort4_eq, sort4_apply, joined x0 x1 x2 x3 x4 x5 b _ 1 n j (by simp [hn])]
  exact congrArg (fun s => resAt x0 x1 x2 x3 x4 x5 b s n) (Fin.ext hs.symm)
theorem out_sixteen (b : Fin 4) (r : Fin 16) (q : Fin 256) (j : Fin 1536) (s : Fin 4096) (hs : s.val = q.val * 16 + r.val) (n : Fin 4608)
    (hn : n.val = 3072 + j.val) :
    val_main_v91 (F := Ideal) x0 x1 x2 x3 x4 x5 (ix4 b r q j) = resAt x0 x1 x2 x3 x4 x5 b s n := by
  rw [sort16_eq, sort16_apply, joined x0 x1 x2 x3 x4 x5 b _ 2 n j (by simp [hn])]
  exact congrArg (fun s => resAt x0 x1 x2 x3 x4 x5 b s n) (Fin.ext hs.symm)

end Cert.QkvRef

end
-- ==== Proof.QkvValue.lean ====
/-
  THE PROJECTION CALL, its values: what each grid point writes back is its block of the reference's results, and the blocks
  cover the arrays.
-/
module

public import proofs.«01_k».proof.Proof.QkvOuts
public import proofs.«01_k».proof.Proof.QkvRef
public import proofs.«01_k».proof.Proof.Gen.KernelQkvIdeal.Value

@[expose] public section

set_option maxRecDepth 65536

noncomputable section

open Idealize.ShloMosaic Idealize.ShloMosaic.TcCoe Idealize.SL.Sem
open Idealize.ShloMosaic.Pipeline (Dat)

namespace Cert.QkvBody

open Cert.KernelQkvIdeal Cert.KernelQkvIdeal.Gen Cert.QkvRef
open Cert.ReferenceQkvIdeal.Read (val_main_v76 val_main_v81 val_main_v86 val_main_v91)

variable (m : (ℓ : Loc nD τ sig) → Buf (Elt Ideal) ℓ)

/-- The arguments as arrays of extended reals. -/
abbrev X0 (c : Dev nD) : FVec Ideal S4x4096x1024 .f32 := m ((c : Thread nD τ).loc main_arg0)
abbrev X1 (c : Dev nD) : FVec Ideal S4x8x6144 .f32 := m ((c : Thread nD τ).loc main_arg1)
abbrev X2 (c : Dev nD) : FVec Ideal S4x1024 .f32 := m ((c : Thread nD τ).loc main_arg2)
abbrev X3 (c : Dev nD) : FVec Ideal S4x9x1024x512 .bf16 := m ((c : Thread nD τ).loc main_arg3)
abbrev X4 (c : Dev nD) : FVec Ideal S4x128 .f32 := m ((c : Thread nD τ).loc main_arg4)
abbrev X5 (c : Dev nD) : FVec Ideal S4x128 .f32 := m ((c : Thread nD τ).loc main_arg5)

/-- The modulation row that the body reads is the batch element's. -/
theorem modRow_at (t : Fin grid0.N) (x : FVec Ideal S1x1x8x1024 .f32) (k : Fin 1024) (b : Fin 8)
    (hb : b.val = t.val / 4) : modRow (grid0.coords t) x (ix4 0 0 0 k) = x (ix4 0 0 b k) := by
  have hp := (places t).2.2.2.2.2.2.2.2.2.2
  show x _ = x _
  congr 1
  funext a
  apply Fin.ext
  match a with
  | ⟨0, _⟩ => show k0_off1 (grid0.coords t) 0 + 1 * 0 = 0; rw [hp]; rfl
  | ⟨1, _⟩ => show k0_off1 (grid0.coords t) 1 + 1 * 0 = 0; rw [hp]; rfl
  | ⟨2, _⟩ => show k0_off1 (grid0.coords t) 2 + 1 * 0 = b.val; rw [hp, hb]; rfl
  | ⟨3, _⟩ => show k0_off1 (grid0.coords t) 3 + 1 * k.val = k.val; rw [hp]; show 0 + 1 * k.val = k.val; omega

/-- A column over rows and weights that are the reference's is the reference's. -/
theorem entry_eq (x0 : FVec Ideal S4x4096x1024 .f32) (x1 : FVec Ideal S4x8x6144 .f32) (x2 : FVec Ideal S4x1024 .f32)
    (x3 : FVec Ideal S4x9x1024x512 .bf16) (x4 x5 : FVec Ideal S4x128 .f32) (h : FVec Ideal S1x1024x1024 .bf16)
    (w : FVec Ideal S1x9x1024x512 .bf16) (g : FVec Ideal S1x4608 .f32) (b : Fin 4) (s : Fin 4096) (r : Fin 1024)
    (hh : ∀ d, h (ix3 0 r d) = rowAt x0 x1 x2 b s d) (hw : ∀ p d k, w (ix4 0 p d k) = x3 (ix4 3 p d k))
    (hg : ∀ n, g (ix2 0 n) = headW x4 x5 n) (n : Fin 4608) : entry h w g r n = resAt x0 x1 x2 x3 x4 x5 b s n := by
  have hp : ∀ n, proj h w r n = colAt x0 x1 x2 x3 b s n := fun n => by
    unfold proj colAt
    exact Finset.sum_congr rfl fun d _ => by rw [hh, hw]
  unfold entry normed resAt headAt
  simp only [hp, hg]
  unfold headW
  by_cases h1 : n.val % 1536 < 512
  · rw [if_pos h1, if_pos h1, if_pos (by omega)]
    exact (mul_assoc _ _ _).symm
  · rw [if_neg h1, if_neg h1]
    by_cases h2 : n.val % 1536 < 1024
    · rw [if_pos h2, if_pos h2, if_pos h2]
    · rw [if_neg h2, if_neg h2]

/-- What the four output blocks hold after a point. -/
theorem outs6 (c : Dev nD) (t : Fin cfg0.N) : (outsAt0 m c t).1 = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) := by
  unfold outsAt0
  dsimp only
theorem outs7 (c : Dev nD) (t : Fin cfg0.N) : (outsAt0 m c t).2.1 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) := by
  unfold outsAt0
  dsimp only
theorem outs8 (c : Dev nD) (t : Fin cfg0.N) : (outsAt0 m c t).2.2.1 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) := by
  unfold outsAt0
  dsimp only
theorem outs9 (c : Dev nD) (t : Fin cfg0.N) : (outsAt0 m c t).2.2.2 = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) := by
  unfold outsAt0
  dsimp only

section Point

variable (c : Dev nD) (t : Fin cfg0.N) (b : Fin 4) (hb : b.val = t.val / 4)
include hb

/-- A point's rows are the reference's. -/
theorem row_point (r : Fin 1024) (s : Fin 4096) (hs : s.val = t.val % 4 * 1024 + r.val) (k : Fin 1024) :
    rows c (grid0.coords t) (ms0_0 t) (hs0_0 t) (ms0_1 t) (hs0_1 t) (ms0_2 t) (hs0_2 t) (ms0_3 t) (hs0_3 t) (iblk m c 0 t) (iblk m c 1 t) (iblk m c 2 t) (iblk m c 3 t) (ix2 r k) = rowAt (X0 m c) (X1 m c) (X2 m c) b s k := by
  obtain ⟨⟨a0, a1, a2⟩, ⟨b0, b1⟩, ⟨c0, c1, c2, c3⟩, ⟨d0, d1, d2, d3⟩, -⟩ := places t
  have hx : ∀ l, (iblk m c 0 t : FVec Ideal S1x1024x1024 .f32) (ix3 0 r l) = X0 m c (ix3 b s l) := fun l =>
    blk0 m c t 0 r l b s l (by rw [a0, hb]; simp) (by rw [a1, hs]) (by rw [a2]; simp)
  have hn : (iblk m c 1 t : FVec Ideal S1x1024 .f32) (ix2 0 k) = X2 m c (ix2 3 k) :=
    (blk1 m c t 0 k 0 k (by rw [b0]; simp) (by rw [b1]; simp)).trans (entry_norm m c 0 k)
  have h2 : modRow (grid0.coords t) (iblk m c 2 t) (ix4 0 0 0 k) = X1 m c (ix3 3 ⟨b.val, by omega⟩ ⟨1024 + k.val, by omega⟩) := by
    rw [modRow_at t _ k ⟨b.val, by omega⟩ hb]
    refine (blk2 m c t 0 0 _ k 3 1 ⟨b.val, by omega⟩ k (by rw [c0]; simp) (by rw [c1]; simp) (by rw [c2]; simp) (by rw [c3]; simp)).trans ?_
    refine (entry_mods m c 3 1 _ k).trans ?_
    congr 2
  have h3 : modRow (grid0.coords t) (iblk m c 3 t) (ix4 0 0 0 k) = X1 m c (ix3 3 ⟨b.val, by omega⟩ ⟨k.val, by omega⟩) := by
    rw [modRow_at t _ k ⟨b.val, by omega⟩ hb]
    refine (blk3 m c t 0 0 _ k 3 0 ⟨b.val, by omega⟩ k (by rw [d0]; simp) (by rw [d1]; simp) (by rw [d2]; simp) (by rw [d3]; simp)).trans ?_
    refine (entry_mods m c 3 0 _ k).trans ?_
    congr 2
    exact Fin.ext (by simp)
  rw [rows_eq]
  refine (pay5_apply _ _ _ _ r k).trans ?_
  unfold rowAt
  rw [hn, h2, h3]
  simp only [hx]

/-- A point's column is the reference's, whatever rows it is over. -/
theorem col_point (h : FVec Ideal S1x1024x1024 .bf16) (r : Fin 1024) (s : Fin 4096)
    (hh : ∀ d, h (ix3 0 r d) = rowAt (X0 m c) (X1 m c) (X2 m c) b s d) (n : Fin 4608) :
    entry h (iblk m c 4 t) (iblk m c 5 t) r n = resAt (X0 m c) (X1 m c) (X2 m c) (X3 m c) (X4 m c) (X5 m c) b s n := by
  obtain ⟨-, -, -, -, ⟨a0, a1, a2, a3⟩, ⟨b0, b1⟩, -⟩ := places t
  refine entry_eq _ _ _ _ _ _ h _ _ b s r hh (fun p d k => ?_) (fun n => ?_) n
  · exact blk4 m c t 0 p d k 3 p d k (by rw [a0]; simp) (by rw [a1]; simp) (by rw [a2]; simp) (by rw [a3]; simp)
  · exact (blk5 m c t 0 n 0 n (by rw [b0]; simp) (by rw [b1]; simp)).trans (entry_heads m c 0 n)

/-- What a point leaves in the four output blocks. -/
theorem out6_apply (z : Fin 1) (r k : Fin 1024) (s : Fin 4096) (hs : s.val = t.val % 4 * 1024 + r.val) :
    (outsAt0 m c t).1 (ix3 z r k) = val_main_v76 (F := Ideal) (X0 m c) (X1 m c) (X2 m c) (ix3 b s k) := by
  rw [out_rows]
  refine Eq.trans ?_ (row_point m c t b hb r s hs k)
  have e := left6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) z r k
  exact (congrFun (outs6 m c t) _).trans e
theorem out7_apply (z : Fin 1) (r : Fin 1) (q : Fin 1024) (j : Fin 1536) (Q : Fin 4096) (hQ : Q.val = t.val % 4 * 1024 + q.val) :
    (outsAt0 m c t).2.1 (ix4 z r q j) = val_main_v81 (F := Ideal) (X0 m c) (X1 m c) (X2 m c) (X3 m c) (X4 m c) (X5 m c) (ix4 b 0 Q j) := by
  rw [out_one (X0 m c) (X1 m c) (X2 m c) (X3 m c) (X4 m c) (X5 m c) b 0 Q j ⟨j.val, by omega⟩ rfl]
  have e := left7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (ix4 z r q j)
  refine ((congrFun (outs7 m c t) _).trans e).trans ?_
  exact col_point m c t b hb _ ⟨q.val, by omega⟩ Q (fun d =>
    (lhs1_apply c (grid0.coords t) (ms0_0 t) (hs0_0 t) (ms0_1 t) (hs0_1 t) (ms0_2 t) (hs0_2 t) (ms0_3 t) (hs0_3 t) (ms0_6 t) (iblk m c 0 t) (iblk m c 1 t) (iblk m c 2 t) (iblk m c 3 t) _ d).trans (row_point m c t b hb q Q hQ d)) ⟨j.val, by omega⟩
theorem out8_apply (z : Fin 1) (r : Fin 4) (q : Fin 256) (j : Fin 1536) (Q : Fin 1024) (hQ : Q.val = t.val % 4 * 256 + q.val) :
    (outsAt0 m c t).2.2.1 (ix4 z r q j) = val_main_v86 (F := Ideal) (X0 m c) (X1 m c) (X2 m c) (X3 m c) (X4 m c) (X5 m c) (ix4 b r Q j) := by
  rw [out_four (X0 m c) (X1 m c) (X2 m c) (X3 m c) (X4 m c) (X5 m c) b r Q j ⟨Q.val * 4 + r.val, by omega⟩ rfl ⟨1536 + j.val, by omega⟩ rfl]
  have e := left8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (ix4 z r q j)
  refine ((congrFun (outs8 m c t) _).trans e).trans ?_
  exact col_point m c t b hb _ ⟨256 * r.val + q.val, by omega⟩ ⟨Q.val * 4 + r.val, by omega⟩ (fun d =>
    (lhs4_apply c (grid0.coords t) (ms0_0 t) (hs0_0 t) (ms0_1 t) (hs0_1 t) (ms0_2 t) (hs0_2 t) (ms0_3 t) (hs0_3 t) scM0_0 scM0_1 (iblk m c 0 t) (iblk m c 1 t) (iblk m c 2 t) (iblk m c 3 t) _ d ⟨q.val * 4 + r.val, by omega⟩ (by simp only; omega)).trans (row_point m c t b hb ⟨q.val * 4 + r.val, by omega⟩ ⟨Q.val * 4 + r.val, by omega⟩ (by simp only; omega) d)) ⟨1536 + j.val, by omega⟩
theorem out9_apply (z : Fin 1) (r : Fin 16) (q : Fin 64) (j : Fin 1536) (Q : Fin 256) (hQ : Q.val = t.val % 4 * 64 + q.val) :
    (outsAt0 m c t).2.2.2 (ix4 z r q j) = val_main_v91 (F := Ideal) (X0 m c) (X1 m c) (X2 m c) (X3 m c) (X4 m c) (X5 m c) (ix4 b r Q j) := by
  rw [out_sixteen (X0 m c) (X1 m c) (X2 m c) (X3 m c) (X4 m c) (X5 m c) b r Q j ⟨Q.val * 16 + r.val, by omega⟩ rfl ⟨3072 + j.val, by omega⟩ rfl]
  have e := left9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (ix4 z r q j)
  refine ((congrFun (outs9 m c t) _).trans e).trans ?_
  exact col_point m c t b hb _ ⟨64 * r.val + q.val, by omega⟩ ⟨Q.val * 16 + r.val, by omega⟩ (fun d =>
    (lhs16_apply c (grid0.coords t) (ms0_0 t) (hs0_0 t) (ms0_1 t) (hs0_1 t) (ms0_2 t) (hs0_2 t) (ms0_3 t) (hs0_3 t) scM0_0 scM0_1 (iblk m c 0 t) (iblk m c 1 t) (iblk m c 2 t) (iblk m c 3 t) _ d ⟨q.val * 16 + r.val, by omega⟩ (by simp only; omega)).trans (row_point m c t b hb ⟨q.val * 16 + r.val, by omega⟩ ⟨Q.val * 16 + r.val, by omega⟩ (by simp only; omega) d)) ⟨3072 + j.val, by omega⟩

end Point

theorem flushed_eq6 (c : Dev nD) (t : Fin cfg0.N) (_hf : (cfg0.win 6).flush t = true) :
    (dats m 0 c).flushed 6 t = ((cfg0.win 6).blk t).view.read (Elt Ideal) (val_main_v76 (F := Ideal) (X0 m c) (X1 m c) (X2 m c)) := by
  have hN : cfg0.N = 16 := N_0
  have ht := t.isLt
  obtain ⟨-, -, -, -, -, -, ⟨p0, p1, p2⟩, -⟩ := places t
  rw [Cert.KernelQkvIdeal.Value.flushed6]
  funext y
  rw [View.read_apply]
  obtain ⟨z, r, k, rfl⟩ : ∃ (z : Fin 1) (r : Fin 1024) (k : Fin 1024), y = ix3 z r k := ⟨y 0, y 1, y 2, eq_ix3 y⟩
  refine (out6_apply m c t ⟨t.val / 4, by omega⟩ rfl z r k ⟨t.val % 4 * 1024 + r.val, by omega⟩ rfl).trans ?_
  refine congrArg (val_main_v76 (F := Ideal) (X0 m c) (X1 m c) (X2 m c)) ?_
  funext a
  apply Fin.ext
  match a with
  | ⟨0, _⟩ => show t.val / 4 = cc0_transform_6 (grid0.coords t) 0 * 1 + 1 * z.val; omega
  | ⟨1, _⟩ => show t.val % 4 * 1024 + r.val = cc0_transform_6 (grid0.coords t) 1 * 1024 + 1 * r.val; omega
  | ⟨2, _⟩ => show k.val = cc0_transform_6 (grid0.coords t) 2 * 1024 + 1 * k.val; omega

theorem cover6 (i : S4x4096x1024.Idx) :
    ∃ t : Fin cfg0.N, (cfg0.win 6).flush t = true ∧ i ∈ ((cfg0.win 6).blk t).view.set := by
  have i0 : (i 0).val < 4 := (i 0).isLt
  have i1 : (i 1).val < 4096 := (i 1).isLt
  have i2 : (i 2).val < 1024 := (i 2).isLt
  have hN : cfg0.N = 16 := N_0
  have ht : (i 0).val * 4 + (i 1).val / 1024 < cfg0.N := by omega
  obtain ⟨-, -, -, -, -, -, ⟨p0, p1, p2⟩, -⟩ := places ⟨_, ht⟩
  refine ⟨⟨_, ht⟩, flush0_6 _, ?_⟩
  show i ∈ ((View.whole main_v21_0).slice (win0_6.rect ⟨_, ht⟩)).set
  rw [View.set_slice_whole, Rect.mem_set_unit]
  intro a
  dsimp only at p0 p1 p2
  match a with
  | ⟨0, _⟩ => show cc0_transform_6 (grid0.coords ⟨_, ht⟩) 0 * 1 ≤ (i 0).val ∧ (i 0).val < cc0_transform_6 (grid0.coords ⟨_, ht⟩) 0 * 1 + 1; omega
  | ⟨1, _⟩ => show cc0_transform_6 (grid0.coords ⟨_, ht⟩) 1 * 1024 ≤ (i 1).val ∧ (i 1).val < cc0_transform_6 (grid0.coords ⟨_, ht⟩) 1 * 1024 + 1024; omega
  | ⟨2, _⟩ => show cc0_transform_6 (grid0.coords ⟨_, ht⟩) 2 * 1024 ≤ (i 2).val ∧ (i 2).val < cc0_transform_6 (grid0.coords ⟨_, ht⟩) 2 * 1024 + 1024; omega

theorem final6 (c : Dev nD) : (dats m 0 c).arrAt 6 cfg0.N = val_main_v76 (F := Ideal) (X0 m c) (X1 m c) (X2 m c) :=
  (dats m 0 c).arrAt_eq_of_cover 6 _ (flushed_eq6 m c) cover6

theorem block_of7 (t : Fin cfg0.N) (Y : Vec Ideal S1x1x1024x1536 .bf16) (G : Vec Ideal S4x1x4096x1536 .bf16)
    (h : ∀ (b : Fin 4) (_ : b.val = t.val / 4) (z : Fin 1) (r : Fin 1) (q : Fin 1024) (j : Fin 1536) (Q : Fin 4096) (hQ : Q.val = t.val % 4 * 1024 + q.val), Y (ix4 z r q j) = G (ix4 b 0 Q j)) :
    (cfg0.win 7).cut (grid0.coords t) Y = ((cfg0.win 7).blk t).view.read (Elt Ideal) G := by
  have hN : cfg0.N = 16 := N_0
  have ht := t.isLt
  obtain ⟨-, -, -, -, -, -, -, ⟨p0, p1, p2, p3⟩, -⟩ := places t
  funext y
  rw [View.read_apply]
  obtain ⟨z, r, q, j, rfl⟩ : ∃ (z : Fin 1) (r : Fin 1) (q : Fin 1024) (j : Fin 1536), y = ix4 z r q j := ⟨y 0, y 1, y 2, y 3, eq_ix4 y⟩
  refine (h ⟨t.val / 4, by omega⟩ rfl z r q j ⟨t.val % 4 * 1024 + q.val, by omega⟩ rfl).trans ?_
  refine congrArg G ?_
  funext a
  apply Fin.ext
  match a with
  | ⟨0, _⟩ => show t.val / 4 = cc0_transform_7 (grid0.coords t) 0 * 1 + 1 * z.val; omega
  | ⟨1, _⟩ => show 0 = cc0_transform_7 (grid0.coords t) 1 * 1 + 1 * r.val; omega
  | ⟨2, _⟩ => show t.val % 4 * 1024 + q.val = cc0_transform_7 (grid0.coords t) 2 * 1024 + 1 * q.val; omega
  | ⟨3, _⟩ => show j.val = cc0_transform_7 (grid0.coords t) 3 * 1536 + 1 * j.val; omega

theorem flushed_eq7 (c : Dev nD) (t : Fin cfg0.N) (_hf : (cfg0.win 7).flush t = true) :
    (dats m 0 c).flushed 7 t = ((cfg0.win 7).blk t).view.read (Elt Ideal) (val_main_v81 (F := Ideal) (X0 m c) (X1 m c) (X2 m c) (X3 m c) (X4 m c) (X5 m c)) := by
  rw [Cert.KernelQkvIdeal.Value.flushed7]
  exact block_of7 t _ _ (fun b hb z r q j Q hQ => out7_apply m c t b hb z r q j Q hQ)

theorem cover7 (i : S4x1x4096x1536.Idx) :
    ∃ t : Fin cfg0.N, (cfg0.win 7).flush t = true ∧ i ∈ ((cfg0.win 7).blk t).view.set := by
  have i0 : (i 0).val < 4 := (i 0).isLt
  have i1 : (i 1).val < 1 := (i 1).isLt
  have i2 : (i 2).val < 4096 := (i 2).isLt
  have i3 : (i 3).val < 1536 := (i 3).isLt
  have hN : cfg0.N = 16 := N_0
  have ht : (i 0).val * 4 + (i 2).val / 1024 < cfg0.N := by omega
  obtain ⟨-, -, -, -, -, -, -, ⟨p0, p1, p2, p3⟩, -⟩ := places ⟨_, ht⟩
  refine ⟨⟨_, ht⟩, flush0_7 _, ?_⟩
  show i ∈ ((View.whole main_v21_1).slice (win0_7.rect ⟨_, ht⟩)).set
  rw [View.set_slice_whole, Rect.mem_set_unit]
  intro a
  dsimp only at p0 p1 p2 p3
  match a with
  | ⟨0, _⟩ => show cc0_transform_7 (grid0.coords ⟨_, ht⟩) 0 * 1 ≤ (i 0).val ∧ (i 0).val < cc0_transform_7 (grid0.coords ⟨_, ht⟩) 0 * 1 + 1; omega
  | ⟨1, _⟩ => show cc0_transform_7 (grid0.coords ⟨_, ht⟩) 1 * 1 ≤ (i 1).val ∧ (i 1).val < cc0_transform_7 (grid0.coords ⟨_, ht⟩) 1 * 1 + 1; omega
  | ⟨2, _⟩ => show cc0_transform_7 (grid0.coords ⟨_, ht⟩) 2 * 1024 ≤ (i 2).val ∧ (i 2).val < cc0_transform_7 (grid0.coords ⟨_, ht⟩) 2 * 1024 + 1024; omega
  | ⟨3, _⟩ => show cc0_transform_7 (grid0.coords ⟨_, ht⟩) 3 * 1536 ≤ (i 3).val ∧ (i 3).val < cc0_transform_7 (grid0.coords ⟨_, ht⟩) 3 * 1536 + 1536; omega

theorem final7 (c : Dev nD) : (dats m 0 c).arrAt 7 cfg0.N = val_main_v81 (F := Ideal) (X0 m c) (X1 m c) (X2 m c) (X3 m c) (X4 m c) (X5 m c) :=
  (dats m 0 c).arrAt_eq_of_cover 7 _ (flushed_eq7 m c) cover7

theorem block_of8 (t : Fin cfg0.N) (Y : Vec Ideal S1x4x256x1536 .bf16) (G : Vec Ideal S4x4x1024x1536 .bf16)
    (h : ∀ (b : Fin 4) (_ : b.val = t.val / 4) (z : Fin 1) (r : Fin 4) (q : Fin 256) (j : Fin 1536) (Q : Fin 1024) (hQ : Q.val = t.val % 4 * 256 + q.val), Y (ix4 z r q j) = G (ix4 b r Q j)) :
    (cfg0.win 8).cut (grid0.coords t) Y = ((cfg0.win 8).blk t).view.read (Elt Ideal) G := by
  have hN : cfg0.N = 16 := N_0
  have ht := t.isLt
  obtain ⟨-, -, -, -, -, -, -, -, ⟨p0, p1, p2, p3⟩, -⟩ := places t
  funext y
  rw [View.read_apply]
  obtain ⟨z, r, q, j, rfl⟩ : ∃ (z : Fin 1) (r : Fin 4) (q : Fin 256) (j : Fin 1536), y = ix4 z r q j := ⟨y 0, y 1, y 2, y 3, eq_ix4 y⟩
  refine (h ⟨t.val / 4, by omega⟩ rfl z r q j ⟨t.val % 4 * 256 + q.val, by omega⟩ rfl).trans ?_
  refine congrArg G ?_
  funext a
  apply Fin.ext
  match a with
  | ⟨0, _⟩ => show t.val / 4 = cc0_transform_8 (grid0.coords t) 0 * 1 + 1 * z.val; omega
  | ⟨1, _⟩ => show r.val = cc0_transform_8 (grid0.coords t) 1 * 4 + 1 * r.val; omega
  | ⟨2, _⟩ => show t.val % 4 * 256 + q.val = cc0_transform_8 (grid0.coords t) 2 * 256 + 1 * q.val; omega
  | ⟨3, _⟩ => show j.val = cc0_transform_8 (grid0.coords t) 3 * 1536 + 1 * j.val; omega

theorem flushed_eq8 (c : Dev nD) (t : Fin cfg0.N) (_hf : (cfg0.win 8).flush t = true) :
    (dats m 0 c).flushed 8 t = ((cfg0.win 8).blk t).view.read (Elt Ideal) (val_main_v86 (F := Ideal) (X0 m c) (X1 m c) (X2 m c) (X3 m c) (X4 m c) (X5 m c)) := by
  rw [Cert.KernelQkvIdeal.Value.flushed8]
  exact block_of8 t _ _ (fun b hb z r q j Q hQ => out8_apply m c t b hb z r q j Q hQ)

theorem cover8 (i : S4x4x1024x1536.Idx) :
    ∃ t : Fin cfg0.N, (cfg0.win 8).flush t = true ∧ i ∈ ((cfg0.win 8).blk t).view.set := by
  have i0 : (i 0).val < 4 := (i 0).isLt
  have i1 : (i 1).val < 4 := (i 1).isLt
  have i2 : (i 2).val < 1024 := (i 2).isLt
  have i3 : (i 3).val < 1536 := (i 3).isLt
  have hN : cfg0.N = 16 := N_0
  have ht : (i 0).val * 4 + (i 2).val / 256 < cfg0.N := by omega
  obtain ⟨-, -, -, -, -, -, -, -, ⟨p0, p1, p2, p3⟩, -⟩ := places ⟨_, ht⟩
  refine ⟨⟨_, ht⟩, flush0_8 _, ?_⟩
  show i ∈ ((View.whole main_v21_2).slice (win0_8.rect ⟨_, ht⟩)).set
  rw [View.set_slice_whole, Rect.mem_set_unit]
  intro a
  dsimp only at p0 p1 p2 p3
  match a with
  | ⟨0, _⟩ => show cc0_transform_8 (grid0.coords ⟨_, ht⟩) 0 * 1 ≤ (i 0).val ∧ (i 0).val < cc0_transform_8 (grid0.coords ⟨_, ht⟩) 0 * 1 + 1; omega
  | ⟨1, _⟩ => show cc0_transform_8 (grid0.coords ⟨_, ht⟩) 1 * 4 ≤ (i 1).val ∧ (i 1).val < cc0_transform_8 (grid0.coords ⟨_, ht⟩) 1 * 4 + 4; omega
  | ⟨2, _⟩ => show cc0_transform_8 (grid0.coords ⟨_, ht⟩) 2 * 256 ≤ (i 2).val ∧ (i 2).val < cc0_transform_8 (grid0.coords ⟨_, ht⟩) 2 * 256 + 256; omega
  | ⟨3, _⟩ => show cc0_transform_8 (grid0.coords ⟨_, ht⟩) 3 * 1536 ≤ (i 3).val ∧ (i 3).val < cc0_transform_8 (grid0.coords ⟨_, ht⟩) 3 * 1536 + 1536; omega

theorem final8 (c : Dev nD) : (dats m 0 c).arrAt 8 cfg0.N = val_main_v86 (F := Ideal) (X0 m c) (X1 m c) (X2 m c) (X3 m c) (X4 m c) (X5 m c) :=
  (dats m 0 c).arrAt_eq_of_cover 8 _ (flushed_eq8 m c) cover8

theorem block_of9 (t : Fin cfg0.N) (Y : Vec Ideal S1x16x64x1536 .bf16) (G : Vec Ideal S4x16x256x1536 .bf16)
    (h : ∀ (b : Fin 4) (_ : b.val = t.val / 4) (z : Fin 1) (r : Fin 16) (q : Fin 64) (j : Fin 1536) (Q : Fin 256) (hQ : Q.val = t.val % 4 * 64 + q.val), Y (ix4 z r q j) = G (ix4 b r Q j)) :
    (cfg0.win 9).cut (grid0.coords t) Y = ((cfg0.win 9).blk t).view.read (Elt Ideal) G := by
  have hN : cfg0.N = 16 := N_0
  have ht := t.isLt
  obtain ⟨-, -, -, -, -, -, -, -, -, ⟨p0, p1, p2, p3⟩, -⟩ := places t
  funext y
  rw [View.read_apply]
  obtain ⟨z, r, q, j, rfl⟩ : ∃ (z : Fin 1) (r : Fin 16) (q : Fin 64) (j : Fin 1536), y = ix4 z r q j := ⟨y 0, y 1, y 2, y 3, eq_ix4 y⟩
  refine (h ⟨t.val / 4, by omega⟩ rfl z r q j ⟨t.val % 4 * 64 + q.val, by omega⟩ rfl).trans ?_
  refine congrArg G ?_
  funext a
  apply Fin.ext
  match a with
  | ⟨0, _⟩ => show t.val / 4 = cc0_transform_9 (grid0.coords t) 0 * 1 + 1 * z.val; omega
  | ⟨1, _⟩ => show r.val = cc0_transform_9 (grid0.coords t) 1 * 16 + 1 * r.val; omega
  | ⟨2, _⟩ => show t.val % 4 * 64 + q.val = cc0_transform_9 (grid0.coords t) 2 * 64 + 1 * q.val; omega
  | ⟨3, _⟩ => show j.val = cc0_transform_9 (grid0.coords t) 3 * 1536 + 1 * j.val; omega

theorem flushed_eq9 (c : Dev nD) (t : Fin cfg0.N) (_hf : (cfg0.win 9).flush t = true) :
    (dats m 0 c).flushed 9 t = ((cfg0.win 9).blk t).view.read (Elt Ideal) (val_main_v91 (F := Ideal) (X0 m c) (X1 m c) (X2 m c) (X3 m c) (X4 m c) (X5 m c)) := by
  rw [Cert.KernelQkvIdeal.Value.flushed9]
  exact block_of9 t _ _ (fun b hb z r q j Q hQ => out9_apply m c t b hb z r q j Q hQ)

theorem cover9 (i : S4x16x256x1536.Idx) :
    ∃ t : Fin cfg0.N, (cfg0.win 9).flush t = true ∧ i ∈ ((cfg0.win 9).blk t).view.set := by
  have i0 : (i 0).val < 4 := (i 0).isLt
  have i1 : (i 1).val < 16 := (i 1).isLt
  have i2 : (i 2).val < 256 := (i 2).isLt
  have i3 : (i 3).val < 1536 := (i 3).isLt
  have hN : cfg0.N = 16 := N_0
  have ht : (i 0).val * 4 + (i 2).val / 64 < cfg0.N := by omega
  obtain ⟨-, -, -, -, -, -, -, -, -, ⟨p0, p1, p2, p3⟩, -⟩ := places ⟨_, ht⟩
  refine ⟨⟨_, ht⟩, flush0_9 _, ?_⟩
  show i ∈ ((View.whole main_v21_3).slice (win0_9.rect ⟨_, ht⟩)).set
  rw [View.set_slice_whole, Rect.mem_set_unit]
  intro a
  dsimp only at p0 p1 p2 p3
  match a with
  | ⟨0, _⟩ => show cc0_transform_9 (grid0.coords ⟨_, ht⟩) 0 * 1 ≤ (i 0).val ∧ (i 0).val < cc0_transform_9 (grid0.coords ⟨_, ht⟩) 0 * 1 + 1; omega
  | ⟨1, _⟩ => show cc0_transform_9 (grid0.coords ⟨_, ht⟩) 1 * 16 ≤ (i 1).val ∧ (i 1).val < cc0_transform_9 (grid0.coords ⟨_, ht⟩) 1 * 16 + 16; omega
  | ⟨2, _⟩ => show cc0_transform_9 (grid0.coords ⟨_, ht⟩) 2 * 64 ≤ (i 2).val ∧ (i 2).val < cc0_transform_9 (grid0.coords ⟨_, ht⟩) 2 * 64 + 64; omega
  | ⟨3, _⟩ => show cc0_transform_9 (grid0.coords ⟨_, ht⟩) 3 * 1536 ≤ (i 3).val ∧ (i 3).val < cc0_transform_9 (grid0.coords ⟨_, ht⟩) 3 * 1536 + 1536; omega

theorem final9 (c : Dev nD) : (dats m 0 c).arrAt 9 cfg0.N = val_main_v91 (F := Ideal) (X0 m c) (X1 m c) (X2 m c) (X3 m c) (X4 m c) (X5 m c) :=
  (dats m 0 c).arrAt_eq_of_cover 9 _ (flushed_eq9 m c) cover9

end Cert.QkvBody

end
-- ==== Proof.QkvClaims.lean ====
/-
  THE PROJECTION CALL'S CLAIMS: the frames, and the equality of its four results with the reference over the extended reals.
-/
module

public import proofs.«01_k».proof.Defs
public import proofs.«01_k».proof.Proof.QkvValue
public import proofs.«01_k».proof.Proof.Gen.KernelQkv.Frame
public import proofs.«01_k».proof.Proof.Gen.ReferenceQkvIdeal.Run
public import Idealize.ShloMosaic.Lib.Quiescent

@[expose] public section

noncomputable section

open Idealize.ShloMosaic Idealize.ShloMosaic.TcCoe Idealize.SL.Sem

namespace Cert.Proof

theorem quiescent_kernelQkv : Cert.quiescent_KernelQkv := fun m ρ _ => Cert.KernelQkv.Gen.frame m ρ
theorem quiescent_kernelQkvIdeal : Cert.quiescent_KernelQkvIdeal := fun m ρ _ => Cert.KernelQkvIdeal.Gen.frame m ρ

theorem quiescent_referenceQkvIdeal : Cert.quiescent_ReferenceQkvIdeal := fun m ρ _ =>
  (θ_run Cert.ReferenceQkvIdeal.defs _ _).mono (fun r h => ⟨fun c => (h c).2.2.2.2, sem_eq_zero_of_no_sems (by decide) r.2⟩)
    (Cert.ReferenceQkvIdeal.Value.run (F := Ideal) m ρ)

open Cert.QkvBody (X0 X1 X2 X3 X4 X5)

theorem algebraic_qkv : Cert.algebraic_KernelQkvIdeal_ReferenceQkvIdeal := by
  intro m ρ m' ρ' _ hagree
  refine ⟨fun c => Cert.ReferenceQkvIdeal.Read.val_main_v76 (F := Ideal) (X0 m c) (X1 m c) (X2 m c),
    fun c => Cert.ReferenceQkvIdeal.Read.val_main_v81 (F := Ideal) (X0 m c) (X1 m c) (X2 m c) (X3 m c) (X4 m c) (X5 m c),
    fun c => Cert.ReferenceQkvIdeal.Read.val_main_v86 (F := Ideal) (X0 m c) (X1 m c) (X2 m c) (X3 m c) (X4 m c) (X5 m c),
    fun c => Cert.ReferenceQkvIdeal.Read.val_main_v91 (F := Ideal) (X0 m c) (X1 m c) (X2 m c) (X3 m c) (X4 m c) (X5 m c), ?_, ?_⟩
  · exact (θ_run Cert.KernelQkvIdeal.defs _ _).mono (fun _ h c => ⟨(h c).1.trans (Cert.QkvBody.final6 m c),
        (h c).2.1.trans (Cert.QkvBody.final7 m c), (h c).2.2.1.trans (Cert.QkvBody.final8 m c),
        (h c).2.2.2.1.trans (Cert.QkvBody.final9 m c), (h c).2.2.2.2⟩)
      (Cert.KernelQkvIdeal.Value.run_blocks (F := Ideal) m ρ)
  · refine (θ_run Cert.ReferenceQkvIdeal.defs _ _).mono (fun _ h c => ⟨(h c).1.trans ?_, (h c).2.1.trans ?_, (h c).2.2.1.trans ?_,
        (h c).2.2.2.1.trans ?_, (h c).2.2.2.2⟩)
      (Cert.ReferenceQkvIdeal.Value.run (F := Ideal) m' ρ')
    · refine (Cert.ReferenceQkvIdeal.Read.val_main_v76_eq _ _ _).trans ?_
      obtain ⟨a0, a1, a2, a3, a4, a5⟩ := hagree c
      rw [a0, a1, a2]
    · refine (Cert.ReferenceQkvIdeal.Read.val_main_v81_eq m' c).trans ?_
      obtain ⟨a0, a1, a2, a3, a4, a5⟩ := hagree c
      rw [a0, a1, a2, a3, a4, a5]
    · refine (Cert.ReferenceQkvIdeal.Read.val_main_v86_eq m' c).trans ?_
      obtain ⟨a0, a1, a2, a3, a4, a5⟩ := hagree c
      rw [a0, a1, a2, a3, a4, a5]
    · refine (Cert.ReferenceQkvIdeal.Read.val_main_v91_eq m' c).trans ?_
      obtain ⟨a0, a1, a2, a3, a4, a5⟩ := hagree c
      rw [a0, a1, a2, a3, a4, a5]

end Cert.Proof

end
-- ==== Proof.AdalnValue.lean ====
/-
  THE MODULATION CALL over the extended reals: the array it leaves is the reference's result of the same arguments.
-/
module

public import proofs.«01_k».proof.Proof.Gen.KernelAdalnIdeal.Value
public import proofs.«01_k».proof.Proof.Gen.ReferenceAdalnIdeal.Read
public import proofs.«01_k».proof.Proof.MergeWin
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdalnValue

open Cert.KernelAdalnIdeal Cert.KernelAdalnIdeal.Gen

/-- The conditioning entry times its logistic function. -/
def act (z : EReal) : EReal := z * Ideal.div 1 (1 + Ideal.exp (-z))

theorem pay_apply (x : FVec Ideal S8x1024 .f32) (w : FVec Ideal S1x1024x1536 .f32) (v : FVec Ideal S1x1x1536 .f32)
    (z : Fin 1) (b : Fin 8) (n : Fin 1536) :
    k0_pay1 (F := Ideal) x w v (ix3 z b n) = (∑ d, act (x (ix2 b d)) * w (ix3 0 d n)) + v (ix3 0 0 n) := by
  unfold act
  simp only [← Cert.MergeWin.gate_eq]
  pointwise [k0_pay1]

theorem ref_apply (x0 : FVec Ideal S4x1024 .f32) (x1 : FVec Ideal S4x1024x6144 .f32) (x2 : FVec Ideal S4x6144 .f32)
    (l : Fin 4) (b : Fin 8) (n : Fin 6144) :
    Cert.ReferenceAdalnIdeal.Read.val_main_v6 (F := Ideal) x0 x1 x2 (ix3 l b n)
      = (∑ d, act (Cert.ReferenceAdalnIdeal.Read.val_main_v0 (F := Ideal) x0 (ix2 b d)) * x1 (ix3 l d n)) + x2 (ix2 l n) := by
  unfold act Cert.ReferenceAdalnIdeal.Read.val_main_v6 Cert.ReferenceAdalnIdeal.Read.val_main_v3
    Cert.ReferenceAdalnIdeal.Read.val_main_v2 Cert.ReferenceAdalnIdeal.Read.val_main_v1
    Cert.ReferenceAdalnIdeal.Read.val_main_call1_v5 Cert.ReferenceAdalnIdeal.Read.val_main_call1_v3
    Cert.ReferenceAdalnIdeal.Read.val_main_call1_v1 Cert.ReferenceAdalnIdeal.Read.val_main_call1_v0
  generalize Cert.ReferenceAdalnIdeal.Read.val_main_v0 (F := Ideal) x0 = p
  simp only [mul_comm _ (x1 _)]
  pointwise [Cert.ReferenceAdalnIdeal.Read.val_main_v5, Cert.ReferenceAdalnIdeal.Read.val_main_v4,
    Cert.ReferenceAdalnIdeal.Read.val_main_call1_v4, Cert.ReferenceAdalnIdeal.Read.val_main_call1_v2,
    Cert.ReferenceAdalnIdeal.Read.val_main_call1_cst, Cert.ReferenceAdalnIdeal.Read.val_main_call1_cst_0]

/-- Where each window's block lies at every grid point. -/
theorem places : ∀ t : Fin grid0.N,
    (cc0_transform_0 (grid0.coords t) 0 = 0 ∧ cc0_transform_0 (grid0.coords t) 1 = 0)
    ∧ (cc0_transform_1 (grid0.coords t) 0 = t.val / 4 ∧ cc0_transform_1 (grid0.coords t) 1 = 0 ∧ cc0_transform_1 (grid0.coords t) 2 = t.val % 4)
    ∧ (cc0_transform_2 (grid0.coords t) 0 = t.val / 4 ∧ cc0_transform_2 (grid0.coords t) 1 = 0 ∧ cc0_transform_2 (grid0.coords t) 2 = t.val % 4)
    ∧ (cc0_transform_3 (grid0.coords t) 0 = t.val / 4 ∧ cc0_transform_3 (grid0.coords t) 1 = 0 ∧ cc0_transform_3 (grid0.coords t) 2 = t.val % 4) := by
  decide +kernel

variable (m : (ℓ : Loc nD τ sig) → Buf (Elt Ideal) ℓ)

abbrev X0 (c : Dev nD) : FVec Ideal S4x1024 .f32 := m ((c : Thread nD τ).loc main_arg0)
abbrev X1 (c : Dev nD) : FVec Ideal S4x1024x6144 .f32 := m ((c : Thread nD τ).loc main_arg1)
abbrev X2 (c : Dev nD) : FVec Ideal S4x6144 .f32 := m ((c : Thread nD τ).loc main_arg2)

theorem entry_rows (c : Dev nD) :
    (V m c main_v0 : FVec Ideal S8x1024 .f32) = Cert.ReferenceAdalnIdeal.Read.val_main_v0 (F := Ideal) (X0 m c) := by
  show StableHlo.after (List.flatten [hostOps0, hostOps0_1, hostOps0_2]) _ _ = _
  simp only [hostOps0, hostOps0_1, hostOps0_2, List.flatten_cons, List.flatten_nil, List.append_nil, List.cons_append, List.nil_append]
  after_results_simp <;> (try after_results_simp) <;> rfl

theorem entry_bias (c : Dev nD) (l : Fin 4) (z : Fin 1) (n : Fin 6144) :
    (V m c main_v1 : FVec Ideal S4x1x6144 .f32) (ix3 l z n) = X2 m c (ix2 l n) := by
  have e : (V m c main_v1 : FVec Ideal S4x1x6144 .f32) = shapeCast S4x1x6144 (X2 m c) shapeCasts_S4x6144_S4x1x6144 := by
    show StableHlo.after (List.flatten [hostOps0, hostOps0_1, hostOps0_2]) _ _ = _
    simp only [hostOps0, hostOps0_1, hostOps0_2, List.flatten_cons, List.flatten_nil, List.append_nil, List.cons_append, List.nil_append]
    after_results_simp <;> (try after_results_simp) <;> rfl
  rw [e]
  generalize X2 m c = Y
  pointwise

/-- The one block of the padded rows. -/
theorem blk0 (c : Dev nD) (t : Fin cfg0.N) (b : Fin 8) (d : Fin 1024) :
    (iblk m c 0 t : FVec Ideal S8x1024 .f32) (ix2 b d)
      = Cert.ReferenceAdalnIdeal.Read.val_main_v0 (F := Ideal) (X0 m c) (ix2 b d) := by
  obtain ⟨⟨a0, a1⟩, -⟩ := places t
  rw [← entry_rows]
  unfold iblk
  rw [View.read_apply]
  show V m c main_v0 _ = _
  generalize V m c main_v0 = Y
  refine congrArg Y ?_
  funext a
  apply Fin.ext
  match a with
  | ⟨0, _⟩ => show cc0_transform_0 (grid0.coords t) 0 * 8 + 1 * b.val = b.val; omega
  | ⟨1, _⟩ => show cc0_transform_0 (grid0.coords t) 1 * 1024 + 1 * d.val = d.val; omega

theorem blk1 (c : Dev nD) (t : Fin cfg0.N) (z : Fin 1) (d : Fin 1024) (n : Fin 1536) (l : Fin 4) (N : Fin 6144)
    (hl : l.val = t.val / 4) (hn : N.val = t.val % 4 * 1536 + n.val) :
    (iblk m c 1 t : FVec Ideal S1x1024x1536 .f32) (ix3 z d n) = X1 m c (ix3 l d N) := by
  obtain ⟨-, ⟨a0, a1, a2⟩, -⟩ := places t
  unfold iblk
  rw [View.read_apply]
  show V m c main_arg1 _ = _
  rw [V_main_arg1]
  refine congrArg (X1 m c) ?_
  funext a
  apply Fin.ext
  match a with
  | ⟨0, _⟩ => show cc0_transform_1 (grid0.coords t) 0 * 1 + 1 * z.val = l.val; omega
  | ⟨1, _⟩ => show cc0_transform_1 (grid0.coords t) 1 * 1024 + 1 * d.val = d.val; omega
  | ⟨2, _⟩ => show cc0_transform_1 (grid0.coords t) 2 * 1536 + 1 * n.val = N.val; omega

theorem blk2 (c : Dev nD) (t : Fin cfg0.N) (z y : Fin 1) (n : Fin 1536) (l : Fin 4) (N : Fin 6144)
    (hl : l.val = t.val / 4) (hn : N.val = t.val % 4 * 1536 + n.val) :
    (iblk m c 2 t : FVec Ideal S1x1x1536 .f32) (ix3 z y n) = X2 m c (ix2 l N) := by
  obtain ⟨-, -, ⟨a0, a1, a2⟩, -⟩ := places t
  rw [← entry_bias m c l 0 N]
  unfold iblk
  rw [View.read_apply]
  show V m c main_v1 _ = _
  generalize V m c main_v1 = Y
  refine congrArg Y ?_
  funext a
  apply Fin.ext
  match a with
  | ⟨0, _⟩ => show cc0_transform_2 (grid0.coords t) 0 * 1 + 1 * z.val = l.val; omega
  | ⟨1, _⟩ => show cc0_transform_2 (grid0.coords t) 1 * 1 + 1 * y.val = 0; omega
  | ⟨2, _⟩ => show cc0_transform_2 (grid0.coords t) 2 * 1536 + 1 * n.val = N.val; omega

theorem z2 : (![0, 0] : Fin 2 → Nat) = fun _ => 0 := by decide
theorem z3 : (![0, 0, 0] : Fin 3 → Nat) = fun _ => 0 := by decide

theorem out_apply (c : Dev nD) (t : Fin cfg0.N) (z : Fin 1) (b : Fin 8) (n : Fin 1536) (l : Fin 4) (N : Fin 6144)
    (hl : l.val = t.val / 4) (hn : N.val = t.val % 4 * 1536 + n.val) :
    out0_3 (F := Ideal) (iblk m c 0 t) (iblk m c 1 t) (iblk m c 2 t) (ix3 z b n)
      = Cert.ReferenceAdalnIdeal.Read.val_main_v6 (F := Ideal) (X0 m c) (X1 m c) (X2 m c) (ix3 l b N) := by
  have e : out0_3 (F := Ideal) (iblk m c 0 t) (iblk m c 1 t) (iblk m c 2 t)
      = k0_pay1 (F := Ideal) (iblk m c 0 t) (iblk m c 1 t) (iblk m c 2 t) := by
    unfold out0_3
    rw [View.canon_unit_zero z3, View.ld_unit_zero (S := S8x1024) z2, View.ld_unit_zero (S := S1x1024x1536) z3,
      View.ld_unit_zero (S := S1x1x1536) z3]
  rw [e, ref_apply]
  refine (pay_apply _ _ _ z b n).trans ?_
  rw [blk2 m c t 0 0 n l N hl hn]
  simp only [blk0, blk1 m c t 0 _ n l N hl hn]

theorem block_of (t : Fin cfg0.N) (Y : Vec Ideal S1x8x1536 .f32) (G : Vec Ideal S4x8x6144 .f32)
    (h : ∀ (z : Fin 1) (b : Fin 8) (n : Fin 1536) (l : Fin 4) (N : Fin 6144) (_ : l.val = t.val / 4)
      (_ : N.val = t.val % 4 * 1536 + n.val), Y (ix3 z b n) = G (ix3 l b N)) :
    (cfg0.win 3).cut (grid0.coords t) Y = ((cfg0.win 3).blk t).view.read (Elt Ideal) G := by
  have hN : cfg0.N = 16 := N_0
  have ht := t.isLt
  obtain ⟨-, -, -, ⟨p0, p1, p2⟩⟩ := places t
  funext y
  rw [View.read_apply]
  obtain ⟨z, b, n, rfl⟩ : ∃ (z : Fin 1) (b : Fin 8) (n : Fin 1536), y = ix3 z b n := ⟨y 0, y 1, y 2, eq_ix3 y⟩
  refine (h z b n ⟨t.val / 4, by omega⟩ ⟨t.val % 4 * 1536 + n.val, by omega⟩ rfl rfl).trans ?_
  refine congrArg G ?_
  funext a
  apply Fin.ext
  match a with
  | ⟨0, _⟩ => show t.val / 4 = cc0_transform_3 (grid0.coords t) 0 * 1 + 1 * z.val; omega
  | ⟨1, _⟩ => show b.val = cc0_transform_3 (grid0.coords t) 1 * 8 + 1 * b.val; omega
  | ⟨2, _⟩ => show t.val % 4 * 1536 + n.val = cc0_transform_3 (grid0.coords t) 2 * 1536 + 1 * n.val; omega

/-- What a point writes back is its block of the reference's result. -/
theorem flushed_eq (c : Dev nD) (t : Fin cfg0.N) (_hf : (cfg0.win 3).flush t = true) :
    (dats m 0 c).flushed 3 t = ((cfg0.win 3).blk t).view.read (Elt Ideal)
      (Cert.ReferenceAdalnIdeal.Read.val_main_v6 (F := Ideal) (X0 m c) (X1 m c) (X2 m c)) := by
  rw [Cert.KernelAdalnIdeal.Value.flushed3]
  exact block_of t _ _ (fun z b n l N hl hn => out_apply m c t z b n l N hl hn)

theorem cover (i : S4x8x6144.Idx) :
    ∃ t : Fin cfg0.N, (cfg0.win 3).flush t = true ∧ i ∈ ((cfg0.win 3).blk t).view.set := by
  have i0 : (i 0).val < 4 := (i 0).isLt
  have i1 : (i 1).val < 8 := (i 1).isLt
  have i2 : (i 2).val < 6144 := (i 2).isLt
  have hN : cfg0.N = 16 := N_0
  have ht : (i 0).val * 4 + (i 2).val / 1536 < cfg0.N := by omega
  obtain ⟨-, -, -, ⟨p0, p1, p2⟩⟩ := places ⟨_, ht⟩
  refine ⟨⟨_, ht⟩, flush0_3 _, ?_⟩
  show i ∈ ((View.whole main_v2).slice (win0_3.rect ⟨_, ht⟩)).set
  rw [View.set_slice_whole, Rect.mem_set_unit]
  intro a
  dsimp only at p0 p1 p2
  match a with
  | ⟨0, _⟩ => show cc0_transform_3 (grid0.coords ⟨_, ht⟩) 0 * 1 ≤ (i 0).val ∧ (i 0).val < cc0_transform_3 (grid0.coords ⟨_, ht⟩) 0 * 1 + 1; omega
  | ⟨1, _⟩ => show cc0_transform_3 (grid0.coords ⟨_, ht⟩) 1 * 8 ≤ (i 1).val ∧ (i 1).val < cc0_transform_3 (grid0.coords ⟨_, ht⟩) 1 * 8 + 8; omega
  | ⟨2, _⟩ => show cc0_transform_3 (grid0.coords ⟨_, ht⟩) 2 * 1536 ≤ (i 2).val ∧ (i 2).val < cc0_transform_3 (grid0.coords ⟨_, ht⟩) 2 * 1536 + 1536; omega

/-- The array the call leaves is the reference's result. -/
theorem final (c : Dev nD) : (dats m 0 c).arrAt 3 cfg0.N
    = Cert.ReferenceAdalnIdeal.Read.val_main_v6 (F := Ideal) (X0 m c) (X1 m c) (X2 m c) :=
  (dats m 0 c).arrAt_eq_of_cover 3 _ (flushed_eq m c) cover

end Cert.AdalnValue

end
-- ==== Proof.AdalnClaims.lean ====
/-
  THE MODULATION CALL'S CLAIMS: the frames, and the equality with the reference over the extended reals.
-/
module

public import proofs.«01_k».proof.Defs
public import proofs.«01_k».proof.Proof.AdalnValue
public import proofs.«01_k».proof.Proof.Gen.KernelAdaln.Frame
public import proofs.«01_k».proof.Proof.Gen.ReferenceAdalnIdeal.Run
public import Idealize.ShloMosaic.Lib.Quiescent

@[expose] public section

noncomputable section

open Idealize.ShloMosaic Idealize.ShloMosaic.TcCoe Idealize.SL.Sem

namespace Cert.Proof

theorem quiescent_kernelAdaln : Cert.quiescent_KernelAdaln := fun m ρ _ => Cert.KernelAdaln.Gen.frame m ρ
theorem quiescent_kernelAdalnIdeal : Cert.quiescent_KernelAdalnIdeal := fun m ρ _ => Cert.KernelAdalnIdeal.Gen.frame m ρ

theorem quiescent_referenceAdalnIdeal : Cert.quiescent_ReferenceAdalnIdeal := fun m ρ _ =>
  (θ_run Cert.ReferenceAdalnIdeal.defs _ _).mono (fun r h => ⟨fun c => (h c).2, sem_eq_zero_of_no_sems (by decide) r.2⟩)
    (Cert.ReferenceAdalnIdeal.Value.run (F := Ideal) m ρ)

theorem algebraic_adaln : Cert.algebraic_KernelAdalnIdeal_ReferenceAdalnIdeal := by
  intro m ρ m' ρ' _ hagree
  refine ⟨fun c => Cert.ReferenceAdalnIdeal.Read.val_main_v6 (F := Ideal) (Cert.AdalnValue.X0 m c) (Cert.AdalnValue.X1 m c)
      (Cert.AdalnValue.X2 m c), ?_, ?_⟩
  · exact (θ_run Cert.KernelAdalnIdeal.defs _ _).mono (fun _ h c => ⟨(h c).1.trans (Cert.AdalnValue.final m c), (h c).2⟩)
      (Cert.KernelAdalnIdeal.Value.run_blocks (F := Ideal) m ρ)
  · refine (θ_run Cert.ReferenceAdalnIdeal.defs _ _).mono (fun _ h c => ⟨(h c).1.trans ?_, (h c).2⟩)
      (Cert.ReferenceAdalnIdeal.Value.run (F := Ideal) m' ρ')
    refine (Cert.ReferenceAdalnIdeal.Read.val_main_v6_eq _ _ _).trans ?_
    obtain ⟨a0, a1, a2⟩ := hagree c
    rw [a0, a1, a2]

end Cert.Proof

end
-- ==== Proof.AttnIdealLoop1.lean ====
module

public import proofs.«01_k».proof.Proof.Gen.KernelAttnIdeal.Loops

@[expose] public section

set_option maxRecDepth 16384
set_option maxHeartbeats 4000000

noncomputable section

namespace Cert.KernelAttnIdeal.Hand

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

abbrev Trip_t1 (c : Dev nD) (arg3 : Memref sig .tc .vmem S1x1x4096x128 .bf16) (arg13 : Memref sig .tc .vmem S2x4224x128 .bf16) (arg14 : Memref sig .tc .vmem S3x4096x128 .f32) (arg15 : Memref sig .tc .vmem S3x4096x128 .f32) (X_arg3 : BufTy.Contents (Elt F) arg3.view.ty) (X_arg13 : BufTy.Contents (Elt F) arg13.view.ty) : sProp 𝕄G :=
  iprop((arg3.view.loc (c : Thread nD τ) ↦[arg3.view.set]{fullShare} X_arg3) ∗ (arg13.view.loc (c : Thread nD τ) ↦[arg13.view.set]{fullShare} X_arg13) ∗ (∃ f, (arg14.view.loc (c : Thread nD τ) ↦[arg14.view.set]{fullShare} f)) ∗ (∃ f, (arg15.view.loc (c : Thread nD τ) ↦[arg15.view.set]{fullShare} f)))

set_option sl_exec.squeezeSlice true in
theorem trip_t1 (𝒱 : Variants) (c : Dev nD) (bd : Option 𝒱.V) (E : Set ℕ) (i : grid0.Coords) (arg2 : Memref sig .tc .smem S3x4 .f32) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x4x1024x128 .bf16) (harg6 : arg6.IsWhole) (arg7 : Memref sig .tc .vmem S1x4x1024x128 .bf16) (harg7 : arg7.IsWhole) (arg8 : Memref sig .tc .vmem S1x4x1024x128 .bf16) (harg8 : arg8.IsWhole) (arg9 : Memref sig .tc .vmem S1x16x256x128 .bf16) (harg9 : arg9.IsWhole) (arg10 : Memref sig .tc .vmem S1x16x256x128 .bf16) (harg10 : arg10.IsWhole) (arg11 : Memref sig .tc .vmem S1x16x256x128 .bf16) (harg11 : arg11.IsWhole) (arg12 : Memref sig .tc .vmem S1x4096x128 .bf16) (harg12 : arg12.IsWhole) (arg13 : Memref sig .tc .vmem S2x4224x128 .bf16) (harg13 : arg13.IsWhole) (arg14 : Memref sig .tc .vmem S3x4096x128 .f32) (harg14 : arg14.IsWhole) (arg15 : Memref sig .tc .vmem S3x4096x128 .f32) (harg15 : arg15.IsWhole) (v17 : IVec S128x256 32) (v25 : IVec S128x256 1) (v30 : FVec F S128x256 .f32) (X_arg3 : BufTy.Contents (Elt F) arg3.view.ty) (X_arg13 : BufTy.Contents (Elt F) arg13.view.ty) (k : Fin k0_t1_loop.trips) :
    Trip_t1 (F := F) c arg3 arg13 arg14 arg15 X_arg3 X_arg13
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v17 v25 v30 k PUnit.unit)
          (fun _ => Trip_t1 (F := F) c arg3 arg13 arg14 arg15 X_arg3 X_arg13) := by
  have hk : k.val < 2 := Nat.lt_of_lt_of_le k.isLt k0_t1_abs.2.1
  unfold k0_t1_body
  iintro ⟨HQ, HS, ⟨%f14, HA⟩, ⟨%f15, HB⟩⟩
  sl_exec
  sl_step
  isplitl [HQ]; · iexact HQ
  isplitl [HS]; · iexact HS
  isplitl [HA]; · iexists _; iexact HA
  iexists _; iexact HB

set_option warn.classDefReducibility false in
@[sl_loop] def loopInvW_t1 (𝒱 : Variants) (c : Dev nD) (bd : Option 𝒱.V) (E : Set ℕ) (i : grid0.Coords) (arg2 : Memref sig .tc .smem S3x4 .f32) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x4x1024x128 .bf16) (harg6 : arg6.IsWhole) (arg7 : Memref sig .tc .vmem S1x4x1024x128 .bf16) (harg7 : arg7.IsWhole) (arg8 : Memref sig .tc .vmem S1x4x1024x128 .bf16) (harg8 : arg8.IsWhole) (arg9 : Memref sig .tc .vmem S1x16x256x128 .bf16) (harg9 : arg9.IsWhole) (arg10 : Memref sig .tc .vmem S1x16x256x128 .bf16) (harg10 : arg10.IsWhole) (arg11 : Memref sig .tc .vmem S1x16x256x128 .bf16) (harg11 : arg11.IsWhole) (arg12 : Memref sig .tc .vmem S1x4096x128 .bf16) (harg12 : arg12.IsWhole) (arg13 : Memref sig .tc .vmem S2x4224x128 .bf16) (harg13 : arg13.IsWhole) (arg14 : Memref sig .tc .vmem S3x4096x128 .f32) (harg14 : arg14.IsWhole) (arg15 : Memref sig .tc .vmem S3x4096x128 .f32) (harg15 : arg15.IsWhole) (v17 : IVec S128x256 32) (v25 : IVec S128x256 1) (v30 : FVec F S128x256 .f32) (X_arg3 : BufTy.Contents (Elt F) arg3.view.ty) (X_arg13 : BufTy.Contents (Elt F) arg13.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v17 v25 v30 where
  inv := fun _ _ => Trip_t1 (F := F) c arg3 arg13 arg14 arg15 X_arg3 X_arg13
  step k acc := trip_t1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 v17 v25 v30 X_arg3 X_arg13 k

end Cert.KernelAttnIdeal.Hand

end
-- ==== Proof.AttnIdealLoop2.lean ====
module

public import proofs.«01_k».proof.Proof.Gen.KernelAttnIdeal.Loops

@[expose] public section

set_option maxRecDepth 16384
set_option maxHeartbeats 4000000

noncomputable section

namespace Cert.KernelAttnIdeal.Hand

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem k0_off8_eq0 (k : Fin k0_t2_loop.trips) : k0_off8 k 0#32 = ![1, 0 + 2 * k.val, 0] := by
  revert k; decide +kernel
instance (k : Fin k0_t2_loop.trips) : ClosedOff (k0_off8 k 0#32) := ⟨![1, 0 + 2 * k.val, 0], k0_off8_eq0 k⟩

theorem k0_off8_eq1 (k : Fin k0_t2_loop.trips) : k0_off8 k 1#32 = ![1, 512 + 2 * k.val, 0] := by
  revert k; decide +kernel
instance (k : Fin k0_t2_loop.trips) : ClosedOff (k0_off8 k 1#32) := ⟨![1, 512 + 2 * k.val, 0], k0_off8_eq1 k⟩

theorem k0_off8_eq2 (k : Fin k0_t2_loop.trips) : k0_off8 k 2#32 = ![1, 1024 + 2 * k.val, 0] := by
  revert k; decide +kernel
instance (k : Fin k0_t2_loop.trips) : ClosedOff (k0_off8 k 2#32) := ⟨![1, 1024 + 2 * k.val, 0], k0_off8_eq2 k⟩

theorem k0_off8_eq3 (k : Fin k0_t2_loop.trips) : k0_off8 k 3#32 = ![1, 1536 + 2 * k.val, 0] := by
  revert k; decide +kernel
instance (k : Fin k0_t2_loop.trips) : ClosedOff (k0_off8 k 3#32) := ⟨![1, 1536 + 2 * k.val, 0], k0_off8_eq3 k⟩

theorem k0_off8_eq4 (k : Fin k0_t2_loop.trips) : k0_off8 k 4#32 = ![1, 2048 + 2 * k.val, 0] := by
  revert k; decide +kernel
instance (k : Fin k0_t2_loop.trips) : ClosedOff (k0_off8 k 4#32) := ⟨![1, 2048 + 2 * k.val, 0], k0_off8_eq4 k⟩

theorem k0_off8_eq5 (k : Fin k0_t2_loop.trips) : k0_off8 k 5#32 = ![1, 2560 + 2 * k.val, 0] := by
  revert k; decide +kernel
instance (k : Fin k0_t2_loop.trips) : ClosedOff (k0_off8 k 5#32) := ⟨![1, 2560 + 2 * k.val, 0], k0_off8_eq5 k⟩

theorem k0_off8_eq6 (k : Fin k0_t2_loop.trips) : k0_off8 k 6#32 = ![1, 3072 + 2 * k.val, 0] := by
  revert k; decide +kernel
instance (k : Fin k0_t2_loop.trips) : ClosedOff (k0_off8 k 6#32) := ⟨![1, 3072 + 2 * k.val, 0], k0_off8_eq6 k⟩

theorem k0_off8_eq7 (k : Fin k0_t2_loop.trips) : k0_off8 k 7#32 = ![1, 3584 + 2 * k.val, 0] := by
  revert k; decide +kernel
instance (k : Fin k0_t2_loop.trips) : ClosedOff (k0_off8 k 7#32) := ⟨![1, 3584 + 2 * k.val, 0], k0_off8_eq7 k⟩

theorem k0_off8_eq8 (k : Fin k0_t2_loop.trips) : k0_off8 k 8#32 = ![1, 1 + 2 * k.val, 0] := by
  revert k; decide +kernel
instance (k : Fin k0_t2_loop.trips) : ClosedOff (k0_off8 k 8#32) := ⟨![1, 1 + 2 * k.val, 0], k0_off8_eq8 k⟩

theorem k0_off8_eq9 (k : Fin k0_t2_loop.trips) : k0_off8 k 9#32 = ![1, 513 + 2 * k.val, 0] := by
  revert k; decide +kernel
instance (k : Fin k0_t2_loop.trips) : ClosedOff (k0_off8 k 9#32) := ⟨![1, 513 + 2 * k.val, 0], k0_off8_eq9 k⟩

theorem k0_off8_eq10 (k : Fin k0_t2_loop.trips) : k0_off8 k 10#32 = ![1, 1025 + 2 * k.val, 0] := by
  revert k; decide +kernel
instance (k : Fin k0_t2_loop.trips) : ClosedOff (k0_off8 k 10#32) := ⟨![1, 1025 + 2 * k.val, 0], k0_off8_eq10 k⟩

theorem k0_off8_eq11 (k : Fin k0_t2_loop.trips) : k0_off8 k 11#32 = ![1, 1537 + 2 * k.val, 0] := by
  revert k; decide +kernel
instance (k : Fin k0_t2_loop.trips) : ClosedOff (k0_off8 k 11#32) := ⟨![1, 1537 + 2 * k.val, 0], k0_off8_eq11 k⟩

theorem k0_off8_eq12 (k : Fin k0_t2_loop.trips) : k0_off8 k 12#32 = ![1, 2049 + 2 * k.val, 0] := by
  revert k; decide +kernel
instance (k : Fin k0_t2_loop.trips) : ClosedOff (k0_off8 k 12#32) := ⟨![1, 2049 + 2 * k.val, 0], k0_off8_eq12 k⟩

theorem k0_off8_eq13 (k : Fin k0_t2_loop.trips) : k0_off8 k 13#32 = ![1, 2561 + 2 * k.val, 0] := by
  revert k; decide +kernel
instance (k : Fin k0_t2_loop.trips) : ClosedOff (k0_off8 k 13#32) := ⟨![1, 2561 + 2 * k.val, 0], k0_off8_eq13 k⟩

theorem k0_off8_eq14 (k : Fin k0_t2_loop.trips) : k0_off8 k 14#32 = ![1, 3073 + 2 * k.val, 0] := by
  revert k; decide +kernel
instance (k : Fin k0_t2_loop.trips) : ClosedOff (k0_off8 k 14#32) := ⟨![1, 3073 + 2 * k.val, 0], k0_off8_eq14 k⟩

theorem k0_off8_eq15 (k : Fin k0_t2_loop.trips) : k0_off8 k 15#32 = ![1, 3585 + 2 * k.val, 0] := by
  revert k; decide +kernel
instance (k : Fin k0_t2_loop.trips) : ClosedOff (k0_off8 k 15#32) := ⟨![1, 3585 + 2 * k.val, 0], k0_off8_eq15 k⟩

abbrev Trip_t2 (c : Dev nD) (arg6 : Memref sig .tc .vmem S1x4x1024x128 .bf16) (arg13 : Memref sig .tc .vmem S2x4224x128 .bf16) (arg14 : Memref sig .tc .vmem S3x4096x128 .f32) (arg15 : Memref sig .tc .vmem S3x4096x128 .f32) (X_arg6 : BufTy.Contents (Elt F) arg6.view.ty) (X_arg13 : BufTy.Contents (Elt F) arg13.view.ty) : sProp 𝕄G :=
  iprop((arg6.view.loc (c : Thread nD τ) ↦[arg6.view.set]{fullShare} X_arg6) ∗ (arg13.view.loc (c : Thread nD τ) ↦[arg13.view.set]{fullShare} X_arg13) ∗ (∃ f, (arg14.view.loc (c : Thread nD τ) ↦[arg14.view.set]{fullShare} f)) ∗ (∃ f, (arg15.view.loc (c : Thread nD τ) ↦[arg15.view.set]{fullShare} f)))

set_option sl_exec.squeezeSlice true in
theorem trip_t2 (𝒱 : Variants) (c : Dev nD) (bd : Option 𝒱.V) (E : Set ℕ) (i : grid0.Coords) (arg2 : Memref sig .tc .smem S3x4 .f32) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x4x1024x128 .bf16) (harg6 : arg6.IsWhole) (arg7 : Memref sig .tc .vmem S1x4x1024x128 .bf16) (harg7 : arg7.IsWhole) (arg8 : Memref sig .tc .vmem S1x4x1024x128 .bf16) (harg8 : arg8.IsWhole) (arg9 : Memref sig .tc .vmem S1x16x256x128 .bf16) (harg9 : arg9.IsWhole) (arg10 : Memref sig .tc .vmem S1x16x256x128 .bf16) (harg10 : arg10.IsWhole) (arg11 : Memref sig .tc .vmem S1x16x256x128 .bf16) (harg11 : arg11.IsWhole) (arg12 : Memref sig .tc .vmem S1x4096x128 .bf16) (harg12 : arg12.IsWhole) (arg13 : Memref sig .tc .vmem S2x4224x128 .bf16) (harg13 : arg13.IsWhole) (arg14 : Memref sig .tc .vmem S3x4096x128 .f32) (harg14 : arg14.IsWhole) (arg15 : Memref sig .tc .vmem S3x4096x128 .f32) (harg15 : arg15.IsWhole) (arg1 : BitVec 32) (v75 : FVec F S1024x128 .bf16) (v80 : Elt F .f32) (X_arg6 : BufTy.Contents (Elt F) arg6.view.ty) (X_arg13 : BufTy.Contents (Elt F) arg13.view.ty) (k : Fin k0_t2_loop.trips) :
    Trip_t2 (F := F) c arg6 arg13 arg14 arg15 X_arg6 X_arg13
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v75 v80 k PUnit.unit)
          (fun _ => Trip_t2 (F := F) c arg6 arg13 arg14 arg15 X_arg6 X_arg13) := by
  have hk : k.val < 2 := Nat.lt_of_lt_of_le k.isLt k0_t2_abs.2.1
  unfold k0_t2_body
  iintro ⟨HQ, HS, ⟨%f14, HA⟩, ⟨%f15, HB⟩⟩
  sl_exec
  sl_step
  isplitl [HQ]; · iexact HQ
  isplitl [HS]; · iexact HS
  isplitl [HA]; · iexists _; iexact HA
  iexists _; iexact HB

set_option warn.classDefReducibility false in
@[sl_loop] def loopInvW_t2 (𝒱 : Variants) (c : Dev nD) (bd : Option 𝒱.V) (E : Set ℕ) (i : grid0.Coords) (arg2 : Memref sig .tc .smem S3x4 .f32) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x4x1024x128 .bf16) (harg6 : arg6.IsWhole) (arg7 : Memref sig .tc .vmem S1x4x1024x128 .bf16) (harg7 : arg7.IsWhole) (arg8 : Memref sig .tc .vmem S1x4x1024x128 .bf16) (harg8 : arg8.IsWhole) (arg9 : Memref sig .tc .vmem S1x16x256x128 .bf16) (harg9 : arg9.IsWhole) (arg10 : Memref sig .tc .vmem S1x16x256x128 .bf16) (harg10 : arg10.IsWhole) (arg11 : Memref sig .tc .vmem S1x16x256x128 .bf16) (harg11 : arg11.IsWhole) (arg12 : Memref sig .tc .vmem S1x4096x128 .bf16) (harg12 : arg12.IsWhole) (arg13 : Memref sig .tc .vmem S2x4224x128 .bf16) (harg13 : arg13.IsWhole) (arg14 : Memref sig .tc .vmem S3x4096x128 .f32) (harg14 : arg14.IsWhole) (arg15 : Memref sig .tc .vmem S3x4096x128 .f32) (harg15 : arg15.IsWhole) (arg1 : BitVec 32) (v75 : FVec F S1024x128 .bf16) (v80 : Elt F .f32) (X_arg6 : BufTy.Contents (Elt F) arg6.view.ty) (X_arg13 : BufTy.Contents (Elt F) arg13.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg1 v75 v80 where
  inv := fun _ _ => Trip_t2 (F := F) c arg6 arg13 arg14 arg15 X_arg6 X_arg13
  step k acc := trip_t2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg1 v75 v80 X_arg6 X_arg13 k

end Cert.KernelAttnIdeal.Hand

end
-- ==== Proof.AttnIdealLoop3.lean ====
module

public import proofs.«01_k».proof.Proof.Gen.KernelAttnIdeal.Loops

@[expose] public section

set_option maxRecDepth 16384
set_option maxHeartbeats 4000000

noncomputable section

namespace Cert.KernelAttnIdeal.Hand

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem k0_off12_eq0 (k : Fin k0_t3_loop.trips) : k0_off12 k 0#32 = ![2, 0 + 8 * k.val, 0] := by
  revert k; decide +kernel
instance (k : Fin k0_t3_loop.trips) : ClosedOff (k0_off12 k 0#32) := ⟨![2, 0 + 8 * k.val, 0], k0_off12_eq0 k⟩

theorem k0_off12_eq1 (k : Fin k0_t3_loop.trips) : k0_off12 k 1#32 = ![2, 2048 + 8 * k.val, 0] := by
  revert k; decide +kernel
instance (k : Fin k0_t3_loop.trips) : ClosedOff (k0_off12 k 1#32) := ⟨![2, 2048 + 8 * k.val, 0], k0_off12_eq1 k⟩

theorem k0_off12_eq2 (k : Fin k0_t3_loop.trips) : k0_off12 k 2#32 = ![2, 1 + 8 * k.val, 0] := by
  revert k; decide +kernel
instance (k : Fin k0_t3_loop.trips) : ClosedOff (k0_off12 k 2#32) := ⟨![2, 1 + 8 * k.val, 0], k0_off12_eq2 k⟩

theorem k0_off12_eq3 (k : Fin k0_t3_loop.trips) : k0_off12 k 3#32 = ![2, 2049 + 8 * k.val, 0] := by
  revert k; decide +kernel
instance (k : Fin k0_t3_loop.trips) : ClosedOff (k0_off12 k 3#32) := ⟨![2, 2049 + 8 * k.val, 0], k0_off12_eq3 k⟩

theorem k0_off12_eq4 (k : Fin k0_t3_loop.trips) : k0_off12 k 4#32 = ![2, 2 + 8 * k.val, 0] := by
  revert k; decide +kernel
instance (k : Fin k0_t3_loop.trips) : ClosedOff (k0_off12 k 4#32) := ⟨![2, 2 + 8 * k.val, 0], k0_off12_eq4 k⟩

theorem k0_off12_eq5 (k : Fin k0_t3_loop.trips) : k0_off12 k 5#32 = ![2, 2050 + 8 * k.val, 0] := by
  revert k; decide +kernel
instance (k : Fin k0_t3_loop.trips) : ClosedOff (k0_off12 k 5#32) := ⟨![2, 2050 + 8 * k.val, 0], k0_off12_eq5 k⟩

theorem k0_off12_eq6 (k : Fin k0_t3_loop.trips) : k0_off12 k 6#32 = ![2, 3 + 8 * k.val, 0] := by
  revert k; decide +kernel
instance (k : Fin k0_t3_loop.trips) : ClosedOff (k0_off12 k 6#32) := ⟨![2, 3 + 8 * k.val, 0], k0_off12_eq6 k⟩

theorem k0_off12_eq7 (k : Fin k0_t3_loop.trips) : k0_off12 k 7#32 = ![2, 2051 + 8 * k.val, 0] := by
  revert k; decide +kernel
instance (k : Fin k0_t3_loop.trips) : ClosedOff (k0_off12 k 7#32) := ⟨![2, 2051 + 8 * k.val, 0], k0_off12_eq7 k⟩

theorem k0_off12_eq8 (k : Fin k0_t3_loop.trips) : k0_off12 k 8#32 = ![2, 4 + 8 * k.val, 0] := by
  revert k; decide +kernel
instance (k : Fin k0_t3_loop.trips) : ClosedOff (k0_off12 k 8#32) := ⟨![2, 4 + 8 * k.val, 0], k0_off12_eq8 k⟩

theorem k0_off12_eq9 (k : Fin k0_t3_loop.trips) : k0_off12 k 9#32 = ![2, 2052 + 8 * k.val, 0] := by
  revert k; decide +kernel
instance (k : Fin k0_t3_loop.trips) : ClosedOff (k0_off12 k 9#32) := ⟨![2, 2052 + 8 * k.val, 0], k0_off12_eq9 k⟩

theorem k0_off12_eq10 (k : Fin k0_t3_loop.trips) : k0_off12 k 10#32 = ![2, 5 + 8 * k.val, 0] := by
  revert k; decide +kernel
instance (k : Fin k0_t3_loop.trips) : ClosedOff (k0_off12 k 10#32) := ⟨![2, 5 + 8 * k.val, 0], k0_off12_eq10 k⟩

theorem k0_off12_eq11 (k : Fin k0_t3_loop.trips) : k0_off12 k 11#32 = ![2, 2053 + 8 * k.val, 0] := by
  revert k; decide +kernel
instance (k : Fin k0_t3_loop.trips) : ClosedOff (k0_off12 k 11#32) := ⟨![2, 2053 + 8 * k.val, 0], k0_off12_eq11 k⟩

theorem k0_off12_eq12 (k : Fin k0_t3_loop.trips) : k0_off12 k 12#32 = ![2, 6 + 8 * k.val, 0] := by
  revert k; decide +kernel
instance (k : Fin k0_t3_loop.trips) : ClosedOff (k0_off12 k 12#32) := ⟨![2, 6 + 8 * k.val, 0], k0_off12_eq12 k⟩

theorem k0_off12_eq13 (k : Fin k0_t3_loop.trips) : k0_off12 k 13#32 = ![2, 2054 + 8 * k.val, 0] := by
  revert k; decide +kernel
instance (k : Fin k0_t3_loop.trips) : ClosedOff (k0_off12 k 13#32) := ⟨![2, 2054 + 8 * k.val, 0], k0_off12_eq13 k⟩

theorem k0_off12_eq14 (k : Fin k0_t3_loop.trips) : k0_off12 k 14#32 = ![2, 7 + 8 * k.val, 0] := by
  revert k; decide +kernel
instance (k : Fin k0_t3_loop.trips) : ClosedOff (k0_off12 k 14#32) := ⟨![2, 7 + 8 * k.val, 0], k0_off12_eq14 k⟩

theorem k0_off12_eq15 (k : Fin k0_t3_loop.trips) : k0_off12 k 15#32 = ![2, 2055 + 8 * k.val, 0] := by
  revert k; decide +kernel
instance (k : Fin k0_t3_loop.trips) : ClosedOff (k0_off12 k 15#32) := ⟨![2, 2055 + 8 * k.val, 0], k0_off12_eq15 k⟩

abbrev Trip_t3 (c : Dev nD) (arg9 : Memref sig .tc .vmem S1x16x256x128 .bf16) (arg13 : Memref sig .tc .vmem S2x4224x128 .bf16) (arg14 : Memref sig .tc .vmem S3x4096x128 .f32) (arg15 : Memref sig .tc .vmem S3x4096x128 .f32) (X_arg9 : BufTy.Contents (Elt F) arg9.view.ty) (X_arg13 : BufTy.Contents (Elt F) arg13.view.ty) : sProp 𝕄G :=
  iprop((arg9.view.loc (c : Thread nD τ) ↦[arg9.view.set]{fullShare} X_arg9) ∗ (arg13.view.loc (c : Thread nD τ) ↦[arg13.view.set]{fullShare} X_arg13) ∗ (∃ f, (arg14.view.loc (c : Thread nD τ) ↦[arg14.view.set]{fullShare} f)) ∗ (∃ f, (arg15.view.loc (c : Thread nD τ) ↦[arg15.view.set]{fullShare} f)))

set_option sl_exec.squeezeSlice true in
theorem trip_t3 (𝒱 : Variants) (c : Dev nD) (bd : Option 𝒱.V) (E : Set ℕ) (i : grid0.Coords) (arg2 : Memref sig .tc .smem S3x4 .f32) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x4x1024x128 .bf16) (harg6 : arg6.IsWhole) (arg7 : Memref sig .tc .vmem S1x4x1024x128 .bf16) (harg7 : arg7.IsWhole) (arg8 : Memref sig .tc .vmem S1x4x1024x128 .bf16) (harg8 : arg8.IsWhole) (arg9 : Memref sig .tc .vmem S1x16x256x128 .bf16) (harg9 : arg9.IsWhole) (arg10 : Memref sig .tc .vmem S1x16x256x128 .bf16) (harg10 : arg10.IsWhole) (arg11 : Memref sig .tc .vmem S1x16x256x128 .bf16) (harg11 : arg11.IsWhole) (arg12 : Memref sig .tc .vmem S1x4096x128 .bf16) (harg12 : arg12.IsWhole) (arg13 : Memref sig .tc .vmem S2x4224x128 .bf16) (harg13 : arg13.IsWhole) (arg14 : Memref sig .tc .vmem S3x4096x128 .f32) (harg14 : arg14.IsWhole) (arg15 : Memref sig .tc .vmem S3x4096x128 .f32) (harg15 : arg15.IsWhole) (v265 : Elt F .f32) (v267 : IVec S128x256 32) (v270 : IVec S128x256 32) (v275 : IVec S128x256 1) (cst_299 : F .f32) (X_arg9 : BufTy.Contents (Elt F) arg9.view.ty) (X_arg13 : BufTy.Contents (Elt F) arg13.view.ty) (k : Fin k0_t3_loop.trips) :
    Trip_t3 (F := F) c arg9 arg13 arg14 arg15 X_arg9 X_arg13
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v265 v267 v270 v275 cst_299 k PUnit.unit)
          (fun _ => Trip_t3 (F := F) c arg9 arg13 arg14 arg15 X_arg9 X_arg13) := by
  have hk : k.val < 2 := Nat.lt_of_lt_of_le k.isLt k0_t3_abs.2.1
  unfold k0_t3_body
  iintro ⟨HQ, HS, ⟨%f14, HA⟩, ⟨%f15, HB⟩⟩
  sl_exec
  sl_step
  isplitl [HQ]; · iexact HQ
  isplitl [HS]; · iexact HS
  isplitl [HA]; · iexists _; iexact HA
  iexists _; iexact HB

set_option warn.classDefReducibility false in
@[sl_loop] def loopInvW_t3 (𝒱 : Variants) (c : Dev nD) (bd : Option 𝒱.V) (E : Set ℕ) (i : grid0.Coords) (arg2 : Memref sig .tc .smem S3x4 .f32) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x4x1024x128 .bf16) (harg6 : arg6.IsWhole) (arg7 : Memref sig .tc .vmem S1x4x1024x128 .bf16) (harg7 : arg7.IsWhole) (arg8 : Memref sig .tc .vmem S1x4x1024x128 .bf16) (harg8 : arg8.IsWhole) (arg9 : Memref sig .tc .vmem S1x16x256x128 .bf16) (harg9 : arg9.IsWhole) (arg10 : Memref sig .tc .vmem S1x16x256x128 .bf16) (harg10 : arg10.IsWhole) (arg11 : Memref sig .tc .vmem S1x16x256x128 .bf16) (harg11 : arg11.IsWhole) (arg12 : Memref sig .tc .vmem S1x4096x128 .bf16) (harg12 : arg12.IsWhole) (arg13 : Memref sig .tc .vmem S2x4224x128 .bf16) (harg13 : arg13.IsWhole) (arg14 : Memref sig .tc .vmem S3x4096x128 .f32) (harg14 : arg14.IsWhole) (arg15 : Memref sig .tc .vmem S3x4096x128 .f32) (harg15 : arg15.IsWhole) (v265 : Elt F .f32) (v267 : IVec S128x256 32) (v270 : IVec S128x256 32) (v275 : IVec S128x256 1) (cst_299 : F .f32) (X_arg9 : BufTy.Contents (Elt F) arg9.view.ty) (X_arg13 : BufTy.Contents (Elt F) arg13.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v265 v267 v270 v275 cst_299 where
  inv := fun _ _ => Trip_t3 (F := F) c arg9 arg13 arg14 arg15 X_arg9 X_arg13
  step k acc := trip_t3 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 v265 v267 v270 v275 cst_299 X_arg9 X_arg13 k

end Cert.KernelAttnIdeal.Hand

end
-- ==== Proof.AttnIdealRun.lean ====
module

public import proofs.«01_k».proof.Proof.AttnIdealLoop1
public import proofs.«01_k».proof.Proof.AttnIdealLoop2
public import proofs.«01_k».proof.Proof.AttnIdealLoop3

@[expose] public section

set_option maxRecDepth 16384
set_option maxHeartbeats 4000000

noncomputable section

namespace Cert.KernelAttnIdeal.Hand

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One point's body, from its buffers at any contents to its buffers at some contents. -/
abbrev Held (c : Dev nD) (arg2 : Memref sig .tc .smem S3x4 .f32) (arg3 : Memref sig .tc .vmem S1x1x4096x128 .bf16) (arg4 : Memref sig .tc .vmem S1x1x4096x128 .bf16) (arg5 : Memref sig .tc .vmem S1x1x4096x128 .bf16) (arg6 : Memref sig .tc .vmem S1x4x1024x128 .bf16) (arg7 : Memref sig .tc .vmem S1x4x1024x128 .bf16) (arg8 : Memref sig .tc .vmem S1x4x1024x128 .bf16) (arg9 : Memref sig .tc .vmem S1x16x256x128 .bf16) (arg10 : Memref sig .tc .vmem S1x16x256x128 .bf16) (arg11 : Memref sig .tc .vmem S1x16x256x128 .bf16) (arg12 : Memref sig .tc .vmem S1x4096x128 .bf16) (arg13 : Memref sig .tc .vmem S2x4224x128 .bf16) (arg14 : Memref sig .tc .vmem S3x4096x128 .f32) (arg15 : Memref sig .tc .vmem S3x4096x128 .f32) : sProp 𝕄G :=
  iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

set_option sl_exec.squeezeSlice true in
theorem kernelRun (c : Dev nD) (i : grid0.Coords) (arg2 : Memref sig .tc .smem S3x4 .f32) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x4x1024x128 .bf16) (harg6 : arg6.IsWhole) (arg7 : Memref sig .tc .vmem S1x4x1024x128 .bf16) (harg7 : arg7.IsWhole) (arg8 : Memref sig .tc .vmem S1x4x1024x128 .bf16) (harg8 : arg8.IsWhole) (arg9 : Memref sig .tc .vmem S1x16x256x128 .bf16) (harg9 : arg9.IsWhole) (arg10 : Memref sig .tc .vmem S1x16x256x128 .bf16) (harg10 : arg10.IsWhole) (arg11 : Memref sig .tc .vmem S1x16x256x128 .bf16) (harg11 : arg11.IsWhole) (arg12 : Memref sig .tc .vmem S1x4096x128 .bf16) (harg12 : arg12.IsWhole) (arg13 : Memref sig .tc .vmem S2x4224x128 .bf16) (harg13 : arg13.IsWhole) (arg14 : Memref sig .tc .vmem S3x4096x128 .f32) (harg14 : arg14.IsWhole) (arg15 : Memref sig .tc .vmem S3x4096x128 .f32) (harg15 : arg15.IsWhole) :
    Held (F := F) c arg2 arg3 arg4 arg5 arg6 arg7 arg8 arg9 arg10 arg11 arg12 arg13 arg14 arg15
      ⊢ wp frame (wpE (defs₀ (F := F)) Variants.none (c : Thread nD τ) none) Set.univ (cc0_dilated_attn (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => Held (F := F) c arg2 arg3 arg4 arg5 arg6 arg7 arg8 arg9 arg10 arg11 arg12 arg13 arg14 arg15) := by
  simp only [cc0_dilated_attn_eq_skeleton]; unfold cc0_dilated_attn_skel
  unfold Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelAttnIdeal.Hand

end
-- ==== Proof.AttnIdealFrame.lean ====
module

public import proofs.«01_k».proof.Proof.AttnIdealRun
public import proofs.«01_k».proof.Proof.Gen.KernelAttnIdeal.Frame
public import Idealize.ShloMosaic.Lib.Pipeline.Frame

@[expose] public section

set_option maxRecDepth 16384
set_option maxHeartbeats 4000000

noncomputable section

namespace Cert.KernelAttnIdeal.Hand

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The class invariant: the three scratch operands owned at some contents, the generator register at some state. -/
theorem PhiA0_eq (c : Dev nD) :
    (Pipeline.ΦA spec0 c : sProp 𝕄G)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- Every window is forgotten: the claim reads no staging buffer. -/
def forgets0 : Fin 11 → Bool := fun _ => true

def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d))
def bodyPost (c : Dev nD) (t : Fin cfg0.N) : sProp 𝕄G :=
  iprop((dats m 0 c).Φ t.succ ∗ (dats m 0 c).owesAt () t.succ
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨HS0, HS1, HS2⟩, Hg⟩, HO, H0, H1, H2, H3, H4, H5, H6, H7, H8, H9, H10⟩
  iapply (wp_wand_r Idealize.ShloMosaic.frame (wpE (defs₀ (F := F)) Variants.none (c : Thread nD τ) none) Set.univ)
  isplitl [H0 H1 H2 H3 H4 H5 H6 H7 H8 H9 H10 HS0 HS1 HS2]
  · iapply (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _))
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iexact HS2
  · iintro %_ HH
    unfold Held
    icases HH with ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame at any `F`: the three arguments end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 3 rfl).trans ((A_eq m c 3).trans (V_main_arg0 m c)),
      (h.1.arr_in c 6 rfl).trans ((A_eq m c 6).trans (V_main_arg1 m c)),
      (h.1.arr_in c 9 rfl).trans ((A_eq m c 9).trans (V_main_arg2 m c))⟩, h.2⟩) (run_main_quiescent m ρ)

end Cert.KernelAttnIdeal.Hand

end
-- ==== Proof.AttnClaims.lean ====
module

public import proofs.«01_k».proof.Defs
public import proofs.«01_k».proof.Proof.AttnFrame
public import proofs.«01_k».proof.Proof.AttnIdealFrame

@[expose] public section

noncomputable section

namespace Cert.Proof

theorem quiescent_kernelAttn : Cert.quiescent_KernelAttn (hKernelAttn := Cert.KernelAttn.Gen.facts) :=
  fun m ρ _ => Cert.KernelAttn.Hand.frame m ρ
theorem quiescent_kernelAttnIdeal : Cert.quiescent_KernelAttnIdeal (hKernelAttnIdeal := Cert.KernelAttnIdeal.Gen.facts) :=
  fun m ρ _ => Cert.KernelAttnIdeal.Hand.frame m ρ

end Cert.Proof

end
-- ==== Proof.SsdIdealTiles.lean ====
module

public import proofs.«01_k».proof.Proof.Gen.KernelSsdIdeal.Loops
public import Idealize.ShloMosaic.Lib.WritesUnit
public import Idealize.ShloMosaic.Lib.Pipeline.Value
public import Idealize.ShloMosaic.Lib.Pipeline.FrameBody

@[expose] public section

set_option maxRecDepth 16384
set_option maxHeartbeats 4000000

noncomputable section

namespace Cert.KernelSsdIdeal.Hand

open Cert.KernelSsdIdeal Cert.KernelSsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem k_lt (k : Fin k0_t1_loop.trips) : k.val < 8 := Nat.lt_of_lt_of_le k.isLt k0_t1_abs.2.1

/-- The tile `y 1`'s block of 256 columns that holds column `y 3`. -/
def ugBlk (w : Vec F S1x8x1024x512 .bf16) (y : S1x8x1024x512.Idx) : Vec F S1x1x1024x256 .bf16 := fun z =>
  w (fun a => match a with
    | ⟨0, _⟩ => ⟨0, Nat.one_pos⟩
    | ⟨1, _⟩ => y 1
    | ⟨2, _⟩ => z 2
    | ⟨3, _⟩ => ⟨256 * ((y 3).val / 256) + (z 3).val, by
        have h : (y 3).val < 512 := (y 3).isLt; have h' : (z 3).val < 256 := (z 3).isLt
        show _ < 512; omega⟩)

/-- What the body leaves in the second result's block: each tile's product with the rows of `h`, 256 columns at once. -/
def ugVal (h : Vec F S1x1024x1024 .bf16) (w : Vec F S1x8x1024x512 .bf16) : Vec F S1x8x1024x512 .bf16 := fun y =>
  k0_pay7 h (ugBlk w y) (fun a => match a with
    | ⟨0, _⟩ => ⟨0, Nat.one_pos⟩
    | ⟨1, _⟩ => ⟨0, Nat.one_pos⟩
    | ⟨2, _⟩ => y 2
    | ⟨3, _⟩ => ⟨(y 3).val % 256, Nat.mod_lt _ (by decide)⟩)

/-- The tiles before `k` hold what the body leaves in them. -/
def UgTo (arg2 : Memref sig .tc .vmem S1x1024x1024 .bf16) (arg4 : Memref sig .tc .vmem S1x8x1024x512 .bf16)
    (arg13 : Memref sig .tc .vmem S1x8x1024x512 .bf16) (X2 : BufTy.Contents (Elt F) arg2.view.ty)
    (X4 : BufTy.Contents (Elt F) arg4.view.ty) (k : ℕ) (f : BufTy.Contents (Elt F) arg13.view.ty) : Prop :=
  ∀ y : S1x8x1024x512.Idx, (y 1).val < k →
    arg13.view.read (Elt F) f y = ugVal (arg2.view.read (Elt F) X2) (arg4.view.read (Elt F) X4) y

theorem z3 : (![0, 0, 0] : Fin 3 → Nat) = fun _ => 0 := funext fun a => by fin_cases a <;> rfl

/-- One trip fills tile `k`: two blocks of 256 columns. -/
theorem ugTo_step (arg2 : Memref sig .tc .vmem S1x1024x1024 .bf16) (arg4 : Memref sig .tc .vmem S1x8x1024x512 .bf16)
    (arg13 : Memref sig .tc .vmem S1x8x1024x512 .bf16) (X2 : BufTy.Contents (Elt F) arg2.view.ty)
    (X4 : BufTy.Contents (Elt F) arg4.view.ty) (k : Fin k0_t1_loop.trips) (f : BufTy.Contents (Elt F) arg13.view.ty)
    (hf : UgTo arg2 arg4 arg13 X2 X4 k.val f) :
    UgTo arg2 arg4 arg13 X2 X4 (k.val + 1) (arg13.view.writes (Elt F) f
      [⟨Rect.unit (s := S1x8x1024x512) (k0_off5 k) S1x1x1024x256.size (k0_off5_inb k),
          k0_pay675 (View.readAt (Elt F) arg2.view (Rect.unit (s := S1x1024x1024) ![0, 0, 0] S1x1024x1024.size inb_S1x1024x1024_S1x1024x1024_0_0_0).toLoadRect X2)
            (View.readAt (Elt F) arg4.view (Rect.unit (s := S1x8x1024x512) (k0_off5 k) S1x1x1024x256.size (k0_off5_inb k)).toLoadRect X4)⟩,
        ⟨Rect.unit (s := S1x8x1024x512) (k0_off4 k) S1x1x1024x256.size (k0_off4_inb k),
          k0_pay7 (View.readAt (Elt F) arg2.view (Rect.unit (s := S1x1024x1024) ![0, 0, 0] S1x1024x1024.size inb_S1x1024x1024_S1x1024x1024_0_0_0).toLoadRect X2)
            (View.readAt (Elt F) arg4.view (Rect.unit (s := S1x8x1024x512) (k0_off4 k) S1x1x1024x256.size (k0_off4_inb k)).toLoadRect X4)⟩]) := by
  intro y hy
  have h3 : (y 3).val < 512 := (y 3).isLt
  have h0 : (y 0).val < 1 := (y 0).isLt
  rcases Nat.lt_or_ge (y 1).val k.val with h1 | h1
  · rw [View.read_writes_cons_unit_of_not_mem _ _ _ _ _ y (k0_off5_eq k) 1 (Or.inl h1),
      View.read_writes_cons_unit_of_not_mem _ _ _ _ _ y (k0_off4_eq k) 1 (Or.inl h1)]
    exact hf y h1
  have e1 : (y 1).val = k.val := by omega
  have eH : View.readAt (Elt F) arg2.view (Rect.unit (s := S1x1024x1024) ![0, 0, 0] S1x1024x1024.size inb_S1x1024x1024_S1x1024x1024_0_0_0).toLoadRect X2
      = arg2.view.read (Elt F) X2 := by
    rw [View.readAt_eq_ld, View.ld_unit_zero (S := S1x1024x1024) z3]
  rw [eH]
  by_cases h256 : (y 3).val < 256
  · rw [View.read_writes_cons_unit_of_not_mem _ _ _ _ _ y (k0_off5_eq k) 3 (Or.inl h256)]
    have eB : View.readAt (Elt F) arg4.view (Rect.unit (s := S1x8x1024x512) (k0_off4 k) S1x1x1024x256.size (k0_off4_inb k)).toLoadRect X4
        = ugBlk (arg4.view.read (Elt F) X4) y := by
      rw [View.readAt_eq_ld]
      funext z
      have z0 : (z 0).val < 1 := (z 0).isLt
      have z1 : (z 1).val < 1 := (z 1).isLt
      have o0 : k0_off4 k 0 = 0 := congrFun (k0_off4_eq k) 0
      have o1 : k0_off4 k 1 = k.val := congrFun (k0_off4_eq k) 1
      have o2 : k0_off4 k 2 = 0 := congrFun (k0_off4_eq k) 2
      have o3 : k0_off4 k 3 = 0 := congrFun (k0_off4_eq k) 3
      refine congrArg (arg4.view.read (Elt F) X4) (funext fun a => Fin.ext ?_)
      match a with
      | ⟨0, _⟩ => show k0_off4 k 0 + 1 * (z 0).val = 0; omega
      | ⟨1, _⟩ => show k0_off4 k 1 + 1 * (z 1).val = (y 1).val; omega
      | ⟨2, _⟩ => show k0_off4 k 2 + 1 * (z 2).val = (z 2).val; omega
      | ⟨3, _⟩ => show k0_off4 k 3 + 1 * (z 3).val = 256 * ((y 3).val / 256) + (z 3).val; omega
    rw [eB]
    refine View.read_writes_cons_unit_of_mem _ _ _ _ _ y _ (k0_off4_eq k) fun a => ?_
    match a with
    | ⟨0, _⟩ => show (y 0).val = 0 + 0; omega
    | ⟨1, _⟩ => show (y 1).val = k.val + 0; omega
    | ⟨2, _⟩ => show (y 2).val = 0 + (y 2).val; omega
    | ⟨3, _⟩ => show (y 3).val = 0 + (y 3).val % 256; omega
  · have eB : View.readAt (Elt F) arg4.view (Rect.unit (s := S1x8x1024x512) (k0_off5 k) S1x1x1024x256.size (k0_off5_inb k)).toLoadRect X4
        = ugBlk (arg4.view.read (Elt F) X4) y := by
      rw [View.readAt_eq_ld]
      funext z
      have z0 : (z 0).val < 1 := (z 0).isLt
      have z1 : (z 1).val < 1 := (z 1).isLt
      have o0 : k0_off5 k 0 = 0 := congrFun (k0_off5_eq k) 0
      have o1 : k0_off5 k 1 = k.val := congrFun (k0_off5_eq k) 1
      have o2 : k0_off5 k 2 = 0 := congrFun (k0_off5_eq k) 2
      have o3 : k0_off5 k 3 = 256 := congrFun (k0_off5_eq k) 3
      refine congrArg (arg4.view.read (Elt F) X4) (funext fun a => Fin.ext ?_)
      match a with
      | ⟨0, _⟩ => show k0_off5 k 0 + 1 * (z 0).val = 0; omega
      | ⟨1, _⟩ => show k0_off5 k 1 + 1 * (z 1).val = (y 1).val; omega
      | ⟨2, _⟩ => show k0_off5 k 2 + 1 * (z 2).val = (z 2).val; omega
      | ⟨3, _⟩ => show k0_off5 k 3 + 1 * (z 3).val = 256 * ((y 3).val / 256) + (z 3).val; omega
    rw [eB]
    refine View.read_writes_cons_unit_of_mem _ _ _ _ _ y _ (k0_off5_eq k) fun a => ?_
    match a with
    | ⟨0, _⟩ => show (y 0).val = 0 + 0; omega
    | ⟨1, _⟩ => show (y 1).val = k.val + 0; omega
    | ⟨2, _⟩ => show (y 2).val = 0 + (y 2).val; omega
    | ⟨3, _⟩ => show (y 3).val = 256 + (y 3).val % 256; omega

end Cert.KernelSsdIdeal.Hand

end
-- ==== Proof.SsdIdealLoop.lean ====
module

public import proofs.«01_k».proof.Proof.SsdIdealTiles

@[expose] public section

set_option maxRecDepth 16384
set_option maxHeartbeats 4000000

noncomputable section

namespace Cert.KernelSsdIdeal.Hand

open Cert.KernelSsdIdeal Cert.KernelSsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

abbrev Trip_t1 (c : Dev nD) (arg2 : Memref sig .tc .vmem S1x1024x1024 .bf16) (arg4 : Memref sig .tc .vmem S1x8x1024x512 .bf16) (arg5 : Memref sig .tc .vmem S1x1024x128 .bf16) (arg6 : Memref sig .tc .vmem S4x1536 .f32) (arg7 : Memref sig .tc .vmem S1x1536 .f32) (arg8 : Memref sig .tc .vmem S1x128 .f32) (arg9 : Memref sig .tc .vmem S1x128 .f32) (arg10 : Memref sig .tc .vmem S1x1024 .f32) (arg11 : Memref sig .tc .vmem S1x1024 .f32) (arg14 : Memref sig .tc .vmem S1024x2560 .bf16) (arg12 : Memref sig .tc .vmem S1x1024x1024 .bf16) (arg15 : Memref sig .tc .vmem S12x136x128 .f32) (arg16 : Memref sig .tc .vmem S12x128x128 .f32) (arg17 : Memref sig .tc .vmem S2x128x512 .f32) (arg13 : Memref sig .tc .vmem S1x8x1024x512 .bf16) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg14 : BufTy.Contents (Elt F) arg14.view.ty) (k : ℕ) : sProp 𝕄G :=
  iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg14.view.loc (c : Thread nD τ) ↦[arg14.view.set]{fullShare} X_arg14) ∗ (∃ f, (arg12.view.loc (c : Thread nD τ) ↦[arg12.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))
    ∗ (∃ f, ⌜UgTo arg2 arg4 arg13 X_arg2 X_arg4 k f⌝ ∗ (arg13.view.loc (c : Thread nD τ) ↦[arg13.view.set]{fullShare} f)))

theorem trip_t1 (𝒱 : Variants) (c : Dev nD) (bd : Option 𝒱.V) (E : Set ℕ) (i : grid0.Coords) (arg2 : Memref sig .tc .vmem S1x1024x1024 .bf16) (harg2 : arg2.IsWhole) (arg3 : Memref sig .tc .vmem S1x1024x2560 .bf16) (harg3 : arg3.IsWhole) (arg4 : Memref sig .tc .vmem S1x8x1024x512 .bf16) (harg4 : arg4.IsWhole) (arg5 : Memref sig .tc .vmem S1x1024x128 .bf16) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x1024 .bf16) (harg12 : arg12.IsWhole) (arg13 : Memref sig .tc .vmem S1x8x1024x512 .bf16) (harg13 : arg13.IsWhole) (arg14 : Memref sig .tc .vmem S1024x2560 .bf16) (harg14 : arg14.IsWhole) (arg15 : Memref sig .tc .vmem S12x136x128 .f32) (harg15 : arg15.IsWhole) (arg16 : Memref sig .tc .vmem S12x128x128 .f32) (harg16 : arg16.IsWhole) (arg17 : Memref sig .tc .vmem S2x128x512 .f32) (harg17 : arg17.IsWhole) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg14 : BufTy.Contents (Elt F) arg14.view.ty) (k : Fin k0_t1_loop.trips) :
    Trip_t1 (F := F) c arg2 arg4 arg5 arg6 arg7 arg8 arg9 arg10 arg11 arg14 arg12 arg15 arg16 arg17 arg13 X_arg2 X_arg4 X_arg5 X_arg6 X_arg7 X_arg8 X_arg9 X_arg10 X_arg11 X_arg14 k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k PUnit.unit)
          (fun _ => Trip_t1 (F := F) c arg2 arg4 arg5 arg6 arg7 arg8 arg9 arg10 arg11 arg14 arg12 arg15 arg16 arg17 arg13 X_arg2 X_arg4 X_arg5 X_arg6 X_arg7 X_arg8 X_arg9 X_arg10 X_arg11 X_arg14 (k.val + 1)) := by
  have hk : k.val < 8 := Nat.lt_of_lt_of_le k.isLt k0_t1_abs.2.1
  unfold k0_t1_body
  iintro ⟨H2, H4, H5, H6, H7, H8, H9, H10, H11, H14, ⟨%f12, H12⟩, ⟨%f15, H15⟩, ⟨%f16, H16⟩, ⟨%f17, H17⟩, ⟨%f13, %hf, H13⟩⟩
  sl_exec
  sl_step
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H14]; · iexact H14
  isplitl [H12]; · iexists _; iexact H12
  isplitl [H15]; · iexists _; iexact H15
  isplitl [H16]; · iexists _; iexact H16
  isplitl [H17]; · iexists _; iexact H17
  iexists _; isplitr; swap; · iexact H13
  ipureintro
  sl_unfold_words
  exact ugTo_step arg2 arg4 arg13 X_arg2 X_arg4 k f13 hf

set_option warn.classDefReducibility false in
@[sl_loop] def loopInvW_t1 (𝒱 : Variants) (c : Dev nD) (bd : Option 𝒱.V) (E : Set ℕ) (i : grid0.Coords) (arg2 : Memref sig .tc .vmem S1x1024x1024 .bf16) (harg2 : arg2.IsWhole) (arg3 : Memref sig .tc .vmem S1x1024x2560 .bf16) (harg3 : arg3.IsWhole) (arg4 : Memref sig .tc .vmem S1x8x1024x512 .bf16) (harg4 : arg4.IsWhole) (arg5 : Memref sig .tc .vmem S1x1024x128 .bf16) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x1024 .bf16) (harg12 : arg12.IsWhole) (arg13 : Memref sig .tc .vmem S1x8x1024x512 .bf16) (harg13 : arg13.IsWhole) (arg14 : Memref sig .tc .vmem S1024x2560 .bf16) (harg14 : arg14.IsWhole) (arg15 : Memref sig .tc .vmem S12x136x128 .f32) (harg15 : arg15.IsWhole) (arg16 : Memref sig .tc .vmem S12x128x128 .f32) (harg16 : arg16.IsWhole) (arg17 : Memref sig .tc .vmem S2x128x512 .f32) (harg17 : arg17.IsWhole) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg14 : BufTy.Contents (Elt F) arg14.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 where
  inv := fun k _ => Trip_t1 (F := F) c arg2 arg4 arg5 arg6 arg7 arg8 arg9 arg10 arg11 arg14 arg12 arg15 arg16 arg17 arg13 X_arg2 X_arg4 X_arg5 X_arg6 X_arg7 X_arg8 X_arg9 X_arg10 X_arg11 X_arg14 k
  step k acc := trip_t1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg4 X_arg5 X_arg6 X_arg7 X_arg8 X_arg9 X_arg10 X_arg11 X_arg14 k

end Cert.KernelSsdIdeal.Hand

end
-- ==== Proof.SsdIdealRun.lean ====
module

public import proofs.«01_k».proof.Proof.SsdIdealLoop

@[expose] public section

set_option maxRecDepth 16384
set_option maxHeartbeats 4000000

noncomputable section

namespace Cert.KernelSsdIdeal.Hand

open Cert.KernelSsdIdeal Cert.KernelSsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What the body starts from: the blocks of `h` and of the tiles' weights, and its other buffers at any contents. -/
abbrev Before (c : Dev nD) (arg2 : Memref sig .tc .vmem S1x1024x1024 .bf16) (arg3 : Memref sig .tc .vmem S1x1024x2560 .bf16) (arg4 : Memref sig .tc .vmem S1x8x1024x512 .bf16) (arg5 : Memref sig .tc .vmem S1x1024x128 .bf16) (arg6 : Memref sig .tc .vmem S4x1536 .f32) (arg7 : Memref sig .tc .vmem S1x1536 .f32) (arg8 : Memref sig .tc .vmem S1x128 .f32) (arg9 : Memref sig .tc .vmem S1x128 .f32) (arg10 : Memref sig .tc .vmem S1x1024 .f32) (arg11 : Memref sig .tc .vmem S1x1024 .f32) (arg12 : Memref sig .tc .vmem S1x1024x1024 .bf16) (arg13 : Memref sig .tc .vmem S1x8x1024x512 .bf16) (arg14 : Memref sig .tc .vmem S1024x2560 .bf16) (arg15 : Memref sig .tc .vmem S12x136x128 .f32) (arg16 : Memref sig .tc .vmem S12x128x128 .f32) (arg17 : Memref sig .tc .vmem S2x128x512 .f32) (h : Vec F S1x1024x1024 .bf16) (w : Vec F S1x8x1024x512 .bf16) : sProp 𝕄G :=
  iprop(owns (c : Thread nD τ) arg2 fullShare h ∗ (∃ d, owns (c : Thread nD τ) arg3 fullShare d) ∗ owns (c : Thread nD τ) arg4 fullShare w ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))

/-- What it ends with: the same blocks, the second result's block filled, its other buffers at some contents. -/
abbrev After (c : Dev nD) (arg2 : Memref sig .tc .vmem S1x1024x1024 .bf16) (arg3 : Memref sig .tc .vmem S1x1024x2560 .bf16) (arg4 : Memref sig .tc .vmem S1x8x1024x512 .bf16) (arg5 : Memref sig .tc .vmem S1x1024x128 .bf16) (arg6 : Memref sig .tc .vmem S4x1536 .f32) (arg7 : Memref sig .tc .vmem S1x1536 .f32) (arg8 : Memref sig .tc .vmem S1x128 .f32) (arg9 : Memref sig .tc .vmem S1x128 .f32) (arg10 : Memref sig .tc .vmem S1x1024 .f32) (arg11 : Memref sig .tc .vmem S1x1024 .f32) (arg12 : Memref sig .tc .vmem S1x1024x1024 .bf16) (arg13 : Memref sig .tc .vmem S1x8x1024x512 .bf16) (arg14 : Memref sig .tc .vmem S1024x2560 .bf16) (arg15 : Memref sig .tc .vmem S12x136x128 .f32) (arg16 : Memref sig .tc .vmem S12x128x128 .f32) (arg17 : Memref sig .tc .vmem S2x128x512 .f32) (h : Vec F S1x1024x1024 .bf16) (w : Vec F S1x8x1024x512 .bf16) : sProp 𝕄G :=
  iprop(owns (c : Thread nD τ) arg2 fullShare h ∗ (∃ d, owns (c : Thread nD τ) arg3 fullShare d) ∗ owns (c : Thread nD τ) arg4 fullShare w ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (ugVal h w) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))

/-- The condition of the body's case: the second grid coordinate is zero. -/
abbrev cond0 (i : grid0.Coords) : Prop :=
  Scalar.cmpi .ne (Scalar.extui (Scalar.cmpi .eq (BitVec.ofNat 32 (i 1).val) 0#32) : BitVec 32) 0#32 = 1#1

theorem ug_full (arg2 : Memref sig .tc .vmem S1x1024x1024 .bf16) (harg2 : arg2.IsWhole) (arg4 : Memref sig .tc .vmem S1x8x1024x512 .bf16)
    (harg4 : arg4.IsWhole) (arg13 : Memref sig .tc .vmem S1x8x1024x512 .bf16) (h : Vec F S1x1024x1024 .bf16) (w : Vec F S1x8x1024x512 .bf16)
    (f : BufTy.Contents (Elt F) arg13.view.ty) (hf : UgTo arg2 arg4 arg13 (harg2.unread h) (harg4.unread w) k0_t1_loop.trips f) :
    arg13.view.read (Elt F) f = ugVal h w := by
  funext y
  have h1 : (y 1).val < 8 := (y 1).isLt
  have e : k0_t1_loop.trips = 8 := by decide +kernel
  rw [hf y (by rw [e]; exact h1), harg2.read_unread, harg4.read_unread]

theorem kernelRun (c : Dev nD) (i : grid0.Coords) (arg2 : Memref sig .tc .vmem S1x1024x1024 .bf16) (harg2 : arg2.IsWhole) (arg3 : Memref sig .tc .vmem S1x1024x2560 .bf16) (harg3 : arg3.IsWhole) (arg4 : Memref sig .tc .vmem S1x8x1024x512 .bf16) (harg4 : arg4.IsWhole) (arg5 : Memref sig .tc .vmem S1x1024x128 .bf16) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x1024 .bf16) (harg12 : arg12.IsWhole) (arg13 : Memref sig .tc .vmem S1x8x1024x512 .bf16) (harg13 : arg13.IsWhole) (arg14 : Memref sig .tc .vmem S1024x2560 .bf16) (harg14 : arg14.IsWhole) (arg15 : Memref sig .tc .vmem S12x136x128 .f32) (harg15 : arg15.IsWhole) (arg16 : Memref sig .tc .vmem S12x128x128 .f32) (harg16 : arg16.IsWhole) (arg17 : Memref sig .tc .vmem S2x128x512 .f32) (harg17 : arg17.IsWhole) (h : Vec F S1x1024x1024 .bf16) (w : Vec F S1x8x1024x512 .bf16) :
    Before (F := F) c arg2 arg3 arg4 arg5 arg6 arg7 arg8 arg9 arg10 arg11 arg12 arg13 arg14 arg15 arg16 arg17 h w
      ⊢ wp frame (wpE (defs₀ (F := F)) Variants.none (c : Thread nD τ) none) Set.univ (cc0_ssd_proj (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => After (F := F) c arg2 arg3 arg4 arg5 arg6 arg7 arg8 arg9 arg10 arg11 arg12 arg13 arg14 arg15 arg16 arg17 h w) := by
  simp only [cc0_ssd_proj_eq_skeleton]; unfold cc0_ssd_proj_skel
  unfold Before After owns
  iintro ⟨⟨%f2, %hf2, H2⟩, ⟨%d3, %f3, -, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩
  obtain rfl := harg2.eq_unread hf2; obtain rfl := harg4.eq_unread hf4
  have hf0 : UgTo arg2 arg4 arg13 (harg2.unread h) (harg4.unread w) 0 f13 := fun y hy => absurd hy (Nat.not_lt_zero _)
  by_cases hc : cond0 i
  · skip
    sl_exec
    sl_step
    isplitl [H2]
    · iexists _; isplitr; swap; · iexact H2
      ipureintro; exact harg2.read_unread _
    isplitl [H3]
    · iexists _, _; isplitr; swap; · iexact H3
      ipureintro; rfl
    isplitl [H4]
    · iexists _; isplitr; swap; · iexact H4
      ipureintro; exact harg4.read_unread _
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _; isplitr; swap; · iexact H13
      ipureintro
      exact ug_full arg2 harg2 arg4 harg4 arg13 h w _ ‹_›
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl
  · skip
    sl_exec
    sl_step
    isplitl [H2]
    · iexists _; isplitr; swap; · iexact H2
      ipureintro; exact harg2.read_unread _
    isplitl [H3]
    · iexists _, _; isplitr; swap; · iexact H3
      ipureintro; rfl
    isplitl [H4]
    · iexists _; isplitr; swap; · iexact H4
      ipureintro; exact harg4.read_unread _
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _; isplitr; swap; · iexact H13
      ipureintro
      exact ug_full arg2 harg2 arg4 harg4 arg13 h w _ ‹_›
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.KernelSsdIdeal.Hand

end
-- ==== Proof.SsdIdealFrame.lean ====
module

public import proofs.«01_k».proof.Proof.SsdIdealRun
public import proofs.«01_k».proof.Proof.Gen.KernelSsdIdeal.Frame
public import Idealize.ShloMosaic.Lib.Pipeline.Frame

@[expose] public section

set_option maxRecDepth 16384
set_option maxHeartbeats 4000000

noncomputable section

namespace Cert.KernelSsdIdeal.Hand

open Cert.KernelSsdIdeal Cert.KernelSsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The class invariant: the four scratch operands owned at some contents, the generator register at some state. -/
theorem PhiA0_eq (c : Dev nD) :
    (Pipeline.ΦA spec0 c : sProp 𝕄G)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA; rw [scopedRest0_eq]; simp only [owns_whole]; try rfl

/-- The windows that the value claim does not read are forgotten: all but `h`, the tiles' weights and the second result. -/
def forgets0 : Fin 12 → Bool := fun w => match w with
  | ⟨0, _⟩ => false
  | ⟨2, _⟩ => false
  | ⟨11, _⟩ => false
  | _ => true

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Pipeline.Dat.unnamed (cfg := cfg0) 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => ugVal (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_2 (c : Dev nD) (t : Fin cfg0.N) : (dats m 0 c).after 2 t = iblk m c 2 t := by dsimp only [dats]
theorem after0_11 (c : Dev nD) (t : Fin cfg0.N) : (dats m 0 c).after 11 t = ugVal (iblk m c 0 t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare d)
    ∗ (∃ d, owns (c : Thread nD τ) (win0_2.stage (cfg0.slots t 2)) fullShare ((dats m 0 c).before 2 t d))
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare ((dats m 0 c).before 11 t d)))
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t)
    ∗ (∃ d, owns (c : Thread nD τ) (win0_1.stage (cfg0.slots t 1)) fullShare d)
    ∗ owns (c : Thread nD τ) (win0_2.stage (cfg0.slots t 2)) fullShare ((dats m 0 c).after 2 t)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ owns (c : Thread nD τ) (win0_11.stage (cfg0.slots t 11)) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_2]
  rw [show (dats m 0 c).Φ t.succ = (dats m 0 c).Φ t.castSucc from rfl,
    show (dats m 0 c).owesAt () t.succ = (dats m 0 c).owesAt () t.castSucc from rfl, after0_0, after0_2, after0_11]
  rw [show (dats m 0 c).Φ t.castSucc = Pipeline.ΦA spec0 c from rfl, PhiA0_eq]
  iintro ⟨⟨⟨HS0, HS1, HS2, HS3⟩, Hg⟩, HO, ⟨%d0, H0⟩, H1, ⟨%d2, H2⟩, H3, H4, H5, H6, H7, H8, H9, H10, ⟨%d11, H11⟩⟩
  iapply (wp_wand_r Idealize.ShloMosaic.frame (wpE (defs₀ (F := F)) Variants.none (c : Thread nD τ) none) Set.univ)
  isplitl [H0 H1 H2 H3 H4 H5 H6 H7 H8 H9 H10 H11 HS0 HS1 HS2 HS3]
  · iapply (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 2 t))
    unfold Before
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    iexact HS3
  · iintro %_ HH
    unfold After
    icases HH with ⟨H0, H1, H2, H3, H4, H5, H6, H7, H8, H9, H10, H11, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The second result named, the arguments as launched, every semaphore counter at zero. -/
theorem run_blocks : θ_run defs (onTc (τ := τ) (main (F := F))) ⟨m, fun _ => 0, ρ⟩ (fun r => (∀ c : Dev nD,
      r.2.mem ((c.tc : Thread nD τ).loc main_v26_1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨((dats m 0 c).toRForget_arrAt_iff (fgt := forgets0) (w := 11) rfl _ _).mp ((h.1 c).1 11),
      (h.1.arr_in c 0 rfl).trans ((A_eq m c 0).trans (V_main_arg0 m c)),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main_quiescent m ρ)

/-- The frame at any `F`: the arguments end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (run_blocks m ρ)

end Cert.KernelSsdIdeal.Hand

end
-- ==== Proof.SsdValue.lean ====
/-
  THE SSD CALL'S SECOND RESULT, its value: each grid point writes back its block of the reference's tiles, and the blocks
  cover the array.
-/
module

public import proofs.«01_k».proof.Proof.SsdIdealFrame
public import proofs.«01_k».proof.Proof.Gen.ReferenceSsdIdeal.Read
public import Idealize.ShloMosaic.Lib.Pointwise
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdBody

open Cert.KernelSsdIdeal Cert.KernelSsdIdeal.Gen Cert.KernelSsdIdeal.Hand
open Cert.ReferenceSsdIdeal.Read

variable (m : (ℓ : Loc nD τ sig) → Buf (Elt Ideal) ℓ)

/-- The normed rows and the tiles' weights as arrays of extended reals. -/
abbrev H (c : Dev nD) : FVec Ideal S4x4096x1024 .bf16 := m ((c : Thread nD τ).loc main_arg0)
abbrev Wug (c : Dev nD) : FVec Ideal S4x8x1024x512 .bf16 := m ((c : Thread nD τ).loc main_arg2)

/-- Where the blocks of the windows lie at every grid point. -/
theorem places : ∀ t : Fin grid0.N,
    (cc0_transform_0 (grid0.coords t) 0 = t.val / 4 ∧ cc0_transform_0 (grid0.coords t) 1 = t.val % 4 ∧ cc0_transform_0 (grid0.coords t) 2 = 0)
    ∧ (cc0_transform_2 (grid0.coords t) 0 = 3 ∧ cc0_transform_2 (grid0.coords t) 1 = 0 ∧ cc0_transform_2 (grid0.coords t) 2 = 0
      ∧ cc0_transform_2 (grid0.coords t) 3 = 0)
    ∧ (cc0_transform_11 (grid0.coords t) 0 = t.val / 4 ∧ cc0_transform_11 (grid0.coords t) 1 = 0
      ∧ cc0_transform_11 (grid0.coords t) 2 = t.val % 4 ∧ cc0_transform_11 (grid0.coords t) 3 = 0) := by
  decide +kernel

theorem blk0 (c : Dev nD) (t : Fin cfg0.N) (j0 : Fin 1) (j1 : Fin 1024) (j2 : Fin 1024) (i0 : Fin 4) (i1 : Fin 4096) (i2 : Fin 1024)
    (h0 : i0.val = cc0_transform_0 (grid0.coords t) 0 * 1 + j0.val)
    (h1 : i1.val = cc0_transform_0 (grid0.coords t) 1 * 1024 + j1.val)
    (h2 : i2.val = cc0_transform_0 (grid0.coords t) 2 * 1024 + j2.val) :
    (iblk m c 0 t : FVec Ideal S1x1024x1024 .bf16) (ix3 j0 j1 j2) = H m c (ix3 i0 i1 i2) := by
  unfold iblk
  rw [View.read_apply]
  show V m c main_arg0 _ = _
  rw [V_main_arg0]
  congr 1
  funext a
  apply Fin.ext
  match a with
  | ⟨0, _⟩ => refine Eq.trans ?_ h0.symm; show cc0_transform_0 (grid0.coords t) 0 * 1 + 1 * j0.val = _; omega
  | ⟨1, _⟩ => refine Eq.trans ?_ h1.symm; show cc0_transform_0 (grid0.coords t) 1 * 1024 + 1 * j1.val = _; omega
  | ⟨2, _⟩ => refine Eq.trans ?_ h2.symm; show cc0_transform_0 (grid0.coords t) 2 * 1024 + 1 * j2.val = _; omega

theorem blk2 (c : Dev nD) (t : Fin cfg0.N) (j0 : Fin 1) (j1 : Fin 8) (j2 : Fin 1024) (j3 : Fin 512)
    (i0 : Fin 4) (i1 : Fin 8) (i2 : Fin 1024) (i3 : Fin 512)
    (h0 : i0.val = cc0_transform_2 (grid0.coords t) 0 * 1 + j0.val)
    (h1 : i1.val = cc0_transform_2 (grid0.coords t) 1 * 8 + j1.val)
    (h2 : i2.val = cc0_transform_2 (grid0.coords t) 2 * 1024 + j2.val)
    (h3 : i3.val = cc0_transform_2 (grid0.coords t) 3 * 512 + j3.val) :
    (iblk m c 2 t : FVec Ideal S1x8x1024x512 .bf16) (ix4 j0 j1 j2 j3) = Wug m c (ix4 i0 i1 i2 i3) := by
  unfold iblk
  rw [View.read_apply]
  show V m c main_arg2 _ = _
  rw [V_main_arg2]
  congr 1
  funext a
  apply Fin.ext
  match a with
  | ⟨0, _⟩ => refine Eq.trans ?_ h0.symm; show cc0_transform_2 (grid0.coords t) 0 * 1 + 1 * j0.val = _; omega
  | ⟨1, _⟩ => refine Eq.trans ?_ h1.symm; show cc0_transform_2 (grid0.coords t) 1 * 8 + 1 * j1.val = _; omega
  | ⟨2, _⟩ => refine Eq.trans ?_ h2.symm; show cc0_transform_2 (grid0.coords t) 2 * 1024 + 1 * j2.val = _; omega
  | ⟨3, _⟩ => refine Eq.trans ?_ h3.symm; show cc0_transform_2 (grid0.coords t) 3 * 512 + 1 * j3.val = _; omega

/-- A block of 256 columns of a tile: the product of the rows and the weights. -/
theorem pay7_apply (h : FVec Ideal S1x1024x1024 .bf16) (w : FVec Ideal S1x1x1024x256 .bf16) (y z : Fin 1) (r : Fin 1024) (k : Fin 256) :
    k0_pay7 (F := Ideal) h w (ix4 y z r k) = ∑ d : Fin 1024, h (ix3 0 r d) * w (ix4 0 0 d k) := by
  pointwise [k0_pay7]

/-- What the body leaves in the block at an index. -/
theorem ugVal_apply (h : FVec Ideal S1x1024x1024 .bf16) (w : FVec Ideal S1x8x1024x512 .bf16) (z : Fin 1) (q : Fin 8) (r : Fin 1024) (n : Fin 512) :
    ugVal (F := Ideal) h w (ix4 z q r n) = ∑ d : Fin 1024, h (ix3 0 r d) * w (ix4 0 q d n) := by
  have e : ugVal (F := Ideal) h w (ix4 z q r n)
      = k0_pay7 (F := Ideal) h (ugBlk w (ix4 z q r n)) (ix4 0 0 r ⟨n.val % 256, Nat.mod_lt _ (by decide)⟩) := by
    unfold ugVal
    congr 1
    funext a
    match a with
    | ⟨0, _⟩ => rfl
    | ⟨1, _⟩ => rfl
    | ⟨2, _⟩ => rfl
    | ⟨3, _⟩ => rfl
  rw [e, pay7_apply]
  refine Finset.sum_congr rfl fun d _ => congrArg (_ * ·) ?_
  unfold ugBlk
  congr 1
  funext a
  apply Fin.ext
  match a with
  | ⟨0, _⟩ => rfl
  | ⟨1, _⟩ => rfl
  | ⟨2, _⟩ => rfl
  | ⟨3, _⟩ => show 256 * (n.val / 256) + n.val % 256 = n.val; omega

/-- The reference at an index. -/
theorem ref_apply (x : FVec Ideal S4x4096x1024 .bf16) (w : FVec Ideal S4x8x1024x512 .bf16) (b : Fin 4) (q : Fin 8) (s : Fin 4096) (n : Fin 512) :
    val_main_v6 (F := Ideal) x w (ix4 b q s n) = ∑ d : Fin 1024, x (ix3 b s d) * w (ix4 3 q d n) := by
  rw [val_main_v6_apply, val_main_v5_apply]
  show val_main_v4 (F := Ideal) x w _ = _
  rw [val_main_v4_apply]
  refine Finset.sum_congr rfl fun d _ => ?_
  rw [val_main_v3_apply, val_main_v2_apply, val_main_v1_apply, val_main_v0_apply, mul_comm]
  refine congrArg₂ (· * ·) ?_ ?_
  · show x _ = _
    congr 1
    funext a
    match a with
    | ⟨0, _⟩ => rfl
    | ⟨1, _⟩ => rfl
    | ⟨2, _⟩ => rfl
  · show w _ = _
    congr 1
    funext a
    apply Fin.ext
    have hq := q.isLt
    have hd := d.isLt
    have hn := n.isLt
    match a with
    | ⟨0, _⟩ => rfl
    | ⟨1, _⟩ => show ((q.val * 1024 + d.val) * 512 + n.val) / 524288 % 8 = q.val; omega
    | ⟨2, _⟩ => show ((q.val * 1024 + d.val) * 512 + n.val) / 512 % 1024 = d.val; omega
    | ⟨3, _⟩ => show ((q.val * 1024 + d.val) * 512 + n.val) % 512 = n.val; omega

/-- What a point leaves in the block is the reference's block. -/
theorem out_apply (c : Dev nD) (t : Fin cfg0.N) (z : Fin 1) (q : Fin 8) (r : Fin 1024) (n : Fin 512) (b : Fin 4) (s : Fin 4096)
    (hb : b.val = t.val / 4) (hs : s.val = t.val % 4 * 1024 + r.val) :
    ugVal (F := Ideal) (iblk m c 0 t) (iblk m c 2 t) (ix4 z q r n) = val_main_v6 (F := Ideal) (H m c) (Wug m c) (ix4 b q s n) := by
  obtain ⟨⟨a0, a1, a2⟩, ⟨b0, b1, b2, b3⟩, -⟩ := places t
  rw [ref_apply]
  refine (ugVal_apply (iblk m c 0 t) (iblk m c 2 t) z q r n).trans ?_
  refine Finset.sum_congr rfl fun d _ => congrArg₂ (· * ·) ?_ ?_
  · exact blk0 m c t 0 r d b s d (by rw [a0, hb]; simp) (by rw [a1, hs]) (by rw [a2]; simp)
  · exact blk2 m c t 0 q d n 3 q d n (by rw [b0]; simp) (by rw [b1]; simp) (by rw [b2]; simp) (by rw [b3]; simp)

/-- What point `t` writes back is its block of the reference's result. -/
theorem flushed_eq (c : Dev nD) (t : Fin cfg0.N) (_hf : (cfg0.win 11).flush t = true) :
    (dats m 0 c).flushed 11 t = ((cfg0.win 11).blk t).view.read (Elt Ideal) (val_main_v6 (F := Ideal) (H m c) (Wug m c)) := by
  have hN : cfg0.N = 16 := N_0
  have ht := t.isLt
  obtain ⟨-, -, ⟨p0, p1, p2, p3⟩⟩ := places t
  have e : (dats m 0 c).flushed 11 t = (cfg0.win 11).cut (grid0.coords t) (ugVal (F := Ideal) (iblk m c 0 t) (iblk m c 2 t)) := by
    show (cfg0.win 11).cut (grid0.coords t) ((dats m 0 c).after 11 t) = _
    rw [after0_11]
  rw [e]
  funext j
  rw [View.read_apply]
  obtain ⟨z, q, r, n, rfl⟩ : ∃ (z : Fin 1) (q : Fin 8) (r : Fin 1024) (n : Fin 512), j = ix4 z q r n := ⟨j 0, j 1, j 2, j 3, eq_ix4 j⟩
  refine (out_apply m c t z q r n ⟨t.val / 4, by omega⟩ ⟨t.val % 4 * 1024 + r.val, by omega⟩ rfl rfl).trans ?_
  congr 1
  funext a
  apply Fin.ext
  match a with
  | ⟨0, _⟩ => show t.val / 4 = cc0_transform_11 (grid0.coords t) 0 * 1 + 1 * z.val; omega
  | ⟨1, _⟩ => show q.val = cc0_transform_11 (grid0.coords t) 1 * 8 + 1 * q.val; omega
  | ⟨2, _⟩ => show t.val % 4 * 1024 + r.val = cc0_transform_11 (grid0.coords t) 2 * 1024 + 1 * r.val; omega
  | ⟨3, _⟩ => show n.val = cc0_transform_11 (grid0.coords t) 3 * 512 + 1 * n.val; omega

/-- Every element of the result lies in a point's block. -/
theorem cover (i : S4x8x4096x512.Idx) :
    ∃ t : Fin cfg0.N, (cfg0.win 11).flush t = true ∧ i ∈ ((cfg0.win 11).blk t).view.set := by
  have i0 : (i 0).val < 4 := (i 0).isLt
  have i1 : (i 1).val < 8 := (i 1).isLt
  have i2 : (i 2).val < 4096 := (i 2).isLt
  have i3 : (i 3).val < 512 := (i 3).isLt
  have hN : cfg0.N = 16 := N_0
  have ht : (i 0).val * 4 + (i 2).val / 1024 < cfg0.N := by omega
  obtain ⟨-, -, ⟨p0, p1, p2, p3⟩⟩ := places ⟨_, ht⟩
  refine ⟨⟨_, ht⟩, flush0_11 _, ?_⟩
  show i ∈ ((View.whole main_v26_1).slice (win0_11.rect ⟨_, ht⟩)).set
  rw [View.set_slice_whole, Rect.mem_set_unit]
  intro a
  dsimp only at p0 p1 p2 p3
  match a with
  | ⟨0, _⟩ => show cc0_transform_11 (grid0.coords ⟨_, ht⟩) 0 * 1 ≤ (i 0).val ∧ (i 0).val < cc0_transform_11 (grid0.coords ⟨_, ht⟩) 0 * 1 + 1; omega
  | ⟨1, _⟩ => show cc0_transform_11 (grid0.coords ⟨_, ht⟩) 1 * 8 ≤ (i 1).val ∧ (i 1).val < cc0_transform_11 (grid0.coords ⟨_, ht⟩) 1 * 8 + 8; omega
  | ⟨2, _⟩ => show cc0_transform_11 (grid0.coords ⟨_, ht⟩) 2 * 1024 ≤ (i 2).val ∧ (i 2).val < cc0_transform_11 (grid0.coords ⟨_, ht⟩) 2 * 1024 + 1024; omega
  | ⟨3, _⟩ => show cc0_transform_11 (grid0.coords ⟨_, ht⟩) 3 * 512 ≤ (i 3).val ∧ (i 3).val < cc0_transform_11 (grid0.coords ⟨_, ht⟩) 3 * 512 + 512; omega

/-- The array the call leaves is the reference's result. -/
theorem final (c : Dev nD) : (dats m 0 c).arrAt 11 cfg0.N = val_main_v6 (F := Ideal) (H m c) (Wug m c) :=
  (dats m 0 c).arrAt_eq_of_cover 11 _ (flushed_eq m c) cover

end Cert.SsdBody

end
-- ==== Proof.SsdClaims.lean ====
/-
  THE SSD CALL'S CLAIMS: the frames, and the equality of its second result with the reference over the extended reals.
-/
module

public import proofs.«01_k».proof.Defs
public import proofs.«01_k».proof.Proof.SsdFrame
public import proofs.«01_k».proof.Proof.SsdValue
public import proofs.«01_k».proof.Proof.Gen.ReferenceSsdIdeal.Run
public import Idealize.ShloMosaic.Lib.Quiescent

@[expose] public section

noncomputable section

open Idealize.ShloMosaic Idealize.ShloMosaic.TcCoe Idealize.SL.Sem

namespace Cert.Proof

theorem quiescent_kernelSsd : Cert.quiescent_KernelSsd (hKernelSsd := Cert.KernelSsd.Gen.facts) :=
  fun m ρ _ => Cert.KernelSsd.Hand.frame m ρ
theorem quiescent_kernelSsdIdeal : Cert.quiescent_KernelSsdIdeal (hKernelSsdIdeal := Cert.KernelSsdIdeal.Gen.facts) :=
  fun m ρ _ => Cert.KernelSsdIdeal.Hand.frame m ρ

theorem quiescent_referenceSsdIdeal : Cert.quiescent_ReferenceSsdIdeal (hReferenceSsdIdeal := Cert.ReferenceSsdIdeal.Gen.facts) := fun m ρ _ =>
  (θ_run Cert.ReferenceSsdIdeal.defs _ _).mono (fun r h => ⟨fun c => (h c).2, sem_eq_zero_of_no_sems (by decide) r.2⟩)
    (Cert.ReferenceSsdIdeal.Value.run (F := Ideal) m ρ)

theorem algebraic_ssd : Cert.algebraic_KernelSsdIdeal_ReferenceSsdIdeal (hKernelSsdIdeal := Cert.KernelSsdIdeal.Gen.facts)
    (hReferenceSsdIdeal := Cert.ReferenceSsdIdeal.Gen.facts) := by
  intro m ρ m' ρ' _ hagree
  refine ⟨fun c => Cert.ReferenceSsdIdeal.Read.val_main_v6 (F := Ideal) (Cert.SsdBody.H m c) (Cert.SsdBody.Wug m c), ?_, ?_⟩
  · exact (θ_run Cert.KernelSsdIdeal.defs _ _).mono (fun _ h c => ⟨(h.1 c).1.trans (Cert.SsdBody.final m c), (h.1 c).2⟩)
      (Cert.KernelSsdIdeal.Hand.run_blocks (F := Ideal) m ρ)
  · refine (θ_run Cert.ReferenceSsdIdeal.defs _ _).mono (fun _ h c => ⟨(h c).1.trans ?_, (h c).2⟩)
      (Cert.ReferenceSsdIdeal.Value.run (F := Ideal) m' ρ')
    refine (Cert.ReferenceSsdIdeal.Read.val_main_v6_eq _ _).trans ?_
    obtain ⟨a0, -, a2, -⟩ := hagree c
    rw [a0, a2]

end Cert.Proof

end
-- ==== Proof.lean ====
/- The claim assembled: each program's facts, then each claim's proof in the order of Defs.lean. -/
module

public import proofs.«01_k».proof.Defs
public import proofs.«01_k».proof.Proof.RepackClaims
public import proofs.«01_k».proof.Proof.FfnClaims
public import proofs.«01_k».proof.Proof.MergeClaims
public import proofs.«01_k».proof.Proof.QkvClaims
public import proofs.«01_k».proof.Proof.AdalnClaims
public import proofs.«01_k».proof.Proof.AttnClaims
public import proofs.«01_k».proof.Proof.SsdClaims

@[expose] public section

noncomputable section

namespace Cert.Proof

theorem claim : Cert.Claim :=
  ⟨Cert.Kernel.Gen.facts, Cert.KernelIdeal.Gen.facts, Cert.ReferenceIdeal.Gen.facts, Cert.Reference.Gen.facts,
    Cert.KernelFfn.Gen.facts, Cert.KernelFfnIdeal.Gen.facts, Cert.ReferenceFfnIdeal.Gen.facts,
    Cert.KernelMerge.Gen.facts, Cert.KernelMergeIdeal.Gen.facts, Cert.ReferenceMergeIdeal.Gen.facts,
    Cert.KernelQkv.Gen.facts, Cert.KernelQkvIdeal.Gen.facts, Cert.ReferenceQkvIdeal.Gen.facts,
    Cert.KernelAdaln.Gen.facts, Cert.KernelAdalnIdeal.Gen.facts, Cert.ReferenceAdalnIdeal.Gen.facts,
    Cert.KernelAttn.Gen.facts, Cert.KernelAttnIdeal.Gen.facts,
    Cert.KernelSsd.Gen.facts, Cert.KernelSsdIdeal.Gen.facts, Cert.ReferenceSsdIdeal.Gen.facts,
    quiescent_kernel, quiescent_kernelIdeal, quiescent_referenceIdeal, quiescent_reference,
    quiescent_kernelFfn, quiescent_kernelFfnIdeal, quiescent_referenceFfnIdeal,
    quiescent_kernelMerge, quiescent_kernelMergeIdeal, quiescent_referenceMergeIdeal,
    quiescent_kernelQkv, quiescent_kernelQkvIdeal, quiescent_referenceQkvIdeal,
    quiescent_kernelAdaln, quiescent_kernelAdalnIdeal, quiescent_referenceAdalnIdeal,
    quiescent_kernelAttn, quiescent_kernelAttnIdeal,
    quiescent_kernelSsd, quiescent_kernelSsdIdeal, quiescent_referenceSsdIdeal,
    trivial, bitexact_repack, algebraic_repack, trivial, algebraic_ffn, trivial, algebraic_merge,
    trivial, algebraic_qkv, trivial, algebraic_adaln, trivial, trivial, algebraic_ssd⟩

end Cert.Proof

end
